-- ==== Defs.lean ====
def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixRefIdeal (m : (ℓ : Loc Cert.MixRefIdeal.nD Cert.MixRefIdeal.τ Cert.MixRefIdeal.sig) → Buf (Elt Ideal) ℓ) : Prop :=
  True

def Pre_Inatt (m : (ℓ : Loc Cert.Inatt.nD Cert.Inatt.τ Cert.Inatt.sig) → Buf (Elt Bits) ℓ) : Prop :=
  True

def Pre_InattIdeal (m : (ℓ : Loc Cert.InattIdeal.nD Cert.InattIdeal.τ Cert.InattIdeal.sig) → Buf (Elt Ideal) ℓ) : Prop :=
  True

def Pre_InattRefIdeal (m : (ℓ : Loc Cert.InattRefIdeal.nD Cert.InattRefIdeal.τ Cert.InattRefIdeal.sig) → Buf (Elt Ideal) ℓ) : Prop :=
  True

def Pre_Cached (m : (ℓ : Loc Cert.Cached.nD Cert.Cached.τ Cert.Cached.sig) → Buf (Elt Bits) ℓ) : Prop :=
  True

def Pre_CachedIdeal (m : (ℓ : Loc Cert.CachedIdeal.nD Cert.CachedIdeal.τ Cert.CachedIdeal.sig) → Buf (Elt Ideal) ℓ) : Prop :=
  True

def Pre_CachedIdeal_finite_scores [hPre_finite_scores : Cert.Pre_finite_scores.Facts] (m : (ℓ : Loc Cert.CachedIdeal.nD Cert.CachedIdeal.τ Cert.CachedIdeal.sig) → Buf (Elt Ideal) ℓ) : Prop :=
  ∀ c : Dev Cert.CachedIdeal.nD,
    (Cert.Pre_finite_scores.fn (F := Ideal) (m ((c.tc : Thread Cert.CachedIdeal.nD Cert.CachedIdeal.τ).loc Cert.CachedIdeal.main_arg0)) (m ((c.tc : Thread Cert.CachedIdeal.nD Cert.CachedIdeal.τ).loc Cert.CachedIdeal.main_arg1)) (m ((c.tc : Thread Cert.CachedIdeal.nD Cert.CachedIdeal.τ).loc Cert.CachedIdeal.main_arg2)) (m ((c.tc : Thread Cert.CachedIdeal.nD Cert.CachedIdeal.τ).loc Cert.CachedIdeal.main_arg3)) (m ((c.tc : Thread Cert.CachedIdeal.nD Cert.CachedIdeal.τ).loc Cert.CachedIdeal.main_arg4)) (m ((c.tc : Thread Cert.CachedIdeal.nD Cert.CachedIdeal.τ).loc Cert.CachedIdeal.main_arg5))) = (fun _ => 1#1)

def Pre_CachedRefIdeal (m : (ℓ : Loc Cert.CachedRefIdeal.nD Cert.CachedRefIdeal.τ Cert.CachedRefIdeal.sig) → Buf (Elt Ideal) ℓ) : Prop :=
  True

def Pre_CachedRefIdeal_finite_scores [hPre_finite_scores : Cert.Pre_finite_scores.Facts] (m : (ℓ : Loc Cert.CachedRefIdeal.nD Cert.CachedRefIdeal.τ Cert.CachedRefIdeal.sig) → Buf (Elt Ideal) ℓ) : Prop :=
  ∀ c : Dev Cert.CachedRefIdeal.nD,
    (Cert.Pre_finite_scores.fn (F := Ideal) (m ((c.tc : Thread Cert.CachedRefIdeal.nD Cert.CachedRefIdeal.τ).loc Cert.CachedRefIdeal.main_arg0)) (m ((c.tc : Thread Cert.CachedRefIdeal.nD Cert.CachedRefIdeal.τ).loc Cert.CachedRefIdeal.main_arg1)) (m ((c.tc : Thread Cert.CachedRefIdeal.nD Cert.CachedRefIdeal.τ).loc Cert.CachedRefIdeal.main_arg2)) (m ((c.tc : Thread Cert.CachedRefIdeal.nD Cert.CachedRefIdeal.τ).loc Cert.CachedRefIdeal.main_arg3)) (m ((c.tc : Thread Cert.CachedRefIdeal.nD Cert.CachedRefIdeal.τ).loc Cert.CachedRefIdeal.main_arg4)) (m ((c.tc : Thread Cert.CachedRefIdeal.nD Cert.CachedRefIdeal.τ).loc Cert.CachedRefIdeal.main_arg5))) = (fun _ => 1#1)

def Pre_FfnS (m : (ℓ : Loc Cert.FfnS.nD Cert.FfnS.τ Cert.FfnS.sig) → Buf (Elt Bits) ℓ) : Prop :=
  True

def Pre_FfnSIdeal (m : (ℓ : Loc Cert.FfnSIdeal.nD Cert.FfnSIdeal.τ Cert.FfnSIdeal.sig) → Buf (Elt Ideal) ℓ) : Prop :=
  True

def Pre_FfnSRefIdeal (m : (ℓ : Loc Cert.FfnSRefIdeal.nD Cert.FfnSRefIdeal.τ Cert.FfnSRefIdeal.sig) → Buf (Elt Ideal) ℓ) : Prop :=
  True

def Pre_Mls (m : (ℓ : Loc Cert.Mls.nD Cert.Mls.τ Cert.Mls.sig) → Buf (Elt Bits) ℓ) : Prop :=
  True

def Pre_MlsIdeal (m : (ℓ : Loc Cert.MlsIdeal.nD Cert.MlsIdeal.τ Cert.MlsIdeal.sig) → Buf (Elt Ideal) ℓ) : Prop :=
  True

def Pre_MlsIdeal_finite_gates [hPre_finite_gates : Cert.Pre_finite_gates.Facts] (m : (ℓ : Loc Cert.MlsIdeal.nD Cert.MlsIdeal.τ Cert.MlsIdeal.sig) → Buf (Elt Ideal) ℓ) : Prop :=
  ∀ c : Dev Cert.MlsIdeal.nD,
    (Cert.Pre_finite_gates.fn (F := Ideal) (m ((c.tc : Thread Cert.MlsIdeal.nD Cert.MlsIdeal.τ).loc Cert.MlsIdeal.main_arg0)) (m ((c.tc : Thread Cert.MlsIdeal.nD Cert.MlsIdeal.τ).loc Cert.MlsIdeal.main_arg1)) (m ((c.tc : Thread Cert.MlsIdeal.nD Cert.MlsIdeal.τ).loc Cert.MlsIdeal.main_arg2)) (m ((c.tc : Thread Cert.MlsIdeal.nD Cert.MlsIdeal.τ).loc Cert.MlsIdeal.main_arg3)) (m ((c.tc : Thread Cert.MlsIdeal.nD Cert.MlsIdeal.τ).loc Cert.MlsIdeal.main_arg4)) (m ((c.tc : Thread Cert.MlsIdeal.nD Cert.MlsIdeal.τ).loc Cert.MlsIdeal.main_arg5)) (m ((c.tc : Thread Cert.MlsIdeal.nD Cert.MlsIdeal.τ).loc Cert.MlsIdeal.main_arg6)) (m ((c.tc : Thread Cert.MlsIdeal.nD Cert.MlsIdeal.τ).loc Cert.MlsIdeal.main_arg7)) (m ((c.tc : Thread Cert.MlsIdeal.nD Cert.MlsIdeal.τ).loc Cert.MlsIdeal.main_arg8))) = (fun _ => 1#1)

def Pre_MlsRefIdeal (m : (ℓ : Loc Cert.MlsRefIdeal.nD Cert.MlsRefIdeal.τ Cert.MlsRefIdeal.sig) → Buf (Elt Ideal) ℓ) : Prop :=
  True

def Pre_MlsRefIdeal_finite_gates [hPre_finite_gates : Cert.Pre_finite_gates.Facts] (m : (ℓ : Loc Cert.MlsRefIdeal.nD Cert.MlsRefIdeal.τ Cert.MlsRefIdeal.sig) → Buf (Elt Ideal) ℓ) : Prop :=
  ∀ c : Dev Cert.MlsRefIdeal.nD,
    (Cert.Pre_finite_gates.fn (F := Ideal) (m ((c.tc : Thread Cert.MlsRefIdeal.nD Cert.MlsRefIdeal.τ).loc Cert.MlsRefIdeal.main_arg0)) (m ((c.tc : Thread Cert.MlsRefIdeal.nD Cert.MlsRefIdeal.τ).loc Cert.MlsRefIdeal.main_arg1)) (m ((c.tc : Thread Cert.MlsRefIdeal.nD Cert.MlsRefIdeal.τ).loc Cert.MlsRefIdeal.main_arg2)) (m ((c.tc : Thread Cert.MlsRefIdeal.nD Cert.MlsRefIdeal.τ).loc Cert.MlsRefIdeal.main_arg3)) (m ((c.tc : Thread Cert.MlsRefIdeal.nD Cert.MlsRefIdeal.τ).loc Cert.MlsRefIdeal.main_arg4)) (m ((c.tc : Thread Cert.MlsRefIdeal.nD Cert.MlsRefIdeal.τ).loc Cert.MlsRefIdeal.main_arg5)) (m ((c.tc : Thread Cert.MlsRefIdeal.nD Cert.MlsRefIdeal.τ).loc Cert.MlsRefIdeal.main_arg6)) (m ((c.tc : Thread Cert.MlsRefIdeal.nD Cert.MlsRefIdeal.τ).loc Cert.MlsRefIdeal.main_arg7)) (m ((c.tc : Thread Cert.MlsRefIdeal.nD Cert.MlsRefIdeal.τ).loc Cert.MlsRefIdeal.main_arg8))) = (fun _ => 1#1)

def Pre_InattS (m : (ℓ : Loc Cert.InattS.nD Cert.InattS.τ Cert.InattS.sig) → Buf (Elt Bits) ℓ) : Prop :=
  True

def Pre_InattSIdeal (m : (ℓ : Loc Cert.InattSIdeal.nD Cert.InattSIdeal.τ Cert.InattSIdeal.sig) → Buf (Elt Ideal) ℓ) : Prop :=
  True

def Pre_InattSRefIdeal (m : (ℓ : Loc Cert.InattSRefIdeal.nD Cert.InattSRefIdeal.τ Cert.InattSRefIdeal.sig) → Buf (Elt Ideal) ℓ) : Prop :=
  True

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5)
      ∧ r.2.mem ((c.tc : Thread Cert.Mix.nD Cert.Mix.τ).loc Cert.Mix.main_arg6) = m ((c.tc : Thread Cert.Mix.nD Cert.Mix.τ).loc Cert.Mix.main_arg6)
      ∧ r.2.mem ((c.tc : Thread Cert.Mix.nD Cert.Mix.τ).loc Cert.Mix.main_arg7) = m ((c.tc : Thread Cert.Mix.nD Cert.Mix.τ).loc Cert.Mix.main_arg7)
      ∧ r.2.mem ((c.tc : Thread Cert.Mix.nD Cert.Mix.τ).loc Cert.Mix.main_arg8) = m ((c.tc : Thread Cert.Mix.nD Cert.Mix.τ).loc Cert.Mix.main_arg8)
      ∧ r.2.mem ((c.tc : Thread Cert.Mix.nD Cert.Mix.τ).loc Cert.Mix.main_arg9) = m ((c.tc : Thread Cert.Mix.nD Cert.Mix.τ).loc Cert.Mix.main_arg9))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
      ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
      ∧ r.2.mem ((c.tc : Thread Cert.MixIdeal.nD Cert.MixIdeal.τ).loc Cert.MixIdeal.main_arg9) = m ((c.tc : Thread Cert.MixIdeal.nD Cert.MixIdeal.τ).loc Cert.MixIdeal.main_arg9))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5)
      ∧ r.2.mem ((c.tc : Thread Cert.MixRefIdeal.nD Cert.MixRefIdeal.τ).loc Cert.MixRefIdeal.main_arg6) = m ((c.tc : Thread Cert.MixRefIdeal.nD Cert.MixRefIdeal.τ).loc Cert.MixRefIdeal.main_arg6)
      ∧ r.2.mem ((c.tc : Thread Cert.MixRefIdeal.nD Cert.MixRefIdeal.τ).loc Cert.MixRefIdeal.main_arg7) = m ((c.tc : Thread Cert.MixRefIdeal.nD Cert.MixRefIdeal.τ).loc Cert.MixRefIdeal.main_arg7)
      ∧ r.2.mem ((c.tc : Thread Cert.MixRefIdeal.nD Cert.MixRefIdeal.τ).loc Cert.MixRefIdeal.main_arg8) = m ((c.tc : Thread Cert.MixRefIdeal.nD Cert.MixRefIdeal.τ).loc Cert.MixRefIdeal.main_arg8)
      ∧ r.2.mem ((c.tc : Thread Cert.MixRefIdeal.nD Cert.MixRefIdeal.τ).loc Cert.MixRefIdeal.main_arg9) = m ((c.tc : Thread Cert.MixRefIdeal.nD Cert.MixRefIdeal.τ).loc Cert.MixRefIdeal.main_arg9))
      ∧ r.2.sem = fun _ => 0)

def quiescent_Inatt [hInatt : Cert.Inatt.Facts] : Prop :=
  ∀ (m : (ℓ : Loc Cert.Inatt.nD Cert.Inatt.τ Cert.Inatt.sig) → Buf (Elt Bits) ℓ) (g : Dev Cert.Inatt.nD → PrngReg), Pre_Inatt m →
    θ_run (Cert.Inatt.defs (F := Bits)) (onTc (τ := Cert.Inatt.τ) (Cert.Inatt.main (F := Bits))) ⟨m, fun _ => 0, g⟩ (fun r => (∀ c : Dev Cert.Inatt.nD,
      r.2.mem ((c.tc : Thread Cert.Inatt.nD Cert.Inatt.τ).loc Cert.Inatt.main_arg0) = m ((c.tc : Thread Cert.Inatt.nD Cert.Inatt.τ).loc Cert.Inatt.main_arg0)
      ∧ r.2.mem ((c.tc : Thread Cert.Inatt.nD Cert.Inatt.τ).loc Cert.Inatt.main_arg1) = m ((c.tc : Thread Cert.Inatt.nD Cert.Inatt.τ).loc Cert.Inatt.main_arg1))
      ∧ r.2.sem = fun _ => 0)

def quiescent_InattIdeal [hInattIdeal : Cert.InattIdeal.Facts] : Prop :=
  ∀ (m : (ℓ : Loc Cert.InattIdeal.nD Cert.InattIdeal.τ Cert.InattIdeal.sig) → Buf (Elt Ideal) ℓ) (g : Dev Cert.InattIdeal.nD → PrngReg), Pre_InattIdeal m →
    θ_run (Cert.InattIdeal.defs (F := Ideal)) (onTc (τ := Cert.InattIdeal.τ) (Cert.InattIdeal.main (F := Ideal))) ⟨m, fun _ => 0, g⟩ (fun r => (∀ c : Dev Cert.InattIdeal.nD,
      r.2.mem ((c.tc : Thread Cert.InattIdeal.nD Cert.InattIdeal.τ).loc Cert.InattIdeal.main_arg0) = m ((c.tc : Thread Cert.InattIdeal.nD Cert.InattIdeal.τ).loc Cert.InattIdeal.main_arg0)
      ∧ r.2.mem ((c.tc : Thread Cert.InattIdeal.nD Cert.InattIdeal.τ).loc Cert.InattIdeal.main_arg1) = m ((c.tc : Thread Cert.InattIdeal.nD Cert.InattIdeal.τ).loc Cert.InattIdeal.main_arg1))
      ∧ r.2.sem = fun _ => 0)

def quiescent_InattRefIdeal [hInattRefIdeal : Cert.InattRefIdeal.Facts] : Prop :=
  ∀ (m : (ℓ : Loc Cert.InattRefIdeal.nD Cert.InattRefIdeal.τ Cert.InattRefIdeal.sig) → Buf (Elt Ideal) ℓ) (g : Dev Cert.InattRefIdeal.nD → PrngReg), Pre_InattRefIdeal m →
    θ_run (Cert.InattRefIdeal.defs (F := Ideal)) (onTc (τ := Cert.InattRefIdeal.τ) (Cert.InattRefIdeal.main (F := Ideal))) ⟨m, fun _ => 0, g⟩ (fun r => (∀ c : Dev Cert.InattRefIdeal.nD,
      r.2.mem ((c.tc : Thread Cert.InattRefIdeal.nD Cert.InattRefIdeal.τ).loc Cert.InattRefIdeal.main_arg0) = m ((c.tc : Thread Cert.InattRefIdeal.nD Cert.InattRefIdeal.τ).loc Cert.InattRefIdeal.main_arg0)
      ∧ r.2.mem ((c.tc : Thread Cert.InattRefIdeal.nD Cert.InattRefIdeal.τ).loc Cert.InattRefIdeal.main_arg1) = m ((c.tc : Thread Cert.InattRefIdeal.nD Cert.InattRefIdeal.τ).loc Cert.InattRefIdeal.main_arg1))
      ∧ r.2.sem = fun _ => 0)

def quiescent_Cached [hCached : Cert.Cached.Facts] : Prop :=
  ∀ (m : (ℓ : Loc Cert.Cached.nD Cert.Cached.τ Cert.Cached.sig) → Buf (Elt Bits) ℓ) (g : Dev Cert.Cached.nD → PrngReg), Pre_Cached m →
    θ_run (Cert.Cached.defs (F := Bits)) (onTc (τ := Cert.Cached.τ) (Cert.Cached.main (F := Bits))) ⟨m, fun _ => 0, g⟩ (fun r => (∀ c : Dev Cert.Cached.nD,
      r.2.mem ((c.tc : Thread Cert.Cached.nD Cert.Cached.τ).loc Cert.Cached.main_arg0) = m ((c.tc : Thread Cert.Cached.nD Cert.Cached.τ).loc Cert.Cached.main_arg0)
      ∧ r.2.mem ((c.tc : Thread Cert.Cached.nD Cert.Cached.τ).loc Cert.Cached.main_arg1) = m ((c.tc : Thread Cert.Cached.nD Cert.Cached.τ).loc Cert.Cached.main_arg1)
      ∧ r.2.mem ((c.tc : Thread Cert.Cached.nD Cert.Cached.τ).loc Cert.Cached.main_arg2) = m ((c.tc : Thread Cert.Cached.nD Cert.Cached.τ).loc Cert.Cached.main_arg2)
      ∧ r.2.mem ((c.tc : Thread Cert.Cached.nD Cert.Cached.τ).loc Cert.Cached.main_arg3) = m ((c.tc : Thread Cert.Cached.nD Cert.Cached.τ).loc Cert.Cached.main_arg3)
      ∧ r.2.mem ((c.tc : Thread Cert.Cached.nD Cert.Cached.τ).loc Cert.Cached.main_arg4) = m ((c.tc : Thread Cert.Cached.nD Cert.Cached.τ).loc Cert.Cached.main_arg4)
      ∧ r.2.mem ((c.tc : Thread Cert.Cached.nD Cert.Cached.τ).loc Cert.Cached.main_arg5) = m ((c.tc : Thread Cert.Cached.nD Cert.Cached.τ).loc Cert.Cached.main_arg5))
      ∧ r.2.sem = fun _ => 0)

def quiescent_CachedIdeal [hCachedIdeal : Cert.CachedIdeal.Facts] : Prop :=
  ∀ (m : (ℓ : Loc Cert.CachedIdeal.nD Cert.CachedIdeal.τ Cert.CachedIdeal.sig) → Buf (Elt Ideal) ℓ) (g : Dev Cert.CachedIdeal.nD → PrngReg), Pre_CachedIdeal m →
    θ_run (Cert.CachedIdeal.defs (F := Ideal)) (onTc (τ := Cert.CachedIdeal.τ) (Cert.CachedIdeal.main (F := Ideal))) ⟨m, fun _ => 0, g⟩ (fun r => (∀ c : Dev Cert.CachedIdeal.nD,
      r.2.mem ((c.tc : Thread Cert.CachedIdeal.nD Cert.CachedIdeal.τ).loc Cert.CachedIdeal.main_arg0) = m ((c.tc : Thread Cert.CachedIdeal.nD Cert.CachedIdeal.τ).loc Cert.CachedIdeal.main_arg0)
      ∧ r.2.mem ((c.tc : Thread Cert.CachedIdeal.nD Cert.CachedIdeal.τ).loc Cert.CachedIdeal.main_arg1) = m ((c.tc : Thread Cert.CachedIdeal.nD Cert.CachedIdeal.τ).loc Cert.CachedIdeal.main_arg1)
      ∧ r.2.mem ((c.tc : Thread Cert.CachedIdeal.nD Cert.CachedIdeal.τ).loc Cert.CachedIdeal.main_arg2) = m ((c.tc : Thread Cert.CachedIdeal.nD Cert.CachedIdeal.τ).loc Cert.CachedIdeal.main_arg2)
      ∧ r.2.mem ((c.tc : Thread Cert.CachedIdeal.nD Cert.CachedIdeal.τ).loc Cert.CachedIdeal.main_arg3) = m ((c.tc : Thread Cert.CachedIdeal.nD Cert.CachedIdeal.τ).loc Cert.CachedIdeal.main_arg3)
      ∧ r.2.mem ((c.tc : Thread Cert.CachedIdeal.nD Cert.CachedIdeal.τ).loc Cert.CachedIdeal.main_arg4) = m ((c.tc : Thread Cert.CachedIdeal.nD Cert.CachedIdeal.τ).loc Cert.CachedIdeal.main_arg4)
      ∧ r.2.mem ((c.tc : Thread Cert.CachedIdeal.nD Cert.CachedIdeal.τ).loc Cert.CachedIdeal.main_arg5) = m ((c.tc : Thread Cert.CachedIdeal.nD Cert.CachedIdeal.τ).loc Cert.CachedIdeal.main_arg5))
      ∧ r.2.sem = fun _ => 0)

def quiescent_CachedIdeal_pre_finite_scores [hCachedIdeal : Cert.CachedIdeal.Facts] [hPre_finite_scores : Cert.Pre_finite_scores.Facts] : Prop :=
  ∀ (m : (ℓ : Loc Cert.CachedIdeal.nD Cert.CachedIdeal.τ Cert.CachedIdeal.sig) → Buf (Elt Ideal) ℓ) (g : Dev Cert.CachedIdeal.nD → PrngReg), Pre_CachedIdeal_finite_scores m →
    θ_run (Cert.CachedIdeal.defs (F := Ideal)) (onTc (τ := Cert.CachedIdeal.τ) (Cert.CachedIdeal.main (F := Ideal))) ⟨m, fun _ => 0, g⟩ (fun r => (∀ c : Dev Cert.CachedIdeal.nD,
      r.2.mem ((c.tc : Thread Cert.CachedIdeal.nD Cert.CachedIdeal.τ).loc Cert.CachedIdeal.main_arg0) = m ((c.tc : Thread Cert.CachedIdeal.nD Cert.CachedIdeal.τ).loc Cert.CachedIdeal.main_arg0)
      ∧ r.2.mem ((c.tc : Thread Cert.CachedIdeal.nD Cert.CachedIdeal.τ).loc Cert.CachedIdeal.main_arg1) = m ((c.tc : Thread Cert.CachedIdeal.nD Cert.CachedIdeal.τ).loc Cert.CachedIdeal.main_arg1)
      ∧ r.2.mem ((c.tc : Thread Cert.CachedIdeal.nD Cert.CachedIdeal.τ).loc Cert.CachedIdeal.main_arg2) = m ((c.tc : Thread Cert.CachedIdeal.nD Cert.CachedIdeal.τ).loc Cert.CachedIdeal.main_arg2)
      ∧ r.2.mem ((c.tc : Thread Cert.CachedIdeal.nD Cert.CachedIdeal.τ).loc Cert.CachedIdeal.main_arg3) = m ((c.tc : Thread Cert.CachedIdeal.nD Cert.CachedIdeal.τ).loc Cert.CachedIdeal.main_arg3)
      ∧ r.2.mem ((c.tc : Thread Cert.CachedIdeal.nD Cert.CachedIdeal.τ).loc Cert.CachedIdeal.main_arg4) = m ((c.tc : Thread Cert.CachedIdeal.nD Cert.CachedIdeal.τ).loc Cert.CachedIdeal.main_arg4)
      ∧ r.2.mem ((c.tc : Thread Cert.CachedIdeal.nD Cert.CachedIdeal.τ).loc Cert.CachedIdeal.main_arg5) = m ((c.tc : Thread Cert.CachedIdeal.nD Cert.CachedIdeal.τ).loc Cert.CachedIdeal.main_arg5))
      ∧ r.2.sem = fun _ => 0)

def quiescent_CachedRefIdeal [hCachedRefIdeal : Cert.CachedRefIdeal.Facts] : Prop :=
  ∀ (m : (ℓ : Loc Cert.CachedRefIdeal.nD Cert.CachedRefIdeal.τ Cert.CachedRefIdeal.sig) → Buf (Elt Ideal) ℓ) (g : Dev Cert.CachedRefIdeal.nD → PrngReg), Pre_CachedRefIdeal m →
    θ_run (Cert.CachedRefIdeal.defs (F := Ideal)) (onTc (τ := Cert.CachedRefIdeal.τ) (Cert.CachedRefIdeal.main (F := Ideal))) ⟨m, fun _ => 0, g⟩ (fun r => (∀ c : Dev Cert.CachedRefIdeal.nD,
      r.2.mem ((c.tc : Thread Cert.CachedRefIdeal.nD Cert.CachedRefIdeal.τ).loc Cert.CachedRefIdeal.main_arg0) = m ((c.tc : Thread Cert.CachedRefIdeal.nD Cert.CachedRefIdeal.τ).loc Cert.CachedRefIdeal.main_arg0)
      ∧ r.2.mem ((c.tc : Thread Cert.CachedRefIdeal.nD Cert.CachedRefIdeal.τ).loc Cert.CachedRefIdeal.main_arg1) = m ((c.tc : Thread Cert.CachedRefIdeal.nD Cert.CachedRefIdeal.τ).loc Cert.CachedRefIdeal.main_arg1)
      ∧ r.2.mem ((c.tc : Thread Cert.CachedRefIdeal.nD Cert.CachedRefIdeal.τ).loc Cert.CachedRefIdeal.main_arg2) = m ((c.tc : Thread Cert.CachedRefIdeal.nD Cert.CachedRefIdeal.τ).loc Cert.CachedRefIdeal.main_arg2)
      ∧ r.2.mem ((c.tc : Thread Cert.CachedRefIdeal.nD Cert.CachedRefIdeal.τ).loc Cert.CachedRefIdeal.main_arg3) = m ((c.tc : Thread Cert.CachedRefIdeal.nD Cert.CachedRefIdeal.τ).loc Cert.CachedRefIdeal.main_arg3)
      ∧ r.2.mem ((c.tc : Thread Cert.CachedRefIdeal.nD Cert.CachedRefIdeal.τ).loc Cert.CachedRefIdeal.main_arg4) = m ((c.tc : Thread Cert.CachedRefIdeal.nD Cert.CachedRefIdeal.τ).loc Cert.CachedRefIdeal.main_arg4)
      ∧ r.2.mem ((c.tc : Thread Cert.CachedRefIdeal.nD Cert.CachedRefIdeal.τ).loc Cert.CachedRefIdeal.main_arg5) = m ((c.tc : Thread Cert.CachedRefIdeal.nD Cert.CachedRefIdeal.τ).loc Cert.CachedRefIdeal.main_arg5))
      ∧ r.2.sem = fun _ => 0)

def quiescent_CachedRefIdeal_pre_finite_scores [hCachedRefIdeal : Cert.CachedRefIdeal.Facts] [hPre_finite_scores : Cert.Pre_finite_scores.Facts] : Prop :=
  ∀ (m : (ℓ : Loc Cert.CachedRefIdeal.nD Cert.CachedRefIdeal.τ Cert.CachedRefIdeal.sig) → Buf (Elt Ideal) ℓ) (g : Dev Cert.CachedRefIdeal.nD → PrngReg), Pre_CachedRefIdeal_finite_scores m →
    θ_run (Cert.CachedRefIdeal.defs (F := Ideal)) (onTc (τ := Cert.CachedRefIdeal.τ) (Cert.CachedRefIdeal.main (F := Ideal))) ⟨m, fun _ => 0, g⟩ (fun r => (∀ c : Dev Cert.CachedRefIdeal.nD,
      r.2.mem ((c.tc : Thread Cert.CachedRefIdeal.nD Cert.CachedRefIdeal.τ).loc Cert.CachedRefIdeal.main_arg0) = m ((c.tc : Thread Cert.CachedRefIdeal.nD Cert.CachedRefIdeal.τ).loc Cert.CachedRefIdeal.main_arg0)
      ∧ r.2.mem ((c.tc : Thread Cert.CachedRefIdeal.nD Cert.CachedRefIdeal.τ).loc Cert.CachedRefIdeal.main_arg1) = m ((c.tc : Thread Cert.CachedRefIdeal.nD Cert.CachedRefIdeal.τ).loc Cert.CachedRefIdeal.main_arg1)
      ∧ r.2.mem ((c.tc : Thread Cert.CachedRefIdeal.nD Cert.CachedRefIdeal.τ).loc Cert.CachedRefIdeal.main_arg2) = m ((c.tc : Thread Cert.CachedRefIdeal.nD Cert.CachedRefIdeal.τ).loc Cert.CachedRefIdeal.main_arg2)
      ∧ r.2.mem ((c.tc : Thread Cert.CachedRefIdeal.nD Cert.CachedRefIdeal.τ).loc Cert.CachedRefIdeal.main_arg3) = m ((c.tc : Thread Cert.CachedRefIdeal.nD Cert.CachedRefIdeal.τ).loc Cert.CachedRefIdeal.main_arg3)
      ∧ r.2.mem ((c.tc : Thread Cert.CachedRefIdeal.nD Cert.CachedRefIdeal.τ).loc Cert.CachedRefIdeal.main_arg4) = m ((c.tc : Thread Cert.CachedRefIdeal.nD Cert.CachedRefIdeal.τ).loc Cert.CachedRefIdeal.main_arg4)
      ∧ r.2.mem ((c.tc : Thread Cert.CachedRefIdeal.nD Cert.CachedRefIdeal.τ).loc Cert.CachedRefIdeal.main_arg5) = m ((c.tc : Thread Cert.CachedRefIdeal.nD Cert.CachedRefIdeal.τ).loc Cert.CachedRefIdeal.main_arg5))
      ∧ r.2.sem = fun _ => 0)

def quiescent_FfnS [hFfnS : Cert.FfnS.Facts] : Prop :=
  ∀ (m : (ℓ : Loc Cert.FfnS.nD Cert.FfnS.τ Cert.FfnS.sig) → Buf (Elt Bits) ℓ) (g : Dev Cert.FfnS.nD → PrngReg), Pre_FfnS m →
    θ_run (Cert.FfnS.defs (F := Bits)) (onTc (τ := Cert.FfnS.τ) (Cert.FfnS.main (F := Bits))) ⟨m, fun _ => 0, g⟩ (fun r => (∀ c : Dev Cert.FfnS.nD,
      r.2.mem ((c.tc : Thread Cert.FfnS.nD Cert.FfnS.τ).loc Cert.FfnS.main_arg0) = m ((c.tc : Thread Cert.FfnS.nD Cert.FfnS.τ).loc Cert.FfnS.main_arg0)
      ∧ r.2.mem ((c.tc : Thread Cert.FfnS.nD Cert.FfnS.τ).loc Cert.FfnS.main_arg1) = m ((c.tc : Thread Cert.FfnS.nD Cert.FfnS.τ).loc Cert.FfnS.main_arg1)
      ∧ r.2.mem ((c.tc : Thread Cert.FfnS.nD Cert.FfnS.τ).loc Cert.FfnS.main_arg2) = m ((c.tc : Thread Cert.FfnS.nD Cert.FfnS.τ).loc Cert.FfnS.main_arg2)
      ∧ r.2.mem ((c.tc : Thread Cert.FfnS.nD Cert.FfnS.τ).loc Cert.FfnS.main_arg3) = m ((c.tc : Thread Cert.FfnS.nD Cert.FfnS.τ).loc Cert.FfnS.main_arg3)
      ∧ r.2.mem ((c.tc : Thread Cert.FfnS.nD Cert.FfnS.τ).loc Cert.FfnS.main_arg4) = m ((c.tc : Thread Cert.FfnS.nD Cert.FfnS.τ).loc Cert.FfnS.main_arg4))
      ∧ r.2.sem = fun _ => 0)

def quiescent_FfnSIdeal [hFfnSIdeal : Cert.FfnSIdeal.Facts] : Prop :=
  ∀ (m : (ℓ : Loc Cert.FfnSIdeal.nD Cert.FfnSIdeal.τ Cert.FfnSIdeal.sig) → Buf (Elt Ideal) ℓ) (g : Dev Cert.FfnSIdeal.nD → PrngReg), Pre_FfnSIdeal m →
    θ_run (Cert.FfnSIdeal.defs (F := Ideal)) (onTc (τ := Cert.FfnSIdeal.τ) (Cert.FfnSIdeal.main (F := Ideal))) ⟨m, fun _ => 0, g⟩ (fun r => (∀ c : Dev Cert.FfnSIdeal.nD,
      r.2.mem ((c.tc : Thread Cert.FfnSIdeal.nD Cert.FfnSIdeal.τ).loc Cert.FfnSIdeal.main_arg0) = m ((c.tc : Thread Cert.FfnSIdeal.nD Cert.FfnSIdeal.τ).loc Cert.FfnSIdeal.main_arg0)
      ∧ r.2.mem ((c.tc : Thread Cert.FfnSIdeal.nD Cert.FfnSIdeal.τ).loc Cert.FfnSIdeal.main_arg1) = m ((c.tc : Thread Cert.FfnSIdeal.nD Cert.FfnSIdeal.τ).loc Cert.FfnSIdeal.main_arg1)
      ∧ r.2.mem ((c.tc : Thread Cert.FfnSIdeal.nD Cert.FfnSIdeal.τ).loc Cert.FfnSIdeal.main_arg2) = m ((c.tc : Thread Cert.FfnSIdeal.nD Cert.FfnSIdeal.τ).loc Cert.FfnSIdeal.main_arg2)
      ∧ r.2.mem ((c.tc : Thread Cert.FfnSIdeal.nD Cert.FfnSIdeal.τ).loc Cert.FfnSIdeal.main_arg3) = m ((c.tc : Thread Cert.FfnSIdeal.nD Cert.FfnSIdeal.τ).loc Cert.FfnSIdeal.main_arg3)
      ∧ r.2.mem ((c.tc : Thread Cert.FfnSIdeal.nD Cert.FfnSIdeal.τ).loc Cert.FfnSIdeal.main_arg4) = m ((c.tc : Thread Cert.FfnSIdeal.nD Cert.FfnSIdeal.τ).loc Cert.FfnSIdeal.main_arg4))
      ∧ r.2.sem = fun _ => 0)

def quiescent_FfnSRefIdeal [hFfnSRefIdeal : Cert.FfnSRefIdeal.Facts] : Prop :=
  ∀ (m : (ℓ : Loc Cert.FfnSRefIdeal.nD Cert.FfnSRefIdeal.τ Cert.FfnSRefIdeal.sig) → Buf (Elt Ideal) ℓ) (g : Dev Cert.FfnSRefIdeal.nD → PrngReg), Pre_FfnSRefIdeal m →
    θ_run (Cert.FfnSRefIdeal.defs (F := Ideal)) (onTc (τ := Cert.FfnSRefIdeal.τ) (Cert.FfnSRefIdeal.main (F := Ideal))) ⟨m, fun _ => 0, g⟩ (fun r => (∀ c : Dev Cert.FfnSRefIdeal.nD,
      r.2.mem ((c.tc : Thread Cert.FfnSRefIdeal.nD Cert.FfnSRefIdeal.τ).loc Cert.FfnSRefIdeal.main_arg0) = m ((c.tc : Thread Cert.FfnSRefIdeal.nD Cert.FfnSRefIdeal.τ).loc Cert.FfnSRefIdeal.main_arg0)
      ∧ r.2.mem ((c.tc : Thread Cert.FfnSRefIdeal.nD Cert.FfnSRefIdeal.τ).loc Cert.FfnSRefIdeal.main_arg1) = m ((c.tc : Thread Cert.FfnSRefIdeal.nD Cert.FfnSRefIdeal.τ).loc Cert.FfnSRefIdeal.main_arg1)
      ∧ r.2.mem ((c.tc : Thread Cert.FfnSRefIdeal.nD Cert.FfnSRefIdeal.τ).loc Cert.FfnSRefIdeal.main_arg2) = m ((c.tc : Thread Cert.FfnSRefIdeal.nD Cert.FfnSRefIdeal.τ).loc Cert.FfnSRefIdeal.main_arg2)
      ∧ r.2.mem ((c.tc : Thread Cert.FfnSRefIdeal.nD Cert.FfnSRefIdeal.τ).loc Cert.FfnSRefIdeal.main_arg3) = m ((c.tc : Thread Cert.FfnSRefIdeal.nD Cert.FfnSRefIdeal.τ).loc Cert.FfnSRefIdeal.main_arg3)
      ∧ r.2.mem ((c.tc : Thread Cert.FfnSRefIdeal.nD Cert.FfnSRefIdeal.τ).loc Cert.FfnSRefIdeal.main_arg4) = m ((c.tc : Thread Cert.FfnSRefIdeal.nD Cert.FfnSRefIdeal.τ).loc Cert.FfnSRefIdeal.main_arg4))
      ∧ r.2.sem = fun _ => 0)

def quiescent_Mls [hMls : Cert.Mls.Facts] : Prop :=
  ∀ (m : (ℓ : Loc Cert.Mls.nD Cert.Mls.τ Cert.Mls.sig) → Buf (Elt Bits) ℓ) (g : Dev Cert.Mls.nD → PrngReg), Pre_Mls m →
    θ_run (Cert.Mls.defs (F := Bits)) (onTc (τ := Cert.Mls.τ) (Cert.Mls.main (F := Bits))) ⟨m, fun _ => 0, g⟩ (fun r => (∀ c : Dev Cert.Mls.nD,
      r.2.mem ((c.tc : Thread Cert.Mls.nD Cert.Mls.τ).loc Cert.Mls.main_arg0) = m ((c.tc : Thread Cert.Mls.nD Cert.Mls.τ).loc Cert.Mls.main_arg0)
      ∧ r.2.mem ((c.tc : Thread Cert.Mls.nD Cert.Mls.τ).loc Cert.Mls.main_arg1) = m ((c.tc : Thread Cert.Mls.nD Cert.Mls.τ).loc Cert.Mls.main_arg1)
      ∧ r.2.mem ((c.tc : Thread Cert.Mls.nD Cert.Mls.τ).loc Cert.Mls.main_arg2) = m ((c.tc : Thread Cert.Mls.nD Cert.Mls.τ).loc Cert.Mls.main_arg2)
      ∧ r.2.mem ((c.tc : Thread Cert.Mls.nD Cert.Mls.τ).loc Cert.Mls.main_arg3) = m ((c.tc : Thread Cert.Mls.nD Cert.Mls.τ).loc Cert.Mls.main_arg3)
      ∧ r.2.mem ((c.tc : Thread Cert.Mls.nD Cert.Mls.τ).loc Cert.Mls.main_arg4) = m ((c.tc : Thread Cert.Mls.nD Cert.Mls.τ).loc Cert.Mls.main_arg4)
      ∧ r.2.mem ((c.tc : Thread Cert.Mls.nD Cert.Mls.τ).loc Cert.Mls.main_arg5) = m ((c.tc : Thread Cert.Mls.nD Cert.Mls.τ).loc Cert.Mls.main_arg5)
      ∧ r.2.mem ((c.tc : Thread Cert.Mls.nD Cert.Mls.τ).loc Cert.Mls.main_arg6) = m ((c.tc : Thread Cert.Mls.nD Cert.Mls.τ).loc Cert.Mls.main_arg6)
      ∧ r.2.mem ((c.tc : Thread Cert.Mls.nD Cert.Mls.τ).loc Cert.Mls.main_arg7) = m ((c.tc : Thread Cert.Mls.nD Cert.Mls.τ).loc Cert.Mls.main_arg7)
      ∧ r.2.mem ((c.tc : Thread Cert.Mls.nD Cert.Mls.τ).loc Cert.Mls.main_arg8) = m ((c.tc : Thread Cert.Mls.nD Cert.Mls.τ).loc Cert.Mls.main_arg8))
      ∧ r.2.sem = fun _ => 0)

def quiescent_MlsIdeal [hMlsIdeal : Cert.MlsIdeal.Facts] : Prop :=
  ∀ (m : (ℓ : Loc Cert.MlsIdeal.nD Cert.MlsIdeal.τ Cert.MlsIdeal.sig) → Buf (Elt Ideal) ℓ) (g : Dev Cert.MlsIdeal.nD → PrngReg), Pre_MlsIdeal m →
    θ_run (Cert.MlsIdeal.defs (F := Ideal)) (onTc (τ := Cert.MlsIdeal.τ) (Cert.MlsIdeal.main (F := Ideal))) ⟨m, fun _ => 0, g⟩ (fun r => (∀ c : Dev Cert.MlsIdeal.nD,
      r.2.mem ((c.tc : Thread Cert.MlsIdeal.nD Cert.MlsIdeal.τ).loc Cert.MlsIdeal.main_arg0) = m ((c.tc : Thread Cert.MlsIdeal.nD Cert.MlsIdeal.τ).loc Cert.MlsIdeal.main_arg0)
      ∧ r.2.mem ((c.tc : Thread Cert.MlsIdeal.nD Cert.MlsIdeal.τ).loc Cert.MlsIdeal.main_arg1) = m ((c.tc : Thread Cert.MlsIdeal.nD Cert.MlsIdeal.τ).loc Cert.MlsIdeal.main_arg1)
      ∧ r.2.mem ((c.tc : Thread Cert.MlsIdeal.nD Cert.MlsIdeal.τ).loc Cert.MlsIdeal.main_arg2) = m ((c.tc : Thread Cert.MlsIdeal.nD Cert.MlsIdeal.τ).loc Cert.MlsIdeal.main_arg2)
      ∧ r.2.mem ((c.tc : Thread Cert.MlsIdeal.nD Cert.MlsIdeal.τ).loc Cert.MlsIdeal.main_arg3) = m ((c.tc : Thread Cert.MlsIdeal.nD Cert.MlsIdeal.τ).loc Cert.MlsIdeal.main_arg3)
      ∧ r.2.mem ((c.tc : Thread Cert.MlsIdeal.nD Cert.MlsIdeal.τ).loc Cert.MlsIdeal.main_arg4) = m ((c.tc : Thread Cert.MlsIdeal.nD Cert.MlsIdeal.τ).loc Cert.MlsIdeal.main_arg4)
      ∧ r.2.mem ((c.tc : Thread Cert.MlsIdeal.nD Cert.MlsIdeal.τ).loc Cert.MlsIdeal.main_arg5) = m ((c.tc : Thread Cert.MlsIdeal.nD Cert.MlsIdeal.τ).loc Cert.MlsIdeal.main_arg5)
      ∧ r.2.mem ((c.tc : Thread Cert.MlsIdeal.nD Cert.MlsIdeal.τ).loc Cert.MlsIdeal.main_arg6) = m ((c.tc : Thread Cert.MlsIdeal.nD Cert.MlsIdeal.τ).loc Cert.MlsIdeal.main_arg6)
      ∧ r.2.mem ((c.tc : Thread Cert.MlsIdeal.nD Cert.MlsIdeal.τ).loc Cert.MlsIdeal.main_arg7) = m ((c.tc : Thread Cert.MlsIdeal.nD Cert.MlsIdeal.τ).loc Cert.MlsIdeal.main_arg7)
      ∧ r.2.mem ((c.tc : Thread Cert.MlsIdeal.nD Cert.MlsIdeal.τ).loc Cert.MlsIdeal.main_arg8) = m ((c.tc : Thread Cert.MlsIdeal.nD Cert.MlsIdeal.τ).loc Cert.MlsIdeal.main_arg8))
      ∧ r.2.sem = fun _ => 0)

def quiescent_MlsIdeal_pre_finite_gates [hMlsIdeal : Cert.MlsIdeal.Facts] [hPre_finite_gates : Cert.Pre_finite_gates.Facts] : Prop :=
  ∀ (m : (ℓ : Loc Cert.MlsIdeal.nD Cert.MlsIdeal.τ Cert.MlsIdeal.sig) → Buf (Elt Ideal) ℓ) (g : Dev Cert.MlsIdeal.nD → PrngReg), Pre_MlsIdeal_finite_gates m →
    θ_run (Cert.MlsIdeal.defs (F := Ideal)) (onTc (τ := Cert.MlsIdeal.τ) (Cert.MlsIdeal.main (F := Ideal))) ⟨m, fun _ => 0, g⟩ (fun r => (∀ c : Dev Cert.MlsIdeal.nD,
      r.2.mem ((c.tc : Thread Cert.MlsIdeal.nD Cert.MlsIdeal.τ).loc Cert.MlsIdeal.main_arg0) = m ((c.tc : Thread Cert.MlsIdeal.nD Cert.MlsIdeal.τ).loc Cert.MlsIdeal.main_arg0)
      ∧ r.2.mem ((c.tc : Thread Cert.MlsIdeal.nD Cert.MlsIdeal.τ).loc Cert.MlsIdeal.main_arg1) = m ((c.tc : Thread Cert.MlsIdeal.nD Cert.MlsIdeal.τ).loc Cert.MlsIdeal.main_arg1)
      ∧ r.2.mem ((c.tc : Thread Cert.MlsIdeal.nD Cert.MlsIdeal.τ).loc Cert.MlsIdeal.main_arg2) = m ((c.tc : Thread Cert.MlsIdeal.nD Cert.MlsIdeal.τ).loc Cert.MlsIdeal.main_arg2)
      ∧ r.2.mem ((c.tc : Thread Cert.MlsIdeal.nD Cert.MlsIdeal.τ).loc Cert.MlsIdeal.main_arg3) = m ((c.tc : Thread Cert.MlsIdeal.nD Cert.MlsIdeal.τ).loc Cert.MlsIdeal.main_arg3)
      ∧ r.2.mem ((c.tc : Thread Cert.MlsIdeal.nD Cert.MlsIdeal.τ).loc Cert.MlsIdeal.main_arg4) = m ((c.tc : Thread Cert.MlsIdeal.nD Cert.MlsIdeal.τ).loc Cert.MlsIdeal.main_arg4)
      ∧ r.2.mem ((c.tc : Thread Cert.MlsIdeal.nD Cert.MlsIdeal.τ).loc Cert.MlsIdeal.main_arg5) = m ((c.tc : Thread Cert.MlsIdeal.nD Cert.MlsIdeal.τ).loc Cert.MlsIdeal.main_arg5)
      ∧ r.2.mem ((c.tc : Thread Cert.MlsIdeal.nD Cert.MlsIdeal.τ).loc Cert.MlsIdeal.main_arg6) = m ((c.tc : Thread Cert.MlsIdeal.nD Cert.MlsIdeal.τ).loc Cert.MlsIdeal.main_arg6)
      ∧ r.2.mem ((c.tc : Thread Cert.MlsIdeal.nD Cert.MlsIdeal.τ).loc Cert.MlsIdeal.main_arg7) = m ((c.tc : Thread Cert.MlsIdeal.nD Cert.MlsIdeal.τ).loc Cert.MlsIdeal.main_arg7)
      ∧ r.2.mem ((c.tc : Thread Cert.MlsIdeal.nD Cert.MlsIdeal.τ).loc Cert.MlsIdeal.main_arg8) = m ((c.tc : Thread Cert.MlsIdeal.nD Cert.MlsIdeal.τ).loc Cert.MlsIdeal.main_arg8))
      ∧ r.2.sem = fun _ => 0)

def quiescent_MlsRefIdeal [hMlsRefIdeal : Cert.MlsRefIdeal.Facts] : Prop :=
  ∀ (m : (ℓ : Loc Cert.MlsRefIdeal.nD Cert.MlsRefIdeal.τ Cert.MlsRefIdeal.sig) → Buf (Elt Ideal) ℓ) (g : Dev Cert.MlsRefIdeal.nD → PrngReg), Pre_MlsRefIdeal m →
    θ_run (Cert.MlsRefIdeal.defs (F := Ideal)) (onTc (τ := Cert.MlsRefIdeal.τ) (Cert.MlsRefIdeal.main (F := Ideal))) ⟨m, fun _ => 0, g⟩ (fun r => (∀ c : Dev Cert.MlsRefIdeal.nD,
      r.2.mem ((c.tc : Thread Cert.MlsRefIdeal.nD Cert.MlsRefIdeal.τ).loc Cert.MlsRefIdeal.main_arg0) = m ((c.tc : Thread Cert.MlsRefIdeal.nD Cert.MlsRefIdeal.τ).loc Cert.MlsRefIdeal.main_arg0)
      ∧ r.2.mem ((c.tc : Thread Cert.MlsRefIdeal.nD Cert.MlsRefIdeal.τ).loc Cert.MlsRefIdeal.main_arg1) = m ((c.tc : Thread Cert.MlsRefIdeal.nD Cert.MlsRefIdeal.τ).loc Cert.MlsRefIdeal.main_arg1)
      ∧ r.2.mem ((c.tc : Thread Cert.MlsRefIdeal.nD Cert.MlsRefIdeal.τ).loc Cert.MlsRefIdeal.main_arg2) = m ((c.tc : Thread Cert.MlsRefIdeal.nD Cert.MlsRefIdeal.τ).loc Cert.MlsRefIdeal.main_arg2)
      ∧ r.2.mem ((c.tc : Thread Cert.MlsRefIdeal.nD Cert.MlsRefIdeal.τ).loc Cert.MlsRefIdeal.main_arg3) = m ((c.tc : Thread Cert.MlsRefIdeal.nD Cert.MlsRefIdeal.τ).loc Cert.MlsRefIdeal.main_arg3)
      ∧ r.2.mem ((c.tc : Thread Cert.MlsRefIdeal.nD Cert.MlsRefIdeal.τ).loc Cert.MlsRefIdeal.main_arg4) = m ((c.tc : Thread Cert.MlsRefIdeal.nD Cert.MlsRefIdeal.τ).loc Cert.MlsRefIdeal.main_arg4)
      ∧ r.2.mem ((c.tc : Thread Cert.MlsRefIdeal.nD Cert.MlsRefIdeal.τ).loc Cert.MlsRefIdeal.main_arg5) = m ((c.tc : Thread Cert.MlsRefIdeal.nD Cert.MlsRefIdeal.τ).loc Cert.MlsRefIdeal.main_arg5)
      ∧ r.2.mem ((c.tc : Thread Cert.MlsRefIdeal.nD Cert.MlsRefIdeal.τ).loc Cert.MlsRefIdeal.main_arg6) = m ((c.tc : Thread Cert.MlsRefIdeal.nD Cert.MlsRefIdeal.τ).loc Cert.MlsRefIdeal.main_arg6)
      ∧ r.2.mem ((c.tc : Thread Cert.MlsRefIdeal.nD Cert.MlsRefIdeal.τ).loc Cert.MlsRefIdeal.main_arg7) = m ((c.tc : Thread Cert.MlsRefIdeal.nD Cert.MlsRefIdeal.τ).loc Cert.MlsRefIdeal.main_arg7)
      ∧ r.2.mem ((c.tc : Thread Cert.MlsRefIdeal.nD Cert.MlsRefIdeal.τ).loc Cert.MlsRefIdeal.main_arg8) = m ((c.tc : Thread Cert.MlsRefIdeal.nD Cert.MlsRefIdeal.τ).loc Cert.MlsRefIdeal.main_arg8))
      ∧ r.2.sem = fun _ => 0)

def quiescent_MlsRefIdeal_pre_finite_gates [hMlsRefIdeal : Cert.MlsRefIdeal.Facts] [hPre_finite_gates : Cert.Pre_finite_gates.Facts] : Prop :=
  ∀ (m : (ℓ : Loc Cert.MlsRefIdeal.nD Cert.MlsRefIdeal.τ Cert.MlsRefIdeal.sig) → Buf (Elt Ideal) ℓ) (g : Dev Cert.MlsRefIdeal.nD → PrngReg), Pre_MlsRefIdeal_finite_gates m →
    θ_run (Cert.MlsRefIdeal.defs (F := Ideal)) (onTc (τ := Cert.MlsRefIdeal.τ) (Cert.MlsRefIdeal.main (F := Ideal))) ⟨m, fun _ => 0, g⟩ (fun r => (∀ c : Dev Cert.MlsRefIdeal.nD,
      r.2.mem ((c.tc : Thread Cert.MlsRefIdeal.nD Cert.MlsRefIdeal.τ).loc Cert.MlsRefIdeal.main_arg0) = m ((c.tc : Thread Cert.MlsRefIdeal.nD Cert.MlsRefIdeal.τ).loc Cert.MlsRefIdeal.main_arg0)
      ∧ r.2.mem ((c.tc : Thread Cert.MlsRefIdeal.nD Cert.MlsRefIdeal.τ).loc Cert.MlsRefIdeal.main_arg1) = m ((c.tc : Thread Cert.MlsRefIdeal.nD Cert.MlsRefIdeal.τ).loc Cert.MlsRefIdeal.main_arg1)
      ∧ r.2.mem ((c.tc : Thread Cert.MlsRefIdeal.nD Cert.MlsRefIdeal.τ).loc Cert.MlsRefIdeal.main_arg2) = m ((c.tc : Thread Cert.MlsRefIdeal.nD Cert.MlsRefIdeal.τ).loc Cert.MlsRefIdeal.main_arg2)
      ∧ r.2.mem ((c.tc : Thread Cert.MlsRefIdeal.nD Cert.MlsRefIdeal.τ).loc Cert.MlsRefIdeal.main_arg3) = m ((c.tc : Thread Cert.MlsRefIdeal.nD Cert.MlsRefIdeal.τ).loc Cert.MlsRefIdeal.main_arg3)
      ∧ r.2.mem ((c.tc : Thread Cert.MlsRefIdeal.nD Cert.MlsRefIdeal.τ).loc Cert.MlsRefIdeal.main_arg4) = m ((c.tc : Thread Cert.MlsRefIdeal.nD Cert.MlsRefIdeal.τ).loc Cert.MlsRefIdeal.main_arg4)
      ∧ r.2.mem ((c.tc : Thread Cert.MlsRefIdeal.nD Cert.MlsRefIdeal.τ).loc Cert.MlsRefIdeal.main_arg5) = m ((c.tc : Thread Cert.MlsRefIdeal.nD Cert.MlsRefIdeal.τ).loc Cert.MlsRefIdeal.main_arg5)
      ∧ r.2.mem ((c.tc : Thread Cert.MlsRefIdeal.nD Cert.MlsRefIdeal.τ).loc Cert.MlsRefIdeal.main_arg6) = m ((c.tc : Thread Cert.MlsRefIdeal.nD Cert.MlsRefIdeal.τ).loc Cert.MlsRefIdeal.main_arg6)
      ∧ r.2.mem ((c.tc : Thread Cert.MlsRefIdeal.nD Cert.MlsRefIdeal.τ).loc Cert.MlsRefIdeal.main_arg7) = m ((c.tc : Thread Cert.MlsRefIdeal.nD Cert.MlsRefIdeal.τ).loc Cert.MlsRefIdeal.main_arg7)
      ∧ r.2.mem ((c.tc : Thread Cert.MlsRefIdeal.nD Cert.MlsRefIdeal.τ).loc Cert.MlsRefIdeal.main_arg8) = m ((c.tc : Thread Cert.MlsRefIdeal.nD Cert.MlsRefIdeal.τ).loc Cert.MlsRefIdeal.main_arg8))
      ∧ r.2.sem = fun _ => 0)

def quiescent_InattS [hInattS : Cert.InattS.Facts] : Prop :=
  ∀ (m : (ℓ : Loc Cert.InattS.nD Cert.InattS.τ Cert.InattS.sig) → Buf (Elt Bits) ℓ) (g : Dev Cert.InattS.nD → PrngReg), Pre_InattS m →
    θ_run (Cert.InattS.defs (F := Bits)) (onTc (τ := Cert.InattS.τ) (Cert.InattS.main (F := Bits))) ⟨m, fun _ => 0, g⟩ (fun r => (∀ c : Dev Cert.InattS.nD,
      r.2.mem ((c.tc : Thread Cert.InattS.nD Cert.InattS.τ).loc Cert.InattS.main_arg0) = m ((c.tc : Thread Cert.InattS.nD Cert.InattS.τ).loc Cert.InattS.main_arg0)
      ∧ r.2.mem ((c.tc : Thread Cert.InattS.nD Cert.InattS.τ).loc Cert.InattS.main_arg1) = m ((c.tc : Thread Cert.InattS.nD Cert.InattS.τ).loc Cert.InattS.main_arg1))
      ∧ r.2.sem = fun _ => 0)

def quiescent_InattSIdeal [hInattSIdeal : Cert.InattSIdeal.Facts] : Prop :=
  ∀ (m : (ℓ : Loc Cert.InattSIdeal.nD Cert.InattSIdeal.τ Cert.InattSIdeal.sig) → Buf (Elt Ideal) ℓ) (g : Dev Cert.InattSIdeal.nD → PrngReg), Pre_InattSIdeal m →
    θ_run (Cert.InattSIdeal.defs (F := Ideal)) (onTc (τ := Cert.InattSIdeal.τ) (Cert.InattSIdeal.main (F := Ideal))) ⟨m, fun _ => 0, g⟩ (fun r => (∀ c : Dev Cert.InattSIdeal.nD,
      r.2.mem ((c.tc : Thread Cert.InattSIdeal.nD Cert.InattSIdeal.τ).loc Cert.InattSIdeal.main_arg0) = m ((c.tc : Thread Cert.InattSIdeal.nD Cert.InattSIdeal.τ).loc Cert.InattSIdeal.main_arg0)
      ∧ r.2.mem ((c.tc : Thread Cert.InattSIdeal.nD Cert.InattSIdeal.τ).loc Cert.InattSIdeal.main_arg1) = m ((c.tc : Thread Cert.InattSIdeal.nD Cert.InattSIdeal.τ).loc Cert.InattSIdeal.main_arg1))
      ∧ r.2.sem = fun _ => 0)

def quiescent_InattSRefIdeal [hInattSRefIdeal : Cert.InattSRefIdeal.Facts] : Prop :=
  ∀ (m : (ℓ : Loc Cert.InattSRefIdeal.nD Cert.InattSRefIdeal.τ Cert.InattSRefIdeal.sig) → Buf (Elt Ideal) ℓ) (g : Dev Cert.InattSRefIdeal.nD → PrngReg), Pre_InattSRefIdeal m →
    θ_run (Cert.InattSRefIdeal.defs (F := Ideal)) (onTc (τ := Cert.InattSRefIdeal.τ) (Cert.InattSRefIdeal.main (F := Ideal))) ⟨m, fun _ => 0, g⟩ (fun r => (∀ c : Dev Cert.InattSRefIdeal.nD,
      r.2.mem ((c.tc : Thread Cert.InattSRefIdeal.nD Cert.InattSRefIdeal.τ).loc Cert.InattSRefIdeal.main_arg0) = m ((c.tc : Thread Cert.InattSRefIdeal.nD Cert.InattSRefIdeal.τ).loc Cert.InattSRefIdeal.main_arg0)
      ∧ r.2.mem ((c.tc : Thread Cert.InattSRefIdeal.nD Cert.InattSRefIdeal.τ).loc Cert.InattSRefIdeal.main_arg1) = m ((c.tc : Thread Cert.InattSRefIdeal.nD Cert.InattSRefIdeal.τ).loc Cert.InattSRefIdeal.main_arg1))
      ∧ r.2.sem = fun _ => 0)

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v5)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v5) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v35) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4))

def preserves_Mix_MixIdeal : Prop :=
  True

def algebraic_MixIdeal_MixRefIdeal [hMixIdeal : Cert.MixIdeal.Facts] [hMixRefIdeal : Cert.MixRefIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)
      ∧ m' ((c.tc : Thread Cert.MixRefIdeal.nD Cert.MixRefIdeal.τ).loc Cert.MixRefIdeal.main_arg2) = m ((c.tc : Thread Cert.MixIdeal.nD Cert.MixIdeal.τ).loc Cert.MixIdeal.main_arg2)
      ∧ m' ((c.tc : Thread Cert.MixRefIdeal.nD Cert.MixRefIdeal.τ).loc Cert.MixRefIdeal.main_arg3) = m ((c.tc : Thread Cert.MixIdeal.nD Cert.MixIdeal.τ).loc Cert.MixIdeal.main_arg3)
      ∧ m' ((c.tc : Thread Cert.MixRefIdeal.nD Cert.MixRefIdeal.τ).loc Cert.MixRefIdeal.main_arg4) = m ((c.tc : Thread Cert.MixIdeal.nD Cert.MixIdeal.τ).loc Cert.MixIdeal.main_arg4)
      ∧ m' ((c.tc : Thread Cert.MixRefIdeal.nD Cert.MixRefIdeal.τ).loc Cert.MixRefIdeal.main_arg5) = m ((c.tc : Thread Cert.MixIdeal.nD Cert.MixIdeal.τ).loc Cert.MixIdeal.main_arg5)
      ∧ m' ((c.tc : Thread Cert.MixRefIdeal.nD Cert.MixRefIdeal.τ).loc Cert.MixRefIdeal.main_arg6) = m ((c.tc : Thread Cert.MixIdeal.nD Cert.MixIdeal.τ).loc Cert.MixIdeal.main_arg6)
      ∧ m' ((c.tc : Thread Cert.MixRefIdeal.nD Cert.MixRefIdeal.τ).loc Cert.MixRefIdeal.main_arg7) = m ((c.tc : Thread Cert.MixIdeal.nD Cert.MixIdeal.τ).loc Cert.MixIdeal.main_arg7)
      ∧ m' ((c.tc : Thread Cert.MixRefIdeal.nD Cert.MixRefIdeal.τ).loc Cert.MixRefIdeal.main_arg8) = m ((c.tc : Thread Cert.MixIdeal.nD Cert.MixIdeal.τ).loc Cert.MixIdeal.main_arg8)
      ∧ m' ((c.tc : Thread Cert.MixRefIdeal.nD Cert.MixRefIdeal.τ).loc Cert.MixRefIdeal.main_arg9) = m ((c.tc : Thread Cert.MixIdeal.nD Cert.MixIdeal.τ).loc Cert.MixIdeal.main_arg9)) →
    ∃ (v0 : (c : Dev Cert.MixIdeal.nD) → Buf (Elt Ideal) ((c.tc : Thread Cert.MixIdeal.nD Cert.MixIdeal.τ).loc Cert.MixIdeal.main_v5)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v5) = v0 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
          ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
          ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
          ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
          ∧ r.2.mem ((c.tc : Thread Cert.MixIdeal.nD Cert.MixIdeal.τ).loc Cert.MixIdeal.main_arg9) = m ((c.tc : Thread Cert.MixIdeal.nD Cert.MixIdeal.τ).loc Cert.MixIdeal.main_arg9))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v36) = v0 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3)
          ∧ r.2.mem ((c.tc : Thread Cert.MixRefIdeal.nD Cert.MixRefIdeal.τ).loc Cert.MixRefIdeal.main_arg4) = m' ((c.tc : Thread Cert.MixRefIdeal.nD Cert.MixRefIdeal.τ).loc Cert.MixRefIdeal.main_arg4)
          ∧ r.2.mem ((c.tc : Thread Cert.MixRefIdeal.nD Cert.MixRefIdeal.τ).loc Cert.MixRefIdeal.main_arg5) = m' ((c.tc : Thread Cert.MixRefIdeal.nD Cert.MixRefIdeal.τ).loc Cert.MixRefIdeal.main_arg5)
          ∧ r.2.mem ((c.tc : Thread Cert.MixRefIdeal.nD Cert.MixRefIdeal.τ).loc Cert.MixRefIdeal.main_arg6) = m' ((c.tc : Thread Cert.MixRefIdeal.nD Cert.MixRefIdeal.τ).loc Cert.MixRefIdeal.main_arg6)
          ∧ r.2.mem ((c.tc : Thread Cert.MixRefIdeal.nD Cert.MixRefIdeal.τ).loc Cert.MixRefIdeal.main_arg7) = m' ((c.tc : Thread Cert.MixRefIdeal.nD Cert.MixRefIdeal.τ).loc Cert.MixRefIdeal.main_arg7)
          ∧ r.2.mem ((c.tc : Thread Cert.MixRefIdeal.nD Cert.MixRefIdeal.τ).loc Cert.MixRefIdeal.main_arg8) = m' ((c.tc : Thread Cert.MixRefIdeal.nD Cert.MixRefIdeal.τ).loc Cert.MixRefIdeal.main_arg8)
          ∧ r.2.mem ((c.tc : Thread Cert.MixRefIdeal.nD Cert.MixRefIdeal.τ).loc Cert.MixRefIdeal.main_arg9) = m' ((c.tc : Thread Cert.MixRefIdeal.nD Cert.MixRefIdeal.τ).loc Cert.MixRefIdeal.main_arg9))

def preserves_Inatt_InattIdeal : Prop :=
  True

def algebraic_InattIdeal_InattRefIdeal [hInattIdeal : Cert.InattIdeal.Facts] [hInattRefIdeal : Cert.InattRefIdeal.Facts] : Prop :=
  ∀ (m : (ℓ : Loc Cert.InattIdeal.nD Cert.InattIdeal.τ Cert.InattIdeal.sig) → Buf (Elt Ideal) ℓ) (g : Dev Cert.InattIdeal.nD → PrngReg)
    (m' : (ℓ : Loc Cert.InattRefIdeal.nD Cert.InattRefIdeal.τ Cert.InattRefIdeal.sig) → Buf (Elt Ideal) ℓ) (g' : Dev Cert.InattRefIdeal.nD → PrngReg), Pre_InattIdeal m →
    (∀ c : Dev Cert.InattIdeal.nD,
      m' ((c.tc : Thread Cert.InattRefIdeal.nD Cert.InattRefIdeal.τ).loc Cert.InattRefIdeal.main_arg0) = m ((c.tc : Thread Cert.InattIdeal.nD Cert.InattIdeal.τ).loc Cert.InattIdeal.main_arg0)
      ∧ m' ((c.tc : Thread Cert.InattRefIdeal.nD Cert.InattRefIdeal.τ).loc Cert.InattRefIdeal.main_arg1) = m ((c.tc : Thread Cert.InattIdeal.nD Cert.InattIdeal.τ).loc Cert.InattIdeal.main_arg1)) →
    ∃ (v0 : (c : Dev Cert.InattIdeal.nD) → Buf (Elt Ideal) ((c.tc : Thread Cert.InattIdeal.nD Cert.InattIdeal.τ).loc Cert.InattIdeal.main_v0_0)) (v1 : (c : Dev Cert.InattIdeal.nD) → Buf (Elt Ideal) ((c.tc : Thread Cert.InattIdeal.nD Cert.InattIdeal.τ).loc Cert.InattIdeal.main_v0_1)) (v2 : (c : Dev Cert.InattIdeal.nD) → Buf (Elt Ideal) ((c.tc : Thread Cert.InattIdeal.nD Cert.InattIdeal.τ).loc Cert.InattIdeal.main_v0_2)) (v3 : (c : Dev Cert.InattIdeal.nD) → Buf (Elt Ideal) ((c.tc : Thread Cert.InattIdeal.nD Cert.InattIdeal.τ).loc Cert.InattIdeal.main_v0_3)) (v4 : (c : Dev Cert.InattIdeal.nD) → Buf (Elt Ideal) ((c.tc : Thread Cert.InattIdeal.nD Cert.InattIdeal.τ).loc Cert.InattIdeal.main_v0_4)) (v5 : (c : Dev Cert.InattIdeal.nD) → Buf (Elt Ideal) ((c.tc : Thread Cert.InattIdeal.nD Cert.InattIdeal.τ).loc Cert.InattIdeal.main_v0_5)) (v6 : (c : Dev Cert.InattIdeal.nD) → Buf (Elt Ideal) ((c.tc : Thread Cert.InattIdeal.nD Cert.InattIdeal.τ).loc Cert.InattIdeal.main_v0_6)),
      θ_run (Cert.InattIdeal.defs (F := Ideal)) (onTc (τ := Cert.InattIdeal.τ) (Cert.InattIdeal.main (F := Ideal))) ⟨m, fun _ => 0, g⟩ (fun r => ∀ c : Dev Cert.InattIdeal.nD,
          r.2.mem ((c.tc : Thread Cert.InattIdeal.nD Cert.InattIdeal.τ).loc Cert.InattIdeal.main_v0_0) = v0 c
          ∧ r.2.mem ((c.tc : Thread Cert.InattIdeal.nD Cert.InattIdeal.τ).loc Cert.InattIdeal.main_v0_1) = v1 c
          ∧ r.2.mem ((c.tc : Thread Cert.InattIdeal.nD Cert.InattIdeal.τ).loc Cert.InattIdeal.main_v0_2) = v2 c
          ∧ r.2.mem ((c.tc : Thread Cert.InattIdeal.nD Cert.InattIdeal.τ).loc Cert.InattIdeal.main_v0_3) = v3 c
          ∧ r.2.mem ((c.tc : Thread Cert.InattIdeal.nD Cert.InattIdeal.τ).loc Cert.InattIdeal.main_v0_4) = v4 c
          ∧ r.2.mem ((c.tc : Thread Cert.InattIdeal.nD Cert.InattIdeal.τ).loc Cert.InattIdeal.main_v0_5) = v5 c
          ∧ r.2.mem ((c.tc : Thread Cert.InattIdeal.nD Cert.InattIdeal.τ).loc Cert.InattIdeal.main_v0_6) = v6 c
          ∧ r.2.mem ((c.tc : Thread Cert.InattIdeal.nD Cert.InattIdeal.τ).loc Cert.InattIdeal.main_arg0) = m ((c.tc : Thread Cert.InattIdeal.nD Cert.InattIdeal.τ).loc Cert.InattIdeal.main_arg0)
          ∧ r.2.mem ((c.tc : Thread Cert.InattIdeal.nD Cert.InattIdeal.τ).loc Cert.InattIdeal.main_arg1) = m ((c.tc : Thread Cert.InattIdeal.nD Cert.InattIdeal.τ).loc Cert.InattIdeal.main_arg1))
      ∧ θ_run (Cert.InattRefIdeal.defs (F := Ideal)) (onTc (τ := Cert.InattRefIdeal.τ) (Cert.InattRefIdeal.main (F := Ideal))) ⟨m', fun _ => 0, g'⟩ (fun r => ∀ c : Dev Cert.InattRefIdeal.nD,
          r.2.mem ((c.tc : Thread Cert.InattRefIdeal.nD Cert.InattRefIdeal.τ).loc Cert.InattRefIdeal.main_v8) = v0 c
          ∧ r.2.mem ((c.tc : Thread Cert.InattRefIdeal.nD Cert.InattRefIdeal.τ).loc Cert.InattRefIdeal.main_v10) = v1 c
          ∧ r.2.mem ((c.tc : Thread Cert.InattRefIdeal.nD Cert.InattRefIdeal.τ).loc Cert.InattRefIdeal.main_v11) = v2 c
          ∧ r.2.mem ((c.tc : Thread Cert.InattRefIdeal.nD Cert.InattRefIdeal.τ).loc Cert.InattRefIdeal.main_v12) = v3 c
          ∧ r.2.mem ((c.tc : Thread Cert.InattRefIdeal.nD Cert.InattRefIdeal.τ).loc Cert.InattRefIdeal.main_v13) = v4 c
          ∧ r.2.mem ((c.tc : Thread Cert.InattRefIdeal.nD Cert.InattRefIdeal.τ).loc Cert.InattRefIdeal.main_v20) = v5 c
          ∧ r.2.mem ((c.tc : Thread Cert.InattRefIdeal.nD Cert.InattRefIdeal.τ).loc Cert.InattRefIdeal.main_v27) = v6 c
          ∧ r.2.mem ((c.tc : Thread Cert.InattRefIdeal.nD Cert.InattRefIdeal.τ).loc Cert.InattRefIdeal.main_arg0) = m' ((c.tc : Thread Cert.InattRefIdeal.nD Cert.InattRefIdeal.τ).loc Cert.InattRefIdeal.main_arg0)
          ∧ r.2.mem ((c.tc : Thread Cert.InattRefIdeal.nD Cert.InattRefIdeal.τ).loc Cert.InattRefIdeal.main_arg1) = m' ((c.tc : Thread Cert.InattRefIdeal.nD Cert.InattRefIdeal.τ).loc Cert.InattRefIdeal.main_arg1))

def preserves_Cached_CachedIdeal : Prop :=
  True

def algebraic_CachedIdeal_CachedRefIdeal_pre_finite_scores [hCachedIdeal : Cert.CachedIdeal.Facts] [hCachedRefIdeal : Cert.CachedRefIdeal.Facts] [hPre_finite_scores : Cert.Pre_finite_scores.Facts] : Prop :=
  ∀ (m : (ℓ : Loc Cert.CachedIdeal.nD Cert.CachedIdeal.τ Cert.CachedIdeal.sig) → Buf (Elt Ideal) ℓ) (g : Dev Cert.CachedIdeal.nD → PrngReg)
    (m' : (ℓ : Loc Cert.CachedRefIdeal.nD Cert.CachedRefIdeal.τ Cert.CachedRefIdeal.sig) → Buf (Elt Ideal) ℓ) (g' : Dev Cert.CachedRefIdeal.nD → PrngReg), Pre_CachedIdeal_finite_scores m →
    (∀ c : Dev Cert.CachedIdeal.nD,
      m' ((c.tc : Thread Cert.CachedRefIdeal.nD Cert.CachedRefIdeal.τ).loc Cert.CachedRefIdeal.main_arg0) = m ((c.tc : Thread Cert.CachedIdeal.nD Cert.CachedIdeal.τ).loc Cert.CachedIdeal.main_arg0)
      ∧ m' ((c.tc : Thread Cert.CachedRefIdeal.nD Cert.CachedRefIdeal.τ).loc Cert.CachedRefIdeal.main_arg1) = m ((c.tc : Thread Cert.CachedIdeal.nD Cert.CachedIdeal.τ).loc Cert.CachedIdeal.main_arg1)
      ∧ m' ((c.tc : Thread Cert.CachedRefIdeal.nD Cert.CachedRefIdeal.τ).loc Cert.CachedRefIdeal.main_arg2) = m ((c.tc : Thread Cert.CachedIdeal.nD Cert.CachedIdeal.τ).loc Cert.CachedIdeal.main_arg2)
      ∧ m' ((c.tc : Thread Cert.CachedRefIdeal.nD Cert.CachedRefIdeal.τ).loc Cert.CachedRefIdeal.main_arg3) = m ((c.tc : Thread Cert.CachedIdeal.nD Cert.CachedIdeal.τ).loc Cert.CachedIdeal.main_arg3)
      ∧ m' ((c.tc : Thread Cert.CachedRefIdeal.nD Cert.CachedRefIdeal.τ).loc Cert.CachedRefIdeal.main_arg4) = m ((c.tc : Thread Cert.CachedIdeal.nD Cert.CachedIdeal.τ).loc Cert.CachedIdeal.main_arg4)
      ∧ m' ((c.tc : Thread Cert.CachedRefIdeal.nD Cert.CachedRefIdeal.τ).loc Cert.CachedRefIdeal.main_arg5) = m ((c.tc : Thread Cert.CachedIdeal.nD Cert.CachedIdeal.τ).loc Cert.CachedIdeal.main_arg5)) →
    ∃ (v0 : (c : Dev Cert.CachedIdeal.nD) → Buf (Elt Ideal) ((c.tc : Thread Cert.CachedIdeal.nD Cert.CachedIdeal.τ).loc Cert.CachedIdeal.main_v5)),
      θ_run (Cert.CachedIdeal.defs (F := Ideal)) (onTc (τ := Cert.CachedIdeal.τ) (Cert.CachedIdeal.main (F := Ideal))) ⟨m, fun _ => 0, g⟩ (fun r => ∀ c : Dev Cert.CachedIdeal.nD,
          r.2.mem ((c.tc : Thread Cert.CachedIdeal.nD Cert.CachedIdeal.τ).loc Cert.CachedIdeal.main_v5) = v0 c
          ∧ r.2.mem ((c.tc : Thread Cert.CachedIdeal.nD Cert.CachedIdeal.τ).loc Cert.CachedIdeal.main_arg0) = m ((c.tc : Thread Cert.CachedIdeal.nD Cert.CachedIdeal.τ).loc Cert.CachedIdeal.main_arg0)
          ∧ r.2.mem ((c.tc : Thread Cert.CachedIdeal.nD Cert.CachedIdeal.τ).loc Cert.CachedIdeal.main_arg1) = m ((c.tc : Thread Cert.CachedIdeal.nD Cert.CachedIdeal.τ).loc Cert.CachedIdeal.main_arg1)
          ∧ r.2.mem ((c.tc : Thread Cert.CachedIdeal.nD Cert.CachedIdeal.τ).loc Cert.CachedIdeal.main_arg2) = m ((c.tc : Thread Cert.CachedIdeal.nD Cert.CachedIdeal.τ).loc Cert.CachedIdeal.main_arg2)
          ∧ r.2.mem ((c.tc : Thread Cert.CachedIdeal.nD Cert.CachedIdeal.τ).loc Cert.CachedIdeal.main_arg3) = m ((c.tc : Thread Cert.CachedIdeal.nD Cert.CachedIdeal.τ).loc Cert.CachedIdeal.main_arg3)
          ∧ r.2.mem ((c.tc : Thread Cert.CachedIdeal.nD Cert.CachedIdeal.τ).loc Cert.CachedIdeal.main_arg4) = m ((c.tc : Thread Cert.CachedIdeal.nD Cert.CachedIdeal.τ).loc Cert.CachedIdeal.main_arg4)
          ∧ r.2.mem ((c.tc : Thread Cert.CachedIdeal.nD Cert.CachedIdeal.τ).loc Cert.CachedIdeal.main_arg5) = m ((c.tc : Thread Cert.CachedIdeal.nD Cert.CachedIdeal.τ).loc Cert.CachedIdeal.main_arg5))
      ∧ θ_run (Cert.CachedRefIdeal.defs (F := Ideal)) (onTc (τ := Cert.CachedRefIdeal.τ) (Cert.CachedRefIdeal.main (F := Ideal))) ⟨m', fun _ => 0, g'⟩ (fun r => ∀ c : Dev Cert.CachedRefIdeal.nD,
          r.2.mem ((c.tc : Thread Cert.CachedRefIdeal.nD Cert.CachedRefIdeal.τ).loc Cert.CachedRefIdeal.main_v27) = v0 c
          ∧ r.2.mem ((c.tc : Thread Cert.CachedRefIdeal.nD Cert.CachedRefIdeal.τ).loc Cert.CachedRefIdeal.main_arg0) = m' ((c.tc : Thread Cert.CachedRefIdeal.nD Cert.CachedRefIdeal.τ).loc Cert.CachedRefIdeal.main_arg0)
          ∧ r.2.mem ((c.tc : Thread Cert.CachedRefIdeal.nD Cert.CachedRefIdeal.τ).loc Cert.CachedRefIdeal.main_arg1) = m' ((c.tc : Thread Cert.CachedRefIdeal.nD Cert.CachedRefIdeal.τ).loc Cert.CachedRefIdeal.main_arg1)
          ∧ r.2.mem ((c.tc : Thread Cert.CachedRefIdeal.nD Cert.CachedRefIdeal.τ).loc Cert.CachedRefIdeal.main_arg2) = m' ((c.tc : Thread Cert.CachedRefIdeal.nD Cert.CachedRefIdeal.τ).loc Cert.CachedRefIdeal.main_arg2)
          ∧ r.2.mem ((c.tc : Thread Cert.CachedRefIdeal.nD Cert.CachedRefIdeal.τ).loc Cert.CachedRefIdeal.main_arg3) = m' ((c.tc : Thread Cert.CachedRefIdeal.nD Cert.CachedRefIdeal.τ).loc Cert.CachedRefIdeal.main_arg3)
          ∧ r.2.mem ((c.tc : Thread Cert.CachedRefIdeal.nD Cert.CachedRefIdeal.τ).loc Cert.CachedRefIdeal.main_arg4) = m' ((c.tc : Thread Cert.CachedRefIdeal.nD Cert.CachedRefIdeal.τ).loc Cert.CachedRefIdeal.main_arg4)
          ∧ r.2.mem ((c.tc : Thread Cert.CachedRefIdeal.nD Cert.CachedRefIdeal.τ).loc Cert.CachedRefIdeal.main_arg5) = m' ((c.tc : Thread Cert.CachedRefIdeal.nD Cert.CachedRefIdeal.τ).loc Cert.CachedRefIdeal.main_arg5))

def preserves_FfnS_FfnSIdeal : Prop :=
  True

def algebraic_FfnSIdeal_FfnSRefIdeal [hFfnSIdeal : Cert.FfnSIdeal.Facts] [hFfnSRefIdeal : Cert.FfnSRefIdeal.Facts] : Prop :=
  ∀ (m : (ℓ : Loc Cert.FfnSIdeal.nD Cert.FfnSIdeal.τ Cert.FfnSIdeal.sig) → Buf (Elt Ideal) ℓ) (g : Dev Cert.FfnSIdeal.nD → PrngReg)
    (m' : (ℓ : Loc Cert.FfnSRefIdeal.nD Cert.FfnSRefIdeal.τ Cert.FfnSRefIdeal.sig) → Buf (Elt Ideal) ℓ) (g' : Dev Cert.FfnSRefIdeal.nD → PrngReg), Pre_FfnSIdeal m →
    (∀ c : Dev Cert.FfnSIdeal.nD,
      m' ((c.tc : Thread Cert.FfnSRefIdeal.nD Cert.FfnSRefIdeal.τ).loc Cert.FfnSRefIdeal.main_arg0) = m ((c.tc : Thread Cert.FfnSIdeal.nD Cert.FfnSIdeal.τ).loc Cert.FfnSIdeal.main_arg0)
      ∧ m' ((c.tc : Thread Cert.FfnSRefIdeal.nD Cert.FfnSRefIdeal.τ).loc Cert.FfnSRefIdeal.main_arg1) = m ((c.tc : Thread Cert.FfnSIdeal.nD Cert.FfnSIdeal.τ).loc Cert.FfnSIdeal.main_arg1)
      ∧ m' ((c.tc : Thread Cert.FfnSRefIdeal.nD Cert.FfnSRefIdeal.τ).loc Cert.FfnSRefIdeal.main_arg2) = m ((c.tc : Thread Cert.FfnSIdeal.nD Cert.FfnSIdeal.τ).loc Cert.FfnSIdeal.main_arg2)
      ∧ m' ((c.tc : Thread Cert.FfnSRefIdeal.nD Cert.FfnSRefIdeal.τ).loc Cert.FfnSRefIdeal.main_arg3) = m ((c.tc : Thread Cert.FfnSIdeal.nD Cert.FfnSIdeal.τ).loc Cert.FfnSIdeal.main_arg3)
      ∧ m' ((c.tc : Thread Cert.FfnSRefIdeal.nD Cert.FfnSRefIdeal.τ).loc Cert.FfnSRefIdeal.main_arg4) = m ((c.tc : Thread Cert.FfnSIdeal.nD Cert.FfnSIdeal.τ).loc Cert.FfnSIdeal.main_arg4)) →
    ∃ (v0 : (c : Dev Cert.FfnSIdeal.nD) → Buf (Elt Ideal) ((c.tc : Thread Cert.FfnSIdeal.nD Cert.FfnSIdeal.τ).loc Cert.FfnSIdeal.main_v5)),
      θ_run (Cert.FfnSIdeal.defs (F := Ideal)) (onTc (τ := Cert.FfnSIdeal.τ) (Cert.FfnSIdeal.main (F := Ideal))) ⟨m, fun _ => 0, g⟩ (fun r => ∀ c : Dev Cert.FfnSIdeal.nD,
          r.2.mem ((c.tc : Thread Cert.FfnSIdeal.nD Cert.FfnSIdeal.τ).loc Cert.FfnSIdeal.main_v5) = v0 c
          ∧ r.2.mem ((c.tc : Thread Cert.FfnSIdeal.nD Cert.FfnSIdeal.τ).loc Cert.FfnSIdeal.main_arg0) = m ((c.tc : Thread Cert.FfnSIdeal.nD Cert.FfnSIdeal.τ).loc Cert.FfnSIdeal.main_arg0)
          ∧ r.2.mem ((c.tc : Thread Cert.FfnSIdeal.nD Cert.FfnSIdeal.τ).loc Cert.FfnSIdeal.main_arg1) = m ((c.tc : Thread Cert.FfnSIdeal.nD Cert.FfnSIdeal.τ).loc Cert.FfnSIdeal.main_arg1)
          ∧ r.2.mem ((c.tc : Thread Cert.FfnSIdeal.nD Cert.FfnSIdeal.τ).loc Cert.FfnSIdeal.main_arg2) = m ((c.tc : Thread Cert.FfnSIdeal.nD Cert.FfnSIdeal.τ).loc Cert.FfnSIdeal.main_arg2)
          ∧ r.2.mem ((c.tc : Thread Cert.FfnSIdeal.nD Cert.FfnSIdeal.τ).loc Cert.FfnSIdeal.main_arg3) = m ((c.tc : Thread Cert.FfnSIdeal.nD Cert.FfnSIdeal.τ).loc Cert.FfnSIdeal.main_arg3)
          ∧ r.2.mem ((c.tc : Thread Cert.FfnSIdeal.nD Cert.FfnSIdeal.τ).loc Cert.FfnSIdeal.main_arg4) = m ((c.tc : Thread Cert.FfnSIdeal.nD Cert.FfnSIdeal.τ).loc Cert.FfnSIdeal.main_arg4))
      ∧ θ_run (Cert.FfnSRefIdeal.defs (F := Ideal)) (onTc (τ := Cert.FfnSRefIdeal.τ) (Cert.FfnSRefIdeal.main (F := Ideal))) ⟨m', fun _ => 0, g'⟩ (fun r => ∀ c : Dev Cert.FfnSRefIdeal.nD,
          r.2.mem ((c.tc : Thread Cert.FfnSRefIdeal.nD Cert.FfnSRefIdeal.τ).loc Cert.FfnSRefIdeal.main_v35) = v0 c
          ∧ r.2.mem ((c.tc : Thread Cert.FfnSRefIdeal.nD Cert.FfnSRefIdeal.τ).loc Cert.FfnSRefIdeal.main_arg0) = m' ((c.tc : Thread Cert.FfnSRefIdeal.nD Cert.FfnSRefIdeal.τ).loc Cert.FfnSRefIdeal.main_arg0)
          ∧ r.2.mem ((c.tc : Thread Cert.FfnSRefIdeal.nD Cert.FfnSRefIdeal.τ).loc Cert.FfnSRefIdeal.main_arg1) = m' ((c.tc : Thread Cert.FfnSRefIdeal.nD Cert.FfnSRefIdeal.τ).loc Cert.FfnSRefIdeal.main_arg1)
          ∧ r.2.mem ((c.tc : Thread Cert.FfnSRefIdeal.nD Cert.FfnSRefIdeal.τ).loc Cert.FfnSRefIdeal.main_arg2) = m' ((c.tc : Thread Cert.FfnSRefIdeal.nD Cert.FfnSRefIdeal.τ).loc Cert.FfnSRefIdeal.main_arg2)
          ∧ r.2.mem ((c.tc : Thread Cert.FfnSRefIdeal.nD Cert.FfnSRefIdeal.τ).loc Cert.FfnSRefIdeal.main_arg3) = m' ((c.tc : Thread Cert.FfnSRefIdeal.nD Cert.FfnSRefIdeal.τ).loc Cert.FfnSRefIdeal.main_arg3)
          ∧ r.2.mem ((c.tc : Thread Cert.FfnSRefIdeal.nD Cert.FfnSRefIdeal.τ).loc Cert.FfnSRefIdeal.main_arg4) = m' ((c.tc : Thread Cert.FfnSRefIdeal.nD Cert.FfnSRefIdeal.τ).loc Cert.FfnSRefIdeal.main_arg4))

def preserves_Mls_MlsIdeal : Prop :=
  True

def algebraic_MlsIdeal_MlsRefIdeal_pre_finite_gates [hMlsIdeal : Cert.MlsIdeal.Facts] [hMlsRefIdeal : Cert.MlsRefIdeal.Facts] [hPre_finite_gates : Cert.Pre_finite_gates.Facts] : Prop :=
  ∀ (m : (ℓ : Loc Cert.MlsIdeal.nD Cert.MlsIdeal.τ Cert.MlsIdeal.sig) → Buf (Elt Ideal) ℓ) (g : Dev Cert.MlsIdeal.nD → PrngReg)
    (m' : (ℓ : Loc Cert.MlsRefIdeal.nD Cert.MlsRefIdeal.τ Cert.MlsRefIdeal.sig) → Buf (Elt Ideal) ℓ) (g' : Dev Cert.MlsRefIdeal.nD → PrngReg), Pre_MlsIdeal_finite_gates m →
    (∀ c : Dev Cert.MlsIdeal.nD,
      m' ((c.tc : Thread Cert.MlsRefIdeal.nD Cert.MlsRefIdeal.τ).loc Cert.MlsRefIdeal.main_arg0) = m ((c.tc : Thread Cert.MlsIdeal.nD Cert.MlsIdeal.τ).loc Cert.MlsIdeal.main_arg0)
      ∧ m' ((c.tc : Thread Cert.MlsRefIdeal.nD Cert.MlsRefIdeal.τ).loc Cert.MlsRefIdeal.main_arg1) = m ((c.tc : Thread Cert.MlsIdeal.nD Cert.MlsIdeal.τ).loc Cert.MlsIdeal.main_arg1)
      ∧ m' ((c.tc : Thread Cert.MlsRefIdeal.nD Cert.MlsRefIdeal.τ).loc Cert.MlsRefIdeal.main_arg2) = m ((c.tc : Thread Cert.MlsIdeal.nD Cert.MlsIdeal.τ).loc Cert.MlsIdeal.main_arg2)
      ∧ m' ((c.tc : Thread Cert.MlsRefIdeal.nD Cert.MlsRefIdeal.τ).loc Cert.MlsRefIdeal.main_arg3) = m ((c.tc : Thread Cert.MlsIdeal.nD Cert.MlsIdeal.τ).loc Cert.MlsIdeal.main_arg3)
      ∧ m' ((c.tc : Thread Cert.MlsRefIdeal.nD Cert.MlsRefIdeal.τ).loc Cert.MlsRefIdeal.main_arg4) = m ((c.tc : Thread Cert.MlsIdeal.nD Cert.MlsIdeal.τ).loc Cert.MlsIdeal.main_arg4)
      ∧ m' ((c.tc : Thread Cert.MlsRefIdeal.nD Cert.MlsRefIdeal.τ).loc Cert.MlsRefIdeal.main_arg5) = m ((c.tc : Thread Cert.MlsIdeal.nD Cert.MlsIdeal.τ).loc Cert.MlsIdeal.main_arg5)
      ∧ m' ((c.tc : Thread Cert.MlsRefIdeal.nD Cert.MlsRefIdeal.τ).loc Cert.MlsRefIdeal.main_arg6) = m ((c.tc : Thread Cert.MlsIdeal.nD Cert.MlsIdeal.τ).loc Cert.MlsIdeal.main_arg6)
      ∧ m' ((c.tc : Thread Cert.MlsRefIdeal.nD Cert.MlsRefIdeal.τ).loc Cert.MlsRefIdeal.main_arg7) = m ((c.tc : Thread Cert.MlsIdeal.nD Cert.MlsIdeal.τ).loc Cert.MlsIdeal.main_arg7)
      ∧ m' ((c.tc : Thread Cert.MlsRefIdeal.nD Cert.MlsRefIdeal.τ).loc Cert.MlsRefIdeal.main_arg8) = m ((c.tc : Thread Cert.MlsIdeal.nD Cert.MlsIdeal.τ).loc Cert.MlsIdeal.main_arg8)) →
    ∃ (v0 : (c : Dev Cert.MlsIdeal.nD) → Buf (Elt Ideal) ((c.tc : Thread Cert.MlsIdeal.nD Cert.MlsIdeal.τ).loc Cert.MlsIdeal.main_v5_0)) (v1 : (c : Dev Cert.MlsIdeal.nD) → Buf (Elt Ideal) ((c.tc : Thread Cert.MlsIdeal.nD Cert.MlsIdeal.τ).loc Cert.MlsIdeal.main_v5_1)) (v2 : (c : Dev Cert.MlsIdeal.nD) → Buf (Elt Ideal) ((c.tc : Thread Cert.MlsIdeal.nD Cert.MlsIdeal.τ).loc Cert.MlsIdeal.main_v5_2)) (v3 : (c : Dev Cert.MlsIdeal.nD) → Buf (Elt Ideal) ((c.tc : Thread Cert.MlsIdeal.nD Cert.MlsIdeal.τ).loc Cert.MlsIdeal.main_v5_3)),
      θ_run (Cert.MlsIdeal.defs (F := Ideal)) (onTc (τ := Cert.MlsIdeal.τ) (Cert.MlsIdeal.main (F := Ideal))) ⟨m, fun _ => 0, g⟩ (fun r => ∀ c : Dev Cert.MlsIdeal.nD,
          r.2.mem ((c.tc : Thread Cert.MlsIdeal.nD Cert.MlsIdeal.τ).loc Cert.MlsIdeal.main_v5_0) = v0 c
          ∧ r.2.mem ((c.tc : Thread Cert.MlsIdeal.nD Cert.MlsIdeal.τ).loc Cert.MlsIdeal.main_v5_1) = v1 c
          ∧ r.2.mem ((c.tc : Thread Cert.MlsIdeal.nD Cert.MlsIdeal.τ).loc Cert.MlsIdeal.main_v5_2) = v2 c
          ∧ r.2.mem ((c.tc : Thread Cert.MlsIdeal.nD Cert.MlsIdeal.τ).loc Cert.MlsIdeal.main_v5_3) = v3 c
          ∧ r.2.mem ((c.tc : Thread Cert.MlsIdeal.nD Cert.MlsIdeal.τ).loc Cert.MlsIdeal.main_arg0) = m ((c.tc : Thread Cert.MlsIdeal.nD Cert.MlsIdeal.τ).loc Cert.MlsIdeal.main_arg0)
          ∧ r.2.mem ((c.tc : Thread Cert.MlsIdeal.nD Cert.MlsIdeal.τ).loc Cert.MlsIdeal.main_arg1) = m ((c.tc : Thread Cert.MlsIdeal.nD Cert.MlsIdeal.τ).loc Cert.MlsIdeal.main_arg1)
          ∧ r.2.mem ((c.tc : Thread Cert.MlsIdeal.nD Cert.MlsIdeal.τ).loc Cert.MlsIdeal.main_arg2) = m ((c.tc : Thread Cert.MlsIdeal.nD Cert.MlsIdeal.τ).loc Cert.MlsIdeal.main_arg2)
          ∧ r.2.mem ((c.tc : Thread Cert.MlsIdeal.nD Cert.MlsIdeal.τ).loc Cert.MlsIdeal.main_arg3) = m ((c.tc : Thread Cert.MlsIdeal.nD Cert.MlsIdeal.τ).loc Cert.MlsIdeal.main_arg3)
          ∧ r.2.mem ((c.tc : Thread Cert.MlsIdeal.nD Cert.MlsIdeal.τ).loc Cert.MlsIdeal.main_arg4) = m ((c.tc : Thread Cert.MlsIdeal.nD Cert.MlsIdeal.τ).loc Cert.MlsIdeal.main_arg4)
          ∧ r.2.mem ((c.tc : Thread Cert.MlsIdeal.nD Cert.MlsIdeal.τ).loc Cert.MlsIdeal.main_arg5) = m ((c.tc : Thread Cert.MlsIdeal.nD Cert.MlsIdeal.τ).loc Cert.MlsIdeal.main_arg5)
          ∧ r.2.mem ((c.tc : Thread Cert.MlsIdeal.nD Cert.MlsIdeal.τ).loc Cert.MlsIdeal.main_arg6) = m ((c.tc : Thread Cert.MlsIdeal.nD Cert.MlsIdeal.τ).loc Cert.MlsIdeal.main_arg6)
          ∧ r.2.mem ((c.tc : Thread Cert.MlsIdeal.nD Cert.MlsIdeal.τ).loc Cert.MlsIdeal.main_arg7) = m ((c.tc : Thread Cert.MlsIdeal.nD Cert.MlsIdeal.τ).loc Cert.MlsIdeal.main_arg7)
          ∧ r.2.mem ((c.tc : Thread Cert.MlsIdeal.nD Cert.MlsIdeal.τ).loc Cert.MlsIdeal.main_arg8) = m ((c.tc : Thread Cert.MlsIdeal.nD Cert.MlsIdeal.τ).loc Cert.MlsIdeal.main_arg8))
      ∧ θ_run (Cert.MlsRefIdeal.defs (F := Ideal)) (onTc (τ := Cert.MlsRefIdeal.τ) (Cert.MlsRefIdeal.main (F := Ideal))) ⟨m', fun _ => 0, g'⟩ (fun r => ∀ c : Dev Cert.MlsRefIdeal.nD,
          r.2.mem ((c.tc : Thread Cert.MlsRefIdeal.nD Cert.MlsRefIdeal.τ).loc Cert.MlsRefIdeal.main_v126) = v0 c
          ∧ r.2.mem ((c.tc : Thread Cert.MlsRefIdeal.nD Cert.MlsRefIdeal.τ).loc Cert.MlsRefIdeal.main_v79) = v1 c
          ∧ r.2.mem ((c.tc : Thread Cert.MlsRefIdeal.nD Cert.MlsRefIdeal.τ).loc Cert.MlsRefIdeal.main_v84) = v2 c
          ∧ r.2.mem ((c.tc : Thread Cert.MlsRefIdeal.nD Cert.MlsRefIdeal.τ).loc Cert.MlsRefIdeal.main_v127) = v3 c
          ∧ r.2.mem ((c.tc : Thread Cert.MlsRefIdeal.nD Cert.MlsRefIdeal.τ).loc Cert.MlsRefIdeal.main_arg0) = m' ((c.tc : Thread Cert.MlsRefIdeal.nD Cert.MlsRefIdeal.τ).loc Cert.MlsRefIdeal.main_arg0)
          ∧ r.2.mem ((c.tc : Thread Cert.MlsRefIdeal.nD Cert.MlsRefIdeal.τ).loc Cert.MlsRefIdeal.main_arg1) = m' ((c.tc : Thread Cert.MlsRefIdeal.nD Cert.MlsRefIdeal.τ).loc Cert.MlsRefIdeal.main_arg1)
          ∧ r.2.mem ((c.tc : Thread Cert.MlsRefIdeal.nD Cert.MlsRefIdeal.τ).loc Cert.MlsRefIdeal.main_arg2) = m' ((c.tc : Thread Cert.MlsRefIdeal.nD Cert.MlsRefIdeal.τ).loc Cert.MlsRefIdeal.main_arg2)
          ∧ r.2.mem ((c.tc : Thread Cert.MlsRefIdeal.nD Cert.MlsRefIdeal.τ).loc Cert.MlsRefIdeal.main_arg3) = m' ((c.tc : Thread Cert.MlsRefIdeal.nD Cert.MlsRefIdeal.τ).loc Cert.MlsRefIdeal.main_arg3)
          ∧ r.2.mem ((c.tc : Thread Cert.MlsRefIdeal.nD Cert.MlsRefIdeal.τ).loc Cert.MlsRefIdeal.main_arg4) = m' ((c.tc : Thread Cert.MlsRefIdeal.nD Cert.MlsRefIdeal.τ).loc Cert.MlsRefIdeal.main_arg4)
          ∧ r.2.mem ((c.tc : Thread Cert.MlsRefIdeal.nD Cert.MlsRefIdeal.τ).loc Cert.MlsRefIdeal.main_arg5) = m' ((c.tc : Thread Cert.MlsRefIdeal.nD Cert.MlsRefIdeal.τ).loc Cert.MlsRefIdeal.main_arg5)
          ∧ r.2.mem ((c.tc : Thread Cert.MlsRefIdeal.nD Cert.MlsRefIdeal.τ).loc Cert.MlsRefIdeal.main_arg6) = m' ((c.tc : Thread Cert.MlsRefIdeal.nD Cert.MlsRefIdeal.τ).loc Cert.MlsRefIdeal.main_arg6)
          ∧ r.2.mem ((c.tc : Thread Cert.MlsRefIdeal.nD Cert.MlsRefIdeal.τ).loc Cert.MlsRefIdeal.main_arg7) = m' ((c.tc : Thread Cert.MlsRefIdeal.nD Cert.MlsRefIdeal.τ).loc Cert.MlsRefIdeal.main_arg7)
          ∧ r.2.mem ((c.tc : Thread Cert.MlsRefIdeal.nD Cert.MlsRefIdeal.τ).loc Cert.MlsRefIdeal.main_arg8) = m' ((c.tc : Thread Cert.MlsRefIdeal.nD Cert.MlsRefIdeal.τ).loc Cert.MlsRefIdeal.main_arg8))

def preserves_InattS_InattSIdeal : Prop :=
  True

def algebraic_InattSIdeal_InattSRefIdeal [hInattSIdeal : Cert.InattSIdeal.Facts] [hInattSRefIdeal : Cert.InattSRefIdeal.Facts] : Prop :=
  ∀ (m : (ℓ : Loc Cert.InattSIdeal.nD Cert.InattSIdeal.τ Cert.InattSIdeal.sig) → Buf (Elt Ideal) ℓ) (g : Dev Cert.InattSIdeal.nD → PrngReg)
    (m' : (ℓ : Loc Cert.InattSRefIdeal.nD Cert.InattSRefIdeal.τ Cert.InattSRefIdeal.sig) → Buf (Elt Ideal) ℓ) (g' : Dev Cert.InattSRefIdeal.nD → PrngReg), Pre_InattSIdeal m →
    (∀ c : Dev Cert.InattSIdeal.nD,
      m' ((c.tc : Thread Cert.InattSRefIdeal.nD Cert.InattSRefIdeal.τ).loc Cert.InattSRefIdeal.main_arg0) = m ((c.tc : Thread Cert.InattSIdeal.nD Cert.InattSIdeal.τ).loc Cert.InattSIdeal.main_arg0)
      ∧ m' ((c.tc : Thread Cert.InattSRefIdeal.nD Cert.InattSRefIdeal.τ).loc Cert.InattSRefIdeal.main_arg1) = m ((c.tc : Thread Cert.InattSIdeal.nD Cert.InattSIdeal.τ).loc Cert.InattSIdeal.main_arg1)) →
    ∃ (v0 : (c : Dev Cert.InattSIdeal.nD) → Buf (Elt Ideal) ((c.tc : Thread Cert.InattSIdeal.nD Cert.InattSIdeal.τ).loc Cert.InattSIdeal.main_v0_0)) (v1 : (c : Dev Cert.InattSIdeal.nD) → Buf (Elt Ideal) ((c.tc : Thread Cert.InattSIdeal.nD Cert.InattSIdeal.τ).loc Cert.InattSIdeal.main_v0_1)) (v2 : (c : Dev Cert.InattSIdeal.nD) → Buf (Elt Ideal) ((c.tc : Thread Cert.InattSIdeal.nD Cert.InattSIdeal.τ).loc Cert.InattSIdeal.main_v0_2)) (v3 : (c : Dev Cert.InattSIdeal.nD) → Buf (Elt Ideal) ((c.tc : Thread Cert.InattSIdeal.nD Cert.InattSIdeal.τ).loc Cert.InattSIdeal.main_v0_3)) (v4 : (c : Dev Cert.InattSIdeal.nD) → Buf (Elt Ideal) ((c.tc : Thread Cert.InattSIdeal.nD Cert.InattSIdeal.τ).loc Cert.InattSIdeal.main_v0_4)) (v5 : (c : Dev Cert.InattSIdeal.nD) → Buf (Elt Ideal) ((c.tc : Thread Cert.InattSIdeal.nD Cert.InattSIdeal.τ).loc Cert.InattSIdeal.main_v0_5)) (v6 : (c : Dev Cert.InattSIdeal.nD) → Buf (Elt Ideal) ((c.tc : Thread Cert.InattSIdeal.nD Cert.InattSIdeal.τ).loc Cert.InattSIdeal.main_v0_6)),
      θ_run (Cert.InattSIdeal.defs (F := Ideal)) (onTc (τ := Cert.InattSIdeal.τ) (Cert.InattSIdeal.main (F := Ideal))) ⟨m, fun _ => 0, g⟩ (fun r => ∀ c : Dev Cert.InattSIdeal.nD,
          r.2.mem ((c.tc : Thread Cert.InattSIdeal.nD Cert.InattSIdeal.τ).loc Cert.InattSIdeal.main_v0_0) = v0 c
          ∧ r.2.mem ((c.tc : Thread Cert.InattSIdeal.nD Cert.InattSIdeal.τ).loc Cert.InattSIdeal.main_v0_1) = v1 c
          ∧ r.2.mem ((c.tc : Thread Cert.InattSIdeal.nD Cert.InattSIdeal.τ).loc Cert.InattSIdeal.main_v0_2) = v2 c
          ∧ r.2.mem ((c.tc : Thread Cert.InattSIdeal.nD Cert.InattSIdeal.τ).loc Cert.InattSIdeal.main_v0_3) = v3 c
          ∧ r.2.mem ((c.tc : Thread Cert.InattSIdeal.nD Cert.InattSIdeal.τ).loc Cert.InattSIdeal.main_v0_4) = v4 c
          ∧ r.2.mem ((c.tc : Thread Cert.InattSIdeal.nD Cert.InattSIdeal.τ).loc Cert.InattSIdeal.main_v0_5) = v5 c
          ∧ r.2.mem ((c.tc : Thread Cert.InattSIdeal.nD Cert.InattSIdeal.τ).loc Cert.InattSIdeal.main_v0_6) = v6 c
          ∧ r.2.mem ((c.tc : Thread Cert.InattSIdeal.nD Cert.InattSIdeal.τ).loc Cert.InattSIdeal.main_arg0) = m ((c.tc : Thread Cert.InattSIdeal.nD Cert.InattSIdeal.τ).loc Cert.InattSIdeal.main_arg0)
          ∧ r.2.mem ((c.tc : Thread Cert.InattSIdeal.nD Cert.InattSIdeal.τ).loc Cert.InattSIdeal.main_arg1) = m ((c.tc : Thread Cert.InattSIdeal.nD Cert.InattSIdeal.τ).loc Cert.InattSIdeal.main_arg1))
      ∧ θ_run (Cert.InattSRefIdeal.defs (F := Ideal)) (onTc (τ := Cert.InattSRefIdeal.τ) (Cert.InattSRefIdeal.main (F := Ideal))) ⟨m', fun _ => 0, g'⟩ (fun r => ∀ c : Dev Cert.InattSRefIdeal.nD,
          r.2.mem ((c.tc : Thread Cert.InattSRefIdeal.nD Cert.InattSRefIdeal.τ).loc Cert.InattSRefIdeal.main_v8) = v0 c
          ∧ r.2.mem ((c.tc : Thread Cert.InattSRefIdeal.nD Cert.InattSRefIdeal.τ).loc Cert.InattSRefIdeal.main_v10) = v1 c
          ∧ r.2.mem ((c.tc : Thread Cert.InattSRefIdeal.nD Cert.InattSRefIdeal.τ).loc Cert.InattSRefIdeal.main_v11) = v2 c
          ∧ r.2.mem ((c.tc : Thread Cert.InattSRefIdeal.nD Cert.InattSRefIdeal.τ).loc Cert.InattSRefIdeal.main_v4) = v3 c
          ∧ r.2.mem ((c.tc : Thread Cert.InattSRefIdeal.nD Cert.InattSRefIdeal.τ).loc Cert.InattSRefIdeal.main_v5) = v4 c
          ∧ r.2.mem ((c.tc : Thread Cert.InattSRefIdeal.nD Cert.InattSRefIdeal.τ).loc Cert.InattSRefIdeal.main_v18) = v5 c
          ∧ r.2.mem ((c.tc : Thread Cert.InattSRefIdeal.nD Cert.InattSRefIdeal.τ).loc Cert.InattSRefIdeal.main_v25) = v6 c
          ∧ r.2.mem ((c.tc : Thread Cert.InattSRefIdeal.nD Cert.InattSRefIdeal.τ).loc Cert.InattSRefIdeal.main_arg0) = m' ((c.tc : Thread Cert.InattSRefIdeal.nD Cert.InattSRefIdeal.τ).loc Cert.InattSRefIdeal.main_arg0)
          ∧ r.2.mem ((c.tc : Thread Cert.InattSRefIdeal.nD Cert.InattSRefIdeal.τ).loc Cert.InattSRefIdeal.main_arg1) = m' ((c.tc : Thread Cert.InattSRefIdeal.nD Cert.InattSRefIdeal.τ).loc Cert.InattSRefIdeal.main_arg1))

def Claim : Prop :=
  ∃ (hFfn : Cert.Ffn.Facts) (hFfnIdeal : Cert.FfnIdeal.Facts) (hFfnRefIdeal : Cert.FfnRefIdeal.Facts) (hMix : Cert.Mix.Facts) (hMixIdeal : Cert.MixIdeal.Facts) (hMixRefIdeal : Cert.MixRefIdeal.Facts) (hInatt : Cert.Inatt.Facts) (hInattIdeal : Cert.InattIdeal.Facts) (hInattRefIdeal : Cert.InattRefIdeal.Facts) (hCached : Cert.Cached.Facts) (hCachedIdeal : Cert.CachedIdeal.Facts) (hCachedRefIdeal : Cert.CachedRefIdeal.Facts) (hFfnS : Cert.FfnS.Facts) (hFfnSIdeal : Cert.FfnSIdeal.Facts) (hFfnSRefIdeal : Cert.FfnSRefIdeal.Facts) (hMls : Cert.Mls.Facts) (hMlsIdeal : Cert.MlsIdeal.Facts) (hMlsRefIdeal : Cert.MlsRefIdeal.Facts) (hInattS : Cert.InattS.Facts) (hInattSIdeal : Cert.InattSIdeal.Facts) (hInattSRefIdeal : Cert.InattSRefIdeal.Facts) (hPre_finite_scores : Cert.Pre_finite_scores.Facts) (hPre_finite_gates : Cert.Pre_finite_gates.Facts),
    quiescent_Ffn (hFfn := hFfn)
    ∧ quiescent_FfnIdeal (hFfnIdeal := hFfnIdeal)
    ∧ quiescent_FfnRefIdeal (hFfnRefIdeal := hFfnRefIdeal)
    ∧ quiescent_Mix (hMix := hMix)
    ∧ quiescent_MixIdeal (hMixIdeal := hMixIdeal)
    ∧ quiescent_MixRefIdeal (hMixRefIdeal := hMixRefIdeal)
    ∧ quiescent_Inatt (hInatt := hInatt)
    ∧ quiescent_InattIdeal (hInattIdeal := hInattIdeal)
    ∧ quiescent_InattRefIdeal (hInattRefIdeal := hInattRefIdeal)
    ∧ quiescent_Cached (hCached := hCached)
    ∧ quiescent_CachedIdeal (hCachedIdeal := hCachedIdeal)
    ∧ quiescent_CachedIdeal_pre_finite_scores (hCachedIdeal := hCachedIdeal) (hPre_finite_scores := hPre_finite_scores)
    ∧ quiescent_CachedRefIdeal (hCachedRefIdeal := hCachedRefIdeal)
    ∧ quiescent_CachedRefIdeal_pre_finite_scores (hCachedRefIdeal := hCachedRefIdeal) (hPre_finite_scores := hPre_finite_scores)
    ∧ quiescent_FfnS (hFfnS := hFfnS)
    ∧ quiescent_FfnSIdeal (hFfnSIdeal := hFfnSIdeal)
    ∧ quiescent_FfnSRefIdeal (hFfnSRefIdeal := hFfnSRefIdeal)
    ∧ quiescent_Mls (hMls := hMls)
    ∧ quiescent_MlsIdeal (hMlsIdeal := hMlsIdeal)
    ∧ quiescent_MlsIdeal_pre_finite_gates (hMlsIdeal := hMlsIdeal) (hPre_finite_gates := hPre_finite_gates)
    ∧ quiescent_MlsRefIdeal (hMlsRefIdeal := hMlsRefIdeal)
    ∧ quiescent_MlsRefIdeal_pre_finite_gates (hMlsRefIdeal := hMlsRefIdeal) (hPre_finite_gates := hPre_finite_gates)
    ∧ quiescent_InattS (hInattS := hInattS)
    ∧ quiescent_InattSIdeal (hInattSIdeal := hInattSIdeal)
    ∧ quiescent_InattSRefIdeal (hInattSRefIdeal := hInattSRefIdeal)
    ∧ preserves_Ffn_FfnIdeal
    ∧ algebraic_FfnIdeal_FfnRefIdeal (hFfnIdeal := hFfnIdeal) (hFfnRefIdeal := hFfnRefIdeal)
    ∧ preserves_Mix_MixIdeal
    ∧ algebraic_MixIdeal_MixRefIdeal (hMixIdeal := hMixIdeal) (hMixRefIdeal := hMixRefIdeal)
    ∧ preserves_Inatt_InattIdeal
    ∧ algebraic_InattIdeal_InattRefIdeal (hInattIdeal := hInattIdeal) (hInattRefIdeal := hInattRefIdeal)
    ∧ preserves_Cached_CachedIdeal
    ∧ algebraic_CachedIdeal_CachedRefIdeal_pre_finite_scores (hCachedIdeal := hCachedIdeal) (hCachedRefIdeal := hCachedRefIdeal) (hPre_finite_scores := hPre_finite_scores)
    ∧ preserves_FfnS_FfnSIdeal
    ∧ algebraic_FfnSIdeal_FfnSRefIdeal (hFfnSIdeal := hFfnSIdeal) (hFfnSRefIdeal := hFfnSRefIdeal)
    ∧ preserves_Mls_MlsIdeal
    ∧ algebraic_MlsIdeal_MlsRefIdeal_pre_finite_gates (hMlsIdeal := hMlsIdeal) (hMlsRefIdeal := hMlsRefIdeal) (hPre_finite_gates := hPre_finite_gates)
    ∧ preserves_InattS_InattSIdeal
    ∧ algebraic_InattSIdeal_InattSRefIdeal (hInattSIdeal := hInattSIdeal) (hInattSRefIdeal := hInattSRefIdeal)
-- ==== Pre_finite_gates.lean ====
abbrev S16x64x1024 : Shape := ⟨3, ![16, 64, 1024]⟩
abbrev S16x1024x64 : Shape := ⟨3, ![16, 1024, 64]⟩
abbrev S16x64x128 : Shape := ⟨3, ![16, 64, 128]⟩
abbrev S16x4x256x256 : Shape := ⟨4, ![16, 4, 256, 256]⟩
abbrev S16x4x256 : Shape := ⟨3, ![16, 4, 256]⟩
abbrev S16x4 : Shape := ⟨2, ![16, 4]⟩
abbrev S1024 : Shape := ⟨1, ![1024]⟩
abbrev S_ : Shape := ⟨0, ![]⟩

class Facts : Prop where
  bcast_S_S16x64x128 : S_.BroadcastsInDim S16x64x128 (![] : Fin 0 → Fin S16x64x128.rank)
  reducesTo_S16x64x128_S_d0_1_2 : S16x64x128.ReducesTo [0, 1, 2] S_
  h_S_ : 0 < S_.numel
  bcast_S_S16x4 : S_.BroadcastsInDim S16x4 (![] : Fin 0 → Fin S16x4.rank)
  reducesTo_S16x4_S_d0_1 : S16x4.ReducesTo [0, 1] S_

variable [Facts]

def fn {F : FTy → Type} [FloatOps F] (main_arg0 : FVec F S16x64x1024 .bf16) (main_arg1 : FVec F S16x1024x64 .bf16) (main_arg2 : FVec F S16x64x1024 .bf16) (main_arg3 : FVec F S16x64x1024 .bf16) (main_arg4 : FVec F S16x64x128 .f32) (main_arg5 : FVec F S16x4x256x256 .f32) (main_arg6 : FVec F S16x4x256 .f32) (main_arg7 : FVec F S16x4 .f32) (main_arg8 : FVec F S1024 .f32) : IVec S_ 1 :=
  let main_v0 : FVec F S16x64x128 .f32 := Host.absf main_arg4
  let main_cst : FVec F S_ .f32 := constant S_ .f32 0x7F800000#32
  let main_v1 : FVec F S16x64x128 .f32 := broadcastInDim S16x64x128 ![] bcast_S_S16x64x128 main_cst
  let main_v2 : IVec S16x64x128 1 := cmpf .olt main_v0 main_v1
  let main_c : IVec S_ 1 := constantI S_ 1 1#1
  let main_v3 : IVec S_ 1 := (fun x v => Host.reduce IntOp.andi x v reducesTo_S16x64x128_S_d0_1_2 h_S_) main_v2 main_c
  let main_v4 : FVec F S16x4 .f32 := Host.absf main_arg7
  let main_cst_0 : FVec F S_ .f32 := constant S_ .f32 0x7F800000#32
  let main_v5 : FVec F S16x4 .f32 := broadcastInDim S16x4 ![] bcast_S_S16x4 main_cst_0
  let main_v6 : IVec S16x4 1 := cmpf .olt main_v4 main_v5
  let main_c_1 : IVec S_ 1 := constantI S_ 1 1#1
  let main_v7 : IVec S_ 1 := (fun x v => Host.reduce IntOp.andi x v reducesTo_S16x4_S_d0_1 h_S_) main_v6 main_c_1
  let main_v8 : IVec S_ 1 := andi main_v3 main_v7
  main_v8
-- ==== Pre_finite_scores.lean ====
abbrev S16x64x1024 : Shape := ⟨3, ![16, 64, 1024]⟩
abbrev S16x1024x64 : Shape := ⟨3, ![16, 1024, 64]⟩
abbrev S16x512x16x64 : Shape := ⟨4, ![16, 512, 16, 64]⟩
abbrev S16x256x768 : Shape := ⟨3, ![16, 256, 768]⟩
abbrev S_ : Shape := ⟨0, ![]⟩

class Facts : Prop where
  bitsLt_bf16_f32 : FTy.bits .bf16 < FTy.bits .f32
  bcast_S_S16x64x1024 : S_.BroadcastsInDim S16x64x1024 (![] : Fin 0 → Fin S16x64x1024.rank)
  reducesTo_S16x64x1024_S_d0_1_2 : S16x64x1024.ReducesTo [0, 1, 2] S_
  h_S_ : 0 < S_.numel
  bcast_S_S16x1024x64 : S_.BroadcastsInDim S16x1024x64 (![] : Fin 0 → Fin S16x1024x64.rank)
  reducesTo_S16x1024x64_S_d0_1_2 : S16x1024x64.ReducesTo [0, 1, 2] S_
  bcast_S_S16x512x16x64 : S_.BroadcastsInDim S16x512x16x64 (![] : Fin 0 → Fin S16x512x16x64.rank)
  reducesTo_S16x512x16x64_S_d0_1_2_3 : S16x512x16x64.ReducesTo [0, 1, 2, 3] S_
  bcast_S_S16x256x768 : S_.BroadcastsInDim S16x256x768 (![] : Fin 0 → Fin S16x256x768.rank)
  reducesTo_S16x256x768_S_d0_1_2 : S16x256x768.ReducesTo [0, 1, 2] S_

variable [Facts]

def fn_part1 {F : FTy → Type} [FloatOps F] (main_v15 : IVec S_ 1) (main_v16 : FVec F S16x256x768 .f32) (main_cst_4 : FVec F S_ .f32) : IVec S_ 1 :=
  let main_v17 : FVec F S16x256x768 .f32 := broadcastInDim S16x256x768 ![] bcast_S_S16x256x768 main_cst_4
  let main_v18 : IVec S16x256x768 1 := cmpf .olt main_v16 main_v17
  let main_c_5 : IVec S_ 1 := constantI S_ 1 1#1
  let main_v19 : IVec S_ 1 := (fun x v => Host.reduce IntOp.andi x v reducesTo_S16x256x768_S_d0_1_2 h_S_) main_v18 main_c_5
  let main_v20 : IVec S_ 1 := andi main_v15 main_v19
  main_v20

def fn {F : FTy → Type} [FloatOps F] (main_arg0 : FVec F S16x64x1024 .bf16) (main_arg1 : FVec F S16x1024x64 .bf16) (main_arg2 : FVec F S16x64x1024 .bf16) (main_arg3 : FVec F S16x512x16x64 .f32) (main_arg4 : FVec F S16x512x16x64 .f32) (main_arg5 : FVec F S16x256x768 .f32) : IVec S_ 1 :=
  let main_v0 : FVec F S16x64x1024 .f32 := (extf .f32 · bitsLt_bf16_f32) main_arg0
  let main_v1 : FVec F S16x64x1024 .f32 := Host.absf main_v0
  let main_cst : FVec F S_ .f32 := constant S_ .f32 0x7F800000#32
  let main_v2 : FVec F S16x64x1024 .f32 := broadcastInDim S16x64x1024 ![] bcast_S_S16x64x1024 main_cst
  let main_v3 : IVec S16x64x1024 1 := cmpf .olt main_v1 main_v2
  let main_c : IVec S_ 1 := constantI S_ 1 1#1
  let main_v4 : IVec S_ 1 := (fun x v => Host.reduce IntOp.andi x v reducesTo_S16x64x1024_S_d0_1_2 h_S_) main_v3 main_c
  let main_v5 : FVec F S16x1024x64 .f32 := (extf .f32 · bitsLt_bf16_f32) main_arg1
  let main_v6 : FVec F S16x1024x64 .f32 := Host.absf main_v5
  let main_cst_0 : FVec F S_ .f32 := constant S_ .f32 0x7F800000#32
  let main_v7 : FVec F S16x1024x64 .f32 := broadcastInDim S16x1024x64 ![] bcast_S_S16x1024x64 main_cst_0
  let main_v8 : IVec S16x1024x64 1 := cmpf .olt main_v6 main_v7
  let main_c_1 : IVec S_ 1 := constantI S_ 1 1#1
  let main_v9 : IVec S_ 1 := (fun x v => Host.reduce IntOp.andi x v reducesTo_S16x1024x64_S_d0_1_2 h_S_) main_v8 main_c_1
  let main_v10 : IVec S_ 1 := andi main_v4 main_v9
  let main_v11 : FVec F S16x512x16x64 .f32 := Host.absf main_arg3
  let main_cst_2 : FVec F S_ .f32 := constant S_ .f32 0x7F800000#32
  let main_v12 : FVec F S16x512x16x64 .f32 := broadcastInDim S16x512x16x64 ![] bcast_S_S16x512x16x64 main_cst_2
  let main_v13 : IVec S16x512x16x64 1 := cmpf .olt main_v11 main_v12
  let main_c_3 : IVec S_ 1 := constantI S_ 1 1#1
  let main_v14 : IVec S_ 1 := (fun x v => Host.reduce IntOp.andi x v reducesTo_S16x512x16x64_S_d0_1_2_3 h_S_) main_v13 main_c_3
  let main_v15 : IVec S_ 1 := andi main_v10 main_v14
  let main_v16 : FVec F S16x256x768 .f32 := Host.absf main_arg5
  let main_cst_4 : FVec F S_ .f32 := constant S_ .f32 0x7F800000#32
  fn_part1 (F := F) main_v15 main_v16 main_cst_4
-- ==== Ffn.lean ====
abbrev S32x2048x1024 : Shape := ⟨3, ![32, 2048, 1024]⟩
abbrev S1024x5632 : Shape := ⟨2, ![1024, 5632]⟩
abbrev S2816x1024 : Shape := ⟨2, ![2816, 1024]⟩
abbrev S1024 : Shape := ⟨1, ![1024]⟩
abbrev S65536x1024 : Shape := ⟨2, ![65536, 1024]⟩
abbrev S1x1024 : Shape := ⟨2, ![1, 1024]⟩
abbrev S1024x1024 : Shape := ⟨2, ![1024, 1024]⟩
abbrev S1024x2816 : Shape := ⟨2, ![1024, 2816]⟩
abbrev S256x1024 : Shape := ⟨2, ![256, 1024]⟩
abbrev S1024x768 : Shape := ⟨2, ![1024, 768]⟩
abbrev S256x768 : Shape := ⟨2, ![256, 768]⟩
abbrev S768x1024 : Shape := ⟨2, ![768, 1024]⟩
abbrev S256 : Shape := ⟨1, ![256]⟩
abbrev S256x1 : Shape := ⟨2, ![256, 1]⟩

abbrev nBuf : Space → Nat
  | .hbm => 11
  | .vmem => 9
  | .smem => 0
  | _ => 0

abbrev bufTy : (tb : Table) → Fin (tcTables nBuf tb) → BufTy
  | .hbm, ⟨0, _⟩ => ⟨S32x2048x1024, .f32⟩
  | .hbm, ⟨1, _⟩ => ⟨S1024x5632, .f32⟩
  | .hbm, ⟨2, _⟩ => ⟨S2816x1024, .f32⟩
  | .hbm, ⟨3, _⟩ => ⟨S1024, .f32⟩
  | .hbm, ⟨4, _⟩ => ⟨S1024, .f32⟩
  | .hbm, ⟨5, _⟩ => ⟨S65536x1024, .f32⟩
  | .hbm, ⟨6, _⟩ => ⟨S1024x5632, .bf16⟩
  | .hbm, ⟨7, _⟩ => ⟨S2816x1024, .bf16⟩
  | .hbm, ⟨8, _⟩ => ⟨S1x1024, .f32⟩
  | .hbm, ⟨9, _⟩ => ⟨S1x1024, .f32⟩
  | .hbm, ⟨10, _⟩ => ⟨S65536x1024, .f32⟩
  | .local _ .vmem, ⟨0, _⟩ => ⟨S1024x1024, .f32⟩
  | .local _ .vmem, ⟨1, _⟩ => ⟨S1024x1024, .f32⟩
  | .local _ .vmem, ⟨2, _⟩ => ⟨S1024x2816, .bf16⟩
  | .local _ .vmem, ⟨3, _⟩ => ⟨S1024x2816, .bf16⟩
  | .local _ .vmem, ⟨4, _⟩ => ⟨S2816x1024, .bf16⟩
  | .local _ .vmem, ⟨5, _⟩ => ⟨S1x1024, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2816 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== FfnIdeal.lean ====
abbrev S32x2048x1024 : Shape := ⟨3, ![32, 2048, 1024]⟩
abbrev S1024x5632 : Shape := ⟨2, ![1024, 5632]⟩
abbrev S2816x1024 : Shape := ⟨2, ![2816, 1024]⟩
abbrev S1024 : Shape := ⟨1, ![1024]⟩
abbrev S65536x1024 : Shape := ⟨2, ![65536, 1024]⟩
abbrev S1x1024 : Shape := ⟨2, ![1, 1024]⟩
abbrev S1024x1024 : Shape := ⟨2, ![1024, 1024]⟩
abbrev S1024x2816 : Shape := ⟨2, ![1024, 2816]⟩
abbrev S256x1024 : Shape := ⟨2, ![256, 1024]⟩
abbrev S1024x768 : Shape := ⟨2, ![1024, 768]⟩
abbrev S256x768 : Shape := ⟨2, ![256, 768]⟩
abbrev S768x1024 : Shape := ⟨2, ![768, 1024]⟩
abbrev S256 : Shape := ⟨1, ![256]⟩
abbrev S256x1 : Shape := ⟨2, ![256, 1]⟩

abbrev nBuf : Space → Nat
  | .hbm => 11
  | .vmem => 9
  | .smem => 0
  | _ => 0

abbrev bufTy : (tb : Table) → Fin (tcTables nBuf tb) → BufTy
  | .hbm, ⟨0, _⟩ => ⟨S32x2048x1024, .f32⟩
  | .hbm, ⟨1, _⟩ => ⟨S1024x5632, .f32⟩
  | .hbm, ⟨2, _⟩ => ⟨S2816x1024, .f32⟩
  | .hbm, ⟨3, _⟩ => ⟨S1024, .f32⟩
  | .hbm, ⟨4, _⟩ => ⟨S1024, .f32⟩
  | .hbm, ⟨5, _⟩ => ⟨S65536x1024, .f32⟩
  | .hbm, ⟨6, _⟩ => ⟨S1024x5632, .bf16⟩
  | .hbm, ⟨7, _⟩ => ⟨S2816x1024, .bf16⟩
  | .hbm, ⟨8, _⟩ => ⟨S1x1024, .f32⟩
  | .hbm, ⟨9, _⟩ => ⟨S1x1024, .f32⟩
  | .hbm, ⟨10, _⟩ => ⟨S65536x1024, .f32⟩
  | .local _ .vmem, ⟨0, _⟩ => ⟨S1024x1024, .f32⟩
  | .local _ .vmem, ⟨1, _⟩ => ⟨S1024x1024, .f32⟩
  | .local _ .vmem, ⟨2, _⟩ => ⟨S1024x2816, .bf16⟩
  | .local _ .vmem, ⟨3, _⟩ => ⟨S1024x2816, .bf16⟩
  | .local _ .vmem, ⟨4, _⟩ => ⟨S2816x1024, .bf16⟩
  | .local _ .vmem, ⟨5, _⟩ => ⟨S1x1024, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2816 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== FfnRefIdeal.lean ====
abbrev S32x2048x1024 : Shape := ⟨3, ![32, 2048, 1024]⟩
abbrev S1024x5632 : Shape := ⟨2, ![1024, 5632]⟩
abbrev S2816x1024 : Shape := ⟨2, ![2816, 1024]⟩
abbrev S1024 : Shape := ⟨1, ![1024]⟩
abbrev S65536x1024 : Shape := ⟨2, ![65536, 1024]⟩
abbrev S65536x5632 : Shape := ⟨2, ![65536, 5632]⟩
abbrev S65536x2816 : Shape := ⟨2, ![65536, 2816]⟩
abbrev S_ : Shape := ⟨0, ![]⟩
abbrev S65536 : Shape := ⟨1, ![65536]⟩
abbrev S65536x1 : Shape := ⟨2, ![65536, 1]⟩
abbrev S1x1024 : Shape := ⟨2, ![1, 1024]⟩

abbrev nBuf : Space → Nat
  | .hbm => 56
  | .vmem => 0
  | .smem => 0
  | _ => 0

abbrev bufTy : (tb : Table) → Fin (tcTables nBuf tb) → BufTy
  | .hbm, ⟨0, _⟩ => ⟨S32x2048x1024, .f32⟩
  | .hbm, ⟨1, _⟩ => ⟨S1024x5632, .f32⟩
  | .hbm, ⟨2, _⟩ => ⟨S2816x1024, .f32⟩
  | .hbm, ⟨3, _⟩ => ⟨S1024, .f32⟩
  | .hbm, ⟨4, _⟩ => ⟨S1024, .f32⟩
  | .hbm, ⟨5, _⟩ => ⟨S65536x1024, .f32⟩
  | .hbm, ⟨6, _⟩ => ⟨S65536x5632, .f32⟩
  | .hbm, ⟨7, _⟩ => ⟨S65536x2816, .f32⟩
  | .hbm, ⟨8, _⟩ => ⟨S65536x2816, .f32⟩
  | .hbm, ⟨9, _⟩ => ⟨S65536x2816, .f32⟩
  | .hbm, ⟨10, _⟩ => ⟨S65536x2816, .f32⟩
  | .hbm, ⟨11, _⟩ => ⟨S_, .f32⟩
  | .hbm, ⟨12, _⟩ => ⟨S65536x2816, .f32⟩
  | .hbm, ⟨13, _⟩ => ⟨S65536x2816, .f32⟩
  | .hbm, ⟨14, _⟩ => ⟨S_, .f32⟩
  | .hbm, ⟨15, _⟩ => ⟨S65536x2816, .f32⟩
  | .hbm, ⟨16, _⟩ => ⟨S65536x2816, .f32⟩
  | .hbm, ⟨17, _⟩ => ⟨S65536x2816, .f32⟩
  | .hbm, ⟨18, _⟩ => ⟨S65536x2816, .f32⟩
  | .hbm, ⟨19, _⟩ => ⟨S65536x1024, .f32⟩
  | .hbm, ⟨20, _⟩ => ⟨S_, .f32⟩
  | .hbm, ⟨21, _⟩ => ⟨S65536x1024, .f32⟩
  | .hbm, ⟨22, _⟩ => ⟨S65536x1024, .f32⟩
  | .hbm, ⟨23, _⟩ => ⟨S_, .f32⟩
  | .hbm, ⟨24, _⟩ => ⟨S65536x1024, .f32⟩
  | .hbm, ⟨25, _⟩ => ⟨S65536x1024, .f32⟩
  | .hbm, ⟨26, _⟩ => ⟨S65536x1024, .f32⟩
  | .hbm, ⟨27, _⟩ => ⟨S_, .f32⟩
  | .hbm, ⟨28, _⟩ => ⟨S65536, .f32⟩
  | .hbm, ⟨29, _⟩ => ⟨S65536x1, .f32⟩
  | .hbm, ⟨30, _⟩ => ⟨S_, .f32⟩
  | .hbm, ⟨31, _⟩ => ⟨S65536x1, .f32⟩
  | .hbm, ⟨32, _⟩ => ⟨S65536x1, .f32⟩
  | .hbm, ⟨33, _⟩ => ⟨S65536x1024, .f32⟩
  | .hbm, ⟨34, _⟩ => ⟨S65536x1024, .f32⟩
  | .hbm, ⟨35, _⟩ => ⟨S65536x1024, .f32⟩
  | .hbm, ⟨36, _⟩ => ⟨S_, .f32⟩
  | .hbm, ⟨37, _⟩ => ⟨S65536, .f32⟩
  | .hbm, ⟨38, _⟩ => ⟨S65536x1, .f32⟩
  | .hbm, ⟨39, _⟩ => ⟨S_, .f32⟩
  | .hbm, ⟨40, _⟩ => ⟨S65536x1, .f32⟩
  | .hbm, ⟨41, _⟩ => ⟨S65536x1, .f32⟩
  | .hbm, ⟨42, _⟩ => ⟨S65536x1024, .f32⟩
  | .hbm, ⟨43, _⟩ => ⟨S65536x1024, .f32⟩
  | .hbm, ⟨44, _⟩ => ⟨S_, .f32⟩
  | .hbm, ⟨45, _⟩ => ⟨S65536x1, .f32⟩
  | .hbm, ⟨46, _⟩ => ⟨S65536x1, .f32⟩
  | .hbm, ⟨47, _⟩ => ⟨S65536x1, .f32⟩
  | .hbm, ⟨48, _⟩ => ⟨S65536x1024, .f32⟩
  | .hbm, ⟨49, _⟩ => ⟨S65536x1024, .f32⟩
  | .hbm, ⟨50, _⟩ => ⟨S1x1024, .f32⟩
  | .hbm, ⟨51, _⟩ => ⟨S65536x1024, .f32⟩
  | .hbm, ⟨52, _⟩ => ⟨S65536x1024, .f32⟩
  | .hbm, ⟨53, _⟩ => ⟨S1x1024, .f32⟩
  | .hbm, ⟨54, _⟩ => ⟨S65536x1024, .f32⟩
  | .hbm, ⟨55, _⟩ => ⟨S65536x1024, .f32⟩
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_call0_v5 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_v8 : Ref sig .tc := ⟨.hbm, 22, rfl⟩
abbrev main_cst_0 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_cst_1 : Ref sig .tc := ⟨.hbm, 27, rfl⟩
abbrev main_v12 : Ref sig .tc := ⟨.hbm, 28, rfl⟩
abbrev main_v13 : Ref sig .tc := ⟨.hbm, 29, rfl⟩
abbrev main_cst_2 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_cst_3 : Ref sig .tc := ⟨.hbm, 36, rfl⟩
abbrev main_v19 : Ref sig .tc := ⟨.hbm, 37, rfl⟩
abbrev main_v20 : Ref sig .tc := ⟨.hbm, 38, rfl⟩
abbrev main_cst_4 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_cst_5 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩

abbrev nD : Nat := 1
abbrev τ : Topo := Topo.v7x

variable {F : FTy → Type} [FloatOps F]
-- ==== Mix.lean ====
abbrev S65536x1024 : Shape := ⟨2, ![65536, 1024]⟩
abbrev S1024x1024 : Shape := ⟨2, ![1024, 1024]⟩
abbrev S1024 : Shape := ⟨1, ![1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩

abbrev nBuf : Space → Nat
  | .hbm => 16
  | .vmem => 17
  | .smem => 0
  | _ => 0

abbrev bufTy : (tb : Table) → Fin (tcTables nBuf tb) → BufTy
  | .hbm, ⟨0, _⟩ => ⟨S65536x1024, .f32⟩
  | .hbm, ⟨1, _⟩ => ⟨S65536x1024, .bf16⟩
  | .hbm, ⟨2, _⟩ => ⟨S65536x1024, .bf16⟩
  | .hbm, ⟨3, _⟩ => ⟨S65536x1024, .bf16⟩
  | .hbm, ⟨4, _⟩ => ⟨S65536x1024, .bf16⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024, .f32⟩
  | .hbm, ⟨9, _⟩ => ⟨S1024, .f32⟩
  | .hbm, ⟨10, _⟩ => ⟨S1024x1024, .bf16⟩
  | .hbm, ⟨11, _⟩ => ⟨S1024x1024, .bf16⟩
  | .hbm, ⟨12, _⟩ => ⟨S1024x1024, .bf16⟩
  | .hbm, ⟨13, _⟩ => ⟨S1x1024, .f32⟩
  | .hbm, ⟨14, _⟩ => ⟨S1x1024, .f32⟩
  | .hbm, ⟨15, _⟩ => ⟨S65536x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1x1024, .f32⟩
  | .local _ .vmem, ⟨14, _⟩ => ⟨S1x1024, .f32⟩
  | .local _ .vmem, ⟨15, _⟩ => ⟨S1024x1024, .f32⟩
  | .local _ .vmem, ⟨16, _⟩ => ⟨S1024x1024, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1024x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== MixRefIdeal.lean ====
abbrev S65536x1024 : Shape := ⟨2, ![65536, 1024]⟩
abbrev S1024x1024 : Shape := ⟨2, ![1024, 1024]⟩
abbrev S1024 : Shape := ⟨1, ![1024]⟩
abbrev S_ : Shape := ⟨0, ![]⟩
abbrev S65536 : Shape := ⟨1, ![65536]⟩
abbrev S65536x1 : Shape := ⟨2, ![65536, 1]⟩
abbrev S1x1024 : Shape := ⟨2, ![1, 1024]⟩

abbrev nBuf : Space → Nat
  | .hbm => 53
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S65536x1024, .bf16⟩
  | .hbm, ⟨2, _⟩ => ⟨S65536x1024, .bf16⟩
  | .hbm, ⟨3, _⟩ => ⟨S65536x1024, .bf16⟩
  | .hbm, ⟨4, _⟩ => ⟨S65536x1024, .bf16⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024, .f32⟩
  | .hbm, ⟨9, _⟩ => ⟨S1024, .f32⟩
  | .hbm, ⟨10, _⟩ => ⟨S65536x1024, .f32⟩
  | .hbm, ⟨11, _⟩ => ⟨S65536x1024, .f32⟩
  | .hbm, ⟨12, _⟩ => ⟨S65536x1024, .f32⟩
  | .hbm, ⟨13, _⟩ => ⟨S65536x1024, .f32⟩
  | .hbm, ⟨14, _⟩ => ⟨S65536x1024, .f32⟩
  | .hbm, ⟨15, _⟩ => ⟨S65536x1024, .f32⟩
  | .hbm, ⟨16, _⟩ => ⟨S65536x1024, .f32⟩
  | .hbm, ⟨17, _⟩ => ⟨S65536x1024, .f32⟩
  | .hbm, ⟨18, _⟩ => ⟨S65536x1024, .f32⟩
  | .hbm, ⟨19, _⟩ => ⟨S_, .f32⟩
  | .hbm, ⟨20, _⟩ => ⟨S65536x1024, .f32⟩
  | .hbm, ⟨21, _⟩ => ⟨S65536x1024, .f32⟩
  | .hbm, ⟨22, _⟩ => ⟨S65536x1024, .f32⟩
  | .hbm, ⟨23, _⟩ => ⟨S65536x1024, .f32⟩
  | .hbm, ⟨24, _⟩ => ⟨S_, .f32⟩
  | .hbm, ⟨25, _⟩ => ⟨S65536, .f32⟩
  | .hbm, ⟨26, _⟩ => ⟨S65536x1, .f32⟩
  | .hbm, ⟨27, _⟩ => ⟨S_, .f32⟩
  | .hbm, ⟨28, _⟩ => ⟨S65536x1, .f32⟩
  | .hbm, ⟨29, _⟩ => ⟨S65536x1, .f32⟩
  | .hbm, ⟨30, _⟩ => ⟨S65536x1024, .f32⟩
  | .hbm, ⟨31, _⟩ => ⟨S65536x1024, .f32⟩
  | .hbm, ⟨32, _⟩ => ⟨S65536x1024, .f32⟩
  | .hbm, ⟨33, _⟩ => ⟨S_, .f32⟩
  | .hbm, ⟨34, _⟩ => ⟨S65536, .f32⟩
  | .hbm, ⟨35, _⟩ => ⟨S65536x1, .f32⟩
  | .hbm, ⟨36, _⟩ => ⟨S_, .f32⟩
  | .hbm, ⟨37, _⟩ => ⟨S65536x1, .f32⟩
  | .hbm, ⟨38, _⟩ => ⟨S65536x1, .f32⟩
  | .hbm, ⟨39, _⟩ => ⟨S65536x1024, .f32⟩
  | .hbm, ⟨40, _⟩ => ⟨S65536x1024, .f32⟩
  | .hbm, ⟨41, _⟩ => ⟨S_, .f32⟩
  | .hbm, ⟨42, _⟩ => ⟨S65536x1, .f32⟩
  | .hbm, ⟨43, _⟩ => ⟨S65536x1, .f32⟩
  | .hbm, ⟨44, _⟩ => ⟨S65536x1, .f32⟩
  | .hbm, ⟨45, _⟩ => ⟨S65536x1024, .f32⟩
  | .hbm, ⟨46, _⟩ => ⟨S65536x1024, .f32⟩
  | .hbm, ⟨47, _⟩ => ⟨S1x1024, .f32⟩
  | .hbm, ⟨48, _⟩ => ⟨S65536x1024, .f32⟩
  | .hbm, ⟨49, _⟩ => ⟨S65536x1024, .f32⟩
  | .hbm, ⟨50, _⟩ => ⟨S1x1024, .f32⟩
  | .hbm, ⟨51, _⟩ => ⟨S65536x1024, .f32⟩
  | .hbm, ⟨52, _⟩ => ⟨S65536x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_0 : Ref sig .tc := ⟨.hbm, 24, rfl⟩
abbrev main_v13 : Ref sig .tc := ⟨.hbm, 25, rfl⟩
abbrev main_v14 : Ref sig .tc := ⟨.hbm, 26, rfl⟩
abbrev main_cst_1 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_2 : Ref sig .tc := ⟨.hbm, 33, rfl⟩
abbrev main_v20 : Ref sig .tc := ⟨.hbm, 34, rfl⟩
abbrev main_v21 : Ref sig .tc := ⟨.hbm, 35, rfl⟩
abbrev main_cst_3 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_4 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩

abbrev nD : Nat := 1
abbrev τ : Topo := Topo.v7x

variable {F : FTy → Type} [FloatOps F]
-- ==== Inatt.lean ====
abbrev S32x2048x1024 : Shape := ⟨3, ![32, 2048, 1024]⟩
abbrev S1024x9216 : Shape := ⟨2, ![1024, 9216]⟩
abbrev S32x1024x2048 : Shape := ⟨3, ![32, 1024, 2048]⟩
abbrev S32x512x1024 : Shape := ⟨3, ![32, 512, 1024]⟩
abbrev S1x512x1024 : Shape := ⟨3, ![1, 512, 1024]⟩
abbrev S1024x1024 : Shape := ⟨2, ![1024, 1024]⟩
abbrev S1x1024x512 : Shape := ⟨3, ![1, 1024, 512]⟩
abbrev S512x1024 : Shape := ⟨2, ![512, 1024]⟩
abbrev S1024x256 : Shape := ⟨2, ![1024, 256]⟩
abbrev S512x256 : Shape := ⟨2, ![512, 256]⟩
abbrev S1x512x256 : Shape := ⟨3, ![1, 512, 256]⟩
abbrev S256x512 : Shape := ⟨2, ![256, 512]⟩
abbrev S1x256x512 : Shape := ⟨3, ![1, 256, 512]⟩

abbrev nBuf : Space → Nat
  | .hbm => 9
  | .vmem => 22
  | .smem => 0
  | _ => 0

abbrev bufTy : (tb : Table) → Fin (tcTables nBuf tb) → BufTy
  | .hbm, ⟨0, _⟩ => ⟨S32x2048x1024, .f32⟩
  | .hbm, ⟨1, _⟩ => ⟨S1024x9216, .bf16⟩
  | .hbm, ⟨2, _⟩ => ⟨S32x2048x1024, .bf16⟩
  | .hbm, ⟨3, _⟩ => ⟨S32x1024x2048, .bf16⟩
  | .hbm, ⟨4, _⟩ => ⟨S32x2048x1024, .bf16⟩
  | .hbm, ⟨5, _⟩ => ⟨S32x512x1024, .f32⟩
  | .hbm, ⟨6, _⟩ => ⟨S32x512x1024, .f32⟩
  | .hbm, ⟨7, _⟩ => ⟨S32x2048x1024, .bf16⟩
  | .hbm, ⟨8, _⟩ => ⟨S32x2048x1024, .bf16⟩
  | .local _ .vmem, ⟨0, _⟩ => ⟨S1x512x1024, .f32⟩
  | .local _ .vmem, ⟨1, _⟩ => ⟨S1x512x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1x512x1024, .bf16⟩
  | .local _ .vmem, ⟨8, _⟩ => ⟨S1x512x1024, .bf16⟩
  | .local _ .vmem, ⟨9, _⟩ => ⟨S1x1024x512, .bf16⟩
  | .local _ .vmem, ⟨10, _⟩ => ⟨S1x1024x512, .bf16⟩
  | .local _ .vmem, ⟨11, _⟩ => ⟨S1x512x1024, .bf16⟩
  | .local _ .vmem, ⟨12, _⟩ => ⟨S1x512x1024, .bf16⟩
  | .local _ .vmem, ⟨13, _⟩ => ⟨S1x512x1024, .f32⟩
  | .local _ .vmem, ⟨14, _⟩ => ⟨S1x512x1024, .f32⟩
  | .local _ .vmem, ⟨15, _⟩ => ⟨S1x512x1024, .f32⟩
  | .local _ .vmem, ⟨16, _⟩ => ⟨S1x512x1024, .f32⟩
  | .local _ .vmem, ⟨17, _⟩ => ⟨S1x512x1024, .bf16⟩
  | .local _ .vmem, ⟨18, _⟩ => ⟨S1x512x1024, .bf16⟩
  | .local _ .vmem, ⟨19, _⟩ => ⟨S1x512x1024, .bf16⟩
  | .local _ .vmem, ⟨20, _⟩ => ⟨S1x512x1024, .bf16⟩
  | .local _ .vmem, ⟨21, _⟩ => ⟨S512x1024, .bf16⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev main_v0_3 : Ref sig .tc := ⟨.hbm, 5, rfl⟩
abbrev main_v0_4 : Ref sig .tc := ⟨.hbm, 6, rfl⟩
abbrev main_v0_5 : Ref sig .tc := ⟨.hbm, 7, rfl⟩
abbrev main_v0_6 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_scratch0 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20

abbrev nD : Nat := 1
abbrev τ : Topo := Topo.v7x

variable {F : FTy → Type} [FloatOps F]

abbrev grid0 : Pipeline.Grid := ⟨2, ![32, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c4_i32 : BitVec 32 := 4#32
  let c0_i32_0 : BitVec 32 := 0#32
  ![c0_i32.toNat, c4_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c5_i32 : BitVec 32 := 5#32
  let c0_i32_0 : BitVec 32 := 0#32
  ![c0_i32.toNat, c5_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c6_i32 : BitVec 32 := 6#32
  let c0_i32_0 : BitVec 32 := 0#32
  ![c0_i32.toNat, c6_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c7_i32 : BitVec 32 := 7#32
  let c0_i32_0 : BitVec 32 := 0#32
  ![c0_i32.toNat, c7_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c8_i32 : BitVec 32 := 8#32
  let c0_i32_0 : BitVec 32 := 0#32
  ![c0_i32.toNat, c8_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.subi arg1 c3_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_10 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.subi arg1 c3_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== InattIdeal.lean ====
abbrev S32x2048x1024 : Shape := ⟨3, ![32, 2048, 1024]⟩
abbrev S1024x9216 : Shape := ⟨2, ![1024, 9216]⟩
abbrev S32x1024x2048 : Shape := ⟨3, ![32, 1024, 2048]⟩
abbrev S32x512x1024 : Shape := ⟨3, ![32, 512, 1024]⟩
abbrev S1x512x1024 : Shape := ⟨3, ![1, 512, 1024]⟩
abbrev S1024x1024 : Shape := ⟨2, ![1024, 1024]⟩
abbrev S1x1024x512 : Shape := ⟨3, ![1, 1024, 512]⟩
abbrev S512x1024 : Shape := ⟨2, ![512, 1024]⟩
abbrev S1024x256 : Shape := ⟨2, ![1024, 256]⟩
abbrev S512x256 : Shape := ⟨2, ![512, 256]⟩
abbrev S1x512x256 : Shape := ⟨3, ![1, 512, 256]⟩
abbrev S256x512 : Shape := ⟨2, ![256, 512]⟩
abbrev S1x256x512 : Shape := ⟨3, ![1, 256, 512]⟩

abbrev nBuf : Space → Nat
  | .hbm => 9
  | .vmem => 22
  | .smem => 0
  | _ => 0

abbrev bufTy : (tb : Table) → Fin (tcTables nBuf tb) → BufTy
  | .hbm, ⟨0, _⟩ => ⟨S32x2048x1024, .f32⟩
  | .hbm, ⟨1, _⟩ => ⟨S1024x9216, .bf16⟩
  | .hbm, ⟨2, _⟩ => ⟨S32x2048x1024, .bf16⟩
  | .hbm, ⟨3, _⟩ => ⟨S32x1024x2048, .bf16⟩
  | .hbm, ⟨4, _⟩ => ⟨S32x2048x1024, .bf16⟩
  | .hbm, ⟨5, _⟩ => ⟨S32x512x1024, .f32⟩
  | .hbm, ⟨6, _⟩ => ⟨S32x512x1024, .f32⟩
  | .hbm, ⟨7, _⟩ => ⟨S32x2048x1024, .bf16⟩
  | .hbm, ⟨8, _⟩ => ⟨S32x2048x1024, .bf16⟩
  | .local _ .vmem, ⟨0, _⟩ => ⟨S1x512x1024, .f32⟩
  | .local _ .vmem, ⟨1, _⟩ => ⟨S1x512x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1x512x1024, .bf16⟩
  | .local _ .vmem, ⟨8, _⟩ => ⟨S1x512x1024, .bf16⟩
  | .local _ .vmem, ⟨9, _⟩ => ⟨S1x1024x512, .bf16⟩
  | .local _ .vmem, ⟨10, _⟩ => ⟨S1x1024x512, .bf16⟩
  | .local _ .vmem, ⟨11, _⟩ => ⟨S1x512x1024, .bf16⟩
  | .local _ .vmem, ⟨12, _⟩ => ⟨S1x512x1024, .bf16⟩
  | .local _ .vmem, ⟨13, _⟩ => ⟨S1x512x1024, .f32⟩
  | .local _ .vmem, ⟨14, _⟩ => ⟨S1x512x1024, .f32⟩
  | .local _ .vmem, ⟨15, _⟩ => ⟨S1x512x1024, .f32⟩
  | .local _ .vmem, ⟨16, _⟩ => ⟨S1x512x1024, .f32⟩
  | .local _ .vmem, ⟨17, _⟩ => ⟨S1x512x1024, .bf16⟩
  | .local _ .vmem, ⟨18, _⟩ => ⟨S1x512x1024, .bf16⟩
  | .local _ .vmem, ⟨19, _⟩ => ⟨S1x512x1024, .bf16⟩
  | .local _ .vmem, ⟨20, _⟩ => ⟨S1x512x1024, .bf16⟩
  | .local _ .vmem, ⟨21, _⟩ => ⟨S512x1024, .bf16⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev main_v0_3 : Ref sig .tc := ⟨.hbm, 5, rfl⟩
abbrev main_v0_4 : Ref sig .tc := ⟨.hbm, 6, rfl⟩
abbrev main_v0_5 : Ref sig .tc := ⟨.hbm, 7, rfl⟩
abbrev main_v0_6 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_scratch0 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20

abbrev nD : Nat := 1
abbrev τ : Topo := Topo.v7x

variable {F : FTy → Type} [FloatOps F]

abbrev grid0 : Pipeline.Grid := ⟨2, ![32, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c4_i32 : BitVec 32 := 4#32
  let c0_i32_0 : BitVec 32 := 0#32
  ![c0_i32.toNat, c4_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c5_i32 : BitVec 32 := 5#32
  let c0_i32_0 : BitVec 32 := 0#32
  ![c0_i32.toNat, c5_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c6_i32 : BitVec 32 := 6#32
  let c0_i32_0 : BitVec 32 := 0#32
  ![c0_i32.toNat, c6_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c7_i32 : BitVec 32 := 7#32
  let c0_i32_0 : BitVec 32 := 0#32
  ![c0_i32.toNat, c7_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c8_i32 : BitVec 32 := 8#32
  let c0_i32_0 : BitVec 32 := 0#32
  ![c0_i32.toNat, c8_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.subi arg1 c3_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_10 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.subi arg1 c3_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== InattRefIdeal.lean ====
abbrev S32x2048x1024 : Shape := ⟨3, ![32, 2048, 1024]⟩
abbrev S1024x9216 : Shape := ⟨2, ![1024, 9216]⟩
abbrev S32x2048x9216 : Shape := ⟨3, ![32, 2048, 9216]⟩
abbrev S32x2048x5120 : Shape := ⟨3, ![32, 2048, 5120]⟩
abbrev S32x1024x2048 : Shape := ⟨3, ![32, 1024, 2048]⟩
abbrev S32x512x1024 : Shape := ⟨3, ![32, 512, 1024]⟩
abbrev S_ : Shape := ⟨0, ![]⟩

abbrev nBuf : Space → Nat
  | .hbm => 34
  | .vmem => 0
  | .smem => 0
  | _ => 0

abbrev bufTy : (tb : Table) → Fin (tcTables nBuf tb) → BufTy
  | .hbm, ⟨0, _⟩ => ⟨S32x2048x1024, .f32⟩
  | .hbm, ⟨1, _⟩ => ⟨S1024x9216, .bf16⟩
  | .hbm, ⟨2, _⟩ => ⟨S1024x9216, .f32⟩
  | .hbm, ⟨3, _⟩ => ⟨S32x2048x9216, .f32⟩
  | .hbm, ⟨4, _⟩ => ⟨S32x2048x5120, .f32⟩
  | .hbm, ⟨5, _⟩ => ⟨S32x2048x1024, .f32⟩
  | .hbm, ⟨6, _⟩ => ⟨S32x2048x1024, .f32⟩
  | .hbm, ⟨7, _⟩ => ⟨S32x2048x1024, .f32⟩
  | .hbm, ⟨8, _⟩ => ⟨S32x2048x1024, .f32⟩
  | .hbm, ⟨9, _⟩ => ⟨S32x2048x1024, .f32⟩
  | .hbm, ⟨10, _⟩ => ⟨S32x2048x1024, .bf16⟩
  | .hbm, ⟨11, _⟩ => ⟨S32x1024x2048, .f32⟩
  | .hbm, ⟨12, _⟩ => ⟨S32x1024x2048, .bf16⟩
  | .hbm, ⟨13, _⟩ => ⟨S32x2048x1024, .bf16⟩
  | .hbm, ⟨14, _⟩ => ⟨S32x512x1024, .f32⟩
  | .hbm, ⟨15, _⟩ => ⟨S32x512x1024, .f32⟩
  | .hbm, ⟨16, _⟩ => ⟨S32x2048x1024, .f32⟩
  | .hbm, ⟨17, _⟩ => ⟨S32x2048x1024, .f32⟩
  | .hbm, ⟨18, _⟩ => ⟨S_, .f32⟩
  | .hbm, ⟨19, _⟩ => ⟨S32x2048x1024, .f32⟩
  | .hbm, ⟨20, _⟩ => ⟨S32x2048x1024, .f32⟩
  | .hbm, ⟨21, _⟩ => ⟨S_, .f32⟩
  | .hbm, ⟨22, _⟩ => ⟨S32x2048x1024, .f32⟩
  | .hbm, ⟨23, _⟩ => ⟨S32x2048x1024, .f32⟩
  | .hbm, ⟨24, _⟩ => ⟨S32x2048x1024, .bf16⟩
  | .hbm, ⟨25, _⟩ => ⟨S32x2048x1024, .f32⟩
  | .hbm, ⟨26, _⟩ => ⟨S32x2048x1024, .f32⟩
  | .hbm, ⟨27, _⟩ => ⟨S_, .f32⟩
  | .hbm, ⟨28, _⟩ => ⟨S32x2048x1024, .f32⟩
  | .hbm, ⟨29, _⟩ => ⟨S32x2048x1024, .f32⟩
  | .hbm, ⟨30, _⟩ => ⟨S_, .f32⟩
  | .hbm, ⟨31, _⟩ => ⟨S32x2048x1024, .f32⟩
  | .hbm, ⟨32, _⟩ => ⟨S32x2048x1024, .f32⟩
  | .hbm, ⟨33, _⟩ => ⟨S32x2048x1024, .bf16⟩
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_cst : Ref sig .tc := ⟨.hbm, 18, rfl⟩
abbrev main_v16 : Ref sig .tc := ⟨.hbm, 19, rfl⟩
abbrev main_v17 : Ref sig .tc := ⟨.hbm, 20, rfl⟩
abbrev main_cst_0 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_cst_1 : Ref sig .tc := ⟨.hbm, 27, rfl⟩
abbrev main_v23 : Ref sig .tc := ⟨.hbm, 28, rfl⟩
abbrev main_v24 : Ref sig .tc := ⟨.hbm, 29, rfl⟩
abbrev main_cst_2 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩

abbrev nD : Nat := 1
abbrev τ : Topo := Topo.v7x

variable {F : FTy → Type} [FloatOps F]
-- ==== Cached.lean ====
abbrev S16x64x1024 : Shape := ⟨3, ![16, 64, 1024]⟩
abbrev S16x1024x64 : Shape := ⟨3, ![16, 1024, 64]⟩
abbrev S16x512x16x64 : Shape := ⟨4, ![16, 512, 16, 64]⟩
abbrev S16x256x768 : Shape := ⟨3, ![16, 256, 768]⟩
abbrev S16x64x576 : Shape := ⟨3, ![16, 64, 576]⟩
abbrev S16x512x1024 : Shape := ⟨3, ![16, 512, 1024]⟩
abbrev S16x1024x512 : Shape := ⟨3, ![16, 1024, 512]⟩
abbrev S1x64x1024 : Shape := ⟨3, ![1, 64, 1024]⟩
abbrev S1x1024x64 : Shape := ⟨3, ![1, 1024, 64]⟩
abbrev S1x1024x512 : Shape := ⟨3, ![1, 1024, 512]⟩
abbrev S64x128 : Shape := ⟨2, ![64, 128]⟩
abbrev S1x64x128 : Shape := ⟨3, ![1, 64, 128]⟩
abbrev S1x128x512 : Shape := ⟨3, ![1, 128, 512]⟩
abbrev S128x512 : Shape := ⟨2, ![128, 512]⟩
abbrev S128x128 : Shape := ⟨2, ![128, 128]⟩
abbrev S1x64x576 : Shape := ⟨3, ![1, 64, 576]⟩
abbrev S64x576 : Shape := ⟨2, ![64, 576]⟩
abbrev S128x576 : Shape := ⟨2, ![128, 576]⟩
abbrev S1x128x64 : Shape := ⟨3, ![1, 128, 64]⟩
abbrev S128x64 : Shape := ⟨2, ![128, 64]⟩
abbrev S128 : Shape := ⟨1, ![128]⟩
abbrev S128x1 : Shape := ⟨2, ![128, 1]⟩

abbrev nBuf : Space → Nat
  | .hbm => 12
  | .vmem => 13
  | .smem => 0
  | _ => 0

abbrev bufTy : (tb : Table) → Fin (tcTables nBuf tb) → BufTy
  | .hbm, ⟨0, _⟩ => ⟨S16x64x1024, .bf16⟩
  | .hbm, ⟨1, _⟩ => ⟨S16x1024x64, .bf16⟩
  | .hbm, ⟨2, _⟩ => ⟨S16x64x1024, .bf16⟩
  | .hbm, ⟨3, _⟩ => ⟨S16x512x16x64, .f32⟩
  | .hbm, ⟨4, _⟩ => ⟨S16x512x16x64, .f32⟩
  | .hbm, ⟨5, _⟩ => ⟨S16x256x768, .f32⟩
  | .hbm, ⟨6, _⟩ => ⟨S16x64x576, .f32⟩
  | .hbm, ⟨7, _⟩ => ⟨S16x512x1024, .f32⟩
  | .hbm, ⟨8, _⟩ => ⟨S16x1024x512, .f32⟩
  | .hbm, ⟨9, _⟩ => ⟨S16x512x1024, .f32⟩
  | .hbm, ⟨10, _⟩ => ⟨S16x1024x512, .f32⟩
  | .hbm, ⟨11, _⟩ => ⟨S16x64x1024, .bf16⟩
  | .local _ .vmem, ⟨0, _⟩ => ⟨S1x64x1024, .bf16⟩
  | .local _ .vmem, ⟨1, _⟩ => ⟨S1x64x1024, .bf16⟩
  | .local _ .vmem, ⟨2, _⟩ => ⟨S1x1024x64, .bf16⟩
  | .local _ .vmem, ⟨3, _⟩ => ⟨S1x1024x64, .bf16⟩
  | .local _ .vmem, ⟨4, _⟩ => ⟨S1x64x1024, .bf16⟩
  | .local _ .vmem, ⟨5, _⟩ => ⟨S1x64x1024, .bf16⟩
  | .local _ .vmem, ⟨6, _⟩ => ⟨S1x1024x512, .f32⟩
  | .local _ .vmem, ⟨7, _⟩ => ⟨S1x1024x512, .f32⟩
  | .local _ .vmem, ⟨8, _⟩ => ⟨S1x1024x512, .f32⟩
  | .local _ .vmem, ⟨9, _⟩ => ⟨S1x1024x512, .f32⟩
  | .local _ .vmem, ⟨10, _⟩ => ⟨S16x64x576, .f32⟩
  | .local _ .vmem, ⟨11, _⟩ => ⟨S1x64x1024, .bf16⟩
  | .local _ .vmem, ⟨12, _⟩ => ⟨S1x64x1024, .bf16⟩
  | _, _ => ⟨S16x64x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x64x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x64x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S16x64x576 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x64x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== CachedRefIdeal.lean ====
abbrev S16x64x1024 : Shape := ⟨3, ![16, 64, 1024]⟩
abbrev S16x1024x64 : Shape := ⟨3, ![16, 1024, 64]⟩
abbrev S16x512x16x64 : Shape := ⟨4, ![16, 512, 16, 64]⟩
abbrev S16x256x768 : Shape := ⟨3, ![16, 256, 768]⟩
abbrev S16x64x16x64 : Shape := ⟨4, ![16, 64, 16, 64]⟩
abbrev S16x576x16x64 : Shape := ⟨4, ![16, 576, 16, 64]⟩
abbrev S16x16x64x576 : Shape := ⟨4, ![16, 16, 64, 576]⟩
abbrev S16x64x576 : Shape := ⟨3, ![16, 64, 576]⟩
abbrev S1x16x64x576 : Shape := ⟨4, ![1, 16, 64, 576]⟩
abbrev S_ : Shape := ⟨0, ![]⟩
abbrev S16x16x64 : Shape := ⟨3, ![16, 16, 64]⟩
abbrev S16x16x64x1 : Shape := ⟨4, ![16, 16, 64, 1]⟩
abbrev S16x16x64x64 : Shape := ⟨4, ![16, 16, 64, 64]⟩

abbrev nBuf : Space → Nat
  | .hbm => 37
  | .vmem => 0
  | .smem => 0
  | _ => 0

abbrev bufTy : (tb : Table) → Fin (tcTables nBuf tb) → BufTy
  | .hbm, ⟨0, _⟩ => ⟨S16x64x1024, .bf16⟩
  | .hbm, ⟨1, _⟩ => ⟨S16x1024x64, .bf16⟩
  | .hbm, ⟨2, _⟩ => ⟨S16x64x1024, .bf16⟩
  | .hbm, ⟨3, _⟩ => ⟨S16x512x16x64, .f32⟩
  | .hbm, ⟨4, _⟩ => ⟨S16x512x16x64, .f32⟩
  | .hbm, ⟨5, _⟩ => ⟨S16x256x768, .f32⟩
  | .hbm, ⟨6, _⟩ => ⟨S16x1024x64, .f32⟩
  | .hbm, ⟨7, _⟩ => ⟨S16x64x1024, .f32⟩
  | .hbm, ⟨8, _⟩ => ⟨S16x64x16x64, .f32⟩
  | .hbm, ⟨9, _⟩ => ⟨S16x576x16x64, .f32⟩
  | .hbm, ⟨10, _⟩ => ⟨S16x64x1024, .f32⟩
  | .hbm, ⟨11, _⟩ => ⟨S16x64x16x64, .f32⟩
  | .hbm, ⟨12, _⟩ => ⟨S16x576x16x64, .f32⟩
  | .hbm, ⟨13, _⟩ => ⟨S16x64x1024, .f32⟩
  | .hbm, ⟨14, _⟩ => ⟨S16x64x16x64, .f32⟩
  | .hbm, ⟨15, _⟩ => ⟨S16x16x64x576, .f32⟩
  | .hbm, ⟨16, _⟩ => ⟨S16x64x576, .f32⟩
  | .hbm, ⟨17, _⟩ => ⟨S1x16x64x576, .f32⟩
  | .hbm, ⟨18, _⟩ => ⟨S16x16x64x576, .f32⟩
  | .hbm, ⟨19, _⟩ => ⟨S16x16x64x576, .f32⟩
  | .hbm, ⟨20, _⟩ => ⟨S_, .f32⟩
  | .hbm, ⟨21, _⟩ => ⟨S16x16x64, .f32⟩
  | .hbm, ⟨22, _⟩ => ⟨S16x16x64x1, .f32⟩
  | .hbm, ⟨23, _⟩ => ⟨S16x16x64x576, .f32⟩
  | .hbm, ⟨24, _⟩ => ⟨S16x16x64x576, .f32⟩
  | .hbm, ⟨25, _⟩ => ⟨S_, .f32⟩
  | .hbm, ⟨26, _⟩ => ⟨S16x16x64x576, .f32⟩
  | .hbm, ⟨27, _⟩ => ⟨S16x16x64x576, .f32⟩
  | .hbm, ⟨28, _⟩ => ⟨S_, .f32⟩
  | .hbm, ⟨29, _⟩ => ⟨S16x16x64, .f32⟩
  | .hbm, ⟨30, _⟩ => ⟨S16x16x64x1, .f32⟩
  | .hbm, ⟨31, _⟩ => ⟨S16x16x64x576, .f32⟩
  | .hbm, ⟨32, _⟩ => ⟨S16x16x64x576, .f32⟩
  | .hbm, ⟨33, _⟩ => ⟨S16x16x64x64, .f32⟩
  | .hbm, ⟨34, _⟩ => ⟨S16x64x16x64, .f32⟩
  | .hbm, ⟨35, _⟩ => ⟨S16x64x1024, .f32⟩
  | .hbm, ⟨36, _⟩ => ⟨S16x64x1024, .bf16⟩
  | _, _ => ⟨S16x64x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_0 : Ref sig .tc := ⟨.hbm, 25, rfl⟩
abbrev main_v18 : Ref sig .tc := ⟨.hbm, 26, rfl⟩
abbrev main_v19 : Ref sig .tc := ⟨.hbm, 27, rfl⟩
abbrev main_cst_1 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩

abbrev nD : Nat := 1
abbrev τ : Topo := Topo.v7x

variable {F : FTy → Type} [FloatOps F]
-- ==== FfnS.lean ====
abbrev S16x64x1024 : Shape := ⟨3, ![16, 64, 1024]⟩
abbrev S1024x5632 : Shape := ⟨2, ![1024, 5632]⟩
abbrev S2816x1024 : Shape := ⟨2, ![2816, 1024]⟩
abbrev S1024 : Shape := ⟨1, ![1024]⟩
abbrev S1024x1024 : Shape := ⟨2, ![1024, 1024]⟩
abbrev S1x1024 : Shape := ⟨2, ![1, 1024]⟩
abbrev S1024x2816 : Shape := ⟨2, ![1024, 2816]⟩
abbrev S256x1024 : Shape := ⟨2, ![256, 1024]⟩
abbrev S1024x768 : Shape := ⟨2, ![1024, 768]⟩
abbrev S256x768 : Shape := ⟨2, ![256, 768]⟩
abbrev S768x1024 : Shape := ⟨2, ![768, 1024]⟩
abbrev S256 : Shape := ⟨1, ![256]⟩
abbrev S256x1 : Shape := ⟨2, ![256, 1]⟩

abbrev nBuf : Space → Nat
  | .hbm => 11
  | .vmem => 7
  | .smem => 0
  | _ => 0

abbrev bufTy : (tb : Table) → Fin (tcTables nBuf tb) → BufTy
  | .hbm, ⟨0, _⟩ => ⟨S16x64x1024, .f32⟩
  | .hbm, ⟨1, _⟩ => ⟨S1024x5632, .f32⟩
  | .hbm, ⟨2, _⟩ => ⟨S2816x1024, .f32⟩
  | .hbm, ⟨3, _⟩ => ⟨S1024, .f32⟩
  | .hbm, ⟨4, _⟩ => ⟨S1024, .f32⟩
  | .hbm, ⟨5, _⟩ => ⟨S1024x1024, .f32⟩
  | .hbm, ⟨6, _⟩ => ⟨S1024x5632, .bf16⟩
  | .hbm, ⟨7, _⟩ => ⟨S2816x1024, .bf16⟩
  | .hbm, ⟨8, _⟩ => ⟨S1x1024, .f32⟩
  | .hbm, ⟨9, _⟩ => ⟨S1x1024, .f32⟩
  | .hbm, ⟨10, _⟩ => ⟨S1024x1024, .f32⟩
  | .local _ .vmem, ⟨0, _⟩ => ⟨S1024x1024, .f32⟩
  | .local _ .vmem, ⟨1, _⟩ => ⟨S1024x2816, .bf16⟩
  | .local _ .vmem, ⟨2, _⟩ => ⟨S1024x2816, .bf16⟩
  | .local _ .vmem, ⟨3, _⟩ => ⟨S2816x1024, .bf16⟩
  | .local _ .vmem, ⟨4, _⟩ => ⟨S1x1024, .f32⟩
  | .local _ .vmem, ⟨5, _⟩ => ⟨S1x1024, .f32⟩
  | .local _ .vmem, ⟨6, _⟩ => ⟨S1024x1024, .f32⟩
  | _, _ => ⟨S16x64x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1024x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1024x2816 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== FfnSRefIdeal.lean ====
abbrev S16x64x1024 : Shape := ⟨3, ![16, 64, 1024]⟩
abbrev S1024x5632 : Shape := ⟨2, ![1024, 5632]⟩
abbrev S2816x1024 : Shape := ⟨2, ![2816, 1024]⟩
abbrev S1024 : Shape := ⟨1, ![1024]⟩
abbrev S1024x1024 : Shape := ⟨2, ![1024, 1024]⟩
abbrev S1024x2816 : Shape := ⟨2, ![1024, 2816]⟩
abbrev S_ : Shape := ⟨0, ![]⟩
abbrev S1024x1 : Shape := ⟨2, ![1024, 1]⟩
abbrev S1x1024 : Shape := ⟨2, ![1, 1024]⟩

abbrev nBuf : Space → Nat
  | .hbm => 56
  | .vmem => 0
  | .smem => 0
  | _ => 0

abbrev bufTy : (tb : Table) → Fin (tcTables nBuf tb) → BufTy
  | .hbm, ⟨0, _⟩ => ⟨S16x64x1024, .f32⟩
  | .hbm, ⟨1, _⟩ => ⟨S1024x5632, .f32⟩
  | .hbm, ⟨2, _⟩ => ⟨S2816x1024, .f32⟩
  | .hbm, ⟨3, _⟩ => ⟨S1024, .f32⟩
  | .hbm, ⟨4, _⟩ => ⟨S1024, .f32⟩
  | .hbm, ⟨5, _⟩ => ⟨S1024x1024, .f32⟩
  | .hbm, ⟨6, _⟩ => ⟨S1024x5632, .f32⟩
  | .hbm, ⟨7, _⟩ => ⟨S1024x2816, .f32⟩
  | .hbm, ⟨8, _⟩ => ⟨S1024x2816, .f32⟩
  | .hbm, ⟨9, _⟩ => ⟨S1024x2816, .f32⟩
  | .hbm, ⟨10, _⟩ => ⟨S1024x2816, .f32⟩
  | .hbm, ⟨11, _⟩ => ⟨S_, .f32⟩
  | .hbm, ⟨12, _⟩ => ⟨S1024x2816, .f32⟩
  | .hbm, ⟨13, _⟩ => ⟨S1024x2816, .f32⟩
  | .hbm, ⟨14, _⟩ => ⟨S_, .f32⟩
  | .hbm, ⟨15, _⟩ => ⟨S1024x2816, .f32⟩
  | .hbm, ⟨16, _⟩ => ⟨S1024x2816, .f32⟩
  | .hbm, ⟨17, _⟩ => ⟨S1024x2816, .f32⟩
  | .hbm, ⟨18, _⟩ => ⟨S1024x2816, .f32⟩
  | .hbm, ⟨19, _⟩ => ⟨S1024x1024, .f32⟩
  | .hbm, ⟨20, _⟩ => ⟨S_, .f32⟩
  | .hbm, ⟨21, _⟩ => ⟨S1024x1024, .f32⟩
  | .hbm, ⟨22, _⟩ => ⟨S1024x1024, .f32⟩
  | .hbm, ⟨23, _⟩ => ⟨S_, .f32⟩
  | .hbm, ⟨24, _⟩ => ⟨S1024x1024, .f32⟩
  | .hbm, ⟨25, _⟩ => ⟨S1024x1024, .f32⟩
  | .hbm, ⟨26, _⟩ => ⟨S1024x1024, .f32⟩
  | .hbm, ⟨27, _⟩ => ⟨S_, .f32⟩
  | .hbm, ⟨28, _⟩ => ⟨S1024, .f32⟩
  | .hbm, ⟨29, _⟩ => ⟨S1024x1, .f32⟩
  | .hbm, ⟨30, _⟩ => ⟨S_, .f32⟩
  | .hbm, ⟨31, _⟩ => ⟨S1024x1, .f32⟩
  | .hbm, ⟨32, _⟩ => ⟨S1024x1, .f32⟩
  | .hbm, ⟨33, _⟩ => ⟨S1024x1024, .f32⟩
  | .hbm, ⟨34, _⟩ => ⟨S1024x1024, .f32⟩
  | .hbm, ⟨35, _⟩ => ⟨S1024x1024, .f32⟩
  | .hbm, ⟨36, _⟩ => ⟨S_, .f32⟩
  | .hbm, ⟨37, _⟩ => ⟨S1024, .f32⟩
  | .hbm, ⟨38, _⟩ => ⟨S1024x1, .f32⟩
  | .hbm, ⟨39, _⟩ => ⟨S_, .f32⟩
  | .hbm, ⟨40, _⟩ => ⟨S1024x1, .f32⟩
  | .hbm, ⟨41, _⟩ => ⟨S1024x1, .f32⟩
  | .hbm, ⟨42, _⟩ => ⟨S1024x1024, .f32⟩
  | .hbm, ⟨43, _⟩ => ⟨S1024x1024, .f32⟩
  | .hbm, ⟨44, _⟩ => ⟨S_, .f32⟩
  | .hbm, ⟨45, _⟩ => ⟨S1024x1, .f32⟩
  | .hbm, ⟨46, _⟩ => ⟨S1024x1, .f32⟩
  | .hbm, ⟨47, _⟩ => ⟨S1024x1, .f32⟩
  | .hbm, ⟨48, _⟩ => ⟨S1024x1024, .f32⟩
  | .hbm, ⟨49, _⟩ => ⟨S1024x1024, .f32⟩
  | .hbm, ⟨50, _⟩ => ⟨S1x1024, .f32⟩
  | .hbm, ⟨51, _⟩ => ⟨S1024x1024, .f32⟩
  | .hbm, ⟨52, _⟩ => ⟨S1024x1024, .f32⟩
  | .hbm, ⟨53, _⟩ => ⟨S1x1024, .f32⟩
  | .hbm, ⟨54, _⟩ => ⟨S1024x1024, .f32⟩
  | .hbm, ⟨55, _⟩ => ⟨S1024x1024, .f32⟩
  | _, _ => ⟨S16x64x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_call0_v5 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_v8 : Ref sig .tc := ⟨.hbm, 22, rfl⟩
abbrev main_cst_0 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_cst_1 : Ref sig .tc := ⟨.hbm, 27, rfl⟩
abbrev main_v12 : Ref sig .tc := ⟨.hbm, 28, rfl⟩
abbrev main_v13 : Ref sig .tc := ⟨.hbm, 29, rfl⟩
abbrev main_cst_2 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_cst_3 : Ref sig .tc := ⟨.hbm, 36, rfl⟩
abbrev main_v19 : Ref sig .tc := ⟨.hbm, 37, rfl⟩
abbrev main_v20 : Ref sig .tc := ⟨.hbm, 38, rfl⟩
abbrev main_cst_4 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_cst_5 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩

abbrev nD : Nat := 1
abbrev τ : Topo := Topo.v7x

variable {F : FTy → Type} [FloatOps F]
-- ==== Mls.lean ====
abbrev S16x64x1024 : Shape := ⟨3, ![16, 64, 1024]⟩
abbrev S16x1024x64 : Shape := ⟨3, ![16, 1024, 64]⟩
abbrev S16x64x128 : Shape := ⟨3, ![16, 64, 128]⟩
abbrev S16x4x256x256 : Shape := ⟨4, ![16, 4, 256, 256]⟩
abbrev S16x4x256 : Shape := ⟨3, ![16, 4, 256]⟩
abbrev S16x4 : Shape := ⟨2, ![16, 4]⟩
abbrev S1024 : Shape := ⟨1, ![1024]⟩
abbrev S_ : Shape := ⟨0, ![]⟩
abbrev S16x128 : Shape := ⟨2, ![16, 128]⟩
abbrev S16x1x128 : Shape := ⟨3, ![16, 1, 128]⟩
abbrev S16x4x256x1 : Shape := ⟨4, ![16, 4, 256, 1]⟩
abbrev S16x4x256x128 : Shape := ⟨4, ![16, 4, 256, 128]⟩
abbrev S1x1024 : Shape := ⟨2, ![1, 1024]⟩
abbrev S1x64x1024 : Shape := ⟨3, ![1, 64, 1024]⟩
abbrev S1x1024x64 : Shape := ⟨3, ![1, 1024, 64]⟩
abbrev S1x64x128 : Shape := ⟨3, ![1, 64, 128]⟩
abbrev S1x4x256x256 : Shape := ⟨4, ![1, 4, 256, 256]⟩
abbrev S1x4x256x128 : Shape := ⟨4, ![1, 4, 256, 128]⟩
abbrev S1x1x128 : Shape := ⟨3, ![1, 1, 128]⟩
abbrev S1x4x256 : Shape := ⟨3, ![1, 4, 256]⟩
abbrev S4x256x128 : Shape := ⟨3, ![4, 256, 128]⟩
abbrev S4x64x64 : Shape := ⟨3, ![4, 64, 64]⟩
abbrev S4x64x256 : Shape := ⟨3, ![4, 64, 256]⟩
abbrev S4x64x128 : Shape := ⟨3, ![4, 64, 128]⟩
abbrev S1x1x256x128 : Shape := ⟨4, ![1, 1, 256, 128]⟩
abbrev S256x128 : Shape := ⟨2, ![256, 128]⟩
abbrev S1x256x128 : Shape := ⟨3, ![1, 256, 128]⟩
abbrev S64x64 : Shape := ⟨2, ![64, 64]⟩
abbrev S64x128 : Shape := ⟨2, ![64, 128]⟩
abbrev S128x64 : Shape := ⟨2, ![128, 64]⟩
abbrev S1x128 : Shape := ⟨2, ![1, 128]⟩
abbrev S128 : Shape := ⟨1, ![128]⟩
abbrev S64 : Shape := ⟨1, ![64]⟩
abbrev S64x1 : Shape := ⟨2, ![64, 1]⟩
abbrev S1 : Shape := ⟨1, ![1]⟩
abbrev S1x1 : Shape := ⟨2, ![1, 1]⟩
abbrev S1x64 : Shape := ⟨2, ![1, 64]⟩
abbrev S1x64x64 : Shape := ⟨3, ![1, 64, 64]⟩
abbrev S1x64x256 : Shape := ⟨3, ![1, 64, 256]⟩
abbrev S64x256 : Shape := ⟨2, ![64, 256]⟩
abbrev S1x256x64 : Shape := ⟨3, ![1, 256, 64]⟩
abbrev S256x64 : Shape := ⟨2, ![256, 64]⟩
abbrev S1x1x256x256 : Shape := ⟨4, ![1, 1, 256, 256]⟩
abbrev S256x256 : Shape := ⟨2, ![256, 256]⟩
abbrev S1x256 : Shape := ⟨2, ![1, 256]⟩
abbrev S128x256 : Shape := ⟨2, ![128, 256]⟩
abbrev S1x1x256 : Shape := ⟨3, ![1, 1, 256]⟩

abbrev nBuf : Space → Nat
  | .hbm => 20
  | .vmem => 32
  | .smem => 0
  | _ => 0

abbrev bufTy : (tb : Table) → Fin (tcTables nBuf tb) → BufTy
  | .hbm, ⟨0, _⟩ => ⟨S16x64x1024, .bf16⟩
  | .hbm, ⟨1, _⟩ => ⟨S16x1024x64, .bf16⟩
  | .hbm, ⟨2, _⟩ => ⟨S16x64x1024, .bf16⟩
  | .hbm, ⟨3, _⟩ => ⟨S16x64x1024, .bf16⟩
  | .hbm, ⟨4, _⟩ => ⟨S16x64x128, .f32⟩
  | .hbm, ⟨5, _⟩ => ⟨S16x4x256x256, .f32⟩
  | .hbm, ⟨6, _⟩ => ⟨S16x4x256, .f32⟩
  | .hbm, ⟨7, _⟩ => ⟨S16x4, .f32⟩
  | .hbm, ⟨8, _⟩ => ⟨S1024, .f32⟩
  | .hbm, ⟨9, _⟩ => ⟨S_, .i32⟩
  | .hbm, ⟨10, _⟩ => ⟨S_, .f32⟩
  | .hbm, ⟨11, _⟩ => ⟨S16x128, .f32⟩
  | .hbm, ⟨12, _⟩ => ⟨S16x1x128, .f32⟩
  | .hbm, ⟨13, _⟩ => ⟨S16x4x256x1, .f32⟩
  | .hbm, ⟨14, _⟩ => ⟨S16x4x256x128, .f32⟩
  | .hbm, ⟨15, _⟩ => ⟨S1x1024, .f32⟩
  | .hbm, ⟨16, _⟩ => ⟨S16x64x1024, .bf16⟩
  | .hbm, ⟨17, _⟩ => ⟨S16x4x256x256, .f32⟩
  | .hbm, ⟨18, _⟩ => ⟨S16x4x256, .f32⟩
  | .hbm, ⟨19, _⟩ => ⟨S16x1x128, .f32⟩
  | .local _ .vmem, ⟨0, _⟩ => ⟨S1x64x1024, .bf16⟩
  | .local _ .vmem, ⟨1, _⟩ => ⟨S1x64x1024, .bf16⟩
  | .local _ .vmem, ⟨2, _⟩ => ⟨S1x1024x64, .bf16⟩
  | .local _ .vmem, ⟨3, _⟩ => ⟨S1x1024x64, .bf16⟩
  | .local _ .vmem, ⟨4, _⟩ => ⟨S1x64x1024, .bf16⟩
  | .local _ .vmem, ⟨5, _⟩ => ⟨S1x64x1024, .bf16⟩
  | .local _ .vmem, ⟨6, _⟩ => ⟨S1x64x1024, .bf16⟩
  | .local _ .vmem, ⟨7, _⟩ => ⟨S1x64x1024, .bf16⟩
  | .local _ .vmem, ⟨8, _⟩ => ⟨S1x64x128, .f32⟩
  | .local _ .vmem, ⟨9, _⟩ => ⟨S1x64x128, .f32⟩
  | .local _ .vmem, ⟨10, _⟩ => ⟨S1x4x256x256, .f32⟩
  | .local _ .vmem, ⟨11, _⟩ => ⟨S1x4x256x256, .f32⟩
  | .local _ .vmem, ⟨12, _⟩ => ⟨S1x4x256x128, .f32⟩
  | .local _ .vmem, ⟨13, _⟩ => ⟨S1x4x256x128, .f32⟩
  | .local _ .vmem, ⟨14, _⟩ => ⟨S1x1x128, .f32⟩
  | .local _ .vmem, ⟨15, _⟩ => ⟨S1x1x128, .f32⟩
  | .local _ .vmem, ⟨16, _⟩ => ⟨S1x1024, .f32⟩
  | .local _ .vmem, ⟨17, _⟩ => ⟨S1x64x1024, .bf16⟩
  | .local _ .vmem, ⟨18, _⟩ => ⟨S1x64x1024, .bf16⟩
  | .local _ .vmem, ⟨19, _⟩ => ⟨S1x4x256x256, .f32⟩
  | .local _ .vmem, ⟨20, _⟩ => ⟨S1x4x256x256, .f32⟩
  | .local _ .vmem, ⟨21, _⟩ => ⟨S1x4x256, .f32⟩
  | .local _ .vmem, ⟨22, _⟩ => ⟨S1x4x256, .f32⟩
  | .local _ .vmem, ⟨23, _⟩ => ⟨S1x1x128, .f32⟩
  | .local _ .vmem, ⟨24, _⟩ => ⟨S1x1x128, .f32⟩
  | .local _ .vmem, ⟨25, _⟩ => ⟨S4x256x128, .f32⟩
  | .local _ .vmem, ⟨26, _⟩ => ⟨S4x64x64, .f32⟩
  | .local _ .vmem, ⟨27, _⟩ => ⟨S4x64x64, .bf16⟩
  | .local _ .vmem, ⟨28, _⟩ => ⟨S4x64x256, .f32⟩
  | .local _ .vmem, ⟨29, _⟩ => ⟨S4x64x128, .f32⟩
  | .local _ .vmem, ⟨30, _⟩ => ⟨S4x64x128, .f32⟩
  | .local _ .vmem, ⟨31, _⟩ => ⟨S4x64x128, .f32⟩
  | _, _ => ⟨S16x64x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_call0_v0 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5_0 : Ref sig .tc := ⟨.hbm, 16, rfl⟩
abbrev main_v5_1 : Ref sig .tc := ⟨.hbm, 17, rfl⟩
abbrev main_v5_2 : Ref sig .tc := ⟨.hbm, 18, rfl⟩
abbrev main_v5_3 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_scratch0 : Ref sig .tc := ⟨.vmem, 25, rfl⟩
abbrev cc0_scratch1 : Ref sig .tc := ⟨.vmem, 26, rfl⟩
abbrev cc0_scratch2 : Ref sig .tc := ⟨.vmem, 27, rfl⟩
abbrev cc0_scratch3 : Ref sig .tc := ⟨.vmem, 28, rfl⟩
abbrev cc0_scratch4 : Ref sig .tc := ⟨.vmem, 29, rfl⟩
abbrev cc0_scratch5 : Ref sig .tc := ⟨.vmem, 30, rfl⟩
abbrev cc0_scratch6 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24

abbrev nD : Nat := 1
abbrev τ : Topo := Topo.v7x

variable {F : FTy → Type} [FloatOps F]

abbrev grid0 : Pipeline.Grid := ⟨2, ![16, 1], ![false, false]⟩

def k0_cond2 (i : grid0.Coords) : BitVec 1 :=
  let arg1 : BitVec 32 := BitVec.ofNat 32 (i 1).val
  let c0_i32_489 : BitVec 32 := 0#32
  let v768 : BitVec 1 := Scalar.cmpi .eq arg1 c0_i32_489
  let v769 : BitVec 32 := Scalar.extui v768
  let c0_i32_490 : BitVec 32 := 0#32
  let v770 : BitVec 1 := Scalar.cmpi .ne v769 c0_i32_490
  v770

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x64x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x64x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x64x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x64x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x4x256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x4x256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x64x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x4x256x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x4x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1x1x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]
-- ==== MlsRefIdeal.lean ====
abbrev S16x64x1024 : Shape := ⟨3, ![16, 64, 1024]⟩
abbrev S16x1024x64 : Shape := ⟨3, ![16, 1024, 64]⟩
abbrev S16x64x128 : Shape := ⟨3, ![16, 64, 128]⟩
abbrev S16x4x256x256 : Shape := ⟨4, ![16, 4, 256, 256]⟩
abbrev S16x4x256 : Shape := ⟨3, ![16, 4, 256]⟩
abbrev S16x4 : Shape := ⟨2, ![16, 4]⟩
abbrev S1024 : Shape := ⟨1, ![1024]⟩
abbrev S16x64x4 : Shape := ⟨3, ![16, 64, 4]⟩
abbrev S16x4x64 : Shape := ⟨3, ![16, 4, 64]⟩
abbrev S16x64x4x256 : Shape := ⟨4, ![16, 64, 4, 256]⟩
abbrev S16x4x64x256 : Shape := ⟨4, ![16, 4, 64, 256]⟩
abbrev S_ : Shape := ⟨0, ![]⟩
abbrev S64x64 : Shape := ⟨2, ![64, 64]⟩
abbrev S16x4x64x1 : Shape := ⟨4, ![16, 4, 64, 1]⟩
abbrev S16x4x1x64 : Shape := ⟨4, ![16, 4, 1, 64]⟩
abbrev S16x4x64x64 : Shape := ⟨4, ![16, 4, 64, 64]⟩
abbrev S16x4x1 : Shape := ⟨3, ![16, 4, 1]⟩
abbrev S16x4x1x1 : Shape := ⟨4, ![16, 4, 1, 1]⟩
abbrev S16x64x4x1 : Shape := ⟨4, ![16, 64, 4, 1]⟩
abbrev S16x128 : Shape := ⟨2, ![16, 128]⟩
abbrev S16x64x124 : Shape := ⟨3, ![16, 64, 124]⟩
abbrev S16x128x64 : Shape := ⟨3, ![16, 128, 64]⟩
abbrev S16x128x1 : Shape := ⟨3, ![16, 128, 1]⟩
abbrev S1x1x1024 : Shape := ⟨3, ![1, 1, 1024]⟩
abbrev S16x1x128 : Shape := ⟨3, ![16, 1, 128]⟩

abbrev nBuf : Space → Nat
  | .hbm => 165
  | .vmem => 0
  | .smem => 0
  | _ => 0

abbrev hbmTy0_0 (i : Nat) : BufTy := match i % 128 with
  | 0 => ⟨S16x64x1024, .bf16⟩
  | 1 => ⟨S16x1024x64, .bf16⟩
  | 2 => ⟨S16x64x1024, .bf16⟩
  | 3 => ⟨S16x64x1024, .bf16⟩
  | 4 => ⟨S16x64x128, .f32⟩
  | 5 => ⟨S16x4x256x256, .f32⟩
  | 6 => ⟨S16x4x256, .f32⟩
  | 7 => ⟨S16x4, .f32⟩
  | 8 => ⟨S1024, .f32⟩
  | 9 => ⟨S16x64x4, .f32⟩
  | 10 => ⟨S16x4x64, .f32⟩
  | 11 => ⟨S16x64x4, .f32⟩
  | 12 => ⟨S16x4x64, .f32⟩
  | 13 => ⟨S16x64x4x256, .bf16⟩
  | 14 => ⟨S16x4x64x256, .bf16⟩
  | 15 => ⟨S16x4x64x256, .f32⟩
  | 16 => ⟨S16x64x1024, .bf16⟩
  | 17 => ⟨S16x64x4x256, .bf16⟩
  | 18 => ⟨S16x4x64x256, .bf16⟩
  | 19 => ⟨S16x4x64x256, .f32⟩
  | 20 => ⟨S16x64x4x256, .bf16⟩
  | 21 => ⟨S16x4x64x256, .bf16⟩
  | 22 => ⟨S16x4x64x256, .f32⟩
  | 23 => ⟨S_, .f32⟩
  | 24 => ⟨S_, .f32⟩
  | 25 => ⟨S16x4x64, .f32⟩
  | 26 => ⟨S_, .i1⟩
  | 27 => ⟨S64x64, .i1⟩
  | 28 => ⟨S64x64, .i32⟩
  | 29 => ⟨S_, .i32⟩
  | 30 => ⟨S64x64, .i32⟩
  | 31 => ⟨S64x64, .i32⟩
  | 32 => ⟨S64x64, .i32⟩
  | 33 => ⟨S64x64, .i1⟩
  | 34 => ⟨S_, .i1⟩
  | 35 => ⟨S64x64, .i1⟩
  | 36 => ⟨S64x64, .i1⟩
  | 37 => ⟨S16x4x64x1, .f32⟩
  | 38 => ⟨S16x4x1x64, .f32⟩
  | 39 => ⟨S16x4x64x64, .f32⟩
  | 40 => ⟨S16x4x64x64, .f32⟩
  | 41 => ⟨S16x4x64x64, .f32⟩
  | 42 => ⟨S16x4x1x64, .f32⟩
  | 43 => ⟨S16x4x64x64, .f32⟩
  | 44 => ⟨S16x4x64x64, .f32⟩
  | 45 => ⟨S_, .f32⟩
  | 46 => ⟨S_, .f32⟩
  | 47 => ⟨S16x4x64x64, .i1⟩
  | 48 => ⟨S16x4x64x64, .f32⟩
  | 49 => ⟨S16x4x64x64, .f32⟩
  | 50 => ⟨S16x4x1, .f32⟩
  | 51 => ⟨S16x4x64, .f32⟩
  | 52 => ⟨S16x4x64, .f32⟩
  | 53 => ⟨S_, .f32⟩
  | 54 => ⟨S16x4x64, .f32⟩
  | 55 => ⟨S16x4x64, .f32⟩
  | 56 => ⟨S16x4x64, .f32⟩
  | 57 => ⟨S16x4x64, .f32⟩
  | 58 => ⟨S16x4x64x64, .f32⟩
  | 59 => ⟨S16x4x64x1, .f32⟩
  | 60 => ⟨S16x4x64x64, .f32⟩
  | 61 => ⟨S16x4x64x64, .f32⟩
  | 62 => ⟨S16x4x64x64, .f32⟩
  | 63 => ⟨S16x4x64x64, .f32⟩
  | 64 => ⟨S16x4x64x1, .f32⟩
  | 65 => ⟨S16x4x64x256, .f32⟩
  | 66 => ⟨S16x4x64x256, .f32⟩
  | 67 => ⟨S16x4x64x256, .f32⟩
  | 68 => ⟨S16x4x64x256, .f32⟩
  | 69 => ⟨S16x4x64x256, .f32⟩
  | 70 => ⟨S16x4x64, .f32⟩
  | 71 => ⟨S16x4x64, .f32⟩
  | 72 => ⟨S_, .f32⟩
  | 73 => ⟨S16x4x64, .f32⟩
  | 74 => ⟨S16x4x64, .f32⟩
  | 75 => ⟨S16x4x64, .f32⟩
  | 76 => ⟨S16x4x64, .f32⟩
  | 77 => ⟨S16x4x64, .f32⟩
  | 78 => ⟨S16x4x64, .f32⟩
  | 79 => ⟨S16x4x64x1, .f32⟩
  | 80 => ⟨S16x4x64x256, .f32⟩
  | 81 => ⟨S16x4x64x256, .f32⟩
  | 82 => ⟨S16x4x1, .f32⟩
  | 83 => ⟨S16x4, .f32⟩
  | 84 => ⟨S16x4x1, .f32⟩
  | 85 => ⟨S16x4x64, .f32⟩
  | 86 => ⟨S16x4x64, .f32⟩
  | 87 => ⟨S16x4x64, .f32⟩
  | 88 => ⟨S16x4, .f32⟩
  | 89 => ⟨S_, .f32⟩
  | 90 => ⟨S16x4, .f32⟩
  | 91 => ⟨S16x4, .f32⟩
  | 92 => ⟨S16x4, .f32⟩
  | 93 => ⟨S16x4, .f32⟩
  | 94 => ⟨S16x4, .f32⟩
  | 95 => ⟨S16x4x1, .f32⟩
  | 96 => ⟨S16x4x64, .f32⟩
  | 97 => ⟨S16x4x64, .f32⟩
  | 98 => ⟨S16x4x64, .f32⟩
  | 99 => ⟨S16x4x1x1, .f32⟩
  | 100 => ⟨S16x4x256x256, .f32⟩
  | 101 => ⟨S16x4x256x256, .f32⟩
  | 102 => ⟨S16x4x64x1, .f32⟩
  | 103 => ⟨S16x4x64x256, .f32⟩
  | 104 => ⟨S16x4x64x256, .f32⟩
  | 105 => ⟨S16x4x256x256, .f32⟩
  | 106 => ⟨S16x4x256x256, .f32⟩
  | 107 => ⟨S16x4x1, .f32⟩
  | 108 => ⟨S16x4x256, .f32⟩
  | 109 => ⟨S16x4x256, .f32⟩
  | 110 => ⟨S16x4x256, .f32⟩
  | 111 => ⟨S16x4x256, .f32⟩
  | 112 => ⟨S16x64x4x256, .f32⟩
  | 113 => ⟨S_, .f32⟩
  | 114 => ⟨S16x64x4, .f32⟩
  | 115 => ⟨S16x64x4x1, .f32⟩
  | 116 => ⟨S_, .f32⟩
  | 117 => ⟨S16x64x4x1, .f32⟩
  | 118 => ⟨S16x64x4x1, .f32⟩
  | 119 => ⟨S16x64x4x256, .f32⟩
  | 120 => ⟨S16x64x4x256, .f32⟩
  | 121 => ⟨S16x64x4x256, .f32⟩
  | 122 => ⟨S_, .f32⟩
  | 123 => ⟨S16x64x4, .f32⟩
  | 124 => ⟨S16x64x4x1, .f32⟩
  | 125 => ⟨S_, .f32⟩
  | 126 => ⟨S16x64x4x1, .f32⟩
  | 127 => ⟨S16x64x4x1, .f32⟩
  | _ => ⟨S16x64x1024, .bf16⟩

abbrev hbmTy0_1 (i : Nat) : BufTy := match i % 128 with
  | 0 => ⟨S16x64x4x256, .f32⟩
  | 1 => ⟨S16x64x4x256, .f32⟩
  | 2 => ⟨S_, .f32⟩
  | 3 => ⟨S16x64x4x1, .f32⟩
  | 4 => ⟨S16x64x4x1, .f32⟩
  | 5 => ⟨S16x64x4x1, .f32⟩
  | 6 => ⟨S16x64x4x256, .f32⟩
  | 7 => ⟨S16x64x4x256, .f32⟩
  | 8 => ⟨S16x64x1024, .f32⟩
  | 9 => ⟨S_, .i32⟩
  | 10 => ⟨S_, .f32⟩
  | 11 => ⟨S16x128, .f32⟩
  | 12 => ⟨S16x64x124, .f32⟩
  | 13 => ⟨S16x64x4, .f32⟩
  | 14 => ⟨S16x64x128, .f32⟩
  | 15 => ⟨S16x128x64, .f32⟩
  | 16 => ⟨S16x128x64, .f32⟩
  | 17 => ⟨S_, .f32⟩
  | 18 => ⟨S_, .f32⟩
  | 19 => ⟨S16x128x64, .f32⟩
  | 20 => ⟨S16x128x1, .f32⟩
  | 21 => ⟨S16x128, .f32⟩
  | 22 => ⟨S16x128, .f32⟩
  | 23 => ⟨S16x128x1, .f32⟩
  | 24 => ⟨S16x128x64, .f32⟩
  | 25 => ⟨S16x128x64, .f32⟩
  | 26 => ⟨S16x128x64, .f32⟩
  | 27 => ⟨S_, .f32⟩
  | 28 => ⟨S16x128, .f32⟩
  | 29 => ⟨S16x128, .f32⟩
  | 30 => ⟨S1x1x1024, .f32⟩
  | 31 => ⟨S16x64x1024, .f32⟩
  | 32 => ⟨S16x64x1024, .f32⟩
  | 33 => ⟨S16x64x1024, .f32⟩
  | 34 => ⟨S16x64x1024, .f32⟩
  | 35 => ⟨S16x64x1024, .bf16⟩
  | 36 => ⟨S16x1x128, .f32⟩
  | _ => ⟨S16x64x1024, .bf16⟩

abbrev hbmTy (i : Nat) : BufTy := match i / 128 with
  | 0 => hbmTy0_0 i
  | 1 => hbmTy0_1 i
  | _ => ⟨S16x64x1024, .bf16⟩

abbrev bufTy : (tb : Table) → Fin (tcTables nBuf tb) → BufTy
  | .hbm, ⟨i, _⟩ => hbmTy i
  | _, _ => ⟨S16x64x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_call0_call0_cst : Ref sig .tc := ⟨.hbm, 23, rfl⟩
abbrev main_call0_call0_v0 : Ref sig .tc := ⟨.hbm, 24, rfl⟩
abbrev main_v14 : Ref sig .tc := ⟨.hbm, 25, rfl⟩
abbrev main_c : Ref sig .tc := ⟨.hbm, 26, rfl⟩
abbrev main_v15 : Ref sig .tc := ⟨.hbm, 27, rfl⟩
abbrev main_call1_v0 : Ref sig .tc := ⟨.hbm, 28, rfl⟩
abbrev main_call1_c : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_c_0 : Ref sig .tc := ⟨.hbm, 34, rfl⟩
abbrev main_call1_v5 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_cst : Ref sig .tc := ⟨.hbm, 45, rfl⟩
abbrev main_call2_v0 : Ref sig .tc := ⟨.hbm, 46, rfl⟩
abbrev main_call2_v1 : Ref sig .tc := ⟨.hbm, 47, rfl⟩
abbrev main_call2_v2 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_cst_0 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_cst_1 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_cst_2 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_cst_3 : Ref sig .tc := ⟨.hbm, 113, rfl⟩
abbrev main_v86 : Ref sig .tc := ⟨.hbm, 114, rfl⟩
abbrev main_v87 : Ref sig .tc := ⟨.hbm, 115, rfl⟩
abbrev main_cst_4 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_cst_5 : Ref sig .tc := ⟨.hbm, 122, rfl⟩
abbrev main_v93 : Ref sig .tc := ⟨.hbm, 123, rfl⟩
abbrev main_v94 : Ref sig .tc := ⟨.hbm, 124, rfl⟩
abbrev main_cst_6 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_cst_7 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_c_8 : Ref sig .tc := ⟨.hbm, 137, rfl⟩
abbrev main_call3_v0 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩
abbrev main_call4_call0_cst : Ref sig .tc := ⟨.hbm, 145, rfl⟩
abbrev main_call4_call0_v0 : Ref sig .tc := ⟨.hbm, 146, rfl⟩
abbrev main_v111 : Ref sig .tc := ⟨.hbm, 147, rfl⟩
abbrev main_v112 : Ref sig .tc := ⟨.hbm, 148, rfl⟩
abbrev main_v113 : Ref sig .tc := ⟨.hbm, 149, rfl⟩
abbrev main_v114 : Ref sig .tc := ⟨.hbm, 150, rfl⟩
abbrev main_v115 : Ref sig .tc := ⟨.hbm, 151, rfl⟩
abbrev main_v116 : Ref sig .tc := ⟨.hbm, 152, rfl⟩
abbrev main_v117 : Ref sig .tc := ⟨.hbm, 153, rfl⟩
abbrev main_v118 : Ref sig .tc := ⟨.hbm, 154, rfl⟩
abbrev main_cst_9 : Ref sig .tc := ⟨.hbm, 155, rfl⟩
abbrev main_v119 : Ref sig .tc := ⟨.hbm, 156, rfl⟩
abbrev main_v120 : Ref sig .tc := ⟨.hbm, 157, rfl⟩
abbrev main_v121 : Ref sig .tc := ⟨.hbm, 158, rfl⟩
abbrev main_v122 : Ref sig .tc := ⟨.hbm, 159, rfl⟩
abbrev main_v123 : Ref sig .tc := ⟨.hbm, 160, rfl⟩
abbrev main_v124 : Ref sig .tc := ⟨.hbm, 161, rfl⟩
abbrev main_v125 : Ref sig .tc := ⟨.hbm, 162, rfl⟩
abbrev main_v126 : Ref sig .tc := ⟨.hbm, 163, rfl⟩
abbrev main_v127 : Ref sig .tc := ⟨.hbm, 164, rfl⟩

abbrev nD : Nat := 1
abbrev τ : Topo := Topo.v7x

variable {F : FTy → Type} [FloatOps F]
-- ==== InattS.lean ====
abbrev S16x64x1024 : Shape := ⟨3, ![16, 64, 1024]⟩
abbrev S1024x9216 : Shape := ⟨2, ![1024, 9216]⟩
abbrev S16x1024x64 : Shape := ⟨3, ![16, 1024, 64]⟩
abbrev S8x64x1024 : Shape := ⟨3, ![8, 64, 1024]⟩
abbrev S1024x1024 : Shape := ⟨2, ![1024, 1024]⟩
abbrev S8x1024x64 : Shape := ⟨3, ![8, 1024, 64]⟩
abbrev S512x1024 : Shape := ⟨2, ![512, 1024]⟩
abbrev S1x64x1024 : Shape := ⟨3, ![1, 64, 1024]⟩
abbrev S64x1024 : Shape := ⟨2, ![64, 1024]⟩
abbrev S1024x256 : Shape := ⟨2, ![1024, 256]⟩
abbrev S512x256 : Shape := ⟨2, ![512, 256]⟩
abbrev S64x256 : Shape := ⟨2, ![64, 256]⟩
abbrev S1x64x256 : Shape := ⟨3, ![1, 64, 256]⟩
abbrev S256x64 : Shape := ⟨2, ![256, 64]⟩
abbrev S1x256x64 : Shape := ⟨3, ![1, 256, 64]⟩

abbrev nBuf : Space → Nat
  | .hbm => 9
  | .vmem => 22
  | .smem => 0
  | _ => 0

abbrev bufTy : (tb : Table) → Fin (tcTables nBuf tb) → BufTy
  | .hbm, ⟨0, _⟩ => ⟨S16x64x1024, .f32⟩
  | .hbm, ⟨1, _⟩ => ⟨S1024x9216, .bf16⟩
  | .hbm, ⟨2, _⟩ => ⟨S16x64x1024, .bf16⟩
  | .hbm, ⟨3, _⟩ => ⟨S16x1024x64, .bf16⟩
  | .hbm, ⟨4, _⟩ => ⟨S16x64x1024, .bf16⟩
  | .hbm, ⟨5, _⟩ => ⟨S16x64x1024, .f32⟩
  | .hbm, ⟨6, _⟩ => ⟨S16x64x1024, .f32⟩
  | .hbm, ⟨7, _⟩ => ⟨S16x64x1024, .bf16⟩
  | .hbm, ⟨8, _⟩ => ⟨S16x64x1024, .bf16⟩
  | .local _ .vmem, ⟨0, _⟩ => ⟨S8x64x1024, .f32⟩
  | .local _ .vmem, ⟨1, _⟩ => ⟨S8x64x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S8x64x1024, .bf16⟩
  | .local _ .vmem, ⟨8, _⟩ => ⟨S8x64x1024, .bf16⟩
  | .local _ .vmem, ⟨9, _⟩ => ⟨S8x1024x64, .bf16⟩
  | .local _ .vmem, ⟨10, _⟩ => ⟨S8x1024x64, .bf16⟩
  | .local _ .vmem, ⟨11, _⟩ => ⟨S8x64x1024, .bf16⟩
  | .local _ .vmem, ⟨12, _⟩ => ⟨S8x64x1024, .bf16⟩
  | .local _ .vmem, ⟨13, _⟩ => ⟨S8x64x1024, .f32⟩
  | .local _ .vmem, ⟨14, _⟩ => ⟨S8x64x1024, .f32⟩
  | .local _ .vmem, ⟨15, _⟩ => ⟨S8x64x1024, .f32⟩
  | .local _ .vmem, ⟨16, _⟩ => ⟨S8x64x1024, .f32⟩
  | .local _ .vmem, ⟨17, _⟩ => ⟨S8x64x1024, .bf16⟩
  | .local _ .vmem, ⟨18, _⟩ => ⟨S8x64x1024, .bf16⟩
  | .local _ .vmem, ⟨19, _⟩ => ⟨S8x64x1024, .bf16⟩
  | .local _ .vmem, ⟨20, _⟩ => ⟨S8x64x1024, .bf16⟩
  | .local _ .vmem, ⟨21, _⟩ => ⟨S512x1024, .bf16⟩
  | _, _ => ⟨S16x64x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev main_v0_3 : Ref sig .tc := ⟨.hbm, 5, rfl⟩
abbrev main_v0_4 : Ref sig .tc := ⟨.hbm, 6, rfl⟩
abbrev main_v0_5 : Ref sig .tc := ⟨.hbm, 7, rfl⟩
abbrev main_v0_6 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_scratch0 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20

abbrev nD : Nat := 1
abbrev τ : Topo := Topo.v7x

variable {F : FTy → Type} [FloatOps F]

abbrev grid0 : Pipeline.Grid := ⟨2, ![2, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c4_i32 : BitVec 32 := 4#32
  let c0_i32_0 : BitVec 32 := 0#32
  ![c0_i32.toNat, c4_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c5_i32 : BitVec 32 := 5#32
  let c0_i32_0 : BitVec 32 := 0#32
  ![c0_i32.toNat, c5_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c6_i32 : BitVec 32 := 6#32
  let c0_i32_0 : BitVec 32 := 0#32
  ![c0_i32.toNat, c6_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c7_i32 : BitVec 32 := 7#32
  let c0_i32_0 : BitVec 32 := 0#32
  ![c0_i32.toNat, c7_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c8_i32 : BitVec 32 := 8#32
  let c0_i32_0 : BitVec 32 := 0#32
  ![c0_i32.toNat, c8_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let v1 : BitVec 32 := Scalar.maxsi v0 c0_i32_0
  let c0_i32_1 : BitVec 32 := 0#32
  let c0_i32_2 : BitVec 32 := 0#32
  ![arg0.toNat, v1.toNat, c0_i32_1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let v1 : BitVec 32 := Scalar.maxsi v0 c0_i32_0
  let c0_i32_1 : BitVec 32 := 0#32
  let c0_i32_2 : BitVec 32 := 0#32
  ![arg0.toNat, v1.toNat, c0_i32_1.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S8x64x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S8x1024x64 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S8x64x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S8x64x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S8x64x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S8x64x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S8x64x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== InattSRefIdeal.lean ====
abbrev S16x64x1024 : Shape := ⟨3, ![16, 64, 1024]⟩
abbrev S1024x9216 : Shape := ⟨2, ![1024, 9216]⟩
abbrev S16x64x9216 : Shape := ⟨3, ![16, 64, 9216]⟩
abbrev S16x64x5120 : Shape := ⟨3, ![16, 64, 5120]⟩
abbrev S16x1024x64 : Shape := ⟨3, ![16, 1024, 64]⟩
abbrev S_ : Shape := ⟨0, ![]⟩

abbrev nBuf : Space → Nat
  | .hbm => 32
  | .vmem => 0
  | .smem => 0
  | _ => 0

abbrev bufTy : (tb : Table) → Fin (tcTables nBuf tb) → BufTy
  | .hbm, ⟨0, _⟩ => ⟨S16x64x1024, .f32⟩
  | .hbm, ⟨1, _⟩ => ⟨S1024x9216, .bf16⟩
  | .hbm, ⟨2, _⟩ => ⟨S1024x9216, .f32⟩
  | .hbm, ⟨3, _⟩ => ⟨S16x64x9216, .f32⟩
  | .hbm, ⟨4, _⟩ => ⟨S16x64x5120, .f32⟩
  | .hbm, ⟨5, _⟩ => ⟨S16x64x1024, .f32⟩
  | .hbm, ⟨6, _⟩ => ⟨S16x64x1024, .f32⟩
  | .hbm, ⟨7, _⟩ => ⟨S16x64x1024, .f32⟩
  | .hbm, ⟨8, _⟩ => ⟨S16x64x1024, .f32⟩
  | .hbm, ⟨9, _⟩ => ⟨S16x64x1024, .f32⟩
  | .hbm, ⟨10, _⟩ => ⟨S16x64x1024, .bf16⟩
  | .hbm, ⟨11, _⟩ => ⟨S16x1024x64, .f32⟩
  | .hbm, ⟨12, _⟩ => ⟨S16x1024x64, .bf16⟩
  | .hbm, ⟨13, _⟩ => ⟨S16x64x1024, .bf16⟩
  | .hbm, ⟨14, _⟩ => ⟨S16x64x1024, .f32⟩
  | .hbm, ⟨15, _⟩ => ⟨S16x64x1024, .f32⟩
  | .hbm, ⟨16, _⟩ => ⟨S_, .f32⟩
  | .hbm, ⟨17, _⟩ => ⟨S16x64x1024, .f32⟩
  | .hbm, ⟨18, _⟩ => ⟨S16x64x1024, .f32⟩
  | .hbm, ⟨19, _⟩ => ⟨S_, .f32⟩
  | .hbm, ⟨20, _⟩ => ⟨S16x64x1024, .f32⟩
  | .hbm, ⟨21, _⟩ => ⟨S16x64x1024, .f32⟩
  | .hbm, ⟨22, _⟩ => ⟨S16x64x1024, .bf16⟩
  | .hbm, ⟨23, _⟩ => ⟨S16x64x1024, .f32⟩
  | .hbm, ⟨24, _⟩ => ⟨S16x64x1024, .f32⟩
  | .hbm, ⟨25, _⟩ => ⟨S_, .f32⟩
  | .hbm, ⟨26, _⟩ => ⟨S16x64x1024, .f32⟩
  | .hbm, ⟨27, _⟩ => ⟨S16x64x1024, .f32⟩
  | .hbm, ⟨28, _⟩ => ⟨S_, .f32⟩
  | .hbm, ⟨29, _⟩ => ⟨S16x64x1024, .f32⟩
  | .hbm, ⟨30, _⟩ => ⟨S16x64x1024, .f32⟩
  | .hbm, ⟨31, _⟩ => ⟨S16x64x1024, .bf16⟩
  | _, _ => ⟨S16x64x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_cst : Ref sig .tc := ⟨.hbm, 16, rfl⟩
abbrev main_v14 : Ref sig .tc := ⟨.hbm, 17, rfl⟩
abbrev main_v15 : Ref sig .tc := ⟨.hbm, 18, rfl⟩
abbrev main_cst_0 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_cst_1 : Ref sig .tc := ⟨.hbm, 25, rfl⟩
abbrev main_v21 : Ref sig .tc := ⟨.hbm, 26, rfl⟩
abbrev main_v22 : Ref sig .tc := ⟨.hbm, 27, rfl⟩
abbrev main_cst_2 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩

abbrev nD : Nat := 1
abbrev τ : Topo := Topo.v7x

variable {F : FTy → Type} [FloatOps F]
-- ==== Proof.Rows.lean ====
/-
  The scalar functions that both sides of the claims come down to, over the extended reals: one row of a dense product, of the
  gated feed-forward network, and of a layer normalisation, each written as the mathematics has it.
-/
module

public import Idealize.ShloMosaic.Lib.Pointwise

@[expose] public section

noncomputable section

namespace Cert.Rows

open Idealize.ShloMosaic

/-- The extended real that a binary32 literal names. -/
abbrev lit (b : BitVec 32) : EReal := Ideal.ofBits .f32 b

/-- One entry of a row times a matrix. -/
def dot {n p : ℕ} (x : Fin n → EReal) (w : Fin n → Fin p → EReal) (j : Fin p) : EReal := ∑ k, x k * w k j

/-- `x · σ(x)`. -/
def silu (a : EReal) : EReal := a * Ideal.div 1 (1 + Ideal.exp (-a))

/-- Layer normalisation of a row of 1024 entries: centred, scaled by the inverse root of variance plus 1e-5, gain and bias. -/
def layerNorm (v g b : Fin 1024 → EReal) (j : Fin 1024) : EReal :=
  (v j - Ideal.div (∑ k, v k) (lit 0x44800000#32))
    * Ideal.rsqrt (Ideal.div (∑ l, (v l - Ideal.div (∑ k, v k) (lit 0x44800000#32)) * (v l - Ideal.div (∑ k, v k) (lit 0x44800000#32)))
        (lit 0x44800000#32) + lit 0x3727C5AC#32)
    * g j + b j

/-- One row of the gated feed-forward network before its normalisation: `α·x + ½·(silu (x·Wg) ⊙ (x·Wu))·Wd`. -/
def ffnSum (x : Fin 1024 → EReal) (wg wu : Fin 1024 → Fin 2816 → EReal) (wd : Fin 2816 → Fin 1024 → EReal) (j : Fin 1024) : EReal :=
  lit 0x3F9837F0#32 * x j + lit 0x3F000000#32 * ∑ k, silu (dot x wg k) * dot x wu k * wd k j

/-- A sum over the 2816 hidden entries, in the three stretches the kernel takes. -/
theorem sum_hidden (f : Fin 2816 → EReal) :
    ∑ k, f k = (∑ k : Fin 768, f ⟨k.val, by omega⟩) + (∑ k : Fin 1024, f ⟨768 + k.val, by omega⟩)
      + ∑ k : Fin 1024, f ⟨1792 + k.val, by omega⟩ := by
  rw [Fin.sum_univ_two_halves 1792 1024 rfl f, Fin.sum_univ_two_halves 768 1024 rfl (fun k : Fin 1792 => f ⟨k.val, by omega⟩)]

/-- The logistic function. -/
def sigm (a : EReal) : EReal := Ideal.div 1 (1 + Ideal.exp (-a))

/-- The row that the merging layer norm is taken of: the residual and the projected sum of the two gated branches. -/
def mixSum (h hm oa gm ga : Fin 1024 → EReal) (wm wa wo : Fin 1024 → Fin 1024 → EReal) (j : Fin 1024) : EReal :=
  lit 0x3F9837F0#32 * h j + dot (fun k => gm k * dot hm wm k + ga k * dot oa wa k) wo j

end Cert.Rows
end
-- ==== Proof.Ffn.lean ====
/-
  The feed-forward call of the kernel: what its result array holds after the run, as a function of the arguments.
-/
module
public import proofs.«01_k».proof.Proof.Gen.FfnIdeal.Value
public import proofs.«01_k».proof.Proof.Rows
public import Idealize.ShloMosaic.Lib.Pipeline.ValueKit
public import Idealize.ShloMosaic.Lib.Claim
@[expose] public section
set_option maxRecDepth 16384
noncomputable section
namespace Cert.FfnIdeal.Hand
open Cert.FfnIdeal Cert.FfnIdeal.Gen Idealize.ShloMosaic Idealize.ShloMosaic.TcCoe Idealize.SL.Sem Cert.Rows
open Idealize.ShloMosaic.Pipeline (Dat)

theorem ln_apply (v : FVec Ideal S256x1024 .f32) (g b : Vec Ideal S1x1024 .f32) (r : Fin 256) (j : Fin 1024) :
    k0_pay1 v g b (ix2 r j) = layerNorm (fun k => v (ix2 r k)) (fun k => g (ix2 0 k)) (fun k => b (ix2 0 k)) j := by
  pointwise [k0_pay1, layerNorm]

variable (x0 : Vec Ideal S1024x1024 .f32) (x1 x2 : Vec Ideal S1024x2816 .bf16) (x3 : Vec Ideal S2816x1024 .bf16)
  (x4 x5 : Vec Ideal S1x1024 .f32)

theorem sum_apply (x : Vec Ideal S256x1024 .f32) (r : Fin 256) (j : Fin 1024) :
    k0_pay7 (k0_pay2 x) (k0_pay3 x) (k0_pay4 x (View.ld x1 r0_1) (View.ld x2 r0_1) (View.ld x3 r0_2))
        (k0_pay5 x (View.ld x2 r0_3)) (k0_pay6 x (View.ld x1 r0_3)) (View.ld x3 r0_4) (View.ld x1 r0_5) (View.ld x2 r0_5)
        (View.ld x3 r0_6) (ix2 r j)
      = ffnSum (fun k => x (ix2 r k)) (fun k l => x1 (ix2 k l)) (fun k l => x2 (ix2 k l)) (fun k l => x3 (ix2 k l)) j := by
  unfold ffnSum
  rw [sum_hidden]
  unfold_payloads
  pointwise [r0_1, r0_2, r0_3, r0_4, r0_5, r0_6, silu, dot]
  simp only [zero_sub]

/-- One entry of the block that the call writes, from the blocks it reads. -/
def blockOut (i : S1024x1024.Idx) : EReal :=
  layerNorm (ffnSum (fun k => x0 (ix2 (i 0) k)) (fun k l => x1 (ix2 k l)) (fun k l => x2 (ix2 k l)) (fun k l => x3 (ix2 k l)))
    (fun k => x4 (ix2 0 k)) (fun k => x5 (ix2 0 k)) (i 1)

/-- What every piece of the block stores: one chain of operations over the piece's rows. -/
def pieceOut (x : Vec Ideal S256x1024 .f32) : FVec Ideal S256x1024 .f32 :=
  k0_pay1 (k0_pay7 (k0_pay2 x) (k0_pay3 x) (k0_pay4 x (View.ld x1 r0_1) (View.ld x2 r0_1) (View.ld x3 r0_2))
        (k0_pay5 x (View.ld x2 r0_3)) (k0_pay6 x (View.ld x1 r0_3)) (View.ld x3 r0_4) (View.ld x1 r0_5) (View.ld x2 r0_5)
        (View.ld x3 r0_6)) (View.ld x4 r0_8) (View.ld x5 r0_8)

theorem out_eq : out0_6 x0 x1 x2 x3 x4 x5 = View.canon [⟨r0_10, pieceOut x1 x2 x3 x4 x5 (View.ld x0 r0_10)⟩,
    ⟨r0_9, pieceOut x1 x2 x3 x4 x5 (View.ld x0 r0_9)⟩, ⟨r0_7, pieceOut x1 x2 x3 x4 x5 (View.ld x0 r0_7)⟩,
    ⟨r0_0, pieceOut x1 x2 x3 x4 x5 (View.ld x0 r0_0)⟩] := rfl

theorem piece_apply (x : Vec Ideal S256x1024 .f32) (o : ℕ) (ho : o + 256 ≤ 1024) (hx : ∀ (r : Fin 256) (k : Fin 1024), x (ix2 r k) = x0 (ix2 ⟨o + r.val, by omega⟩ k))
    (r : Fin 256) (j : Fin 1024) :
    pieceOut x1 x2 x3 x4 x5 x (ix2 r j) = blockOut x0 x1 x2 x3 x4 x5 (ix2 ⟨o + r.val, by omega⟩ j) := by
  unfold pieceOut
  rw [ln_apply]
  simp only [sum_apply, hx]
  unfold blockOut
  pointwise [r0_8]

theorem piece_at (o : ℕ) (inb : ∀ a, (![o, 0] : Fin S1024x1024.rank → ℕ) a + S256x1024.size a ≤ S1024x1024.size a)
    (x : S256x1024.Idx) :
    pieceOut x1 x2 x3 x4 x5 (View.ld x0 (Rect.unit (s := S1024x1024) ![o, 0] S256x1024.size inb)) x
      = blockOut x0 x1 x2 x3 x4 x5 ((Rect.unit (s := S1024x1024) ![o, 0] S256x1024.size inb).emb x) := by
  have ho : o + 256 ≤ 1024 := inb 0
  rw [show x = ix2 (x 0) (x 1) from eq_ix2 x]
  refine (piece_apply x0 x1 x2 x3 x4 x5 _ o ho (fun r k => View.ld_unit_apply_of _ _ _ _ _ _ ?_) _ _).trans ?_
  · intro a
    match a with
    | ⟨0, _⟩ => rfl
    | ⟨1, _⟩ => exact (Nat.zero_add _).symm
  · refine congrArg _ (funext fun a => Fin.ext ?_)
    refine Eq.trans ?_ (Rect.idx_unit_val _ _ _ _ a).symm
    match a with
    | ⟨0, _⟩ => rfl
    | ⟨1, _⟩ => exact (Nat.zero_add _).symm

theorem out_apply (y : S1024x1024.Idx) : out0_6 x0 x1 x2 x3 x4 x5 y = blockOut x0 x1 x2 x3 x4 x5 y := by
  rw [out_eq]
  refine View.canon_apply_of_pieces (Val := Elt Ideal) (e := .f32) (blockOut x0 x1 x2 x3 x4 x5) _ ?_ y (cover0_6 _ _ _ _ y)
  intro p hp x
  simp only [List.mem_cons, List.not_mem_nil, or_false] at hp
  rcases hp with rfl | rfl | rfl | rfl
  · exact piece_at _ _ _ _ _ _ 768 _ _
  · exact piece_at _ _ _ _ _ _ 512 _ _
  · exact piece_at _ _ _ _ _ _ 256 _ _
  · exact piece_at _ _ _ _ _ _ 0 _ _

/-- The result, entry by entry, as a function of the arguments of `ffn_kernel`. -/
def value (a0 : Vec Ideal S32x2048x1024 .f32) (a1 : Vec Ideal S1024x5632 .f32) (a2 : Vec Ideal S2816x1024 .f32)
    (a3 a4 : Vec Ideal S1024 .f32) (i : S65536x1024.Idx) : EReal :=
  layerNorm (ffnSum (fun k => a0 (ix3 ⟨(i 0).val / 2048, by have := (i 0).isLt; simp at this; omega⟩ ⟨(i 0).val % 2048, by omega⟩ k))
      (fun k l => a1 (ix2 k ⟨l.val, by omega⟩)) (fun k l => a1 (ix2 k ⟨2816 + l.val, by omega⟩)) (fun k l => a2 (ix2 k l)))
    (fun k => a3 (ix1 k)) (fun k => a4 (ix1 k)) (i 1)

variable (m : (ℓ : Loc nD τ sig) → Buf (Elt Ideal) ℓ)

/-- The block that each window reads or writes at a grid point. -/
theorem idx : ∀ t : Fin cfg0.N, win0_0.index t = ![t.val, 0] ∧ win0_1.index t = ![0, 0] ∧ win0_2.index t = ![0, 1]
    ∧ win0_3.index t = ![0, 0] ∧ win0_4.index t = ![0, 0] ∧ win0_5.index t = ![0, 0] ∧ win0_6.index t = ![t.val, 0] :=
  (by decide +kernel : ∀ t : Fin grid0.N, win0_0.index t = ![t.val, 0] ∧ win0_1.index t = ![0, 0] ∧ win0_2.index t = ![0, 1]
    ∧ win0_3.index t = ![0, 0] ∧ win0_4.index t = ![0, 0] ∧ win0_5.index t = ![0, 0] ∧ win0_6.index t = ![t.val, 0])

/-- The tokens of a sequence, one after another. -/
theorem rows_apply (X : Vec Ideal S32x2048x1024 .f32) (h : S32x2048x1024.ShapeCasts S65536x1024) (p : Fin 65536) (k : Fin 1024) :
    shapeCast S65536x1024 X h (ix2 p k) = X (ix3 ⟨p.val / 2048, by omega⟩ ⟨p.val % 2048, by omega⟩ k) := by
  pointwise

theorem read0 (c : Dev nD) (t : Fin cfg0.N) (r k : Fin 1024) :
    (iblk m c 0 t : Vec Ideal S1024x1024 .f32) (ix2 r k)
      = m ((c : Thread nD τ).loc main_arg0) (ix3 ⟨(t.val * 1024 + r.val) / 2048, by have : t.val < 64 := t.isLt; omega⟩
          ⟨(t.val * 1024 + r.val) % 2048, by omega⟩ k) := by
  obtain ⟨e0, e1, e2, e3, e4, e5, e6⟩ := idx t
  refine Eq.trans (b := V m c main_v0 (ix2 (⟨t.val * 1024 + r.val, by have : t.val < 64 := t.isLt; omega⟩ : Fin 65536) k)) ?_ ?_
  · blk_ext [iblk, e0]
  · entry_read
    exact rows_apply _ _ _ _

theorem read1 (c : Dev nD) (t : Fin cfg0.N) (k : Fin 1024) (l : Fin 2816) :
    (iblk m c 1 t : Vec Ideal S1024x2816 .bf16) (ix2 k l) = m ((c : Thread nD τ).loc main_arg1) (ix2 k ⟨l.val, by omega⟩) := by
  obtain ⟨e0, e1, e2, e3, e4, e5, e6⟩ := idx t
  blk_ext! [iblk, V, e1]

theorem read2 (c : Dev nD) (t : Fin cfg0.N) (k : Fin 1024) (l : Fin 2816) :
    (iblk m c 2 t : Vec Ideal S1024x2816 .bf16) (ix2 k l) = m ((c : Thread nD τ).loc main_arg1) (ix2 k ⟨2816 + l.val, by omega⟩) := by
  obtain ⟨e0, e1, e2, e3, e4, e5, e6⟩ := idx t
  blk_ext! [iblk, V, e2]

theorem read3 (c : Dev nD) (t : Fin cfg0.N) (k : Fin 2816) (l : Fin 1024) :
    (iblk m c 3 t : Vec Ideal S2816x1024 .bf16) (ix2 k l) = m ((c : Thread nD τ).loc main_arg2) (ix2 k l) := by
  obtain ⟨e0, e1, e2, e3, e4, e5, e6⟩ := idx t
  blk_ext! [iblk, V, e3]

theorem read4 (c : Dev nD) (t : Fin cfg0.N) (k : Fin 1024) :
    (iblk m c 4 t : Vec Ideal S1x1024 .f32) (ix2 0 k) = m ((c : Thread nD τ).loc main_arg3) (ix1 k) := by
  obtain ⟨e0, e1, e2, e3, e4, e5, e6⟩ := idx t
  blk_ext! [iblk, V, e4]

theorem read5 (c : Dev nD) (t : Fin cfg0.N) (k : Fin 1024) :
    (iblk m c 5 t : Vec Ideal S1x1024 .f32) (ix2 0 k) = m ((c : Thread nD τ).loc main_arg4) (ix1 k) := by
  obtain ⟨e0, e1, e2, e3, e4, e5, e6⟩ := idx t
  blk_ext! [iblk, V, e5]

theorem place (t : Fin cfg0.N) (y : S1024x1024.Idx) : (win0_6.blk t).view.emb y
    = ix2 (⟨t.val * 1024 + (y 0).val, by have : t.val < 64 := t.isLt; have := (y 0).isLt; simp at this; omega⟩ : Fin 65536) (y 1) := by
  obtain ⟨e0, e1, e2, e3, e4, e5, e6⟩ := idx t
  blk_ext [e6]

theorem final (c : Dev nD) : (dats m 0 c).arrAt 6 cfg0.N
    = value (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 6 _ (by decide +kernel) fun t hf y => ?_
  blk_simp
  rw [after0_6, out_apply]
  refine Eq.trans ?_ (congrArg _ (place t y).symm)
  unfold blockOut value
  simp only [read1, read2, read3, read4, read5]
  exact congrArg (fun f => layerNorm (ffnSum f _ _ _) _ _ _) (funext fun k => read0 m c t (y 0) k)

end Cert.FfnIdeal.Hand
end
-- ==== Proof.FfnRef.lean ====
/-
  The feed-forward network as the reference writes it, read entry by entry.
-/
module
public import proofs.«01_k».proof.Proof.Gen.FfnRefIdeal.Read
public import proofs.«01_k».proof.Proof.Rows
@[expose] public section
set_option maxRecDepth 16384
noncomputable section
namespace Cert.FfnRefIdeal.Hand
open Cert.FfnRefIdeal Cert.FfnRefIdeal.Gen Cert.FfnRefIdeal.Read Idealize.ShloMosaic Idealize.ShloMosaic.TcCoe Idealize.SL.Sem Cert.Rows

variable (a0 : Vec Ideal S32x2048x1024 .f32) (a1 : Vec Ideal S1024x5632 .f32) (a2 : Vec Ideal S2816x1024 .f32)
    (a3 a4 : Vec Ideal S1024 .f32)

theorem sum_apply (p : Fin 65536) (j : Fin 1024) : val_main_v11 (F := Ideal) a0 a1 a2 (ix2 p j)
    = ffnSum (fun k => a0 (ix3 ⟨p.val / 2048, by omega⟩ ⟨p.val % 2048, by omega⟩ k))
      (fun k l => a1 (ix2 k ⟨l.val, by omega⟩)) (fun k l => a1 (ix2 k ⟨2816 + l.val, by omega⟩)) (fun k l => a2 (ix2 k l)) j := by
  pointwise [val_main_v11, val_main_v10, val_main_v9, val_main_v8, val_main_v7, val_main_v6, val_main_v5, val_main_v4, val_main_v3, val_main_v2, val_main_v1, val_main_v0, val_main_cst, val_main_cst_0, val_main_call0_v0, val_main_call0_v1, val_main_call0_v2, val_main_call0_v3, val_main_call0_v4, val_main_call0_v5, val_main_call0_cst, val_main_call0_cst_0, ffnSum, dot, silu]

theorem norm_apply (p : Fin 65536) (j : Fin 1024) : val_main_v35 (F := Ideal) a0 a1 a2 a3 a4 (ix2 p j)
    = layerNorm (fun k => val_main_v11 (F := Ideal) a0 a1 a2 (ix2 p k)) (fun k => a3 (ix1 k)) (fun k => a4 (ix1 k)) j := by
  pointwise [val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_cst_1, val_main_cst_2, val_main_cst_3, val_main_cst_4, val_main_cst_5, layerNorm]

theorem out_apply (p : Fin 65536) (j : Fin 1024) : val_main_v35 (F := Ideal) a0 a1 a2 a3 a4 (ix2 p j)
    = layerNorm (ffnSum (fun k => a0 (ix3 ⟨p.val / 2048, by omega⟩ ⟨p.val % 2048, by omega⟩ k))
      (fun k l => a1 (ix2 k ⟨l.val, by omega⟩)) (fun k l => a1 (ix2 k ⟨2816 + l.val, by omega⟩)) (fun k l => a2 (ix2 k l)))
    (fun k => a3 (ix1 k)) (fun k => a4 (ix1 k)) j := by
  rw [norm_apply]
  exact congrArg (fun f => layerNorm f _ _ _) (funext fun k => sum_apply a0 a1 a2 p k)

end Cert.FfnRefIdeal.Hand
end
-- ==== Proof.FfnClaim.lean ====
/-
  The feed-forward claims: the three programs run and leave their arguments alone, and the kernel's result is the
  reference's.
-/
module
public import proofs.«01_k».proof.Defs
public import proofs.«01_k».proof.Proof.Gen.Ffn
public import proofs.«01_k».proof.Proof.Gen.Ffn.Frame
public import proofs.«01_k».proof.Proof.Gen.FfnIdeal
public import proofs.«01_k».proof.Proof.Gen.FfnIdeal.Frame
public import proofs.«01_k».proof.Proof.Gen.FfnRefIdeal.Run
public import proofs.«01_k».proof.Proof.Ffn
public import proofs.«01_k».proof.Proof.FfnRef
public import Idealize.ShloMosaic.Lib.Quiescent
@[expose] public section
noncomputable section
namespace Cert.FfnClaim
open Idealize.ShloMosaic Idealize.ShloMosaic.TcCoe Idealize.SL.Sem

theorem quiet_ref : quiescent_FfnRefIdeal (hFfnRefIdeal := FfnRefIdeal.Gen.facts) := fun m g _ =>
  (θ_run FfnRefIdeal.defs _ _).mono
    (fun r h => ⟨fun c => (h c).2, Idealize.ShloMosaic.sem_eq_zero_of_no_sems (by decide) r.2⟩)
    (FfnRefIdeal.Value.run (F := Ideal) m g)

theorem equal : algebraic_FfnIdeal_FfnRefIdeal (hFfnIdeal := FfnIdeal.Gen.facts) (hFfnRefIdeal := FfnRefIdeal.Gen.facts) := by
  intro m g m' g' _ hagree
  refine ⟨fun c => FfnIdeal.Hand.value (m ((c.tc : Thread FfnIdeal.nD FfnIdeal.τ).loc FfnIdeal.main_arg0))
    (m ((c.tc : Thread FfnIdeal.nD FfnIdeal.τ).loc FfnIdeal.main_arg1)) (m ((c.tc : Thread FfnIdeal.nD FfnIdeal.τ).loc FfnIdeal.main_arg2))
    (m ((c.tc : Thread FfnIdeal.nD FfnIdeal.τ).loc FfnIdeal.main_arg3)) (m ((c.tc : Thread FfnIdeal.nD FfnIdeal.τ).loc FfnIdeal.main_arg4)), ?_, ?_⟩
  · exact (θ_run FfnIdeal.defs _ _).mono (fun r h c => ⟨(h c).1.trans (FfnIdeal.Hand.final m c), (h c).2⟩)
      (FfnIdeal.Value.run_blocks m g)
  · refine (θ_run FfnRefIdeal.defs _ _).mono (fun r h c => ⟨(h c).1.trans ?_, (h c).2⟩) (FfnRefIdeal.Value.run (F := Ideal) m' g')
    obtain ⟨e0, e1, e2, e3, e4⟩ := hagree c
    refine (FfnRefIdeal.Read.val_main_v35_eq m' c).trans ?_
    rw [e0, e1, e2, e3, e4]
    funext i
    refine (congrArg _ (eq_ix2 i)).trans ?_
    exact FfnRefIdeal.Hand.out_apply _ _ _ _ _ (i 0) (i 1)

end Cert.FfnClaim
end
-- ==== Proof.Mix.lean ====
/-
  The merging call of the kernel: what its result array holds after the run, as a function of the arguments.
-/
module
public import proofs.«01_k».proof.Proof.Gen.MixIdeal.Value
public import proofs.«01_k».proof.Proof.Rows
public import Idealize.ShloMosaic.Lib.Pipeline.ValueKit
public import Idealize.ShloMosaic.Lib.Claim
@[expose] public section
set_option maxRecDepth 16384
noncomputable section
namespace Cert.MixIdeal.Hand
open Cert.MixIdeal Cert.MixIdeal.Gen Idealize.ShloMosaic Idealize.ShloMosaic.TcCoe Idealize.SL.Sem Cert.Rows
open Idealize.ShloMosaic.Pipeline (Dat)

theorem ln_apply (v : FVec Ideal S256x1024 .f32) (g b : Vec Ideal S1x1024 .f32) (r : Fin 256) (j : Fin 1024) :
    k0_pay15 v g b (ix2 r j) = layerNorm (fun k => v (ix2 r k)) (fun k => g (ix2 0 k)) (fun k => b (ix2 0 k)) j := by
  pointwise [k0_pay15, layerNorm]

variable (x0 : Vec Ideal S1024x1024 .f32) (x1 x2 x3 x4 x5 x6 x7 : Vec Ideal S1024x1024 .bf16) (x8 x9 : Vec Ideal S1x1024 .f32)

theorem sum_apply (h : Vec Ideal S256x1024 .f32) (hm oa gm ga : Vec Ideal S256x1024 .bf16) (r : Fin 256) (j : Fin 1024) :
    k0_pay13 (k0_pay7 hm (View.ld x5 r0_1) oa (View.ld x6 r0_1) gm ga (View.ld x7 r0_1)) h (ix2 r j)
      = mixSum (fun k => h (ix2 r k)) (fun k => hm (ix2 r k)) (fun k => oa (ix2 r k)) (fun k => gm (ix2 r k))
          (fun k => ga (ix2 r k)) (fun k l => x5 (ix2 k l)) (fun k l => x6 (ix2 k l)) (fun k l => x7 (ix2 k l)) j := by
  pointwise [k0_pay13, k0_pay7, r0_1, mixSum, dot]

/-- One entry of the block that the call writes, from the blocks it reads. -/
def blockOut (i : S1024x1024.Idx) : EReal :=
  layerNorm (mixSum (fun k => x0 (ix2 (i 0) k)) (fun k => x1 (ix2 (i 0) k)) (fun k => x2 (ix2 (i 0) k))
      (fun k => x3 (ix2 (i 0) k)) (fun k => x4 (ix2 (i 0) k)) (fun k l => x5 (ix2 k l)) (fun k l => x6 (ix2 k l))
      (fun k l => x7 (ix2 k l)))
    (fun k => x8 (ix2 0 k)) (fun k => x9 (ix2 0 k)) (i 1)

/-- What every piece of the block stores: one chain of operations over the piece's rows. -/
def pieceOut (h : Vec Ideal S256x1024 .f32) (hm oa gm ga : Vec Ideal S256x1024 .bf16) : FVec Ideal S256x1024 .f32 :=
  k0_pay15 (k0_pay13 (k0_pay7 hm (View.ld x5 r0_1) oa (View.ld x6 r0_1) gm ga (View.ld x7 r0_1)) h)
    (View.ld x8 r0_3) (View.ld x9 r0_3)

theorem out_eq : out0_10 x0 x1 x2 x3 x4 x5 x6 x7 x8 x9 = View.canon [
    ⟨r0_5, pieceOut x5 x6 x7 x8 x9 (View.ld x0 r0_5) (View.ld x1 r0_5) (View.ld x2 r0_5) (View.ld x3 r0_5) (View.ld x4 r0_5)⟩,
    ⟨r0_4, pieceOut x5 x6 x7 x8 x9 (View.ld x0 r0_4) (View.ld x1 r0_4) (View.ld x2 r0_4) (View.ld x3 r0_4) (View.ld x4 r0_4)⟩,
    ⟨r0_2, pieceOut x5 x6 x7 x8 x9 (View.ld x0 r0_2) (View.ld x1 r0_2) (View.ld x2 r0_2) (View.ld x3 r0_2) (View.ld x4 r0_2)⟩,
    ⟨r0_0, pieceOut x5 x6 x7 x8 x9 (View.ld x0 r0_0) (View.ld x1 r0_0) (View.ld x2 r0_0) (View.ld x3 r0_0) (View.ld x4 r0_0)⟩] := rfl

theorem piece_apply (o : ℕ) (ho : o + 256 ≤ 1024) (h : Vec Ideal S256x1024 .f32) (hm oa gm ga : Vec Ideal S256x1024 .bf16)
    (h0 : ∀ (r : Fin 256) (k : Fin 1024), h (ix2 r k) = x0 (ix2 ⟨o + r.val, by omega⟩ k))
    (h1 : ∀ (r : Fin 256) (k : Fin 1024), hm (ix2 r k) = x1 (ix2 ⟨o + r.val, by omega⟩ k))
    (h2 : ∀ (r : Fin 256) (k : Fin 1024), oa (ix2 r k) = x2 (ix2 ⟨o + r.val, by omega⟩ k))
    (h3 : ∀ (r : Fin 256) (k : Fin 1024), gm (ix2 r k) = x3 (ix2 ⟨o + r.val, by omega⟩ k))
    (h4 : ∀ (r : Fin 256) (k : Fin 1024), ga (ix2 r k) = x4 (ix2 ⟨o + r.val, by omega⟩ k))
    (r : Fin 256) (j : Fin 1024) :
    pieceOut x5 x6 x7 x8 x9 h hm oa gm ga (ix2 r j) = blockOut x0 x1 x2 x3 x4 x5 x6 x7 x8 x9 (ix2 ⟨o + r.val, by omega⟩ j) := by
  unfold pieceOut
  rw [ln_apply]
  simp only [sum_apply, h0, h1, h2, h3, h4]
  unfold blockOut
  pointwise [r0_3]

theorem piece_at (o : ℕ) (inb : ∀ a, (![o, 0] : Fin S1024x1024.rank → ℕ) a + S256x1024.size a ≤ S1024x1024.size a)
    (x : S256x1024.Idx) :
    pieceOut x5 x6 x7 x8 x9 (View.ld x0 (Rect.unit (s := S1024x1024) ![o, 0] S256x1024.size inb))
        (View.ld x1 (Rect.unit (s := S1024x1024) ![o, 0] S256x1024.size inb))
        (View.ld x2 (Rect.unit (s := S1024x1024) ![o, 0] S256x1024.size inb))
        (View.ld x3 (Rect.unit (s := S1024x1024) ![o, 0] S256x1024.size inb))
        (View.ld x4 (Rect.unit (s := S1024x1024) ![o, 0] S256x1024.size inb)) x
      = blockOut x0 x1 x2 x3 x4 x5 x6 x7 x8 x9 ((Rect.unit (s := S1024x1024) ![o, 0] S256x1024.size inb).emb x) := by
  have ho : o + 256 ≤ 1024 := inb 0
  have hz : ∀ (r : Fin 256) (k : Fin 1024) (a : Fin S1024x1024.rank),
      ((ix2 (⟨o + r.val, by omega⟩ : Fin 1024) k : S1024x1024.Idx) a).val
        = (![o, 0] : Fin S1024x1024.rank → ℕ) a + ((ix2 r k : S256x1024.Idx) a).val := by
    intro r k a
    match a with
    | ⟨0, _⟩ => rfl
    | ⟨1, _⟩ => exact (Nat.zero_add _).symm
  rw [show x = ix2 (x 0) (x 1) from eq_ix2 x]
  refine (piece_apply x0 x1 x2 x3 x4 x5 x6 x7 x8 x9 o ho _ _ _ _ _ (fun r k => View.ld_unit_apply_of _ _ _ _ _ _ (hz r k))
    (fun r k => View.ld_unit_apply_of _ _ _ _ _ _ (hz r k)) (fun r k => View.ld_unit_apply_of _ _ _ _ _ _ (hz r k))
    (fun r k => View.ld_unit_apply_of _ _ _ _ _ _ (hz r k)) (fun r k => View.ld_unit_apply_of _ _ _ _ _ _ (hz r k)) _ _).trans ?_
  exact congrArg _ (funext fun a => Fin.ext ((hz (x 0) (x 1) a).trans (Rect.idx_unit_val _ _ _ _ a).symm))

theorem out_apply (y : S1024x1024.Idx) : out0_10 x0 x1 x2 x3 x4 x5 x6 x7 x8 x9 y = blockOut x0 x1 x2 x3 x4 x5 x6 x7 x8 x9 y := by
  rw [out_eq]
  refine View.canon_apply_of_pieces (Val := Elt Ideal) (e := .f32) (blockOut x0 x1 x2 x3 x4 x5 x6 x7 x8 x9) _ ?_ y (cover0_10 _ _ _ _ y)
  intro p hp x
  simp only [List.mem_cons, List.not_mem_nil, or_false] at hp
  rcases hp with rfl | rfl | rfl | rfl
  · exact piece_at _ _ _ _ _ _ _ _ _ _ 768 _ _
  · exact piece_at _ _ _ _ _ _ _ _ _ _ 512 _ _
  · exact piece_at _ _ _ _ _ _ _ _ _ _ 256 _ _
  · exact piece_at _ _ _ _ _ _ _ _ _ _ 0 _ _

/-- The result, entry by entry, as a function of the arguments of `mix_kernel`. -/
def value (a0 : Vec Ideal S65536x1024 .f32) (a1 a2 a3 a4 : Vec Ideal S65536x1024 .bf16) (a5 a6 a7 : Vec Ideal S1024x1024 .f32)
    (a8 a9 : Vec Ideal S1024 .f32) (i : S65536x1024.Idx) : EReal :=
  layerNorm (mixSum (fun k => a0 (ix2 (i 0) k)) (fun k => a1 (ix2 (i 0) k)) (fun k => a2 (ix2 (i 0) k))
      (fun k => a3 (ix2 (i 0) k)) (fun k => a4 (ix2 (i 0) k)) (fun k l => a5 (ix2 k l)) (fun k l => a6 (ix2 k l))
      (fun k l => a7 (ix2 k l)))
    (fun k => a8 (ix1 k)) (fun k => a9 (ix1 k)) (i 1)

variable (m : (ℓ : Loc nD τ sig) → Buf (Elt Ideal) ℓ)

/-- The block that each window reads or writes at a grid point. -/
theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![0, 0] ∧ win0_6.index t = ![0, 0] ∧ win0_7.index t = ![0, 0] ∧ win0_8.index t = ![0, 0] ∧ win0_9.index t = ![0, 0] ∧ win0_10.index t = ![t.val, 0] :=
  (by decide +kernel : ∀ t : Fin grid0.N, win0_0.index t = ![t.val, 0] ∧ win0_1.index t = ![t.val, 0] ∧ win0_2.index t = ![t.val, 0] ∧ win0_3.index t = ![t.val, 0] ∧ win0_4.index t = ![t.val, 0] ∧ win0_5.index t = ![0, 0] ∧ win0_6.index t = ![0, 0] ∧ win0_7.index t = ![0, 0] ∧ win0_8.index t = ![0, 0] ∧ win0_9.index t = ![0, 0] ∧ win0_10.index t = ![t.val, 0])

theorem read0 (c : Dev nD) (t : Fin cfg0.N) (r k : Fin 1024) :
    (iblk m c 0 t : Vec Ideal S1024x1024 .f32) (ix2 r k)
      = m ((c : Thread nD τ).loc main_arg0) (ix2 (⟨t.val * 1024 + r.val, by have : t.val < 64 := t.isLt; omega⟩ : Fin 65536) k) := by
  obtain ⟨e0, e1, e2, e3, e4, e5, e6, e7, e8, e9, e10⟩ := idx t
  blk_ext! [iblk, V, e0]

theorem read1 (c : Dev nD) (t : Fin cfg0.N) (r k : Fin 1024) :
    (iblk m c 1 t : Vec Ideal S1024x1024 .bf16) (ix2 r k)
      = m ((c : Thread nD τ).loc main_arg1) (ix2 (⟨t.val * 1024 + r.val, by have : t.val < 64 := t.isLt; omega⟩ : Fin 65536) k) := by
  obtain ⟨e0, e1, e2, e3, e4, e5, e6, e7, e8, e9, e10⟩ := idx t
  blk_ext! [iblk, V, e1]

theorem read2 (c : Dev nD) (t : Fin cfg0.N) (r k : Fin 1024) :
    (iblk m c 2 t : Vec Ideal S1024x1024 .bf16) (ix2 r k)
      = m ((c : Thread nD τ).loc main_arg2) (ix2 (⟨t.val * 1024 + r.val, by have : t.val < 64 := t.isLt; omega⟩ : Fin 65536) k) := by
  obtain ⟨e0, e1, e2, e3, e4, e5, e6, e7, e8, e9, e10⟩ := idx t
  blk_ext! [iblk, V, e2]

theorem read3 (c : Dev nD) (t : Fin cfg0.N) (r k : Fin 1024) :
    (iblk m c 3 t : Vec Ideal S1024x1024 .bf16) (ix2 r k)
      = m ((c : Thread nD τ).loc main_arg3) (ix2 (⟨t.val * 1024 + r.val, by have : t.val < 64 := t.isLt; omega⟩ : Fin 65536) k) := by
  obtain ⟨e0, e1, e2, e3, e4, e5, e6, e7, e8, e9, e10⟩ := idx t
  blk_ext! [iblk, V, e3]

theorem read4 (c : Dev nD) (t : Fin cfg0.N) (r k : Fin 1024) :
    (iblk m c 4 t : Vec Ideal S1024x1024 .bf16) (ix2 r k)
      = m ((c : Thread nD τ).loc main_arg4) (ix2 (⟨t.val * 1024 + r.val, by have : t.val < 64 := t.isLt; omega⟩ : Fin 65536) k) := by
  obtain ⟨e0, e1, e2, e3, e4, e5, e6, e7, e8, e9, e10⟩ := idx t
  blk_ext! [iblk, V, e4]

theorem read5 (c : Dev nD) (t : Fin cfg0.N) (k l : Fin 1024) :
    (iblk m c 5 t : Vec Ideal S1024x1024 .bf16) (ix2 k l) = m ((c : Thread nD τ).loc main_arg5) (ix2 k l) := by
  obtain ⟨e0, e1, e2, e3, e4, e5, e6, e7, e8, e9, e10⟩ := idx t
  blk_ext! [iblk, V, e5]

theorem read6 (c : Dev nD) (t : Fin cfg0.N) (k l : Fin 1024) :
    (iblk m c 6 t : Vec Ideal S1024x1024 .bf16) (ix2 k l) = m ((c : Thread nD τ).loc main_arg6) (ix2 k l) := by
  obtain ⟨e0, e1, e2, e3, e4, e5, e6, e7, e8, e9, e10⟩ := idx t
  blk_ext! [iblk, V, e6]

theorem read7 (c : Dev nD) (t : Fin cfg0.N) (k l : Fin 1024) :
    (iblk m c 7 t : Vec Ideal S1024x1024 .bf16) (ix2 k l) = m ((c : Thread nD τ).loc main_arg7) (ix2 k l) := by
  obtain ⟨e0, e1, e2, e3, e4, e5, e6, e7, e8, e9, e10⟩ := idx t
  blk_ext! [iblk, V, e7]

theorem read8 (c : Dev nD) (t : Fin cfg0.N) (k : Fin 1024) :
    (iblk m c 8 t : Vec Ideal S1x1024 .f32) (ix2 0 k) = m ((c : Thread nD τ).loc main_arg8) (ix1 k) := by
  obtain ⟨e0, e1, e2, e3, e4, e5, e6, e7, e8, e9, e10⟩ := idx t
  blk_ext! [iblk, V, e8]

theorem read9 (c : Dev nD) (t : Fin cfg0.N) (k : Fin 1024) :
    (iblk m c 9 t : Vec Ideal S1x1024 .f32) (ix2 0 k) = m ((c : Thread nD τ).loc main_arg9) (ix1 k) := by
  obtain ⟨e0, e1, e2, e3, e4, e5, e6, e7, e8, e9, e10⟩ := idx t
  blk_ext! [iblk, V, e9]

theorem place (t : Fin cfg0.N) (y : S1024x1024.Idx) : (win0_10.blk t).view.emb y
    = ix2 (⟨t.val * 1024 + (y 0).val, by have : t.val < 64 := t.isLt; have := (y 0).isLt; simp at this; omega⟩ : Fin 65536) (y 1) := by
  obtain ⟨e0, e1, e2, e3, e4, e5, e6, e7, e8, e9, e10⟩ := idx t
  blk_ext [e10]

theorem final (c : Dev nD) : (dats m 0 c).arrAt 10 cfg0.N
    = value (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (dats m 0 c).arrAt_eq_of_covers 10 _ (by decide +kernel) fun t hf y => ?_
  blk_simp
  rw [after0_10, out_apply]
  refine Eq.trans ?_ (congrArg _ (place t y).symm)
  unfold blockOut value
  simp only [read5, read6, read7, read8, read9]
  rw [show (fun k => (iblk m c 0 t : Vec Ideal S1024x1024 .f32) (ix2 (y 0) k)) = _ from funext fun k => read0 m c t (y 0) k,
    show (fun k => (iblk m c 1 t : Vec Ideal S1024x1024 .bf16) (ix2 (y 0) k)) = _ from funext fun k => read1 m c t (y 0) k,
    show (fun k => (iblk m c 2 t : Vec Ideal S1024x1024 .bf16) (ix2 (y 0) k)) = _ from funext fun k => read2 m c t (y 0) k,
    show (fun k => (iblk m c 3 t : Vec Ideal S1024x1024 .bf16) (ix2 (y 0) k)) = _ from funext fun k => read3 m c t (y 0) k,
    show (fun k => (iblk m c 4 t : Vec Ideal S1024x1024 .bf16) (ix2 (y 0) k)) = _ from funext fun k => read4 m c t (y 0) k]
  rfl

end Cert.MixIdeal.Hand
end
-- ==== Proof.MixRef.lean ====
/-
  The merging of the two branches as the reference writes it, read entry by entry.
-/
module
public import proofs.«01_k».proof.Proof.Gen.MixRefIdeal.Read
public import proofs.«01_k».proof.Proof.Rows
@[expose] public section
set_option maxRecDepth 16384
noncomputable section
namespace Cert.MixRefIdeal.Hand
open Cert.MixRefIdeal Cert.MixRefIdeal.Gen Cert.MixRefIdeal.Read Idealize.ShloMosaic Idealize.ShloMosaic.TcCoe Idealize.SL.Sem Cert.Rows

variable (a0 : Vec Ideal S65536x1024 .f32) (a1 a2 a3 a4 : Vec Ideal S65536x1024 .bf16) (a5 a6 a7 : Vec Ideal S1024x1024 .f32)
    (a8 a9 : Vec Ideal S1024 .f32)

theorem sum_apply (p : Fin 65536) (j : Fin 1024) : val_main_v12 (F := Ideal) a0 a1 a2 a3 a4 a5 a6 a7 (ix2 p j)
    = mixSum (fun k => a0 (ix2 p k)) (fun k => a1 (ix2 p k)) (fun k => a2 (ix2 p k))
      (fun k => a3 (ix2 p k)) (fun k => a4 (ix2 p k)) (fun k l => a5 (ix2 k l)) (fun k l => a6 (ix2 k l))
      (fun k l => a7 (ix2 k l)) j := by
  pointwise [val_main_v0, val_main_v1, val_main_v2, val_main_v3, val_main_v4, val_main_v5, val_main_v6, val_main_v7, val_main_v8, val_main_v9, val_main_v10, val_main_v11, val_main_v12, val_main_cst, mixSum, dot]

theorem norm_apply (p : Fin 65536) (j : Fin 1024) : val_main_v36 (F := Ideal) a0 a1 a2 a3 a4 a5 a6 a7 a8 a9 (ix2 p j)
    = layerNorm (fun k => val_main_v12 (F := Ideal) a0 a1 a2 a3 a4 a5 a6 a7 (ix2 p k)) (fun k => a8 (ix1 k)) (fun k => a9 (ix1 k)) j := by
  pointwise [val_main_v36, val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_cst_0, val_main_cst_1, val_main_cst_2, val_main_cst_3, val_main_cst_4, layerNorm]

theorem out_apply (p : Fin 65536) (j : Fin 1024) : val_main_v36 (F := Ideal) a0 a1 a2 a3 a4 a5 a6 a7 a8 a9 (ix2 p j)
    = layerNorm (mixSum (fun k => a0 (ix2 p k)) (fun k => a1 (ix2 p k)) (fun k => a2 (ix2 p k))
      (fun k => a3 (ix2 p k)) (fun k => a4 (ix2 p k)) (fun k l => a5 (ix2 k l)) (fun k l => a6 (ix2 k l))
      (fun k l => a7 (ix2 k l))) (fun k => a8 (ix1 k)) (fun k => a9 (ix1 k)) j := by
  rw [norm_apply]
  exact congrArg (fun f => layerNorm f _ _ _) (funext fun k => sum_apply a0 a1 a2 a3 a4 a5 a6 a7 p k)

end Cert.MixRefIdeal.Hand
end
-- ==== Proof.MixClaim.lean ====
/-
  The claims about the merging of the two branches: the programs run and leave their arguments alone, and the kernel's
  result is the reference's.
-/
module
public import proofs.«01_k».proof.Defs
public import proofs.«01_k».proof.Proof.Gen.Mix
public import proofs.«01_k».proof.Proof.Gen.Mix.Frame
public import proofs.«01_k».proof.Proof.Gen.MixIdeal
public import proofs.«01_k».proof.Proof.Gen.MixIdeal.Frame
public import proofs.«01_k».proof.Proof.Gen.MixRefIdeal.Run
public import proofs.«01_k».proof.Proof.Mix
public import proofs.«01_k».proof.Proof.MixRef
public import Idealize.ShloMosaic.Lib.Quiescent
@[expose] public section
noncomputable section
namespace Cert.MixClaim
open Idealize.ShloMosaic Idealize.ShloMosaic.TcCoe Idealize.SL.Sem

theorem quiet_ref : quiescent_MixRefIdeal (hMixRefIdeal := MixRefIdeal.Gen.facts) := fun m g _ =>
  (θ_run MixRefIdeal.defs _ _).mono
    (fun r h => ⟨fun c => (h c).2, Idealize.ShloMosaic.sem_eq_zero_of_no_sems (by decide) r.2⟩)
    (MixRefIdeal.Value.run (F := Ideal) m g)

theorem equal : algebraic_MixIdeal_MixRefIdeal (hMixIdeal := MixIdeal.Gen.facts) (hMixRefIdeal := MixRefIdeal.Gen.facts) := by
  intro m g m' g' _ hagree
  refine ⟨fun c => MixIdeal.Hand.value
    (m ((c.tc : Thread MixIdeal.nD MixIdeal.τ).loc MixIdeal.main_arg0))
    (m ((c.tc : Thread MixIdeal.nD MixIdeal.τ).loc MixIdeal.main_arg1))
    (m ((c.tc : Thread MixIdeal.nD MixIdeal.τ).loc MixIdeal.main_arg2))
    (m ((c.tc : Thread MixIdeal.nD MixIdeal.τ).loc MixIdeal.main_arg3))
    (m ((c.tc : Thread MixIdeal.nD MixIdeal.τ).loc MixIdeal.main_arg4))
    (m ((c.tc : Thread MixIdeal.nD MixIdeal.τ).loc MixIdeal.main_arg5))
    (m ((c.tc : Thread MixIdeal.nD MixIdeal.τ).loc MixIdeal.main_arg6))
    (m ((c.tc : Thread MixIdeal.nD MixIdeal.τ).loc MixIdeal.main_arg7))
    (m ((c.tc : Thread MixIdeal.nD MixIdeal.τ).loc MixIdeal.main_arg8))
    (m ((c.tc : Thread MixIdeal.nD MixIdeal.τ).loc MixIdeal.main_arg9)), ?_, ?_⟩
  · exact (θ_run MixIdeal.defs _ _).mono (fun r h c => ⟨(h c).1.trans (MixIdeal.Hand.final m c), (h c).2⟩)
      (MixIdeal.Value.run_blocks m g)
  · refine (θ_run MixRefIdeal.defs _ _).mono (fun r h c => ⟨(h c).1.trans ?_, (h c).2⟩) (MixRefIdeal.Value.run (F := Ideal) m' g')
    obtain ⟨e0, e1, e2, e3, e4, e5, e6, e7, e8, e9⟩ := hagree c
    refine (MixRefIdeal.Read.val_main_v36_eq m' c).trans ?_
    rw [e0, e1, e2, e3, e4, e5, e6, e7, e8, e9]
    funext i
    refine (congrArg _ (eq_ix2 i)).trans ?_
    exact MixRefIdeal.Hand.out_apply _ _ _ _ _ _ _ _ _ _ (i 0) (i 1)

end Cert.MixClaim
end
-- ==== Proof.Inatt.lean ====
/-
  The attention projections of the kernel: what each result array holds after the run, as a function of the arguments.
-/
module
public import proofs.«01_k».proof.Proof.Gen.InattIdeal.Value
public import proofs.«01_k».proof.Proof.Rows
public import Idealize.ShloMosaic.Lib.Pipeline.ValueKit
public import Idealize.ShloMosaic.Lib.Claim
@[expose] public section
set_option maxRecDepth 16384
noncomputable section
namespace Cert.InattIdeal.Hand
open Cert.InattIdeal Cert.InattIdeal.Gen Idealize.ShloMosaic Idealize.ShloMosaic.TcCoe Idealize.SL.Sem Cert.Rows
open Idealize.ShloMosaic.Pipeline (Dat)

variable (x0 : Vec Ideal S1x512x1024 .f32) (w : Vec Ideal S1024x1024 .bf16)

/-- One entry of a block of projected frames. -/
def dotBlk (i : S1x512x1024.Idx) : EReal := dot (fun k => x0 (ix3 0 (i 1) k)) (fun k l => w (ix2 k l)) (i 2)

/-- The same block with features first. -/
def trBlk (i : S1x1024x512.Idx) : EReal := dot (fun k => x0 (ix3 0 (i 2) k)) (fun k l => w (ix2 k l)) (i 1)

/-- One entry of a block of gates. -/
def gateBlk (i : S1x512x1024.Idx) : EReal := sigm (dotBlk x0 w i)

theorem k0_pay3_apply (o : ℕ) (ho : o + 256 ≤ 1024) (W : Vec Ideal S1024x256 .bf16)
    (hW : ∀ (k : Fin 1024) (l : Fin 256), W (ix2 k l) = w (ix2 k ⟨o + l.val, by omega⟩)) (r : Fin 512) (j : Fin 256) :
    k0_pay3 (k0_pay1 x0) W (ix3 0 r j) = dotBlk x0 w (ix3 0 r ⟨o + j.val, by omega⟩) := by
  unfold_payloads
  pointwise [dotBlk, dot, hW]

theorem k0_pay3_at (o : ℕ) (ho : o + 256 ≤ 1024) (inb : ∀ a, (![0, o] : Fin S1024x1024.rank → ℕ) a + S1024x256.size a ≤ S1024x1024.size a)
    (inb' : ∀ a, (![0, 0, o] : Fin S1x512x1024.rank → ℕ) a + S1x512x256.size a ≤ S1x512x1024.size a) (x : S1x512x256.Idx) :
    k0_pay3 (k0_pay1 x0) (View.ld w (Rect.unit (s := S1024x1024) ![0, o] S1024x256.size inb)) x
      = dotBlk x0 w ((Rect.unit (s := S1x512x1024) ![0, 0, o] S1x512x256.size inb').emb x) := by
  have hx : x = ix3 (0 : Fin 1) (x 1) (x 2) := by
    funext a
    match a with
    | ⟨0, _⟩ => exact Subsingleton.elim (α := Fin 1) _ _
    | ⟨1, _⟩ => rfl
    | ⟨2, _⟩ => rfl
  rw [hx]
  refine (k0_pay3_apply x0 w o ho _ (fun k l => View.ld_unit_apply_of _ _ _ _ _ _ ?_) (x 1) (x 2)).trans ?_
  · intro a
    match a with
    | ⟨0, _⟩ => exact (Nat.zero_add _).symm
    | ⟨1, _⟩ => rfl
  · refine congrArg _ (funext fun a => Fin.ext ?_)
    refine Eq.trans ?_ (Rect.idx_unit_val _ _ _ _ a).symm
    match a with
    | ⟨0, _⟩ => rfl
    | ⟨1, _⟩ => exact (Nat.zero_add _).symm
    | ⟨2, _⟩ => rfl

theorem k0_pay5_apply (o : ℕ) (ho : o + 256 ≤ 1024) (W : Vec Ideal S1024x256 .bf16)
    (hW : ∀ (k : Fin 1024) (l : Fin 256), W (ix2 k l) = w (ix2 k ⟨o + l.val, by omega⟩)) (r : Fin 512) (j : Fin 256) :
    k0_pay5 (k0_pay1 x0) W (ix3 0 r j) = dotBlk x0 w (ix3 0 r ⟨o + j.val, by omega⟩) := by
  unfold_payloads
  pointwise [dotBlk, dot, hW]

theorem k0_pay5_at (o : ℕ) (ho : o + 256 ≤ 1024) (inb : ∀ a, (![0, o] : Fin S1024x1024.rank → ℕ) a + S1024x256.size a ≤ S1024x1024.size a)
    (inb' : ∀ a, (![0, 0, o] : Fin S1x512x1024.rank → ℕ) a + S1x512x256.size a ≤ S1x512x1024.size a) (x : S1x512x256.Idx) :
    k0_pay5 (k0_pay1 x0) (View.ld w (Rect.unit (s := S1024x1024) ![0, o] S1024x256.size inb)) x
      = dotBlk x0 w ((Rect.unit (s := S1x512x1024) ![0, 0, o] S1x512x256.size inb').emb x) := by
  have hx : x = ix3 (0 : Fin 1) (x 1) (x 2) := by
    funext a
    match a with
    | ⟨0, _⟩ => exact Subsingleton.elim (α := Fin 1) _ _
    | ⟨1, _⟩ => rfl
    | ⟨2, _⟩ => rfl
  rw [hx]
  refine (k0_pay5_apply x0 w o ho _ (fun k l => View.ld_unit_apply_of _ _ _ _ _ _ ?_) (x 1) (x 2)).trans ?_
  · intro a
    match a with
    | ⟨0, _⟩ => exact (Nat.zero_add _).symm
    | ⟨1, _⟩ => rfl
  · refine congrArg _ (funext fun a => Fin.ext ?_)
    refine Eq.trans ?_ (Rect.idx_unit_val _ _ _ _ a).symm
    match a with
    | ⟨0, _⟩ => rfl
    | ⟨1, _⟩ => exact (Nat.zero_add _).symm
    | ⟨2, _⟩ => rfl

theorem k0_pay6_apply (o : ℕ) (ho : o + 256 ≤ 1024) (W : Vec Ideal S1024x256 .bf16)
    (hW : ∀ (k : Fin 1024) (l : Fin 256), W (ix2 k l) = w (ix2 k ⟨o + l.val, by omega⟩)) (r : Fin 512) (j : Fin 256) :
    k0_pay6 (k0_pay1 x0) W (ix3 0 j r) = trBlk x0 w (ix3 0 ⟨o + j.val, by omega⟩ r) := by
  unfold_payloads
  pointwise [trBlk, dot, hW]

theorem k0_pay6_at (o : ℕ) (ho : o + 256 ≤ 1024) (inb : ∀ a, (![0, o] : Fin S1024x1024.rank → ℕ) a + S1024x256.size a ≤ S1024x1024.size a)
    (inb' : ∀ a, (![0, o, 0] : Fin S1x1024x512.rank → ℕ) a + S1x256x512.size a ≤ S1x1024x512.size a) (x : S1x256x512.Idx) :
    k0_pay6 (k0_pay1 x0) (View.ld w (Rect.unit (s := S1024x1024) ![0, o] S1024x256.size inb)) x
      = trBlk x0 w ((Rect.unit (s := S1x1024x512) ![0, o, 0] S1x256x512.size inb').emb x) := by
  have hx : x = ix3 (0 : Fin 1) (x 1) (x 2) := by
    funext a
    match a with
    | ⟨0, _⟩ => exact Subsingleton.elim (α := Fin 1) _ _
    | ⟨1, _⟩ => rfl
    | ⟨2, _⟩ => rfl
  rw [hx]
  refine (k0_pay6_apply x0 w o ho _ (fun k l => View.ld_unit_apply_of _ _ _ _ _ _ ?_) (x 2) (x 1)).trans ?_
  · intro a
    match a with
    | ⟨0, _⟩ => exact (Nat.zero_add _).symm
    | ⟨1, _⟩ => rfl
  · refine congrArg _ (funext fun a => Fin.ext ?_)
    refine Eq.trans ?_ (Rect.idx_unit_val _ _ _ _ a).symm
    match a with
    | ⟨0, _⟩ => rfl
    | ⟨1, _⟩ => rfl
    | ⟨2, _⟩ => exact (Nat.zero_add _).symm

theorem k0_pay2_apply (o : ℕ) (ho : o + 256 ≤ 1024) (W : Vec Ideal S1024x256 .bf16)
    (hW : ∀ (k : Fin 1024) (l : Fin 256), W (ix2 k l) = w (ix2 k ⟨o + l.val, by omega⟩)) (r : Fin 512) (j : Fin 256) :
    k0_pay2 (k0_pay1 x0) W (ix3 0 r j) = gateBlk x0 w (ix3 0 r ⟨o + j.val, by omega⟩) := by
  unfold_payloads
  pointwise [gateBlk, dotBlk, sigm, dot, hW]
  simp only [zero_sub]

theorem k0_pay2_at (o : ℕ) (ho : o + 256 ≤ 1024) (inb : ∀ a, (![0, o] : Fin S1024x1024.rank → ℕ) a + S1024x256.size a ≤ S1024x1024.size a)
    (inb' : ∀ a, (![0, 0, o] : Fin S1x512x1024.rank → ℕ) a + S1x512x256.size a ≤ S1x512x1024.size a) (x : S1x512x256.Idx) :
    k0_pay2 (k0_pay1 x0) (View.ld w (Rect.unit (s := S1024x1024) ![0, o] S1024x256.size inb)) x
      = gateBlk x0 w ((Rect.unit (s := S1x512x1024) ![0, 0, o] S1x512x256.size inb').emb x) := by
  have hx : x = ix3 (0 : Fin 1) (x 1) (x 2) := by
    funext a
    match a with
    | ⟨0, _⟩ => exact Subsingleton.elim (α := Fin 1) _ _
    | ⟨1, _⟩ => rfl
    | ⟨2, _⟩ => rfl
  rw [hx]
  refine (k0_pay2_apply x0 w o ho _ (fun k l => View.ld_unit_apply_of _ _ _ _ _ _ ?_) (x 1) (x 2)).trans ?_
  · intro a
    match a with
    | ⟨0, _⟩ => exact (Nat.zero_add _).symm
    | ⟨1, _⟩ => rfl
  · refine congrArg _ (funext fun a => Fin.ext ?_)
    refine Eq.trans ?_ (Rect.idx_unit_val _ _ _ _ a).symm
    match a with
    | ⟨0, _⟩ => rfl
    | ⟨1, _⟩ => exact (Nat.zero_add _).symm
    | ⟨2, _⟩ => rfl

variable (m : (ℓ : Loc nD τ sig) → Buf (Elt Ideal) ℓ)

/-- The block that each window reads or writes at a grid point. -/
theorem idx : ∀ t : Fin cfg0.N, win0_0.index t = ![t.val / 4, t.val % 4, 0]
    ∧ win0_1.index t = ![0, 4]
    ∧ win0_2.index t = ![0, 5]
    ∧ win0_3.index t = ![0, 6]
    ∧ win0_4.index t = ![0, 7]
    ∧ win0_5.index t = ![0, 8]
    ∧ win0_6.index t = ![t.val / 4, t.val % 4, 0]
    ∧ win0_7.index t = ![t.val / 4, 0, t.val % 4]
    ∧ win0_8.index t = ![t.val / 4, t.val % 4, 0]
    ∧ win0_9.index t = ![t.val / 4, 0, 0]
    ∧ win0_10.index t = ![t.val / 4, 0, 0]
    ∧ win0_11.index t = ![t.val / 4, t.val % 4, 0]
    ∧ win0_12.index t = ![t.val / 4, t.val % 4, 0] :=
  (by decide +kernel : ∀ t : Fin grid0.N, win0_0.index t = ![t.val / 4, t.val % 4, 0]
    ∧ win0_1.index t = ![0, 4]
    ∧ win0_2.index t = ![0, 5]
    ∧ win0_3.index t = ![0, 6]
    ∧ win0_4.index t = ![0, 7]
    ∧ win0_5.index t = ![0, 8]
    ∧ win0_6.index t = ![t.val / 4, t.val % 4, 0]
    ∧ win0_7.index t = ![t.val / 4, 0, t.val % 4]
    ∧ win0_8.index t = ![t.val / 4, t.val % 4, 0]
    ∧ win0_9.index t = ![t.val / 4, 0, 0]
    ∧ win0_10.index t = ![t.val / 4, 0, 0]
    ∧ win0_11.index t = ![t.val / 4, t.val % 4, 0]
    ∧ win0_12.index t = ![t.val / 4, t.val % 4, 0])

theorem read0 (c : Dev nD) (t : Fin cfg0.N) (r : Fin 512) (k : Fin 1024) :
    (iblk m c 0 t : Vec Ideal S1x512x1024 .f32) (ix3 0 r k)
      = m ((c : Thread nD τ).loc main_arg0) (ix3 ⟨t.val / 4, by have : t.val < 128 := t.isLt; omega⟩
          ⟨t.val % 4 * 512 + r.val, by omega⟩ k) := by
  obtain ⟨e0, e1, e2, e3, e4, e5, e6, e7, e8, e9, e10, e11, e12⟩ := idx t
  blk_ext! [iblk, V, e0]

theorem read1 (c : Dev nD) (t : Fin cfg0.N) (k l : Fin 1024) :
    (iblk m c 1 t : Vec Ideal S1024x1024 .bf16) (ix2 k l) = m ((c : Thread nD τ).loc main_arg1) (ix2 k ⟨4096 + l.val, by omega⟩) := by
  obtain ⟨e0, e1, e2, e3, e4, e5, e6, e7, e8, e9, e10, e11, e12⟩ := idx t
  blk_ext! [iblk, V, e1]

theorem read2 (c : Dev nD) (t : Fin cfg0.N) (k l : Fin 1024) :
    (iblk m c 2 t : Vec Ideal S1024x1024 .bf16) (ix2 k l) = m ((c : Thread nD τ).loc main_arg1) (ix2 k ⟨5120 + l.val, by omega⟩) := by
  obtain ⟨e0, e1, e2, e3, e4, e5, e6, e7, e8, e9, e10, e11, e12⟩ := idx t
  blk_ext! [iblk, V, e2]

theorem read3 (c : Dev nD) (t : Fin cfg0.N) (k l : Fin 1024) :
    (iblk m c 3 t : Vec Ideal S1024x1024 .bf16) (ix2 k l) = m ((c : Thread nD τ).loc main_arg1) (ix2 k ⟨6144 + l.val, by omega⟩) := by
  obtain ⟨e0, e1, e2, e3, e4, e5, e6, e7, e8, e9, e10, e11, e12⟩ := idx t
  blk_ext! [iblk, V, e3]

theorem read4 (c : Dev nD) (t : Fin cfg0.N) (k l : Fin 1024) :
    (iblk m c 4 t : Vec Ideal S1024x1024 .bf16) (ix2 k l) = m ((c : Thread nD τ).loc main_arg1) (ix2 k ⟨7168 + l.val, by omega⟩) := by
  obtain ⟨e0, e1, e2, e3, e4, e5, e6, e7, e8, e9, e10, e11, e12⟩ := idx t
  blk_ext! [iblk, V, e4]

theorem read5 (c : Dev nD) (t : Fin cfg0.N) (k l : Fin 1024) :
    (iblk m c 5 t : Vec Ideal S1024x1024 .bf16) (ix2 k l) = m ((c : Thread nD τ).loc main_arg1) (ix2 k ⟨8192 + l.val, by omega⟩) := by
  obtain ⟨e0, e1, e2, e3, e4, e5, e6, e7, e8, e9, e10, e11, e12⟩ := idx t
  blk_ext! [iblk, V, e5]

/-- The results, entry by entry, as functions of the arguments of `inatt_kernel`: projected frames (`o` the first column of
    the weights, `p` the first frame), the same with features first, and the gates. -/
def dots (o : ℕ) (ho : o + 1024 ≤ 9216) (T p : ℕ) (hp : p + T ≤ 2048) (a0 : Vec Ideal S32x2048x1024 .f32) (a1 : Vec Ideal S1024x9216 .bf16)
    (b : Fin 32) (t : Fin T) (j : Fin 1024) : EReal :=
  dot (fun k => a0 (ix3 b ⟨p + t.val, by omega⟩ k)) (fun k l => a1 (ix2 k ⟨o + l.val, by omega⟩)) j

/-- Result 0. -/
def value6 (a0 : Vec Ideal S32x2048x1024 .f32) (a1 : Vec Ideal S1024x9216 .bf16) (i : S32x2048x1024.Idx) : EReal :=
  dots 4096 (by decide) 2048 0 (by decide) a0 a1 (i 0) (i 1) (i 2)

theorem pieces6 (c : Dev nD) (t : Fin cfg0.N) : (outsAt0 m c t).1 = View.canon (Val := Elt Ideal) (e := .bf16) [
    ⟨Rect.unit (s := S1x512x1024) ![0, 0, 768] S1x512x256.size inb_S1x512x1024_S1x512x256_0_0_768, k0_pay3 (k0_pay1 (iblk m c 0 t)) (View.ld (iblk m c 1 t) (Rect.unit (s := S1024x1024) ![0, 768] S1024x256.size inb_S1024x1024_S1024x256_0_768))⟩,
    ⟨Rect.unit (s := S1x512x1024) ![0, 0, 512] S1x512x256.size inb_S1x512x1024_S1x512x256_0_0_512, k0_pay3 (k0_pay1 (iblk m c 0 t)) (View.ld (iblk m c 1 t) (Rect.unit (s := S1024x1024) ![0, 512] S1024x256.size inb_S1024x1024_S1024x256_0_512))⟩,
    ⟨Rect.unit (s := S1x512x1024) ![0, 0, 256] S1x512x256.size inb_S1x512x1024_S1x512x256_0_0_256, k0_pay3 (k0_pay1 (iblk m c 0 t)) (View.ld (iblk m c 1 t) (Rect.unit (s := S1024x1024) ![0, 256] S1024x256.size inb_S1024x1024_S1024x256_0_256))⟩,
    ⟨Rect.unit (s := S1x512x1024) ![0, 0, 0] S1x512x256.size inb_S1x512x1024_S1x512x256_0_0_0, k0_pay3 (k0_pay1 (iblk m c 0 t)) (View.ld (iblk m c 1 t) (Rect.unit (s := S1024x1024) ![0, 0] S1024x256.size inb_S1024x1024_S1024x256_0_0))⟩] := by
  unfold outsAt0
  dsimp only
  frame_out
  rfl

theorem out6 (c : Dev nD) (t : Fin cfg0.N) (y : S1x512x1024.Idx) :
    (outsAt0 m c t).1 y = dotBlk (iblk m c 0 t) (iblk m c 1 t) y := by
  rw [pieces6]
  refine View.canon_apply_of_pieces (Val := Elt Ideal) (e := .bf16) (dotBlk (iblk m c 0 t) (iblk m c 1 t)) _ ?_ y ?_
  swap; · exact View.cover_of_tiled _ ![1, 512, 256] (by rfl) y
  intro p hp x
  simp only [List.mem_cons, List.not_mem_nil, or_false] at hp
  rcases hp with rfl | rfl | rfl | rfl
  · exact k0_pay3_at _ _ 768 (by decide) _ inb_S1x512x1024_S1x512x256_0_0_768 x
  · exact k0_pay3_at _ _ 512 (by decide) _ inb_S1x512x1024_S1x512x256_0_0_512 x
  · exact k0_pay3_at _ _ 256 (by decide) _ inb_S1x512x1024_S1x512x256_0_0_256 x
  · exact k0_pay3_at _ _ 0 (by decide) _ inb_S1x512x1024_S1x512x256_0_0_0 x

theorem place6 (t : Fin cfg0.N) (y : S1x512x1024.Idx) : (win0_6.blk t).view.emb y
    = ix3 (⟨t.val / 4, by have : t.val < 128 := t.isLt; omega⟩ : Fin 32) (⟨t.val % 4 * 512 + (y 1).val, by have := (y 1).isLt; simp at this; omega⟩ : Fin 2048) (y 2) := by
  obtain ⟨e0, e1, e2, e3, e4, e5, e6, e7, e8, e9, e10, e11, e12⟩ := idx t
  blk_ext [e6]

theorem final6 (c : Dev nD) : (dats m 0 c).arrAt 6 cfg0.N
    = value6 (m ((c : Thread nD τ).loc main_arg0)) (m ((c : Thread nD τ).loc main_arg1)) := by
  refine (dats m 0 c).arrAt_eq_of_covers 6 _ (by decide +kernel) fun t hf y => ?_
  blk_simp
  rw [after0_6, out6]
  refine Eq.trans ?_ (congrArg _ (place6 t y).symm)
  unfold dotBlk value6 dots
  simp only [read1]
  refine congrArg (fun f => dot f _ _) (funext fun k => (read0 m c t (y 1) k).trans ?_)
  exact congrArg (fun q => m ((c : Thread nD τ).loc main_arg0) (ix3 _ q k)) (Fin.ext ((Nat.zero_add _).symm))

/-- Result 1. -/
def value7 (a0 : Vec Ideal S32x2048x1024 .f32) (a1 : Vec Ideal S1024x9216 .bf16) (i : S32x1024x2048.Idx) : EReal :=
  dots 5120 (by decide) 2048 0 (by decide) a0 a1 (i 0) (i 2) (i 1)

theorem pieces7 (c : Dev nD) (t : Fin cfg0.N) : (outsAt0 m c t).2.1 = View.canon (Val := Elt Ideal) (e := .bf16) [
    ⟨Rect.unit (s := S1x1024x512) ![0, 768, 0] S1x256x512.size inb_S1x1024x512_S1x256x512_0_768_0, k0_pay6 (k0_pay1 (iblk m c 0 t)) (View.ld (iblk m c 2 t) (Rect.unit (s := S1024x1024) ![0, 768] S1024x256.size inb_S1024x1024_S1024x256_0_768))⟩,
    ⟨Rect.unit (s := S1x1024x512) ![0, 512, 0] S1x256x512.size inb_S1x1024x512_S1x256x512_0_512_0, k0_pay6 (k0_pay1 (iblk m c 0 t)) (View.ld (iblk m c 2 t) (Rect.unit (s := S1024x1024) ![0, 512] S1024x256.size inb_S1024x1024_S1024x256_0_512))⟩,
    ⟨Rect.unit (s := S1x1024x512) ![0, 256, 0] S1x256x512.size inb_S1x1024x512_S1x256x512_0_256_0, k0_pay6 (k0_pay1 (iblk m c 0 t)) (View.ld (iblk m c 2 t) (Rect.unit (s := S1024x1024) ![0, 256] S1024x256.size inb_S1024x1024_S1024x256_0_256))⟩,
    ⟨Rect.unit (s := S1x1024x512) ![0, 0, 0] S1x256x512.size inb_S1x1024x512_S1x256x512_0_0_0, k0_pay6 (k0_pay1 (iblk m c 0 t)) (View.ld (iblk m c 2 t) (Rect.unit (s := S1024x1024) ![0, 0] S1024x256.size inb_S1024x1024_S1024x256_0_0))⟩] := by
  unfold outsAt0
  dsimp only
  frame_out
  rfl

theorem out7 (c : Dev nD) (t : Fin cfg0.N) (y : S1x1024x512.Idx) :
    (outsAt0 m c t).2.1 y = trBlk (iblk m c 0 t) (iblk m c 2 t) y := by
  rw [pieces7]
  refine View.canon_apply_of_pieces (Val := Elt Ideal) (e := .bf16) (trBlk (iblk m c 0 t) (iblk m c 2 t)) _ ?_ y ?_
  swap; · exact View.cover_of_tiled _ ![1, 256, 512] (by rfl) y
  intro p hp x
  simp only [List.mem_cons, List.not_mem_nil, or_false] at hp
  rcases hp with rfl | rfl | rfl | rfl
  · exact k0_pay6_at _ _ 768 (by decide) _ inb_S1x1024x512_S1x256x512_0_768_0 x
  · exact k0_pay6_at _ _ 512 (by decide) _ inb_S1x1024x512_S1x256x512_0_512_0 x
  · exact k0_pay6_at _ _ 256 (by decide) _ inb_S1x1024x512_S1x256x512_0_256_0 x
  · exact k0_pay6_at _ _ 0 (by decide) _ inb_S1x1024x512_S1x256x512_0_0_0 x

theorem place7 (t : Fin cfg0.N) (y : S1x1024x512.Idx) : (win0_7.blk t).view.emb y
    = ix3 (⟨t.val / 4, by have : t.val < 128 := t.isLt; omega⟩ : Fin 32) (y 1) (⟨t.val % 4 * 512 + (y 2).val, by have := (y 2).isLt; simp at this; omega⟩ : Fin 2048) := by
  obtain ⟨e0, e1, e2, e3, e4, e5, e6, e7, e8, e9, e10, e11, e12⟩ := idx t
  blk_ext [e7]

theorem final7 (c : Dev nD) : (dats m 0 c).arrAt 7 cfg0.N
    = value7 (m ((c : Thread nD τ).loc main_arg0)) (m ((c : Thread nD τ).loc main_arg1)) := by
  refine (dats m 0 c).arrAt_eq_of_covers 7 _ (by decide +kernel) fun t hf y => ?_
  blk_simp
  rw [after0_7, out7]
  refine Eq.trans ?_ (congrArg _ (place7 t y).symm)
  unfold trBlk value7 dots
  simp only [read2]
  refine congrArg (fun f => dot f _ _) (funext fun k => (read0 m c t (y 2) k).trans ?_)
  exact congrArg (fun q => m ((c : Thread nD τ).loc main_arg0) (ix3 _ q k)) (Fin.ext ((Nat.zero_add _).symm))

/-- Result 2. -/
def value8 (a0 : Vec Ideal S32x2048x1024 .f32) (a1 : Vec Ideal S1024x9216 .bf16) (i : S32x2048x1024.Idx) : EReal :=
  dots 6144 (by decide) 2048 0 (by decide) a0 a1 (i 0) (i 1) (i 2)

theorem pieces8 (c : Dev nD) (t : Fin cfg0.N) : (outsAt0 m c t).2.2.1 = View.canon (Val := Elt Ideal) (e := .bf16) [
    ⟨Rect.unit (s := S1x512x1024) ![0, 0, 768] S1x512x256.size inb_S1x512x1024_S1x512x256_0_0_768, k0_pay3 (k0_pay1 (iblk m c 0 t)) (View.ld (iblk m c 3 t) (Rect.unit (s := S1024x1024) ![0, 768] S1024x256.size inb_S1024x1024_S1024x256_0_768))⟩,
    ⟨Rect.unit (s := S1x512x1024) ![0, 0, 512] S1x512x256.size inb_S1x512x1024_S1x512x256_0_0_512, k0_pay3 (k0_pay1 (iblk m c 0 t)) (View.ld (iblk m c 3 t) (Rect.unit (s := S1024x1024) ![0, 512] S1024x256.size inb_S1024x1024_S1024x256_0_512))⟩,
    ⟨Rect.unit (s := S1x512x1024) ![0, 0, 256] S1x512x256.size inb_S1x512x1024_S1x512x256_0_0_256, k0_pay3 (k0_pay1 (iblk m c 0 t)) (View.ld (iblk m c 3 t) (Rect.unit (s := S1024x1024) ![0, 256] S1024x256.size inb_S1024x1024_S1024x256_0_256))⟩,
    ⟨Rect.unit (s := S1x512x1024) ![0, 0, 0] S1x512x256.size inb_S1x512x1024_S1x512x256_0_0_0, k0_pay3 (k0_pay1 (iblk m c 0 t)) (View.ld (iblk m c 3 t) (Rect.unit (s := S1024x1024) ![0, 0] S1024x256.size inb_S1024x1024_S1024x256_0_0))⟩] := by
  unfold outsAt0
  dsimp only
  frame_out
  rfl

theorem out8 (c : Dev nD) (t : Fin cfg0.N) (y : S1x512x1024.Idx) :
    (outsAt0 m c t).2.2.1 y = dotBlk (iblk m c 0 t) (iblk m c 3 t) y := by
  rw [pieces8]
  refine View.canon_apply_of_pieces (Val := Elt Ideal) (e := .bf16) (dotBlk (iblk m c 0 t) (iblk m c 3 t)) _ ?_ y ?_
  swap; · exact View.cover_of_tiled _ ![1, 512, 256] (by rfl) y
  intro p hp x
  simp only [List.mem_cons, List.not_mem_nil, or_false] at hp
  rcases hp with rfl | rfl | rfl | rfl
  · exact k0_pay3_at _ _ 768 (by decide) _ inb_S1x512x1024_S1x512x256_0_0_768 x
  · exact k0_pay3_at _ _ 512 (by decide) _ inb_S1x512x1024_S1x512x256_0_0_512 x
  · exact k0_pay3_at _ _ 256 (by decide) _ inb_S1x512x1024_S1x512x256_0_0_256 x
  · exact k0_pay3_at _ _ 0 (by decide) _ inb_S1x512x1024_S1x512x256_0_0_0 x

theorem place8 (t : Fin cfg0.N) (y : S1x512x1024.Idx) : (win0_8.blk t).view.emb y
    = ix3 (⟨t.val / 4, by have : t.val < 128 := t.isLt; omega⟩ : Fin 32) (⟨t.val % 4 * 512 + (y 1).val, by have := (y 1).isLt; simp at this; omega⟩ : Fin 2048) (y 2) := by
  obtain ⟨e0, e1, e2, e3, e4, e5, e6, e7, e8, e9, e10, e11, e12⟩ := idx t
  blk_ext [e8]

theorem final8 (c : Dev nD) : (dats m 0 c).arrAt 8 cfg0.N
    = value8 (m ((c : Thread nD τ).loc main_arg0)) (m ((c : Thread nD τ).loc main_arg1)) := by
  refine (dats m 0 c).arrAt_eq_of_covers 8 _ (by decide +kernel) fun t hf y => ?_
  blk_simp
  rw [after0_8, out8]
  refine Eq.trans ?_ (congrArg _ (place8 t y).symm)
  unfold dotBlk value8 dots
  simp only [read3]
  refine congrArg (fun f => dot f _ _) (funext fun k => (read0 m c t (y 1) k).trans ?_)
  exact congrArg (fun q => m ((c : Thread nD τ).loc main_arg0) (ix3 _ q k)) (Fin.ext ((Nat.zero_add _).symm))

/-- Result 3. -/
def value9 (a0 : Vec Ideal S32x2048x1024 .f32) (a1 : Vec Ideal S1024x9216 .bf16) (i : S32x512x1024.Idx) : EReal :=
  dots 5120 (by decide) 512 1536 (by decide) a0 a1 (i 0) (i 1) (i 2)

theorem pieces9 (c : Dev nD) (t : Fin cfg0.N) : (outsAt0 m c t).2.2.2.1 = View.canon (Val := Elt Ideal) (e := .f32) [
    ⟨Rect.unit (s := S1x512x1024) ![0, 0, 768] S1x512x256.size inb_S1x512x1024_S1x512x256_0_0_768, k0_pay5 (k0_pay1 (iblk m c 0 t)) (View.ld (iblk m c 2 t) (Rect.unit (s := S1024x1024) ![0, 768] S1024x256.size inb_S1024x1024_S1024x256_0_768))⟩,
    ⟨Rect.unit (s := S1x512x1024) ![0, 0, 512] S1x512x256.size inb_S1x512x1024_S1x512x256_0_0_512, k0_pay5 (k0_pay1 (iblk m c 0 t)) (View.ld (iblk m c 2 t) (Rect.unit (s := S1024x1024) ![0, 512] S1024x256.size inb_S1024x1024_S1024x256_0_512))⟩,
    ⟨Rect.unit (s := S1x512x1024) ![0, 0, 256] S1x512x256.size inb_S1x512x1024_S1x512x256_0_0_256, k0_pay5 (k0_pay1 (iblk m c 0 t)) (View.ld (iblk m c 2 t) (Rect.unit (s := S1024x1024) ![0, 256] S1024x256.size inb_S1024x1024_S1024x256_0_256))⟩,
    ⟨Rect.unit (s := S1x512x1024) ![0, 0, 0] S1x512x256.size inb_S1x512x1024_S1x512x256_0_0_0, k0_pay5 (k0_pay1 (iblk m c 0 t)) (View.ld (iblk m c 2 t) (Rect.unit (s := S1024x1024) ![0, 0] S1024x256.size inb_S1024x1024_S1024x256_0_0))⟩] := by
  unfold outsAt0
  dsimp only
  frame_out
  rfl

theorem out9 (c : Dev nD) (t : Fin cfg0.N) (y : S1x512x1024.Idx) :
    (outsAt0 m c t).2.2.2.1 y = dotBlk (iblk m c 0 t) (iblk m c 2 t) y := by
  rw [pieces9]
  refine View.canon_apply_of_pieces (Val := Elt Ideal) (e := .f32) (dotBlk (iblk m c 0 t) (iblk m c 2 t)) _ ?_ y ?_
  swap; · exact View.cover_of_tiled _ ![1, 512, 256] (by rfl) y
  intro p hp x
  simp only [List.mem_cons, List.not_mem_nil, or_false] at hp
  rcases hp with rfl | rfl | rfl | rfl
  · exact k0_pay5_at _ _ 768 (by decide) _ inb_S1x512x1024_S1x512x256_0_0_768 x
  · exact k0_pay5_at _ _ 512 (by decide) _ inb_S1x512x1024_S1x512x256_0_0_512 x
  · exact k0_pay5_at _ _ 256 (by decide) _ inb_S1x512x1024_S1x512x256_0_0_256 x
  · exact k0_pay5_at _ _ 0 (by decide) _ inb_S1x512x1024_S1x512x256_0_0_0 x

theorem place9 (t : Fin cfg0.N) (y : S1x512x1024.Idx) : (win0_9.blk t).view.emb y
    = ix3 (⟨t.val / 4, by have : t.val < 128 := t.isLt; omega⟩ : Fin 32) (y 1) (y 2) := by
  obtain ⟨e0, e1, e2, e3, e4, e5, e6, e7, e8, e9, e10, e11, e12⟩ := idx t
  blk_ext [e9]

theorem final9 (c : Dev nD) : (dats m 0 c).arrAt 9 cfg0.N
    = value9 (m ((c : Thread nD τ).loc main_arg0)) (m ((c : Thread nD τ).loc main_arg1)) := by
  refine (dats m 0 c).arrAt_eq_of_covers 9 _ (by decide +kernel) fun t hf y => ?_
  blk_simp
  have hl : t.val % 4 = 3 := (by decide +kernel : ∀ t : Fin grid0.N, (cfg0.win 9).flush t = true → t.val % 4 = 3) t hf
  rw [after0_9, out9]
  refine Eq.trans ?_ (congrArg _ (place9 t y).symm)
  unfold dotBlk value9 dots
  simp only [read2]
  refine congrArg (fun f => dot f _ _) (funext fun k => (read0 m c t (y 1) k).trans ?_)
  exact congrArg (fun q => m ((c : Thread nD τ).loc main_arg0) (ix3 _ q k)) (Fin.ext (congrArg (fun a => a * 512 + (y 1).val) hl))

/-- Result 4. -/
def value10 (a0 : Vec Ideal S32x2048x1024 .f32) (a1 : Vec Ideal S1024x9216 .bf16) (i : S32x512x1024.Idx) : EReal :=
  dots 6144 (by decide) 512 1536 (by decide) a0 a1 (i 0) (i 1) (i 2)

theorem pieces10 (c : Dev nD) (t : Fin cfg0.N) : (outsAt0 m c t).2.2.2.2.1 = View.canon (Val := Elt Ideal) (e := .f32) [
    ⟨Rect.unit (s := S1x512x1024) ![0, 0, 768] S1x512x256.size inb_S1x512x1024_S1x512x256_0_0_768, k0_pay5 (k0_pay1 (iblk m c 0 t)) (View.ld (iblk m c 3 t) (Rect.unit (s := S1024x1024) ![0, 768] S1024x256.size inb_S1024x1024_S1024x256_0_768))⟩,
    ⟨Rect.unit (s := S1x512x1024) ![0, 0, 512] S1x512x256.size inb_S1x512x1024_S1x512x256_0_0_512, k0_pay5 (k0_pay1 (iblk m c 0 t)) (View.ld (iblk m c 3 t) (Rect.unit (s := S1024x1024) ![0, 512] S1024x256.size inb_S1024x1024_S1024x256_0_512))⟩,
    ⟨Rect.unit (s := S1x512x1024) ![0, 0, 256] S1x512x256.size inb_S1x512x1024_S1x512x256_0_0_256, k0_pay5 (k0_pay1 (iblk m c 0 t)) (View.ld (iblk m c 3 t) (Rect.unit (s := S1024x1024) ![0, 256] S1024x256.size inb_S1024x1024_S1024x256_0_256))⟩,
    ⟨Rect.unit (s := S1x512x1024) ![0, 0, 0] S1x512x256.size inb_S1x512x1024_S1x512x256_0_0_0, k0_pay5 (k0_pay1 (iblk m c 0 t)) (View.ld (iblk m c 3 t) (Rect.unit (s := S1024x1024) ![0, 0] S1024x256.size inb_S1024x1024_S1024x256_0_0))⟩] := by
  unfold outsAt0
  dsimp only
  frame_out
  rfl

theorem out10 (c : Dev nD) (t : Fin cfg0.N) (y : S1x512x1024.Idx) :
    (outsAt0 m c t).2.2.2.2.1 y = dotBlk (iblk m c 0 t) (iblk m c 3 t) y := by
  rw [pieces10]
  refine View.canon_apply_of_pieces (Val := Elt Ideal) (e := .f32) (dotBlk (iblk m c 0 t) (iblk m c 3 t)) _ ?_ y ?_
  swap; · exact View.cover_of_tiled _ ![1, 512, 256] (by rfl) y
  intro p hp x
  simp only [List.mem_cons, List.not_mem_nil, or_false] at hp
  rcases hp with rfl | rfl | rfl | rfl
  · exact k0_pay5_at _ _ 768 (by decide) _ inb_S1x512x1024_S1x512x256_0_0_768 x
  · exact k0_pay5_at _ _ 512 (by decide) _ inb_S1x512x1024_S1x512x256_0_0_512 x
  · exact k0_pay5_at _ _ 256 (by decide) _ inb_S1x512x1024_S1x512x256_0_0_256 x
  · exact k0_pay5_at _ _ 0 (by decide) _ inb_S1x512x1024_S1x512x256_0_0_0 x

theorem place10 (t : Fin cfg0.N) (y : S1x512x1024.Idx) : (win0_10.blk t).view.emb y
    = ix3 (⟨t.val / 4, by have : t.val < 128 := t.isLt; omega⟩ : Fin 32) (y 1) (y 2) := by
  obtain ⟨e0, e1, e2, e3, e4, e5, e6, e7, e8, e9, e10, e11, e12⟩ := idx t
  blk_ext [e10]

theorem final10 (c : Dev nD) : (dats m 0 c).arrAt 10 cfg0.N
    = value10 (m ((c : Thread nD τ).loc main_arg0)) (m ((c : Thread nD τ).loc main_arg1)) := by
  refine (dats m 0 c).arrAt_eq_of_covers 10 _ (by decide +kernel) fun t hf y => ?_
  blk_simp
  have hl : t.val % 4 = 3 := (by decide +kernel : ∀ t : Fin grid0.N, (cfg0.win 10).flush t = true → t.val % 4 = 3) t hf
  rw [after0_10, out10]
  refine Eq.trans ?_ (congrArg _ (place10 t y).symm)
  unfold dotBlk value10 dots
  simp only [read3]
  refine congrArg (fun f => dot f _ _) (funext fun k => (read0 m c t (y 1) k).trans ?_)
  exact congrArg (fun q => m ((c : Thread nD τ).loc main_arg0) (ix3 _ q k)) (Fin.ext (congrArg (fun a => a * 512 + (y 1).val) hl))

/-- Result 5. -/
def value11 (a0 : Vec Ideal S32x2048x1024 .f32) (a1 : Vec Ideal S1024x9216 .bf16) (i : S32x2048x1024.Idx) : EReal :=
  sigm (dots 7168 (by decide) 2048 0 (by decide) a0 a1 (i 0) (i 1) (i 2))

theorem pieces11 (c : Dev nD) (t : Fin cfg0.N) : (outsAt0 m c t).2.2.2.2.2.1 = View.canon (Val := Elt Ideal) (e := .bf16) [
    ⟨Rect.unit (s := S1x512x1024) ![0, 0, 768] S1x512x256.size inb_S1x512x1024_S1x512x256_0_0_768, k0_pay2 (k0_pay1 (iblk m c 0 t)) (View.ld (iblk m c 4 t) (Rect.unit (s := S1024x1024) ![0, 768] S1024x256.size inb_S1024x1024_S1024x256_0_768))⟩,
    ⟨Rect.unit (s := S1x512x1024) ![0, 0, 512] S1x512x256.size inb_S1x512x1024_S1x512x256_0_0_512, k0_pay2 (k0_pay1 (iblk m c 0 t)) (View.ld (iblk m c 4 t) (Rect.unit (s := S1024x1024) ![0, 512] S1024x256.size inb_S1024x1024_S1024x256_0_512))⟩,
    ⟨Rect.unit (s := S1x512x1024) ![0, 0, 256] S1x512x256.size inb_S1x512x1024_S1x512x256_0_0_256, k0_pay2 (k0_pay1 (iblk m c 0 t)) (View.ld (iblk m c 4 t) (Rect.unit (s := S1024x1024) ![0, 256] S1024x256.size inb_S1024x1024_S1024x256_0_256))⟩,
    ⟨Rect.unit (s := S1x512x1024) ![0, 0, 0] S1x512x256.size inb_S1x512x1024_S1x512x256_0_0_0, k0_pay2 (k0_pay1 (iblk m c 0 t)) (View.ld (iblk m c 4 t) (Rect.unit (s := S1024x1024) ![0, 0] S1024x256.size inb_S1024x1024_S1024x256_0_0))⟩] := by
  unfold outsAt0
  dsimp only
  frame_out
  rfl

theorem out11 (c : Dev nD) (t : Fin cfg0.N) (y : S1x512x1024.Idx) :
    (outsAt0 m c t).2.2.2.2.2.1 y = gateBlk (iblk m c 0 t) (iblk m c 4 t) y := by
  rw [pieces11]
  refine View.canon_apply_of_pieces (Val := Elt Ideal) (e := .bf16) (gateBlk (iblk m c 0 t) (iblk m c 4 t)) _ ?_ y ?_
  swap; · exact View.cover_of_tiled _ ![1, 512, 256] (by rfl) y
  intro p hp x
  simp only [List.mem_cons, List.not_mem_nil, or_false] at hp
  rcases hp with rfl | rfl | rfl | rfl
  · exact k0_pay2_at _ _ 768 (by decide) _ inb_S1x512x1024_S1x512x256_0_0_768 x
  · exact k0_pay2_at _ _ 512 (by decide) _ inb_S1x512x1024_S1x512x256_0_0_512 x
  · exact k0_pay2_at _ _ 256 (by decide) _ inb_S1x512x1024_S1x512x256_0_0_256 x
  · exact k0_pay2_at _ _ 0 (by decide) _ inb_S1x512x1024_S1x512x256_0_0_0 x

theorem place11 (t : Fin cfg0.N) (y : S1x512x1024.Idx) : (win0_11.blk t).view.emb y
    = ix3 (⟨t.val / 4, by have : t.val < 128 := t.isLt; omega⟩ : Fin 32) (⟨t.val % 4 * 512 + (y 1).val, by have := (y 1).isLt; simp at this; omega⟩ : Fin 2048) (y 2) := by
  obtain ⟨e0, e1, e2, e3, e4, e5, e6, e7, e8, e9, e10, e11, e12⟩ := idx t
  blk_ext [e11]

theorem final11 (c : Dev nD) : (dats m 0 c).arrAt 11 cfg0.N
    = value11 (m ((c : Thread nD τ).loc main_arg0)) (m ((c : Thread nD τ).loc main_arg1)) := by
  refine (dats m 0 c).arrAt_eq_of_covers 11 _ (by decide +kernel) fun t hf y => ?_
  blk_simp
  rw [after0_11, out11]
  refine Eq.trans ?_ (congrArg _ (place11 t y).symm)
  unfold gateBlk dotBlk value11 dots
  simp only [read4]
  refine congrArg (fun f => sigm (dot f _ _)) (funext fun k => (read0 m c t (y 1) k).trans ?_)
  exact congrArg (fun q => m ((c : Thread nD τ).loc main_arg0) (ix3 _ q k)) (Fin.ext ((Nat.zero_add _).symm))

/-- Result 6. -/
def value12 (a0 : Vec Ideal S32x2048x1024 .f32) (a1 : Vec Ideal S1024x9216 .bf16) (i : S32x2048x1024.Idx) : EReal :=
  sigm (dots 8192 (by decide) 2048 0 (by decide) a0 a1 (i 0) (i 1) (i 2))

theorem pieces12 (c : Dev nD) (t : Fin cfg0.N) : (outsAt0 m c t).2.2.2.2.2.2 = View.canon (Val := Elt Ideal) (e := .bf16) [
    ⟨Rect.unit (s := S1x512x1024) ![0, 0, 768] S1x512x256.size inb_S1x512x1024_S1x512x256_0_0_768, k0_pay2 (k0_pay1 (iblk m c 0 t)) (View.ld (iblk m c 5 t) (Rect.unit (s := S1024x1024) ![0, 768] S1024x256.size inb_S1024x1024_S1024x256_0_768))⟩,
    ⟨Rect.unit (s := S1x512x1024) ![0, 0, 512] S1x512x256.size inb_S1x512x1024_S1x512x256_0_0_512, k0_pay2 (k0_pay1 (iblk m c 0 t)) (View.ld (iblk m c 5 t) (Rect.unit (s := S1024x1024) ![0, 512] S1024x256.size inb_S1024x1024_S1024x256_0_512))⟩,
    ⟨Rect.unit (s := S1x512x1024) ![0, 0, 256] S1x512x256.size inb_S1x512x1024_S1x512x256_0_0_256, k0_pay2 (k0_pay1 (iblk m c 0 t)) (View.ld (iblk m c 5 t) (Rect.unit (s := S1024x1024) ![0, 256] S1024x256.size inb_S1024x1024_S1024x256_0_256))⟩,
    ⟨Rect.unit (s := S1x512x1024) ![0, 0, 0] S1x512x256.size inb_S1x512x1024_S1x512x256_0_0_0, k0_pay2 (k0_pay1 (iblk m c 0 t)) (View.ld (iblk m c 5 t) (Rect.unit (s := S1024x1024) ![0, 0] S1024x256.size inb_S1024x1024_S1024x256_0_0))⟩] := by
  unfold outsAt0
  dsimp only
  frame_out
  rfl

theorem out12 (c : Dev nD) (t : Fin cfg0.N) (y : S1x512x1024.Idx) :
    (outsAt0 m c t).2.2.2.2.2.2 y = gateBlk (iblk m c 0 t) (iblk m c 5 t) y := by
  rw [pieces12]
  refine View.canon_apply_of_pieces (Val := Elt Ideal) (e := .bf16) (gateBlk (iblk m c 0 t) (iblk m c 5 t)) _ ?_ y ?_
  swap; · exact View.cover_of_tiled _ ![1, 512, 256] (by rfl) y
  intro p hp x
  simp only [List.mem_cons, List.not_mem_nil, or_false] at hp
  rcases hp with rfl | rfl | rfl | rfl
  · exact k0_pay2_at _ _ 768 (by decide) _ inb_S1x512x1024_S1x512x256_0_0_768 x
  · exact k0_pay2_at _ _ 512 (by decide) _ inb_S1x512x1024_S1x512x256_0_0_512 x
  · exact k0_pay2_at _ _ 256 (by decide) _ inb_S1x512x1024_S1x512x256_0_0_256 x
  · exact k0_pay2_at _ _ 0 (by decide) _ inb_S1x512x1024_S1x512x256_0_0_0 x

theorem place12 (t : Fin cfg0.N) (y : S1x512x1024.Idx) : (win0_12.blk t).view.emb y
    = ix3 (⟨t.val / 4, by have : t.val < 128 := t.isLt; omega⟩ : Fin 32) (⟨t.val % 4 * 512 + (y 1).val, by have := (y 1).isLt; simp at this; omega⟩ : Fin 2048) (y 2) := by
  obtain ⟨e0, e1, e2, e3, e4, e5, e6, e7, e8, e9, e10, e11, e12⟩ := idx t
  blk_ext [e12]

theorem final12 (c : Dev nD) : (dats m 0 c).arrAt 12 cfg0.N
    = value12 (m ((c : Thread nD τ).loc main_arg0)) (m ((c : Thread nD τ).loc main_arg1)) := by
  refine (dats m 0 c).arrAt_eq_of_covers 12 _ (by decide +kernel) fun t hf y => ?_
  blk_simp
  rw [after0_12, out12]
  refine Eq.trans ?_ (congrArg _ (place12 t y).symm)
  unfold gateBlk dotBlk value12 dots
  simp only [read5]
  refine congrArg (fun f => sigm (dot f _ _)) (funext fun k => (read0 m c t (y 1) k).trans ?_)
  exact congrArg (fun q => m ((c : Thread nD τ).loc main_arg0) (ix3 _ q k)) (Fin.ext ((Nat.zero_add _).symm))

end Cert.InattIdeal.Hand
end
-- ==== Proof.InattRef.lean ====
/-
  The attention projections as the reference writes them, read entry by entry.
-/
module
public import proofs.«01_k».proof.Proof.Gen.InattRefIdeal.Read
public import proofs.«01_k».proof.Proof.Inatt
@[expose] public section
set_option maxRecDepth 16384
noncomputable section
namespace Cert.InattRefIdeal.Hand
open Cert.InattRefIdeal Cert.InattRefIdeal.Gen Cert.InattRefIdeal.Read Idealize.ShloMosaic Idealize.ShloMosaic.TcCoe Idealize.SL.Sem Cert.Rows

variable (a0 : Vec Ideal S32x2048x1024 .f32) (a1 : Vec Ideal S1024x9216 .bf16)

theorem proj_apply (b : Fin 32) (t : Fin 2048) (j : Fin 9216) : val_main_v1 (F := Ideal) a0 a1 (ix3 b t j)
    = ∑ k : Fin 1024, a0 (ix3 b t k) * a1 (ix2 k j) := by
  pointwise [val_main_v0, val_main_v1]

theorem result6 (b : Fin 32) (t : Fin 2048) (j : Fin 1024) : val_main_v8 (F := Ideal) a0 a1 (ix3 b t j)
    = InattIdeal.Hand.value6 a0 a1 (ix3 b t j) := by
  pointwise [val_main_v2, val_main_v3, val_main_v4, val_main_v5, val_main_v6, val_main_v7, val_main_v8, val_main_v9, val_main_v10, val_main_v11, val_main_v12, val_main_v13, val_main_v14, val_main_v15, val_main_cst, val_main_v16, val_main_v17, val_main_cst_0, val_main_v18, val_main_v19, val_main_v20, val_main_v21, val_main_v22, val_main_cst_1, val_main_v23, val_main_v24, val_main_cst_2, val_main_v25, val_main_v26, val_main_v27, proj_apply, InattIdeal.Hand.value6, InattIdeal.Hand.dots, dot]

theorem result7 (b : Fin 32) (t : Fin 2048) (j : Fin 1024) : val_main_v10 (F := Ideal) a0 a1 (ix3 b j t)
    = InattIdeal.Hand.value7 a0 a1 (ix3 b j t) := by
  pointwise [val_main_v2, val_main_v3, val_main_v4, val_main_v5, val_main_v6, val_main_v7, val_main_v8, val_main_v9, val_main_v10, val_main_v11, val_main_v12, val_main_v13, val_main_v14, val_main_v15, val_main_cst, val_main_v16, val_main_v17, val_main_cst_0, val_main_v18, val_main_v19, val_main_v20, val_main_v21, val_main_v22, val_main_cst_1, val_main_v23, val_main_v24, val_main_cst_2, val_main_v25, val_main_v26, val_main_v27, proj_apply, InattIdeal.Hand.value7, InattIdeal.Hand.dots, dot]
  simp only [← Nat.add_assoc, Nat.reduceAdd]

theorem result8 (b : Fin 32) (t : Fin 2048) (j : Fin 1024) : val_main_v11 (F := Ideal) a0 a1 (ix3 b t j)
    = InattIdeal.Hand.value8 a0 a1 (ix3 b t j) := by
  pointwise [val_main_v2, val_main_v3, val_main_v4, val_main_v5, val_main_v6, val_main_v7, val_main_v8, val_main_v9, val_main_v10, val_main_v11, val_main_v12, val_main_v13, val_main_v14, val_main_v15, val_main_cst, val_main_v16, val_main_v17, val_main_cst_0, val_main_v18, val_main_v19, val_main_v20, val_main_v21, val_main_v22, val_main_cst_1, val_main_v23, val_main_v24, val_main_cst_2, val_main_v25, val_main_v26, val_main_v27, proj_apply, InattIdeal.Hand.value8, InattIdeal.Hand.dots, dot]
  simp only [← Nat.add_assoc, Nat.reduceAdd]

theorem result9 (b : Fin 32) (t : Fin 512) (j : Fin 1024) : val_main_v12 (F := Ideal) a0 a1 (ix3 b t j)
    = InattIdeal.Hand.value9 a0 a1 (ix3 b t j) := by
  pointwise [val_main_v2, val_main_v3, val_main_v4, val_main_v5, val_main_v6, val_main_v7, val_main_v8, val_main_v9, val_main_v10, val_main_v11, val_main_v12, val_main_v13, val_main_v14, val_main_v15, val_main_cst, val_main_v16, val_main_v17, val_main_cst_0, val_main_v18, val_main_v19, val_main_v20, val_main_v21, val_main_v22, val_main_cst_1, val_main_v23, val_main_v24, val_main_cst_2, val_main_v25, val_main_v26, val_main_v27, proj_apply, InattIdeal.Hand.value9, InattIdeal.Hand.dots, dot]
  simp only [← Nat.add_assoc, Nat.reduceAdd]

theorem result10 (b : Fin 32) (t : Fin 512) (j : Fin 1024) : val_main_v13 (F := Ideal) a0 a1 (ix3 b t j)
    = InattIdeal.Hand.value10 a0 a1 (ix3 b t j) := by
  pointwise [val_main_v2, val_main_v3, val_main_v4, val_main_v5, val_main_v6, val_main_v7, val_main_v8, val_main_v9, val_main_v10, val_main_v11, val_main_v12, val_main_v13, val_main_v14, val_main_v15, val_main_cst, val_main_v16, val_main_v17, val_main_cst_0, val_main_v18, val_main_v19, val_main_v20, val_main_v21, val_main_v22, val_main_cst_1, val_main_v23, val_main_v24, val_main_cst_2, val_main_v25, val_main_v26, val_main_v27, proj_apply, InattIdeal.Hand.value10, InattIdeal.Hand.dots, dot]
  simp only [← Nat.add_assoc, Nat.reduceAdd]

theorem result11 (b : Fin 32) (t : Fin 2048) (j : Fin 1024) : val_main_v20 (F := Ideal) a0 a1 (ix3 b t j)
    = InattIdeal.Hand.value11 a0 a1 (ix3 b t j) := by
  pointwise [val_main_v2, val_main_v3, val_main_v4, val_main_v5, val_main_v6, val_main_v7, val_main_v8, val_main_v9, val_main_v10, val_main_v11, val_main_v12, val_main_v13, val_main_v14, val_main_v15, val_main_cst, val_main_v16, val_main_v17, val_main_cst_0, val_main_v18, val_main_v19, val_main_v20, val_main_v21, val_main_v22, val_main_cst_1, val_main_v23, val_main_v24, val_main_cst_2, val_main_v25, val_main_v26, val_main_v27, proj_apply, InattIdeal.Hand.value11, InattIdeal.Hand.dots, dot, sigm]
  simp only [← Nat.add_assoc, Nat.reduceAdd]

theorem result12 (b : Fin 32) (t : Fin 2048) (j : Fin 1024) : val_main_v27 (F := Ideal) a0 a1 (ix3 b t j)
    = InattIdeal.Hand.value12 a0 a1 (ix3 b t j) := by
  pointwise [val_main_v2, val_main_v3, val_main_v4, val_main_v5, val_main_v6, val_main_v7, val_main_v8, val_main_v9, val_main_v10, val_main_v11, val_main_v12, val_main_v13, val_main_v14, val_main_v15, val_main_cst, val_main_v16, val_main_v17, val_main_cst_0, val_main_v18, val_main_v19, val_main_v20, val_main_v21, val_main_v22, val_main_cst_1, val_main_v23, val_main_v24, val_main_cst_2, val_main_v25, val_main_v26, val_main_v27, proj_apply, InattIdeal.Hand.value12, InattIdeal.Hand.dots, dot, sigm]
  simp only [← Nat.add_assoc, Nat.reduceAdd]

end Cert.InattRefIdeal.Hand
end
-- ==== Proof.InattClaim.lean ====
/-
  The claims about the attention projections: the programs run and leave their arguments alone, and the kernel's results
  are the reference's.
-/
module
public import proofs.«01_k».proof.Defs
public import proofs.«01_k».proof.Proof.Gen.Inatt
public import proofs.«01_k».proof.Proof.Gen.Inatt.Frame
public import proofs.«01_k».proof.Proof.Gen.InattIdeal
public import proofs.«01_k».proof.Proof.Gen.InattIdeal.Frame
public import proofs.«01_k».proof.Proof.Gen.InattRefIdeal.Run
public import proofs.«01_k».proof.Proof.Inatt
public import proofs.«01_k».proof.Proof.InattRef
public import Idealize.ShloMosaic.Lib.Quiescent
@[expose] public section
noncomputable section
namespace Cert.InattClaim
open Idealize.ShloMosaic Idealize.ShloMosaic.TcCoe Idealize.SL.Sem

theorem quiet_ref : quiescent_InattRefIdeal (hInattRefIdeal := InattRefIdeal.Gen.facts) := fun m g _ =>
  (θ_run InattRefIdeal.defs _ _).mono
    (fun r h => ⟨fun c => (h c).2.2.2.2.2.2.2, Idealize.ShloMosaic.sem_eq_zero_of_no_sems (by decide) r.2⟩)
    (InattRefIdeal.Value.run (F := Ideal) m g)

theorem equal : algebraic_InattIdeal_InattRefIdeal (hInattIdeal := InattIdeal.Gen.facts) (hInattRefIdeal := InattRefIdeal.Gen.facts) := by
  intro m g m' g' _ hagree
  refine ⟨fun c => InattIdeal.Hand.value6 (m ((c.tc : Thread InattIdeal.nD InattIdeal.τ).loc InattIdeal.main_arg0)) (m ((c.tc : Thread InattIdeal.nD InattIdeal.τ).loc InattIdeal.main_arg1)),
    fun c => InattIdeal.Hand.value7 (m ((c.tc : Thread InattIdeal.nD InattIdeal.τ).loc InattIdeal.main_arg0)) (m ((c.tc : Thread InattIdeal.nD InattIdeal.τ).loc InattIdeal.main_arg1)),
    fun c => InattIdeal.Hand.value8 (m ((c.tc : Thread InattIdeal.nD InattIdeal.τ).loc InattIdeal.main_arg0)) (m ((c.tc : Thread InattIdeal.nD InattIdeal.τ).loc InattIdeal.main_arg1)),
    fun c => InattIdeal.Hand.value9 (m ((c.tc : Thread InattIdeal.nD InattIdeal.τ).loc InattIdeal.main_arg0)) (m ((c.tc : Thread InattIdeal.nD InattIdeal.τ).loc InattIdeal.main_arg1)),
    fun c => InattIdeal.Hand.value10 (m ((c.tc : Thread InattIdeal.nD InattIdeal.τ).loc InattIdeal.main_arg0)) (m ((c.tc : Thread InattIdeal.nD InattIdeal.τ).loc InattIdeal.main_arg1)),
    fun c => InattIdeal.Hand.value11 (m ((c.tc : Thread InattIdeal.nD InattIdeal.τ).loc InattIdeal.main_arg0)) (m ((c.tc : Thread InattIdeal.nD InattIdeal.τ).loc InattIdeal.main_arg1)),
    fun c => InattIdeal.Hand.value12 (m ((c.tc : Thread InattIdeal.nD InattIdeal.τ).loc InattIdeal.main_arg0)) (m ((c.tc : Thread InattIdeal.nD InattIdeal.τ).loc InattIdeal.main_arg1)), ?_, ?_⟩
  · exact (θ_run InattIdeal.defs _ _).mono (fun r h c => ⟨(h c).1.trans (InattIdeal.Hand.final6 m c), (h c).2.1.trans (InattIdeal.Hand.final7 m c), (h c).2.2.1.trans (InattIdeal.Hand.final8 m c), (h c).2.2.2.1.trans (InattIdeal.Hand.final9 m c), (h c).2.2.2.2.1.trans (InattIdeal.Hand.final10 m c), (h c).2.2.2.2.2.1.trans (InattIdeal.Hand.final11 m c), (h c).2.2.2.2.2.2.1.trans (InattIdeal.Hand.final12 m c), (h c).2.2.2.2.2.2.2⟩)
      (InattIdeal.Value.run_blocks m g)
  · refine (θ_run InattRefIdeal.defs _ _).mono (fun r h c => ?_) (InattRefIdeal.Value.run (F := Ideal) m' g')
    obtain ⟨e0, e1⟩ := hagree c
    refine ⟨(h c).1.trans ?_, (h c).2.1.trans ?_, (h c).2.2.1.trans ?_, (h c).2.2.2.1.trans ?_, (h c).2.2.2.2.1.trans ?_, (h c).2.2.2.2.2.1.trans ?_, (h c).2.2.2.2.2.2.1.trans ?_, (h c).2.2.2.2.2.2.2⟩
    · refine (InattRefIdeal.Read.val_main_v8_eq _ _ ).trans ?_
      rw [e0, e1]
      funext i
      refine (congrArg _ (eq_ix3 i)).trans (Eq.trans ?_ (congrArg _ (eq_ix3 i)).symm)
      exact InattRefIdeal.Hand.result6 _ _ (i 0) (i 1) (i 2)
    · refine (InattRefIdeal.Read.val_main_v10_eq _ _ ).trans ?_
      rw [e0, e1]
      funext i
      refine (congrArg _ (eq_ix3 i)).trans (Eq.trans ?_ (congrArg _ (eq_ix3 i)).symm)
      exact InattRefIdeal.Hand.result7 _ _ (i 0) (i 2) (i 1)
    · refine (InattRefIdeal.Read.val_main_v11_eq _ _ ).trans ?_
      rw [e0, e1]
      funext i
      refine (congrArg _ (eq_ix3 i)).trans (Eq.trans ?_ (congrArg _ (eq_ix3 i)).symm)
      exact InattRefIdeal.Hand.result8 _ _ (i 0) (i 1) (i 2)
    · refine (InattRefIdeal.Read.val_main_v12_eq _ _ ).trans ?_
      rw [e0, e1]
      funext i
      refine (congrArg _ (eq_ix3 i)).trans (Eq.trans ?_ (congrArg _ (eq_ix3 i)).symm)
      exact InattRefIdeal.Hand.result9 _ _ (i 0) (i 1) (i 2)
    · refine (InattRefIdeal.Read.val_main_v13_eq _ _ ).trans ?_
      rw [e0, e1]
      funext i
      refine (congrArg _ (eq_ix3 i)).trans (Eq.trans ?_ (congrArg _ (eq_ix3 i)).symm)
      exact InattRefIdeal.Hand.result10 _ _ (i 0) (i 1) (i 2)
    · refine (InattRefIdeal.Read.val_main_v20_eq _ _ ).trans ?_
      rw [e0, e1]
      funext i
      refine (congrArg _ (eq_ix3 i)).trans (Eq.trans ?_ (congrArg _ (eq_ix3 i)).symm)
      exact InattRefIdeal.Hand.result11 _ _ (i 0) (i 1) (i 2)
    · refine (InattRefIdeal.Read.val_main_v27_eq _ _ ).trans ?_
      rw [e0, e1]
      funext i
      refine (congrArg _ (eq_ix3 i)).trans (Eq.trans ?_ (congrArg _ (eq_ix3 i)).symm)
      exact InattRefIdeal.Hand.result12 _ _ (i 0) (i 1) (i 2)

end Cert.InattClaim
end
-- ==== Proof.Attend.lean ====
/-
  One row of attention over finite scores, as mathematics: the softmax-weighted sum of the values, and the same with the keys in
  two stretches (512 from a cache and 64 new ones) and one division at the end.
-/
module
public import proofs.«01_k».proof.Proof.Rows
@[expose] public section
noncomputable section
namespace Cert.Rows
open Idealize.ShloMosaic

/-- The greatest entry of a row. -/
def greatest {n : ℕ} (s : Fin n → EReal) : EReal := Finset.fold max (lit 0xFF800000#32) s Finset.univ

/-- Base-two softmax of the scores `s`, then the weighted sum of the values `v`. -/
def softmaxSum {n : ℕ} (s v : Fin n → EReal) : EReal :=
  ∑ k, Ideal.div (Ideal.exp2 (s k - greatest s)) (∑ l, Ideal.exp2 (s l - greatest s)) * v k

/-- The same over two stretches of keys, the sum divided once. -/
def attend {n p : ℕ} (sp : Fin n → EReal) (sn : Fin p → EReal) (vp : Fin n → EReal) (vn : Fin p → EReal) : EReal :=
  Ideal.div (∑ k, Ideal.exp2 (sp k - max (greatest sp) (greatest sn)) * vp k
      + ∑ k, Ideal.exp2 (sn k - max (greatest sp) (greatest sn)) * vn k)
    (∑ k, Ideal.exp2 (sp k - max (greatest sp) (greatest sn)) + ∑ k, Ideal.exp2 (sn k - max (greatest sp) (greatest sn)))

/-- An extended real that is a real number. -/
def IsFin (x : EReal) : Prop := ∃ r : ℝ, x = (r : EReal)

theorem IsFin.add {x y : EReal} (hx : IsFin x) (hy : IsFin y) : IsFin (x + y) := by
  obtain ⟨r, rfl⟩ := hx; obtain ⟨s, rfl⟩ := hy; exact ⟨r + s, by push_cast; rfl⟩

theorem IsFin.mul {x y : EReal} (hx : IsFin x) (hy : IsFin y) : IsFin (x * y) := by
  obtain ⟨r, rfl⟩ := hx; obtain ⟨s, rfl⟩ := hy; exact ⟨r * s, by push_cast; rfl⟩

theorem IsFin.sum {ι : Type} (s : Finset ι) (f : ι → EReal) (h : ∀ i, IsFin (f i)) : IsFin (∑ i ∈ s, f i) := by
  classical
  induction s using Finset.induction_on with
  | empty => exact ⟨0, by simp⟩
  | insert a s ha ih => rw [Finset.sum_insert ha]; exact (h a).add ih

theorem IsFin.of_ne {x : EReal} (h : x ≠ ⊥) (h' : x ≠ ⊤) : IsFin x := ⟨x.toReal, (EReal.coe_toReal h' h).symm⟩

theorem IsFin.ne_bot {x : EReal} (h : IsFin x) : x ≠ ⊥ := by obtain ⟨r, rfl⟩ := h; exact EReal.coe_ne_bot r
theorem IsFin.ne_top {x : EReal} (h : IsFin x) : x ≠ ⊤ := by obtain ⟨r, rfl⟩ := h; exact EReal.coe_ne_top r

theorem lit_bot : lit 0xFF800000#32 = ⊥ := by simp [lit, Ideal.ofBits, Ideal.ieee]

theorem greatest_le {n : ℕ} (s : Fin n → EReal) (c : EReal) : greatest s ≤ c ↔ ∀ k, s k ≤ c := by
  unfold greatest
  rw [Finset.fold_max_le, lit_bot]
  simp

theorem le_greatest {n : ℕ} (s : Fin n → EReal) (k : Fin n) : s k ≤ greatest s := (greatest_le s _).1 le_rfl k

theorem greatest_fin {n : ℕ} (s : Fin n → EReal) (k : Fin n) (h : ∀ k, IsFin (s k)) : IsFin (greatest s) := by
  refine IsFin.of_ne ?_ ?_
  · exact (lt_of_lt_of_le (bot_lt_iff_ne_bot.2 (h k).ne_bot) (le_greatest s k)).ne'
  · have : greatest s < ⊤ := by
      unfold greatest
      rw [Finset.fold_max_lt, lit_bot]
      exact ⟨bot_lt_top, fun k _ => lt_top_iff_ne_top.2 (h k).ne_top⟩
    exact this.ne

theorem greatest_halves (s : Fin 576 → EReal) :
    greatest s = max (greatest fun k : Fin 512 => s ⟨k.val, by omega⟩) (greatest fun k : Fin 64 => s ⟨512 + k.val, by omega⟩) := by
  refine le_antisymm ((greatest_le s _).2 fun k => ?_) (max_le ((greatest_le _ _).2 fun k => le_greatest s _) ((greatest_le _ _).2 fun k => le_greatest s _))
  by_cases hk : k.val < 512
  · exact le_max_of_le_left (le_greatest (fun k : Fin 512 => s ⟨k.val, by omega⟩) ⟨k.val, hk⟩)
  · have e : (⟨512 + (k.val - 512), by omega⟩ : Fin 576) = k := Fin.ext (by simp only; omega)
    refine le_max_of_le_right (le_trans (le_of_eq ?_) (le_greatest (fun k : Fin 64 => s ⟨512 + k.val, by omega⟩) ⟨k.val - 512, by omega⟩))
    exact congrArg s e.symm

theorem exp2_pos {x y : EReal} (hx : IsFin x) (hy : IsFin y) : ∃ r : ℝ, 0 < r ∧ Ideal.exp2 (x - y) = (r : EReal) := by
  obtain ⟨r, rfl⟩ := hx; obtain ⟨s, rfl⟩ := hy
  refine ⟨(2 : ℝ) ^ (r - s), Real.rpow_pos_of_pos (by norm_num) _, ?_⟩
  rw [← EReal.coe_sub]
  rfl

theorem sum_pos_coe {n : ℕ} (f : Fin n → EReal) (k : Fin n) (h : ∀ k, ∃ r : ℝ, 0 < r ∧ f k = (r : EReal)) :
    ∃ r : ℝ, 0 < r ∧ ∑ k, f k = (r : EReal) := by
  choose g hg e using h
  refine ⟨∑ k, g k, Finset.sum_pos (fun k _ => hg k) ⟨k, Finset.mem_univ k⟩, ?_⟩
  simp only [e]
  exact (map_sum (⟨⟨Real.toEReal, rfl⟩, EReal.coe_add⟩ : ℝ →+ EReal) g Finset.univ).symm

theorem sum_mul_coe {ι : Type} (s : Finset ι) (f : ι → EReal) (c : ℝ) (hc : 0 ≤ c) : (∑ i ∈ s, f i) * (c : EReal) = ∑ i ∈ s, f i * (c : EReal) := by
  classical
  induction s using Finset.induction_on with
  | empty => simp
  | insert a s ha ih =>
    rw [Finset.sum_insert ha, Finset.sum_insert ha, EReal.right_distrib_of_nonneg_of_ne_top (EReal.coe_nonneg.2 hc) (EReal.coe_ne_top c), ih]

theorem div_coe (x : EReal) {r : ℝ} (hr : 0 < r) : Ideal.div x (r : EReal) = x * ((r⁻¹ : ℝ) : EReal) := by
  unfold Ideal.div
  rw [if_neg (EReal.coe_ne_zero.2 hr.ne'), ← EReal.coe_inv]

/-- Over finite scores, dividing each weight or the sum at the end gives the same. -/
theorem attend_eq (s v : Fin 576 → EReal) (h : ∀ k, IsFin (s k)) :
    attend (fun k : Fin 512 => s ⟨k.val, by omega⟩) (fun k : Fin 64 => s ⟨512 + k.val, by omega⟩)
      (fun k => v ⟨k.val, by omega⟩) (fun k => v ⟨512 + k.val, by omega⟩) = softmaxSum s v := by
  unfold attend
  rw [← greatest_halves]
  have hs (f : Fin 576 → EReal) := Fin.sum_univ_two_halves 512 64 rfl f
  rw [← hs (fun k => Ideal.exp2 (s k - greatest s) * v k), ← hs (fun k => Ideal.exp2 (s k - greatest s))]
  unfold softmaxSum
  have hg := greatest_fin s 0 h
  obtain ⟨r, hr, e⟩ := sum_pos_coe (fun k => Ideal.exp2 (s k - greatest s)) 0 (fun k => exp2_pos (h k) hg)
  rw [e, div_coe _ hr, sum_mul_coe _ _ _ (inv_nonneg.2 hr.le)]
  refine Finset.sum_congr rfl fun k _ => ?_
  rw [div_coe _ hr, mul_right_comm]

/-- Powers of two. -/
theorem pow_two (x : EReal) : Ideal.pow (lit 0x40000000#32) x = Ideal.exp2 x := by
  have e : lit 0x40000000#32 = ((2 : ℝ) : EReal) := by
    simp [lit, Ideal.ofBits, Ideal.ieee]
    rw [← EReal.coe_mul]
    norm_num
  rw [e]
  induction x with
  | bot =>
    show (if (2 : ℝ) < 0 then (⊥ : EReal) else if (1 : ℝ) < 2 then 0 else if (2 : ℝ) = 1 then 1 else ⊤) = 0
    norm_num
  | top =>
    show (if (2 : ℝ) < 0 then (⊥ : EReal) else if (1 : ℝ) < 2 then ⊤ else if (2 : ℝ) = 1 then 1 else 0) = ⊤
    norm_num
  | coe r => rfl

/-- What a precondition's comparison says of an entry. -/
theorem IsFin.of_cmp {x : EReal} (h : Ideal.cmp .olt (max x (-x)) (lit 0x7F800000#32) = 1#1) : IsFin x := by
  have e : lit 0x7F800000#32 = ⊤ := by simp [lit, Ideal.ofBits, Ideal.ieee]
  rw [e] at h
  induction x with
  | bot => simp [Ideal.cmp] at h
  | top => simp [Ideal.cmp] at h
  | coe r => exact ⟨r, rfl⟩

end Cert.Rows
end
-- ==== Proof.Cached.lean ====
/-
  Attention over a cache and 64 new frames: what the kernel's result array holds after the run, as a function of the arguments.
  The kernel takes two heads at a time, stacked as 128 rows whose other head's lanes are zero.
-/
module
public import proofs.«01_k».proof.Proof.Gen.CachedIdeal.Value
public import proofs.«01_k».proof.Proof.Attend
public import Idealize.ShloMosaic.Lib.Pipeline.ValueKit
public import Idealize.ShloMosaic.Lib.Claim
@[expose] public section
set_option maxRecDepth 16384
noncomputable section
namespace Cert.CachedIdeal.Hand
open Cert.CachedIdeal Cert.CachedIdeal.Gen Idealize.ShloMosaic Idealize.ShloMosaic.TcCoe Idealize.SL.Sem Cert.Rows
open Idealize.ShloMosaic.Pipeline (Dat)

/-- Column `d` of head `h`. -/
abbrev col (h : Fin 16) (d : Fin 64) : Fin 1024 := ⟨h.val * 64 + d.val, by omega⟩

/-- The head of a column. -/
abbrev head (j : Fin 1024) : Fin 16 := ⟨j.val / 64, by omega⟩

theorem low_lane : ∀ d : Fin 64, IntOp.cmpi CmpIPredicate.slt (BitVec.ofNat 32 d.val) 64#32 = 1#1 := by decide +kernel
theorem high_lane : ∀ d : Fin 64, IntOp.cmpi CmpIPredicate.slt (BitVec.ofNat 32 (64 + d.val)) 64#32 = 0#1 := by decide +kernel

theorem sum_low (f : Fin 128 → EReal) :
    ∑ x : Fin 128, Scalar.select (IntOp.cmpi CmpIPredicate.slt (BitVec.ofNat 32 x.val) 64#32) (f x) 0 = ∑ d : Fin 64, f ⟨d.val, by omega⟩ := by
  rw [Fin.sum_univ_two_halves 64 64 rfl]
  simp only [low_lane, high_lane, Scalar.select]
  simp

theorem sum_high (f : Fin 128 → EReal) :
    ∑ x : Fin 128, Scalar.select (IntOp.cmpi CmpIPredicate.slt (BitVec.ofNat 32 x.val) 64#32) 0 (f x) = ∑ d : Fin 64, f ⟨64 + d.val, by omega⟩ := by
  rw [Fin.sum_univ_two_halves 64 64 rfl]
  simp only [low_lane, high_lane, Scalar.select]
  simp

section Pair
variable (q : Vec Ideal S1x64x128 .bf16) (kp vp : Vec Ideal S1x128x512 .f32) (b b' : Vec Ideal S1x64x576 .f32) (kt : Vec Ideal S1x128x64 .bf16) (v : Vec Ideal S1x64x128 .bf16)

/-- One pair of heads, as the kernel's body computes it from its loads. -/
def pair : FVec Ideal S1x64x128 .bf16 :=
  k0_pay10 k0_pay2 (k0_pay3 vp) (k0_pay6 q kp b b') (k0_pay7 q b b' kt) (k0_pay8 q kp b b') (k0_pay9 q b b' kt) v

theorem past_low (t : Fin 64) (s : Fin 512) : k0_pay6 q kp b b' (ix2 (⟨t.val, by omega⟩ : Fin 128) s)
    = ∑ d : Fin 64, q (ix3 0 t ⟨d.val, by omega⟩) * kp (ix3 0 ⟨d.val, by omega⟩ s) + b (ix3 0 t ⟨s.val, by omega⟩) := by
  unfold_payloads
  pointwise
  rw [sum_low fun x => q (ix3 0 t x) * kp (ix3 0 x s)]

theorem past_high (t : Fin 64) (s : Fin 512) : k0_pay6 q kp b b' (ix2 (⟨64 + t.val, by omega⟩ : Fin 128) s)
    = ∑ d : Fin 64, q (ix3 0 t ⟨64 + d.val, by omega⟩) * kp (ix3 0 ⟨64 + d.val, by omega⟩ s) + b' (ix3 0 t ⟨s.val, by omega⟩) := by
  unfold_payloads
  pointwise
  rw [sum_high fun x => q (ix3 0 t x) * kp (ix3 0 x s)]

theorem new_low (t s : Fin 64) : k0_pay7 q b b' kt (ix2 (⟨t.val, by omega⟩ : Fin 128) s)
    = ∑ d : Fin 64, q (ix3 0 t ⟨d.val, by omega⟩) * kt (ix3 0 ⟨d.val, by omega⟩ s) + b (ix3 0 t ⟨512 + s.val, by omega⟩) := by
  unfold_payloads
  pointwise
  rw [sum_low fun x => q (ix3 0 t x) * kt (ix3 0 x s)]

theorem new_high (t s : Fin 64) : k0_pay7 q b b' kt (ix2 (⟨64 + t.val, by omega⟩ : Fin 128) s)
    = ∑ d : Fin 64, q (ix3 0 t ⟨64 + d.val, by omega⟩) * kt (ix3 0 ⟨64 + d.val, by omega⟩ s) + b' (ix3 0 t ⟨512 + s.val, by omega⟩) := by
  unfold_payloads
  pointwise
  rw [sum_high fun x => q (ix3 0 t x) * kt (ix3 0 x s)]

theorem past_top (r : Fin 128) : k0_pay8 q kp b b' (ix2 r 0) = greatest fun s : Fin 512 => k0_pay6 q kp b b' (ix2 r s) := by
  unfold k0_pay8
  generalize k0_pay6 q kp b b' = Y
  pointwise [greatest, lit]

theorem new_top (r : Fin 128) : k0_pay9 q b b' kt (ix1 r) = greatest fun s : Fin 64 => k0_pay7 q b b' kt (ix2 r s) := by
  unfold k0_pay9
  generalize k0_pay7 q b b' kt = Y
  pointwise [greatest, lit]

/-- The entry of a pair's block: the attention of the head that the lane belongs to. -/
theorem pair_low (t : Fin 64) (d : Fin 64) : pair q kp vp b b' kt v (ix3 0 t (⟨d.val, by omega⟩ : Fin 128))
    = attend (fun s : Fin 512 => k0_pay6 q kp b b' (ix2 (⟨t.val, by omega⟩ : Fin 128) s)) (fun s : Fin 64 => k0_pay7 q b b' kt (ix2 (⟨t.val, by omega⟩ : Fin 128) s))
        (fun s => vp (ix3 0 ⟨d.val, by omega⟩ s)) (fun s => v (ix3 0 s ⟨d.val, by omega⟩)) := by
  unfold pair attend
  rw [← past_top, ← new_top]
  generalize k0_pay6 q kp b b' = Y
  generalize k0_pay7 q b b' kt = Z
  generalize k0_pay8 q kp b b' = M
  generalize k0_pay9 q b b' kt = N
  unfold_payloads
  pointwise [low_lane, Scalar.select]
  rfl

theorem pair_high (t : Fin 64) (d : Fin 64) : pair q kp vp b b' kt v (ix3 0 t (⟨64 + d.val, by omega⟩ : Fin 128))
    = attend (fun s : Fin 512 => k0_pay6 q kp b b' (ix2 (⟨64 + t.val, by omega⟩ : Fin 128) s)) (fun s : Fin 64 => k0_pay7 q b b' kt (ix2 (⟨64 + t.val, by omega⟩ : Fin 128) s))
        (fun s => vp (ix3 0 ⟨64 + d.val, by omega⟩ s)) (fun s => v (ix3 0 s ⟨64 + d.val, by omega⟩)) := by
  unfold pair attend
  rw [← past_top, ← new_top]
  generalize k0_pay6 q kp b b' = Y
  generalize k0_pay7 q b b' kt = Z
  generalize k0_pay8 q kp b b' = M
  generalize k0_pay9 q b b' kt = N
  unfold_payloads
  pointwise [high_lane, Scalar.select]
  rfl

end Pair

section Block
variable (x0 : Vec Ideal S1x64x1024 .bf16) (x1 : Vec Ideal S1x1024x64 .bf16) (x2 : Vec Ideal S1x64x1024 .bf16) (x3 x4 : Vec Ideal S1x1024x512 .f32)
  (x5 : Vec Ideal S16x64x576 .f32)

/-- Scores of head `h` against the cache, and against the new frames. -/
def past (h : Fin 16) (t : Fin 64) (s : Fin 512) : EReal :=
  ∑ d : Fin 64, x0 (ix3 0 t (col h d)) * x3 (ix3 0 (col h d) s) + x5 (ix3 h t ⟨s.val, by omega⟩)
def new (h : Fin 16) (t : Fin 64) (s : Fin 64) : EReal :=
  ∑ d : Fin 64, x0 (ix3 0 t (col h d)) * x1 (ix3 0 (col h d) s) + x5 (ix3 h t ⟨512 + s.val, by omega⟩)

/-- One entry of the result block. -/
def entry (t : Fin 64) (j : Fin 1024) : EReal :=
  attend (past x0 x3 x5 (head j) t) (new x0 x1 x5 (head j) t) (fun s => x4 (ix3 0 j s)) (fun s => x2 (ix3 0 s j))

/-- The result block. -/
def blk (i : S1x64x1024.Idx) : EReal := entry x0 x1 x2 x3 x4 x5 (i 1) (i 2)

theorem pair_apply (g : Fin 8) (q : Vec Ideal S1x64x128 .bf16) (kp vp : Vec Ideal S1x128x512 .f32) (b b' : Vec Ideal S1x64x576 .f32) (kt : Vec Ideal S1x128x64 .bf16) (v : Vec Ideal S1x64x128 .bf16)
    (hq : ∀ (t : Fin 64) (l : Fin 128), q (ix3 0 t l) = x0 (ix3 0 t ⟨128 * g.val + l.val, by omega⟩))
    (hkp : ∀ (l : Fin 128) (s : Fin 512), kp (ix3 0 l s) = x3 (ix3 0 ⟨128 * g.val + l.val, by omega⟩ s))
    (hvp : ∀ (l : Fin 128) (s : Fin 512), vp (ix3 0 l s) = x4 (ix3 0 ⟨128 * g.val + l.val, by omega⟩ s))
    (hb : ∀ (t : Fin 64) (s : Fin 576), b (ix3 0 t s) = x5 (ix3 ⟨2 * g.val, by omega⟩ t s))
    (hb' : ∀ (t : Fin 64) (s : Fin 576), b' (ix3 0 t s) = x5 (ix3 ⟨2 * g.val + 1, by omega⟩ t s))
    (hkt : ∀ (l : Fin 128) (s : Fin 64), kt (ix3 0 l s) = x1 (ix3 0 ⟨128 * g.val + l.val, by omega⟩ s))
    (hv : ∀ (t : Fin 64) (l : Fin 128), v (ix3 0 t l) = x2 (ix3 0 t ⟨128 * g.val + l.val, by omega⟩))
    (t : Fin 64) (l : Fin 128) : pair q kp vp b b' kt v (ix3 0 t l) = blk x0 x1 x2 x3 x4 x5 (ix3 0 t ⟨128 * g.val + l.val, by omega⟩) := by
  by_cases hl : l.val < 64
  · have hh : head ⟨128 * g.val + l.val, by omega⟩ = ⟨2 * g.val, by omega⟩ := Fin.ext (by simp only; omega)
    have hc (d : Fin 64) : (⟨128 * g.val + d.val, by omega⟩ : Fin 1024) = col ⟨2 * g.val, by omega⟩ d := Fin.ext (by simp only; omega)
    refine (pair_low q kp vp b b' kt v t ⟨l.val, hl⟩).trans ?_
    refine Eq.trans ?_ (show entry x0 x1 x2 x3 x4 x5 t ⟨128 * g.val + l.val, by omega⟩ = _ from rfl)
    unfold entry past new
    simp only [past_low, new_low, hq, hkp, hvp, hb, hkt, hv, hc]
    simp only [hh]
  · have hh : head ⟨128 * g.val + l.val, by omega⟩ = ⟨2 * g.val + 1, by omega⟩ := Fin.ext (by simp only; omega)
    have hc (d : Fin 64) : (⟨128 * g.val + (64 + d.val), by omega⟩ : Fin 1024) = col ⟨2 * g.val + 1, by omega⟩ d := Fin.ext (by simp only; omega)
    have el : (⟨64 + (l.val - 64), by omega⟩ : Fin 128) = l := Fin.ext (by simp only; omega)
    have e := pair_high q kp vp b b' kt v t ⟨l.val - 64, by omega⟩
    simp only [el] at e
    refine e.trans ?_
    refine Eq.trans ?_ (show entry x0 x1 x2 x3 x4 x5 t ⟨128 * g.val + l.val, by omega⟩ = _ from rfl)
    unfold entry past new
    simp only [past_high, new_high, hq, hkp, hvp, hb', hkt, hv, hc]
    simp only [hh]

theorem pair_at (g : Fin 8) (o h h' : ℕ) (ho : o = 128 * g.val) (hh : h = 2 * g.val) (hh' : h' = 2 * g.val + 1)
    (iq : ∀ a, (![0, 0, o] : Fin S1x64x1024.rank → ℕ) a + S1x64x128.size a ≤ S1x64x1024.size a)
    (ik : ∀ a, (![0, o, 0] : Fin S1x1024x512.rank → ℕ) a + S1x128x512.size a ≤ S1x1024x512.size a)
    (ib : ∀ a, (![h, 0, 0] : Fin S16x64x576.rank → ℕ) a + S1x64x576.size a ≤ S16x64x576.size a)
    (ib' : ∀ a, (![h', 0, 0] : Fin S16x64x576.rank → ℕ) a + S1x64x576.size a ≤ S16x64x576.size a)
    (it : ∀ a, (![0, o, 0] : Fin S1x1024x64.rank → ℕ) a + S1x128x64.size a ≤ S1x1024x64.size a) (x : S1x64x128.Idx) :
    pair (View.ld x0 (Rect.unit (s := S1x64x1024) ![0, 0, o] S1x64x128.size iq)) (View.ld x3 (Rect.unit (s := S1x1024x512) ![0, o, 0] S1x128x512.size ik))
      (View.ld x4 (Rect.unit (s := S1x1024x512) ![0, o, 0] S1x128x512.size ik)) (View.ld x5 (Rect.unit (s := S16x64x576) ![h, 0, 0] S1x64x576.size ib))
      (View.ld x5 (Rect.unit (s := S16x64x576) ![h', 0, 0] S1x64x576.size ib')) (View.ld x1 (Rect.unit (s := S1x1024x64) ![0, o, 0] S1x128x64.size it))
      (View.ld x2 (Rect.unit (s := S1x64x1024) ![0, 0, o] S1x64x128.size iq)) x
      = blk x0 x1 x2 x3 x4 x5 ((Rect.unit (s := S1x64x1024) ![0, 0, o] S1x64x128.size iq).emb x) := by
  subst ho hh hh'
  have hx : x = ix3 (0 : Fin 1) (x 1) (x 2) := by
    funext a
    match a with
    | ⟨0, _⟩ => exact Subsingleton.elim (α := Fin 1) _ _
    | ⟨1, _⟩ => rfl
    | ⟨2, _⟩ => rfl
  rw [hx]
  refine (pair_apply x0 x1 x2 x3 x4 x5 g _ _ _ _ _ _ _ ?_ ?_ ?_ ?_ ?_ ?_ ?_ (x 1) (x 2)).trans ?_
  case refine_8 =>
    refine congrArg _ (funext fun a => Fin.ext ?_)
    refine Eq.trans ?_ (Rect.idx_unit_val _ _ _ _ a).symm
    match a with
    | ⟨0, _⟩ => rfl
    | ⟨1, _⟩ => exact (Nat.zero_add _).symm
    | ⟨2, _⟩ => rfl
  all_goals
    intro k l
    refine View.ld_unit_apply_of _ _ _ _ _ _ fun a => ?_
    match a with
    | ⟨0, _⟩ => first | rfl | exact (Nat.zero_add _).symm
    | ⟨1, _⟩ => first | rfl | exact (Nat.zero_add _).symm
    | ⟨2, _⟩ => first | rfl | exact (Nat.zero_add _).symm

theorem out_pieces : out0_6 x0 x1 x2 x3 x4 x5 = View.canon (Val := Elt Ideal) (e := .bf16) [
    ⟨r0_35, pair (View.ld x0 r0_35) (View.ld x3 r0_36) (View.ld x4 r0_36) (View.ld x5 r0_37) (View.ld x5 r0_38) (View.ld x1 r0_39) (View.ld x2 r0_35)⟩,
    ⟨r0_30, pair (View.ld x0 r0_30) (View.ld x3 r0_31) (View.ld x4 r0_31) (View.ld x5 r0_32) (View.ld x5 r0_33) (View.ld x1 r0_34) (View.ld x2 r0_30)⟩,
    ⟨r0_25, pair (View.ld x0 r0_25) (View.ld x3 r0_26) (View.ld x4 r0_26) (View.ld x5 r0_27) (View.ld x5 r0_28) (View.ld x1 r0_29) (View.ld x2 r0_25)⟩,
    ⟨r0_20, pair (View.ld x0 r0_20) (View.ld x3 r0_21) (View.ld x4 r0_21) (View.ld x5 r0_22) (View.ld x5 r0_23) (View.ld x1 r0_24) (View.ld x2 r0_20)⟩,
    ⟨r0_15, pair (View.ld x0 r0_15) (View.ld x3 r0_16) (View.ld x4 r0_16) (View.ld x5 r0_17) (View.ld x5 r0_18) (View.ld x1 r0_19) (View.ld x2 r0_15)⟩,
    ⟨r0_10, pair (View.ld x0 r0_10) (View.ld x3 r0_11) (View.ld x4 r0_11) (View.ld x5 r0_12) (View.ld x5 r0_13) (View.ld x1 r0_14) (View.ld x2 r0_10)⟩,
    ⟨r0_5, pair (View.ld x0 r0_5) (View.ld x3 r0_6) (View.ld x4 r0_6) (View.ld x5 r0_7) (View.ld x5 r0_8) (View.ld x1 r0_9) (View.ld x2 r0_5)⟩,
    ⟨r0_0, pair (View.ld x0 r0_0) (View.ld x3 r0_1) (View.ld x4 r0_1) (View.ld x5 r0_2) (View.ld x5 r0_3) (View.ld x1 r0_4) (View.ld x2 r0_0)⟩] := rfl

theorem out_apply (y : S1x64x1024.Idx) : out0_6 x0 x1 x2 x3 x4 x5 y = blk x0 x1 x2 x3 x4 x5 y := by
  rw [out_pieces]
  refine View.canon_apply_of_pieces (Val := Elt Ideal) (e := .bf16) (blk x0 x1 x2 x3 x4 x5) _ ?_ y ?_
  swap; · exact View.cover_of_tiled _ ![1, 64, 128] (by rfl) y
  intro p hp x
  simp only [List.mem_cons, List.not_mem_nil, or_false] at hp
  rcases hp with rfl | rfl | rfl | rfl | rfl | rfl | rfl | rfl
  · exact pair_at x0 x1 x2 x3 x4 x5 7 896 14 15 rfl rfl rfl _ _ _ _ _ x
  · exact pair_at x0 x1 x2 x3 x4 x5 6 768 12 13 rfl rfl rfl _ _ _ _ _ x
  · exact pair_at x0 x1 x2 x3 x4 x5 5 640 10 11 rfl rfl rfl _ _ _ _ _ x
  · exact pair_at x0 x1 x2 x3 x4 x5 4 512 8 9 rfl rfl rfl _ _ _ _ _ x
  · exact pair_at x0 x1 x2 x3 x4 x5 3 384 6 7 rfl rfl rfl _ _ _ _ _ x
  · exact pair_at x0 x1 x2 x3 x4 x5 2 256 4 5 rfl rfl rfl _ _ _ _ _ x
  · exact pair_at x0 x1 x2 x3 x4 x5 1 128 2 3 rfl rfl rfl _ _ _ _ _ x
  · exact pair_at x0 x1 x2 x3 x4 x5 0 0 0 1 rfl rfl rfl _ _ _ _ _ x

end Block

/-- The result, entry by entry, as a function of the arguments: queries, new keys (features first), new values, cached keys and
    values, and the bias. -/
def valueAt (a0 : Vec Ideal S16x64x1024 .bf16) (a1 : Vec Ideal S16x1024x64 .bf16) (a2 : Vec Ideal S16x64x1024 .bf16)
    (a3 a4 : Vec Ideal S16x512x16x64 .f32) (a5 : Vec Ideal S16x256x768 .f32) (b : Fin 16) (t : Fin 64) (j : Fin 1024) : EReal :=
  attend (fun s : Fin 512 => ∑ d : Fin 64, a0 (ix3 b t (col (head j) d)) * a3 (ix4 b s (head j) d) + a5 (ix3 (head j) ⟨t.val, by omega⟩ ⟨s.val, by omega⟩))
    (fun s : Fin 64 => ∑ d : Fin 64, a0 (ix3 b t (col (head j) d)) * a1 (ix3 b (col (head j) d) s) + a5 (ix3 (head j) ⟨t.val, by omega⟩ ⟨512 + s.val, by omega⟩))
    (fun s => a4 (ix4 b s (head j) ⟨j.val % 64, by omega⟩)) (fun s => a2 (ix3 b s j))

/-- The result array. -/
def value (a0 : Vec Ideal S16x64x1024 .bf16) (a1 : Vec Ideal S16x1024x64 .bf16) (a2 : Vec Ideal S16x64x1024 .bf16)
    (a3 a4 : Vec Ideal S16x512x16x64 .f32) (a5 : Vec Ideal S16x256x768 .f32) (i : S16x64x1024.Idx) : EReal :=
  valueAt a0 a1 a2 a3 a4 a5 (i 0) (i 1) (i 2)

variable (m : (ℓ : Loc nD τ sig) → Buf (Elt Ideal) ℓ)

/-- The block that each window reads or writes at a grid point. -/
theorem idx : ∀ t : Fin cfg0.N, win0_0.index t = ![t.val, 0, 0] ∧ win0_1.index t = ![t.val, 0, 0] ∧ win0_2.index t = ![t.val, 0, 0] ∧ win0_3.index t = ![t.val, 0, 0] ∧ win0_4.index t = ![t.val, 0, 0] ∧ win0_5.index t = ![0, 0, 0] ∧ win0_6.index t = ![t.val, 0, 0] :=
  (by decide +kernel : ∀ t : Fin grid0.N, win0_0.index t = ![t.val, 0, 0] ∧ win0_1.index t = ![t.val, 0, 0] ∧ win0_2.index t = ![t.val, 0, 0] ∧ win0_3.index t = ![t.val, 0, 0] ∧ win0_4.index t = ![t.val, 0, 0] ∧ win0_5.index t = ![0, 0, 0] ∧ win0_6.index t = ![t.val, 0, 0])

abbrev bat (t : Fin cfg0.N) : Fin 16 := ⟨t.val, t.isLt⟩

theorem read0 (c : Dev nD) (t : Fin cfg0.N) (r : Fin 64) (k : Fin 1024) :
    (iblk m c 0 t : Vec Ideal S1x64x1024 .bf16) (ix3 0 r k) = m ((c : Thread nD τ).loc main_arg0) (ix3 (bat t) r k) := by
  obtain ⟨e0, e1, e2, e3, e4, e5, e6⟩ := idx t
  blk_ext! [iblk, V, e0]

theorem read1 (c : Dev nD) (t : Fin cfg0.N) (k : Fin 1024) (r : Fin 64) :
    (iblk m c 1 t : Vec Ideal S1x1024x64 .bf16) (ix3 0 k r) = m ((c : Thread nD τ).loc main_arg1) (ix3 (bat t) k r) := by
  obtain ⟨e0, e1, e2, e3, e4, e5, e6⟩ := idx t
  blk_ext! [iblk, V, e1]

theorem read2 (c : Dev nD) (t : Fin cfg0.N) (r : Fin 64) (k : Fin 1024) :
    (iblk m c 2 t : Vec Ideal S1x64x1024 .bf16) (ix3 0 r k) = m ((c : Thread nD τ).loc main_arg2) (ix3 (bat t) r k) := by
  obtain ⟨e0, e1, e2, e3, e4, e5, e6⟩ := idx t
  blk_ext! [iblk, V, e2]

theorem cache_apply (X : Vec Ideal S16x512x16x64 .f32) (h : S16x512x16x64.ShapeCasts S16x512x1024) (h' : S16x512x1024.Transposes [0, 2, 1] S16x1024x512)
    (b : Fin 16) (k : Fin 1024) (s : Fin 512) :
    transpose S16x1024x512 [0, 2, 1] (shapeCast S16x512x1024 X h) h' (ix3 b k s) = X (ix4 b s (head k) ⟨k.val % 64, by omega⟩) := by
  pointwise

theorem bias_apply (X : Vec Ideal S16x256x768 .f32) (h : S16x256x768.Slices ![0, 0, 0] S16x64x576) (b : Fin 16) (t : Fin 64) (s : Fin 576) :
    extractStridedSlice S16x64x576 ![0, 0, 0] X h (ix3 b t s) = X (ix3 b ⟨t.val, by omega⟩ ⟨s.val, by omega⟩) := by
  pointwise

theorem read3 (c : Dev nD) (t : Fin cfg0.N) (k : Fin 1024) (s : Fin 512) :
    (iblk m c 3 t : Vec Ideal S1x1024x512 .f32) (ix3 0 k s) = m ((c : Thread nD τ).loc main_arg3) (ix4 (bat t) s (head k) ⟨k.val % 64, by omega⟩) := by
  obtain ⟨e0, e1, e2, e3, e4, e5, e6⟩ := idx t
  refine Eq.trans (b := V m c main_v2 (ix3 (bat t) k s)) ?_ ?_
  · blk_ext [iblk, e3]
  · entry_read
    exact cache_apply _ _ _ _ _ _

theorem read4 (c : Dev nD) (t : Fin cfg0.N) (k : Fin 1024) (s : Fin 512) :
    (iblk m c 4 t : Vec Ideal S1x1024x512 .f32) (ix3 0 k s) = m ((c : Thread nD τ).loc main_arg4) (ix4 (bat t) s (head k) ⟨k.val % 64, by omega⟩) := by
  obtain ⟨e0, e1, e2, e3, e4, e5, e6⟩ := idx t
  refine Eq.trans (b := V m c main_v4 (ix3 (bat t) k s)) ?_ ?_
  · blk_ext [iblk, e4]
  · entry_read
    exact cache_apply _ _ _ _ _ _

theorem read5 (c : Dev nD) (t : Fin cfg0.N) (h : Fin 16) (r : Fin 64) (s : Fin 576) :
    (iblk m c 5 t : Vec Ideal S16x64x576 .f32) (ix3 h r s) = m ((c : Thread nD τ).loc main_arg5) (ix3 h ⟨r.val, by omega⟩ ⟨s.val, by omega⟩) := by
  obtain ⟨e0, e1, e2, e3, e4, e5, e6⟩ := idx t
  refine Eq.trans (b := V m c main_v0 (ix3 h r s)) ?_ ?_
  · blk_ext [iblk, e5]
  · entry_read
    exact bias_apply _ _ _ _ _

theorem place (t : Fin cfg0.N) (y : S1x64x1024.Idx) : (win0_6.blk t).view.emb y = ix3 (bat t) (y 1) (y 2) := by
  obtain ⟨e0, e1, e2, e3, e4, e5, e6⟩ := idx t
  blk_ext [e6]

theorem head_col (h : Fin 16) (d : Fin 64) : head (col h d) = h := Fin.ext (by simp only; omega)
theorem lane_col (h : ℕ) (d : Fin 64) : (⟨(h * 64 + d.val) % 64, by omega⟩ : Fin 64) = d := Fin.ext (by simp only; omega)

theorem entry_eq (c : Dev nD) (t : Fin cfg0.N) (r : Fin 64) (j : Fin 1024) :
    entry (iblk m c 0 t) (iblk m c 1 t) (iblk m c 2 t) (iblk m c 3 t) (iblk m c 4 t) (iblk m c 5 t) r j
      = valueAt (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) (bat t) r j := by
  unfold entry past new valueAt
  simp only [read0, read1, read2, read3, read4, read5, head_col, lane_col]

theorem final (c : Dev nD) : (dats m 0 c).arrAt 6 cfg0.N
    = value (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine (dats m 0 c).arrAt_eq_of_covers 6 _ (by decide +kernel) fun t hf y => ?_
  blk_simp
  rw [after0_6, out_apply]
  refine Eq.trans ?_ (congrArg _ (place t y).symm)
  exact entry_eq m c t (y 1) (y 2)

end Cert.CachedIdeal.Hand
end
-- ==== Proof.CachedRef.lean ====
/-
  Attention over a cache and new frames as the reference writes it, read entry by entry, and equal to the kernel's result where
  the scores are finite.
-/
module
public import proofs.«01_k».proof.Proof.Gen.CachedRefIdeal.Read
public import proofs.«01_k».proof.Proof.Cached
@[expose] public section
set_option maxRecDepth 16384
noncomputable section
namespace Cert.CachedRefIdeal.Hand
open Cert.CachedRefIdeal Cert.CachedRefIdeal.Gen Cert.CachedRefIdeal.Read Idealize.ShloMosaic Idealize.ShloMosaic.TcCoe Idealize.SL.Sem Cert.Rows
open Cert.CachedIdeal.Hand (col head valueAt value)

variable (x0 : (⟨S16x64x1024, .bf16⟩ : BufTy).Contents (Elt Ideal)) (x1 : (⟨S16x1024x64, .bf16⟩ : BufTy).Contents (Elt Ideal)) (x2 : (⟨S16x64x1024, .bf16⟩ : BufTy).Contents (Elt Ideal)) (x3 x4 : (⟨S16x512x16x64, .f32⟩ : BufTy).Contents (Elt Ideal)) (x5 : (⟨S16x256x768, .f32⟩ : BufTy).Contents (Elt Ideal))

/-- The reference's scores and values. -/
def score (b h : Fin 16) (t : Fin 64) (s : Fin 576) : EReal := val_main_v13 (F := Ideal) x0 x1 x3 x5 (ix4 b h t s)
def vals (b h : Fin 16) (d : Fin 64) (s : Fin 576) : EReal := val_main_v6 (F := Ideal) x2 x4 (ix4 b s h d)

theorem score_past (b h : Fin 16) (t : Fin 64) (s : Fin 512) : score x0 x1 x3 x5 b h t ⟨s.val, by omega⟩
    = ∑ d : Fin 64, x0 (ix3 b t (col h d)) * x3 (ix4 b s h d) + x5 (ix3 h ⟨t.val, by omega⟩ ⟨s.val, by omega⟩) := by
  unfold score
  pointwise [val_main_v13, val_main_v9, val_main_v3, val_main_v12, val_main_v11, val_main_v10, val_main_v8, val_main_v7]

theorem score_new (b h : Fin 16) (t s : Fin 64) : score x0 x1 x3 x5 b h t ⟨512 + s.val, by omega⟩
    = ∑ d : Fin 64, x0 (ix3 b t (col h d)) * x1 (ix3 b (col h d) s) + x5 (ix3 h ⟨t.val, by omega⟩ ⟨512 + s.val, by omega⟩) := by
  unfold score
  pointwise [val_main_v13, val_main_v9, val_main_v3, val_main_v2, val_main_v1, val_main_v0, val_main_v12, val_main_v11, val_main_v10, val_main_v8, val_main_v7]

theorem vals_past (b h : Fin 16) (d : Fin 64) (s : Fin 512) : vals x2 x4 b h d ⟨s.val, by omega⟩ = x4 (ix4 b s h d) := by
  unfold vals
  pointwise [val_main_v6, val_main_v5, val_main_v4]

theorem vals_new (b h : Fin 16) (d s : Fin 64) : vals x2 x4 b h d ⟨512 + s.val, by omega⟩ = x2 (ix3 b s (col h d)) := by
  unfold vals
  pointwise [val_main_v6, val_main_v5, val_main_v4]

theorem top_apply (b h : Fin 16) (t : Fin 64) : val_main_v14 (F := Ideal) x0 x1 x3 x5 (ix3 b h t) = greatest (score x0 x1 x3 x5 b h t) := by
  unfold val_main_v14 greatest score
  generalize val_main_v13 (F := Ideal) x0 x1 x3 x5 = Y
  pointwise [val_main_cst, lit]

theorem weight_apply (b h : Fin 16) (t : Fin 64) (s : Fin 576) : val_main_v23 (F := Ideal) x0 x1 x3 x5 (ix4 b h t s)
    = Ideal.div (Ideal.exp2 (score x0 x1 x3 x5 b h t s - greatest (score x0 x1 x3 x5 b h t)))
        (∑ l, Ideal.exp2 (score x0 x1 x3 x5 b h t l - greatest (score x0 x1 x3 x5 b h t))) := by
  rw [← top_apply]
  unfold score val_main_v23 val_main_v22 val_main_v21 val_main_v20 val_main_v19 val_main_v18 val_main_v17 val_main_v16 val_main_v15
  generalize val_main_v14 (F := Ideal) x0 x1 x3 x5 = Z
  generalize val_main_v13 (F := Ideal) x0 x1 x3 x5 = Y
  simp only [← pow_two]
  pointwise [val_main_cst_0, val_main_cst_1, lit]

theorem head_out (b h : Fin 16) (t : Fin 64) (d : Fin 64) : val_main_v24 (F := Ideal) x0 x1 x2 x3 x4 x5 (ix4 b h d t)
    = softmaxSum (score x0 x1 x3 x5 b h t) (vals x2 x4 b h d) := by
  unfold softmaxSum
  simp only [← weight_apply]
  unfold val_main_v24 vals
  generalize val_main_v23 (F := Ideal) x0 x1 x3 x5 = Y
  generalize val_main_v6 (F := Ideal) x2 x4 = Z
  pointwise
  exact Finset.sum_congr rfl fun k _ => mul_comm _ _

theorem out_apply (b : Fin 16) (t : Fin 64) (j : Fin 1024) : val_main_v27 (F := Ideal) x0 x1 x2 x3 x4 x5 (ix3 b t j)
    = softmaxSum (score x0 x1 x3 x5 b (head j) t) (vals x2 x4 b (head j) ⟨j.val % 64, by omega⟩) := by
  rw [← head_out]
  pointwise [val_main_v27, val_main_v26, val_main_v25]

theorem score_fin (h0 : ∀ i, IsFin (x0 i)) (h1 : ∀ i, IsFin (x1 i)) (h3 : ∀ i, IsFin (x3 i)) (h5 : ∀ i, IsFin (x5 i))
    (b h : Fin 16) (t : Fin 64) (s : Fin 576) : IsFin (score x0 x1 x3 x5 b h t s) := by
  by_cases hs : s.val < 512
  · have e := score_past x0 x1 x3 x5 b h t ⟨s.val, hs⟩
    exact (congrArg IsFin e).mpr (IsFin.add (IsFin.sum _ _ fun d => (h0 _).mul (h3 _)) (h5 _))
  · have e := score_new x0 x1 x3 x5 b h t ⟨s.val - 512, by omega⟩
    have es : (⟨512 + (s.val - 512), by omega⟩ : Fin 576) = s := Fin.ext (by simp only; omega)
    simp only [es] at e
    exact (congrArg IsFin e).mpr (IsFin.add (IsFin.sum _ _ fun d => (h0 _).mul (h1 _)) (h5 _))

theorem result_apply (h0 : ∀ i, IsFin (x0 i)) (h1 : ∀ i, IsFin (x1 i)) (h3 : ∀ i, IsFin (x3 i)) (h5 : ∀ i, IsFin (x5 i))
    (b : Fin 16) (t : Fin 64) (j : Fin 1024) :
    val_main_v27 (F := Ideal) x0 x1 x2 x3 x4 x5 (ix3 b t j) = valueAt x0 x1 x2 x3 x4 x5 b t j := by
  rw [out_apply, ← attend_eq _ _ (score_fin x0 x1 x3 x5 h0 h1 h3 h5 _ _ _)]
  unfold valueAt
  simp only [score_past, score_new, vals_past, vals_new]
  refine congrArg _ (funext fun s => congrArg (fun k => x2 (ix3 b s k)) (Fin.ext ?_))
  show j.val / 64 * 64 + j.val % 64 = j.val
  omega

/-- The reference's result is the kernel's. -/
theorem result (h0 : ∀ i, IsFin (x0 i)) (h1 : ∀ i, IsFin (x1 i)) (h3 : ∀ i, IsFin (x3 i)) (h5 : ∀ i, IsFin (x5 i)) :
    val_main_v27 (F := Ideal) x0 x1 x2 x3 x4 x5 = value x0 x1 x2 x3 x4 x5 := by
  funext i
  exact (congrArg _ (eq_ix3 i)).trans (result_apply x0 x1 x2 x3 x4 x5 h0 h1 h3 h5 (i 0) (i 1) (i 2))

end Cert.CachedRefIdeal.Hand
end
-- ==== Proof.CachedClaim.lean ====
/-
  The claims about attention over a cache and new frames: the programs run and leave their arguments alone, and over finite
  queries, keys and bias the kernel's result is the reference's.
-/
module
public import proofs.«01_k».proof.Defs
public import proofs.«01_k».proof.Proof.Gen.Cached
public import proofs.«01_k».proof.Proof.Gen.Cached.Frame
public import proofs.«01_k».proof.Proof.Gen.CachedIdeal
public import proofs.«01_k».proof.Proof.Gen.CachedIdeal.Frame
public import proofs.«01_k».proof.Proof.Gen.CachedRefIdeal.Run
public import proofs.«01_k».proof.Proof.Gen.Pre_finite_scores
public import proofs.«01_k».proof.Proof.Cached
public import proofs.«01_k».proof.Proof.CachedRef
public import Idealize.ShloMosaic.Lib.Quiescent
public import Idealize.ShloMosaic.Lib.ReduceAll
@[expose] public section
noncomputable section
namespace Cert.CachedClaim
open Idealize.ShloMosaic Idealize.ShloMosaic.TcCoe Idealize.SL.Sem Cert.Rows

theorem quiet_ref : quiescent_CachedRefIdeal (hCachedRefIdeal := CachedRefIdeal.Gen.facts) := fun m g _ =>
  (θ_run CachedRefIdeal.defs _ _).mono
    (fun r h => ⟨fun c => (h c).2, Idealize.ShloMosaic.sem_eq_zero_of_no_sems (by decide) r.2⟩)
    (CachedRefIdeal.Value.run (F := Ideal) m g)

theorem quiet_ref_pre : quiescent_CachedRefIdeal_pre_finite_scores (hCachedRefIdeal := CachedRefIdeal.Gen.facts)
    (hPre_finite_scores := Pre_finite_scores.Gen.facts) := fun m g _ => quiet_ref m g trivial

/-- What the precondition says of each array: every entry is a real number. -/
theorem finite (a0 : FVec Ideal Pre_finite_scores.S16x64x1024 .bf16) (a1 : FVec Ideal Pre_finite_scores.S16x1024x64 .bf16)
    (a2 : FVec Ideal Pre_finite_scores.S16x64x1024 .bf16) (a3 a4 : FVec Ideal Pre_finite_scores.S16x512x16x64 .f32)
    (a5 : FVec Ideal Pre_finite_scores.S16x256x768 .f32)
    (h : Pre_finite_scores.fn (F := Ideal) a0 a1 a2 a3 a4 a5 = fun _ => 1#1) :
    (∀ i, IsFin (a0 i)) ∧ (∀ i, IsFin (a1 i)) ∧ (∀ i, IsFin (a3 i)) ∧ (∀ i, IsFin (a5 i)) := by
  have e := congrFun h (fun a => a.elim0)
  obtain ⟨e, e5⟩ := IntOp.andi_eq_one.1 e
  obtain ⟨e, e3⟩ := IntOp.andi_eq_one.1 e
  obtain ⟨e0, e1⟩ := IntOp.andi_eq_one.1 e
  haveI : Subsingleton Pre_finite_scores.S_.Idx := ⟨fun a b => funext fun k => k.elim0⟩
  exact ⟨fun i => IsFin.of_cmp (Host.reduce_andi_all _ _ _ _ _ e0 i), fun i => IsFin.of_cmp (Host.reduce_andi_all _ _ _ _ _ e1 i),
    fun i => IsFin.of_cmp (Host.reduce_andi_all _ _ _ _ _ e3 i), fun i => IsFin.of_cmp (Host.reduce_andi_all _ _ _ _ _ e5 i)⟩

theorem equal : algebraic_CachedIdeal_CachedRefIdeal_pre_finite_scores (hCachedIdeal := CachedIdeal.Gen.facts)
    (hCachedRefIdeal := CachedRefIdeal.Gen.facts) (hPre_finite_scores := Pre_finite_scores.Gen.facts) := by
  intro m g m' g' hpre hagree
  refine ⟨fun c => CachedIdeal.Hand.value
    (m ((c.tc : Thread CachedIdeal.nD CachedIdeal.τ).loc CachedIdeal.main_arg0))
    (m ((c.tc : Thread CachedIdeal.nD CachedIdeal.τ).loc CachedIdeal.main_arg1))
    (m ((c.tc : Thread CachedIdeal.nD CachedIdeal.τ).loc CachedIdeal.main_arg2))
    (m ((c.tc : Thread CachedIdeal.nD CachedIdeal.τ).loc CachedIdeal.main_arg3))
    (m ((c.tc : Thread CachedIdeal.nD CachedIdeal.τ).loc CachedIdeal.main_arg4))
    (m ((c.tc : Thread CachedIdeal.nD CachedIdeal.τ).loc CachedIdeal.main_arg5)), ?_, ?_⟩
  · exact (θ_run CachedIdeal.defs _ _).mono (fun r h c => ⟨(h c).1.trans (CachedIdeal.Hand.final m c), (h c).2⟩)
      (CachedIdeal.Value.run_blocks m g)
  · refine (θ_run CachedRefIdeal.defs _ _).mono (fun r h c => ⟨(h c).1.trans ?_, (h c).2⟩) (CachedRefIdeal.Value.run (F := Ideal) m' g')
    obtain ⟨e0, e1, e2, e3, e4, e5⟩ := hagree c
    obtain ⟨h0, h1, h3, h5⟩ := finite _ _ _ _ _ _ (hpre c)
    refine (CachedRefIdeal.Read.val_main_v27_eq m' c).trans ?_
    rw [e0, e1, e2, e3, e4, e5]
    exact CachedRefIdeal.Hand.result _ _ _ _ _ _ h0 h1 h3 h5

end Cert.CachedClaim
end
-- ==== Proof.FfnS.lean ====
/-
  The feed-forward call of the kernel on the frames of the running streams: what its result array holds after the run, as a function of the arguments.
-/
module
public import proofs.«01_k».proof.Proof.Gen.FfnSIdeal.Value
public import proofs.«01_k».proof.Proof.Ffn
public import Idealize.ShloMosaic.Lib.Pipeline.ValueKit
public import Idealize.ShloMosaic.Lib.Claim
@[expose] public section
set_option maxRecDepth 16384
noncomputable section
namespace Cert.FfnSIdeal.Hand
open Cert.FfnSIdeal Cert.FfnSIdeal.Gen Idealize.ShloMosaic Idealize.ShloMosaic.TcCoe Idealize.SL.Sem Cert.Rows
open Idealize.ShloMosaic.Pipeline (Dat)

/-- The body of this call is that of the call on the prompt. -/
theorem out_apply (x0 : Vec Ideal S1024x1024 .f32) (x1 x2 : Vec Ideal S1024x2816 .bf16) (x3 : Vec Ideal S2816x1024 .bf16)
    (x4 x5 : Vec Ideal S1x1024 .f32) (y : S1024x1024.Idx) :
    out0_6 x0 x1 x2 x3 x4 x5 y = FfnIdeal.Hand.blockOut x0 x1 x2 x3 x4 x5 y :=
  FfnIdeal.Hand.out_apply x0 x1 x2 x3 x4 x5 y

/-- The result, entry by entry, as a function of the arguments of `ffn_kernel`. -/
def value (a0 : Vec Ideal S16x64x1024 .f32) (a1 : Vec Ideal S1024x5632 .f32) (a2 : Vec Ideal S2816x1024 .f32)
    (a3 a4 : Vec Ideal S1024 .f32) (i : S1024x1024.Idx) : EReal :=
  layerNorm (ffnSum (fun k => a0 (ix3 ⟨(i 0).val / 64, by have := (i 0).isLt; simp at this; omega⟩ ⟨(i 0).val % 64, by omega⟩ k))
      (fun k l => a1 (ix2 k ⟨l.val, by omega⟩)) (fun k l => a1 (ix2 k ⟨2816 + l.val, by omega⟩)) (fun k l => a2 (ix2 k l)))
    (fun k => a3 (ix1 k)) (fun k => a4 (ix1 k)) (i 1)

variable (m : (ℓ : Loc nD τ sig) → Buf (Elt Ideal) ℓ)

/-- The block that each window reads or writes at a grid point. -/
theorem idx : ∀ t : Fin cfg0.N, win0_0.index t = ![t.val, 0] ∧ win0_1.index t = ![0, 0] ∧ win0_2.index t = ![0, 1]
    ∧ win0_3.index t = ![0, 0] ∧ win0_4.index t = ![0, 0] ∧ win0_5.index t = ![0, 0] ∧ win0_6.index t = ![t.val, 0] :=
  (by decide +kernel : ∀ t : Fin grid0.N, win0_0.index t = ![t.val, 0] ∧ win0_1.index t = ![0, 0] ∧ win0_2.index t = ![0, 1]
    ∧ win0_3.index t = ![0, 0] ∧ win0_4.index t = ![0, 0] ∧ win0_5.index t = ![0, 0] ∧ win0_6.index t = ![t.val, 0])

/-- The tokens of a sequence, one after another. -/
theorem rows_apply (X : Vec Ideal S16x64x1024 .f32) (h : S16x64x1024.ShapeCasts S1024x1024) (p : Fin 1024) (k : Fin 1024) :
    shapeCast S1024x1024 X h (ix2 p k) = X (ix3 ⟨p.val / 64, by omega⟩ ⟨p.val % 64, by omega⟩ k) := by
  pointwise

theorem read0 (c : Dev nD) (t : Fin cfg0.N) (r k : Fin 1024) :
    (iblk m c 0 t : Vec Ideal S1024x1024 .f32) (ix2 r k)
      = m ((c : Thread nD τ).loc main_arg0) (ix3 ⟨(t.val * 1024 + r.val) / 64, by have : t.val < 1 := t.isLt; omega⟩
          ⟨(t.val * 1024 + r.val) % 64, by omega⟩ k) := by
  obtain ⟨e0, e1, e2, e3, e4, e5, e6⟩ := idx t
  refine Eq.trans (b := V m c main_v0 (ix2 (⟨t.val * 1024 + r.val, by have : t.val < 1 := t.isLt; omega⟩ : Fin 1024) k)) ?_ ?_
  · blk_ext [iblk, e0]
  · entry_read
    exact rows_apply _ _ _ _

theorem read1 (c : Dev nD) (t : Fin cfg0.N) (k : Fin 1024) (l : Fin 2816) :
    (iblk m c 1 t : Vec Ideal S1024x2816 .bf16) (ix2 k l) = m ((c : Thread nD τ).loc main_arg1) (ix2 k ⟨l.val, by omega⟩) := by
  obtain ⟨e0, e1, e2, e3, e4, e5, e6⟩ := idx t
  blk_ext! [iblk, V, e1]

theorem read2 (c : Dev nD) (t : Fin cfg0.N) (k : Fin 1024) (l : Fin 2816) :
    (iblk m c 2 t : Vec Ideal S1024x2816 .bf16) (ix2 k l) = m ((c : Thread nD τ).loc main_arg1) (ix2 k ⟨2816 + l.val, by omega⟩) := by
  obtain ⟨e0, e1, e2, e3, e4, e5, e6⟩ := idx t
  blk_ext! [iblk, V, e2]

theorem read3 (c : Dev nD) (t : Fin cfg0.N) (k : Fin 2816) (l : Fin 1024) :
    (iblk m c 3 t : Vec Ideal S2816x1024 .bf16) (ix2 k l) = m ((c : Thread nD τ).loc main_arg2) (ix2 k l) := by
  obtain ⟨e0, e1, e2, e3, e4, e5, e6⟩ := idx t
  blk_ext! [iblk, V, e3]

theorem read4 (c : Dev nD) (t : Fin cfg0.N) (k : Fin 1024) :
    (iblk m c 4 t : Vec Ideal S1x1024 .f32) (ix2 0 k) = m ((c : Thread nD τ).loc main_arg3) (ix1 k) := by
  obtain ⟨e0, e1, e2, e3, e4, e5, e6⟩ := idx t
  blk_ext! [iblk, V, e4]

theorem read5 (c : Dev nD) (t : Fin cfg0.N) (k : Fin 1024) :
    (iblk m c 5 t : Vec Ideal S1x1024 .f32) (ix2 0 k) = m ((c : Thread nD τ).loc main_arg4) (ix1 k) := by
  obtain ⟨e0, e1, e2, e3, e4, e5, e6⟩ := idx t
  blk_ext! [iblk, V, e5]

theorem place (t : Fin cfg0.N) (y : S1024x1024.Idx) : (win0_6.blk t).view.emb y
    = ix2 (⟨t.val * 1024 + (y 0).val, by have : t.val < 1 := t.isLt; have := (y 0).isLt; simp at this; omega⟩ : Fin 1024) (y 1) := by
  obtain ⟨e0, e1, e2, e3, e4, e5, e6⟩ := idx t
  blk_ext [e6]

theorem final (c : Dev nD) : (dats m 0 c).arrAt 6 cfg0.N
    = value (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 6 _ (by decide +kernel) fun t hf y => ?_
  blk_simp
  rw [after0_6, out_apply]
  refine Eq.trans ?_ (congrArg _ (place t y).symm)
  unfold FfnIdeal.Hand.blockOut value
  simp only [read1, read2, read3, read4, read5]
  exact congrArg (fun f => layerNorm (ffnSum f _ _ _) _ _ _) (funext fun k => read0 m c t (y 0) k)

end Cert.FfnSIdeal.Hand
end
-- ==== Proof.FfnSRef.lean ====
/-
  The feed-forward network on the frames of the running streams, as the reference writes it, read entry by entry.
-/
module
public import proofs.«01_k».proof.Proof.Gen.FfnSRefIdeal.Read
public import proofs.«01_k».proof.Proof.Rows
@[expose] public section
set_option maxRecDepth 16384
noncomputable section
namespace Cert.FfnSRefIdeal.Hand
open Cert.FfnSRefIdeal Cert.FfnSRefIdeal.Gen Cert.FfnSRefIdeal.Read Idealize.ShloMosaic Idealize.ShloMosaic.TcCoe Idealize.SL.Sem Cert.Rows

variable (a0 : Vec Ideal S16x64x1024 .f32) (a1 : Vec Ideal S1024x5632 .f32) (a2 : Vec Ideal S2816x1024 .f32)
    (a3 a4 : Vec Ideal S1024 .f32)

theorem sum_apply (p : Fin 1024) (j : Fin 1024) : val_main_v11 (F := Ideal) a0 a1 a2 (ix2 p j)
    = ffnSum (fun k => a0 (ix3 ⟨p.val / 64, by omega⟩ ⟨p.val % 64, by omega⟩ k))
      (fun k l => a1 (ix2 k ⟨l.val, by omega⟩)) (fun k l => a1 (ix2 k ⟨2816 + l.val, by omega⟩)) (fun k l => a2 (ix2 k l)) j := by
  pointwise [val_main_v11, val_main_v10, val_main_v9, val_main_v8, val_main_v7, val_main_v6, val_main_v5, val_main_v4, val_main_v3, val_main_v2, val_main_v1, val_main_v0, val_main_cst, val_main_cst_0, val_main_call0_v0, val_main_call0_v1, val_main_call0_v2, val_main_call0_v3, val_main_call0_v4, val_main_call0_v5, val_main_call0_cst, val_main_call0_cst_0, ffnSum, dot, silu]

theorem norm_apply (p : Fin 1024) (j : Fin 1024) : val_main_v35 (F := Ideal) a0 a1 a2 a3 a4 (ix2 p j)
    = layerNorm (fun k => val_main_v11 (F := Ideal) a0 a1 a2 (ix2 p k)) (fun k => a3 (ix1 k)) (fun k => a4 (ix1 k)) j := by
  pointwise [val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_cst_1, val_main_cst_2, val_main_cst_3, val_main_cst_4, val_main_cst_5, layerNorm]

theorem out_apply (p : Fin 1024) (j : Fin 1024) : val_main_v35 (F := Ideal) a0 a1 a2 a3 a4 (ix2 p j)
    = layerNorm (ffnSum (fun k => a0 (ix3 ⟨p.val / 64, by omega⟩ ⟨p.val % 64, by omega⟩ k))
      (fun k l => a1 (ix2 k ⟨l.val, by omega⟩)) (fun k l => a1 (ix2 k ⟨2816 + l.val, by omega⟩)) (fun k l => a2 (ix2 k l)))
    (fun k => a3 (ix1 k)) (fun k => a4 (ix1 k)) j := by
  rw [norm_apply]
  exact congrArg (fun f => layerNorm f _ _ _) (funext fun k => sum_apply a0 a1 a2 p k)

end Cert.FfnSRefIdeal.Hand
end
-- ==== Proof.FfnSClaim.lean ====
/-
  The feed-forward claims for the running streams: the three programs run and leave their arguments alone, and the kernel's result is the
  reference's.
-/
module
public import proofs.«01_k».proof.Defs
public import proofs.«01_k».proof.Proof.Gen.FfnS
public import proofs.«01_k».proof.Proof.Gen.FfnS.Frame
public import proofs.«01_k».proof.Proof.Gen.FfnSIdeal
public import proofs.«01_k».proof.Proof.Gen.FfnSIdeal.Frame
public import proofs.«01_k».proof.Proof.Gen.FfnSRefIdeal.Run
public import proofs.«01_k».proof.Proof.FfnS
public import proofs.«01_k».proof.Proof.FfnSRef
public import Idealize.ShloMosaic.Lib.Quiescent
@[expose] public section
noncomputable section
namespace Cert.FfnSClaim
open Idealize.ShloMosaic Idealize.ShloMosaic.TcCoe Idealize.SL.Sem

theorem quiet_ref : quiescent_FfnSRefIdeal (hFfnSRefIdeal := FfnSRefIdeal.Gen.facts) := fun m g _ =>
  (θ_run FfnSRefIdeal.defs _ _).mono
    (fun r h => ⟨fun c => (h c).2, Idealize.ShloMosaic.sem_eq_zero_of_no_sems (by decide) r.2⟩)
    (FfnSRefIdeal.Value.run (F := Ideal) m g)

theorem equal : algebraic_FfnSIdeal_FfnSRefIdeal (hFfnSIdeal := FfnSIdeal.Gen.facts) (hFfnSRefIdeal := FfnSRefIdeal.Gen.facts) := by
  intro m g m' g' _ hagree
  refine ⟨fun c => FfnSIdeal.Hand.value (m ((c.tc : Thread FfnSIdeal.nD FfnSIdeal.τ).loc FfnSIdeal.main_arg0))
    (m ((c.tc : Thread FfnSIdeal.nD FfnSIdeal.τ).loc FfnSIdeal.main_arg1)) (m ((c.tc : Thread FfnSIdeal.nD FfnSIdeal.τ).loc FfnSIdeal.main_arg2))
    (m ((c.tc : Thread FfnSIdeal.nD FfnSIdeal.τ).loc FfnSIdeal.main_arg3)) (m ((c.tc : Thread FfnSIdeal.nD FfnSIdeal.τ).loc FfnSIdeal.main_arg4)), ?_, ?_⟩
  · exact (θ_run FfnSIdeal.defs _ _).mono (fun r h c => ⟨(h c).1.trans (FfnSIdeal.Hand.final m c), (h c).2⟩)
      (FfnSIdeal.Value.run_blocks m g)
  · refine (θ_run FfnSRefIdeal.defs _ _).mono (fun r h c => ⟨(h c).1.trans ?_, (h c).2⟩) (FfnSRefIdeal.Value.run (F := Ideal) m' g')
    obtain ⟨e0, e1, e2, e3, e4⟩ := hagree c
    refine (FfnSRefIdeal.Read.val_main_v35_eq m' c).trans ?_
    rw [e0, e1, e2, e3, e4]
    funext i
    refine (congrArg _ (eq_ix2 i)).trans ?_
    exact FfnSRefIdeal.Hand.out_apply _ _ _ _ _ (i 0) (i 1)

end Cert.FfnSClaim
end
-- ==== Proof.Recur.lean ====
/-
  One chunk of the recurrence of one head, as mathematics: 64 frames with logarithmic gates, from a carried state
  (a matrix, a vector and the running maximum of the log weights).
-/
module
public import proofs.«01_k».proof.Proof.Attend
@[expose] public section
noncomputable section
namespace Cert.Rows
open Idealize.ShloMosaic

/-- Sums of the first, the first two, … entries. -/
def cum (f : Fin 64 → EReal) (t : Fin 64) : EReal := ∑ s : Fin 64, if s.val ≤ t.val then f s else 0

/-- The last frame. -/
abbrev last : Fin 64 := 63

variable (b li : Fin 64 → EReal) (m : EReal)

/-- The log weight that frame `s` has at frame `t`; `b` are the summed log forget gates. -/
def logw (t s : Fin 64) : EReal := if s.val ≤ t.val then b t - b s + li s else ⊥

/-- The greatest log weight at frame `t`, the carried state's among them. -/
def stab (t : Fin 64) : EReal := max (b t + m) (greatest (logw b li t))

/-- The carried state's weight at frame `t`. -/
def inter (t : Fin 64) : EReal := Ideal.exp (b t + m - stab b li m t)

variable {e : ℕ} (q k : Fin 64 → Fin 256 → EReal) (v : Fin 64 → Fin 256 → EReal) (C : Fin 256 → Fin 256 → EReal) (n : Fin 256 → EReal)

/-- The weighted score of frame `s` at frame `t`. -/
def score (t s : Fin 64) : EReal := (∑ d, q t d * k s d) * Ideal.exp (logw b li t s - stab b li m t)

def numer (t : Fin 64) (e : Fin 256) : EReal :=
  inter b li m t * (∑ d, q t d * C d e) + ∑ s, score b li m q k t s * v s e

def denom (t : Fin 64) : EReal := inter b li m t * (∑ d, q t d * n d) + ∑ s, score b li m q k t s

def floor (t : Fin 64) : EReal := max (max (denom b li m q k n t) (-denom b li m q k n t)) (Ideal.exp (-stab b li m t))

/-- The head's output. -/
def output (t : Fin 64) (e : Fin 256) : EReal := Ideal.div (numer b li m q k v C t e) (floor b li m q k n t)

/-- The next running maximum. -/
def nextMax : EReal := max (b last + m) (greatest fun s => b last - b s + li s)

def decay : EReal := Ideal.exp (b last + m - nextMax b li m)

def weight (s : Fin 64) : EReal := Ideal.exp (b last - b s + li s - nextMax b li m)

/-- The next matrix. -/
def nextC (d e : Fin 256) : EReal := decay b li m * C d e + ∑ s, weight b li m s * k s d * v s e

/-- The next vector. -/
def nextN (d : Fin 256) : EReal := decay b li m * n d + ∑ s, weight b li m s * k s d

/-- Norm of a head's output. -/
def headNorm (h : Fin 256 → EReal) (e : Fin 256) : EReal :=
  (h e - Ideal.div (∑ i, h i) (lit 0x43800000#32))
    * Ideal.rsqrt (Ideal.div (∑ i, (h i - Ideal.div (∑ i, h i) (lit 0x43800000#32)) * (h i - Ideal.div (∑ i, h i) (lit 0x43800000#32)))
      (lit 0x43800000#32) + lit 0x3727C5AC#32)

theorem IsFin.neg {x : EReal} (hx : IsFin x) : IsFin (-x) := by
  obtain ⟨r, rfl⟩ := hx; exact ⟨-r, by push_cast; rfl⟩

theorem IsFin.sub {x y : EReal} (hx : IsFin x) (hy : IsFin y) : IsFin (x - y) := by
  obtain ⟨r, rfl⟩ := hx; obtain ⟨s, rfl⟩ := hy; exact ⟨r - s, by push_cast; rfl⟩

theorem IsFin.sub_self {x : EReal} (hx : IsFin x) : x - x = 0 := by
  obtain ⟨r, rfl⟩ := hx; rw [← EReal.coe_sub]; simp

theorem IsFin.max {x y : EReal} (hx : IsFin x) (hy : IsFin y) : IsFin (max x y) := by
  rcases max_choice x y with h | h <;> rw [h] <;> assumption

theorem cum_fin {f : Fin 64 → EReal} (h : ∀ s, IsFin (f s)) (t : Fin 64) : IsFin (cum f t) :=
  IsFin.sum _ _ fun s => by split; exacts [h s, ⟨0, rfl⟩]

/-- The kernel's order of the same sum. -/
theorem add_sub_fin {x y z : EReal} (hx : IsFin x) (hy : IsFin y) (hz : IsFin z) : x + (z - y) = x - y + z := by
  obtain ⟨r, rfl⟩ := hx; obtain ⟨s, rfl⟩ := hy; obtain ⟨u, rfl⟩ := hz
  rw [← EReal.coe_sub, ← EReal.coe_add, ← EReal.coe_sub, ← EReal.coe_add]
  congr 1; ring

/-- A maximum over terms one of which is finite and none of which is infinite above. -/
theorem stab_ne_top {b li : Fin 64 → EReal} {m : EReal} (hb : ∀ s, IsFin (b s)) (hl : ∀ s, IsFin (li s)) (hm : IsFin m) (t : Fin 64) :
    stab b li m t ≠ ⊤ := by
  have h : greatest (logw b li t) < ⊤ := by
    unfold greatest
    rw [Finset.fold_max_lt, lit_bot]
    refine ⟨bot_lt_top, fun s _ => ?_⟩
    unfold logw
    split
    · exact lt_top_iff_ne_top.2 (((hb t).sub (hb s)).add (hl s)).ne_top
    · exact bot_lt_top
  exact (max_lt (lt_top_iff_ne_top.2 ((hb t).add hm).ne_top) h).ne

theorem exp_pos {x : EReal} (h : x ≠ ⊥) : 0 < Ideal.exp x := by
  induction x using EReal.rec with
  | bot => exact absurd rfl h
  | top => exact EReal.zero_lt_top
  | coe r => exact EReal.coe_pos.2 (Real.exp_pos r)

theorem floor_pos {b li : Fin 64 → EReal} {m : EReal} (hb : ∀ s, IsFin (b s)) (hl : ∀ s, IsFin (li s)) (hm : IsFin m)
    (q k : Fin 64 → Fin 256 → EReal) (n : Fin 256 → EReal) (t : Fin 64) : 0 < floor b li m q k n t :=
  lt_of_lt_of_le (exp_pos (by simpa using stab_ne_top hb hl hm t)) (le_max_right _ _)

/-- Multiplying by the reciprocal of a positive number is dividing by it. -/
theorem mul_recip (x : EReal) {y : EReal} (h : 0 < y) : x * Ideal.div 1 y = Ideal.div x y := by
  simp [Ideal.div, h.ne']

/-- A sum over lanes of which one is picked. -/
theorem sum_pick {n : ℕ} (f : Fin n → EReal) (j : Fin n) : (∑ l, if l = j then f l else 0) = f j := by
  simp

section Chunk
variable (Q : Fin 64 → Fin 1024 → EReal) (K : Fin 1024 → Fin 64 → EReal) (V SO : Fin 64 → Fin 1024 → EReal)
  (G : Fin 64 → Fin 128 → EReal) (CC : Fin 4 → Fin 256 → Fin 256 → EReal) (N : Fin 4 → Fin 256 → EReal) (MM : Fin 128 → EReal)
  (NG : Fin 1024 → EReal)

/-- Feature `d` of head `j`. -/
def feat (j : Fin 4) (d : Fin 256) : Fin 1024 := ⟨256 * j.val + d.val, by omega⟩
def headOf (f : Fin 1024) : Fin 4 := ⟨f.val / 256, by omega⟩
def chanOf (f : Fin 1024) : Fin 256 := ⟨f.val % 256, by omega⟩
/-- The gate lane of a head. -/
def gate (j : Fin 4) : Fin 128 := ⟨j.val, by omega⟩
/-- The summed log forget gates of a lane; they stand four lanes on. -/
def forget (l : Fin 128) : Fin 64 → EReal := cum fun s => G s ⟨(l.val + 4) % 128, Nat.mod_lt _ (by decide)⟩
def input (l : Fin 128) (s : Fin 64) : EReal := G s l

/-- A head's output in the layer's layout. -/
def headOut (j : Fin 4) (t : Fin 64) (e : Fin 256) : EReal :=
  output (forget G (gate j)) (input G (gate j)) (MM (gate j)) (fun t d => Q t (feat j d)) (fun s d => K (feat j d) s)
    (fun s e => V s (feat j e)) (CC j) (N j) t e

def chunkOut (t : Fin 64) (f : Fin 1024) : EReal :=
  headNorm (headOut Q K V G CC N MM (headOf f) t) (chanOf f) * NG f * SO t f

def chunkC (j : Fin 4) (d e : Fin 256) : EReal :=
  nextC (forget G (gate j)) (input G (gate j)) (MM (gate j)) (fun s d => K (feat j d) s) (fun s e => V s (feat j e)) (CC j) d e

def chunkN (j : Fin 4) (d : Fin 256) : EReal :=
  nextN (forget G (gate j)) (input G (gate j)) (MM (gate j)) (fun s d => K (feat j d) s) (N j) d

def chunkM (l : Fin 128) : EReal := nextMax (forget G l) (input G l) (MM l)

theorem headOf_feat (j : Fin 4) (e : Fin 256) : headOf (feat j e) = j := Fin.ext (by show (256 * j.val + e.val) / 256 = j.val; omega)
theorem chanOf_feat (j : Fin 4) (e : Fin 256) : chanOf (feat j e) = e := Fin.ext (by show (256 * j.val + e.val) % 256 = e.val; omega)
end Chunk

end Cert.Rows
end
-- ==== Proof.MlsParts.lean ====
/-
  The blocks of the recurrence call: what each of its parts is at an index. The kernel keeps four heads side by side,
  picks a head's lane by a masked sum, and sums the gates by a product with a triangle of ones.
-/
module
public import proofs.«01_k».proof.Proof.Gen.MlsIdeal.Value
public import proofs.«01_k».proof.Proof.Recur
@[expose] public section
set_option maxRecDepth 16384
noncomputable section
namespace Cert.MlsIdeal.Hand
open Cert.MlsIdeal Cert.MlsIdeal.Gen Idealize.ShloMosaic Idealize.ShloMosaic.TcCoe Cert.Rows

/-- The rows of a block. -/
abbrev rows (x : FVec Ideal S1x64x256 .bf16) (t : Fin 64) (d : Fin 256) : EReal := x (ix3 0 t d)
/-- The columns of a transposed block. -/
abbrev cols (x : FVec Ideal S1x256x64 .bf16) (s : Fin 64) (d : Fin 256) : EReal := x (ix3 0 d s)
/-- A head's matrix. -/
abbrev mat (x : FVec Ideal S1x1x256x256 .f32) (d e : Fin 256) : EReal := x (ix4 0 0 d e)

theorem lane (j : Fin 128) (f : Fin 128 → EReal) :
    (∑ x, Scalar.select (IntOp.cmpi .eq (BitVec.ofNat 32 x.val) (BitVec.ofNat 32 j.val)) (f x) 0) = f j := by
  have h : ∀ x j : Fin 128, IntOp.cmpi .eq (BitVec.ofNat 32 x.val) (BitVec.ofNat 32 j.val) = if x = j then 1#1 else 0#1 := by
    decide +kernel
  refine (Finset.sum_congr rfl fun x _ => ?_).trans (sum_pick f j)
  rw [h]; split <;> rfl

theorem sum_halves (f : Fin 256 → EReal) :
    (∑ x : Fin 128, f ⟨x.val, by omega⟩) + ∑ x : Fin 128, f ⟨128 + x.val, by omega⟩ = ∑ x, f x :=
  (Fin.sum_univ_add (a := 128) (b := 128) f).symm

theorem le_sel (x t : Fin 64) (a b : EReal) :
    Scalar.select (IntOp.cmpi .sle (BitVec.ofNat 32 x.val) (IntOp.addi (BitVec.ofNat 32 t.val) 0#32)) a b = if x.val ≤ t.val then a else b := by
  have h : ∀ x t : Fin 64, IntOp.cmpi .sle (BitVec.ofNat 32 x.val) (IntOp.addi (BitVec.ofNat 32 t.val) 0#32) = if x.val ≤ t.val then 1#1 else 0#1 := by
    decide +kernel
  rw [h]; split <;> rfl

theorem tri (x t : Fin 64) :
    (FloatOps.sitofp (F := Ideal) .f32 (BitVec.setWidth 32 (IntOp.cmpi .sle (BitVec.ofNat 32 x.val) (BitVec.ofNat 32 t.val))) : EReal)
      = if x.val ≤ t.val then 1 else 0 := by
  have h : ∀ x t : Fin 64, (BitVec.setWidth 32 (IntOp.cmpi .sle (BitVec.ofNat 32 x.val) (BitVec.ofNat 32 t.val))).toInt = if x.val ≤ t.val then 1 else 0 := by
    decide +kernel
  change (((BitVec.setWidth 32 (IntOp.cmpi .sle (BitVec.ofNat 32 x.val) (BitVec.ofNat 32 t.val))).toInt : ℝ) : EReal) = _
  rw [h]; split <;> simp

section
variable {g : Vec Ideal S1x64x128 .f32}

/-- The log input gate of a lane. -/
abbrev li (g : Vec Ideal S1x64x128 .f32) (l : Fin 128) (s : Fin 64) : EReal := g (ix3 0 s l)
/-- The log forget gate of a lane, which stands four lanes on. -/
abbrev lf (g : Vec Ideal S1x64x128 .f32) (l : Fin 128) (s : Fin 64) : EReal := g (ix3 0 s ⟨(l.val + 4) % 128, Nat.mod_lt _ (by decide)⟩)

theorem bc_apply (hg : ∀ s l, IsFin (g (ix3 0 s l))) (t : Fin 64) (l : Fin 128) : k0_pay12 g (ix2 t l) = cum (lf g l) t := by
  pointwise [k0_pay12, k0_pay11]
  simp only [tri, (hg _ _).sub_self, sub_zero, mul_zero, Finset.sum_const_zero, add_zero, ite_mul, one_mul, zero_mul]
  have e : (⟨(l.val + 128 - 124) % 128, Nat.mod_lt _ (by decide)⟩ : Fin 128) = ⟨(l.val + 4) % 128, Nat.mod_lt _ (by decide)⟩ :=
    Fin.ext (by show (l.val + 128 - 124) % 128 = (l.val + 4) % 128; omega)
  unfold cum
  exact Finset.sum_congr rfl fun x _ => congrArg (fun i => if x.val ≤ t.val then g (ix3 0 x i) else 0) e

theorem lt_apply (hg : ∀ s l, IsFin (g (ix3 0 s l))) (l : Fin 128) (s : Fin 64) : k0_pay14 g (ix2 l s) = li g l s - cum (lf g l) s := by
  rw [← bc_apply hg]; unfold k0_pay14 k0_pay13
  generalize k0_pay12 g = bc
  pointwise [k0_pay11]

variable (y : Vec Ideal S1x1x128 .f32)

theorem next_apply (hg : ∀ s l, IsFin (g (ix3 0 s l))) (l : Fin 128) :
    k0_pay18 g y (ix2 0 l) = nextMax (cum (lf g l)) (li g l) (y (ix3 0 0 l)) := by
  have hb := bc_apply hg
  have hf : ∀ s, IsFin (cum (lf g l) s) := cum_fin fun s => hg s _
  unfold k0_pay18 k0_pay17 k0_pay16 k0_pay15 k0_pay13
  revert hb
  generalize k0_pay12 g = bc
  intro hb
  pointwise [k0_pay11]
  simp only [hb, add_sub_fin (hf _) (hf _) (hg _ _)]; rfl

theorem decay_apply (hg : ∀ s l, IsFin (g (ix3 0 s l))) (l : Fin 128) :
    k0_pay19 g y (ix2 0 l) = decay (cum (lf g l)) (li g l) (y (ix3 0 0 l)) := by
  have hb := bc_apply hg
  have hn := next_apply y hg
  unfold k0_pay19 k0_pay16 k0_pay15
  revert hb hn
  generalize k0_pay12 g = bc, k0_pay18 g y = nm
  intro hb hn
  pointwise
  simp only [hb, hn]; rfl

theorem weight_apply (hg : ∀ s l, IsFin (g (ix3 0 s l))) (l : Fin 128) (s : Fin 64) :
    k0_pay21 (k0_pay20 g y) (ix2 l s) = weight (cum (lf g l)) (li g l) (y (ix3 0 0 l)) s := by
  have hb := bc_apply hg
  have hn := next_apply y hg
  have hf : ∀ s, IsFin (cum (lf g l) s) := cum_fin fun s => hg s _
  unfold k0_pay21 k0_pay20 k0_pay17 k0_pay16 k0_pay13
  revert hb hn
  generalize k0_pay12 g = bc, k0_pay18 g y = nm
  intro hb hn
  pointwise [k0_pay11]
  simp only [hb, hn, add_sub_fin (hf _) (hf _) (hg _ _)]; rfl
end

theorem col0 (bc : FVec Ideal S64x128 .f32) (t : Fin 64) (l : Fin 128) : (k0_pay22 bc : FVec Ideal S1x64x128 .f32) (ix3 0 t l) = bc (ix2 t 0) := by
  pointwise [k0_pay22]; exact lane 0 _

theorem mp0 (mp : FVec Ideal S1x128 .f32) : (k0_pay26 mp : FVec Ideal S1x1 .f32) (ix2 0 0) = mp (ix2 0 0) := by
  pointwise [k0_pay26]; exact lane 0 _

section
variable {b l : Fin 64 → EReal} {m : EReal} (hbf : ∀ s, IsFin (b s)) (hlf : ∀ s, IsFin (l s))
  {lt : FVec Ideal S128x64 .f32} {P : FVec Ideal S1x1 .f32} {B : FVec Ideal S1x64x128 .f32}
  (hB : ∀ t l', B (ix3 0 t l') = b t) (hl : ∀ s, lt (ix2 0 s) = l s - b s) (hP : P (ix2 0 0) = m)
include hbf hlf hB hl hP

theorem d0 (t s : Fin 64) : (k0_pay34 lt P (iota Kind.tc S64x64 32 [1] iota_S64x64_d1_w32) (iota Kind.tc S64x64 32 [0] iota_S64x64_d0_w32) 0#32 B : FVec Ideal S1x64x64 .f32) (ix3 0 t s) = Ideal.exp (logw b l t s - stab b l m t) := by
  pointwise [k0_pay30, k0_pay31, k0_pay32, k0_pay33, k0_pay34, k0_pay35, k0_pay36]
  simp only [hB, hl, hP, le_sel, add_sub_fin (hbf _) (hbf _) (hlf _)]
  have hb : Ideal.ofBits .f32 0xFF800000#32 = ⊥ := lit_bot
  simp only [inter, stab, logw, greatest, lit, hb]; rfl

theorem w0 (t : Fin 64) (l' : Fin 128) : (k0_pay35 lt P (iota Kind.tc S64x64 32 [1] iota_S64x64_d1_w32) (iota Kind.tc S64x64 32 [0] iota_S64x64_d0_w32) 0#32 B : FVec Ideal S1x64x128 .f32) (ix3 0 t l') = inter b l m t := by
  pointwise [k0_pay30, k0_pay31, k0_pay32, k0_pay33, k0_pay34, k0_pay35, k0_pay36]
  simp only [hB, hl, hP, le_sel, add_sub_fin (hbf _) (hbf _) (hlf _)]
  have hb : Ideal.ofBits .f32 0xFF800000#32 = ⊥ := lit_bot
  simp only [inter, stab, logw, greatest, lit, hb]; rfl

theorem e0 (t : Fin 64) (l' : Fin 128) : (k0_pay36 lt P (iota Kind.tc S64x64 32 [1] iota_S64x64_d1_w32) (iota Kind.tc S64x64 32 [0] iota_S64x64_d0_w32) 0#32 B : FVec Ideal S1x64x128 .f32) (ix3 0 t l') = Ideal.exp (-stab b l m t) := by
  pointwise [k0_pay30, k0_pay31, k0_pay32, k0_pay33, k0_pay34, k0_pay35, k0_pay36]
  simp only [hB, hl, hP, le_sel, add_sub_fin (hbf _) (hbf _) (hlf _), zero_sub]
  have hb : Ideal.ofBits .f32 0xFF800000#32 = ⊥ := lit_bot
  simp only [inter, stab, logw, greatest, lit, hb]; rfl
end

section
variable {b l : Fin 64 → EReal} {m : EReal}
  (q : FVec Ideal S1x64x256 .bf16) (k : FVec Ideal S1x256x64 .bf16) (v : FVec Ideal S1x64x256 .bf16)
  {D : FVec Ideal S1x64x64 .f32} (hD : ∀ t s, D (ix3 0 t s) = Ideal.exp (logw b l t s - stab b l m t))

include hD in
theorem s0 (t s : Fin 64) : (k0_pay65 (k0_pay62 q k D) : FVec Ideal S1x64x64 .bf16) (ix3 0 t s) = score b l m (rows q) (cols k) t s := by
  pointwise [k0_pay62, k0_pay63, k0_pay64, k0_pay65]
  simp only [hD]; rfl

include hD in
theorem r0 (t : Fin 64) (l' : Fin 128) : (k0_pay64 (k0_pay63 q k D) : FVec Ideal S1x64x128 .f32) (ix3 0 t l') = ∑ s, score b l m (rows q) (cols k) t s := by
  pointwise [k0_pay62, k0_pay63, k0_pay64, k0_pay65]
  simp only [hD]; rfl

variable (C : FVec Ideal S1x1x256x256 .f32) {n : FVec Ideal S1x256x128 .f32} {n0 : Fin 256 → EReal}
  {S : FVec Ideal S1x64x64 .bf16} {W R E : FVec Ideal S1x64x128 .f32}
  (hn : ∀ d l', n (ix3 0 d l') = n0 d)
  (hS : ∀ t s, S (ix3 0 t s) = score b l m (rows q) (cols k) t s) (hW : ∀ t l', W (ix3 0 t l') = inter b l m t)
  (hR : ∀ t l', R (ix3 0 t l') = ∑ s, score b l m (rows q) (cols k) t s) (hE : ∀ t l', E (ix3 0 t l') = Ideal.exp (-stab b l m t))
  (hf : ∀ t, 0 < floor b l m (rows q) (cols k) n0 t)

include hn hS hW hR hE hf in
theorem h0 (t : Fin 64) (e : Fin 256) : (k0_pay82 (k0_pay77 q C) (k0_pay78 v S) (k0_pay79 W) (k0_pay80 q n W R) E : FVec Ideal S1x64x256 .f32) (ix3 0 t e)
    = output b l m (rows q) (cols k) (rows v) (mat C) n0 t e := by
  pointwise [k0_pay76, k0_pay77, k0_pay78, k0_pay79, k0_pay80, k0_pay81, k0_pay82, k0_pay83]
  simp only [hn, hS, hW, hR, hE, dite_eq_ite, ite_self]
  exact mul_recip _ (hf t)

include hn hS hW hR hE hf in
theorem m0 (t : Fin 64) (l' : Fin 128) : (k0_pay83 (k0_pay77 q C) (k0_pay78 v S) (k0_pay79 W) (k0_pay80 q n W R) E : FVec Ideal S1x64x128 .f32) (ix3 0 t l')
    = Ideal.div (∑ e, output b l m (rows q) (cols k) (rows v) (mat C) n0 t e) (lit 0x43800000#32) := by
  pointwise [k0_pay76, k0_pay77, k0_pay78, k0_pay79, k0_pay80, k0_pay81, k0_pay82, k0_pay83]
  simp only [hn, hS, hW, hR, hE, dite_eq_ite, ite_self]
  have hs := sum_halves fun e => numer b l m (rows q) (cols k) (rows v) (mat C) t e * Ideal.div 1 (floor b l m (rows q) (cols k) n0 t)
  exact congrArg (Ideal.div · _) (hs.trans (Finset.sum_congr rfl fun e _ => mul_recip _ (hf t)))
end

theorem o0 {h : Fin 64 → Fin 256 → EReal} {H : FVec Ideal S1x64x256 .f32} {M : FVec Ideal S1x64x128 .f32}
    (hH : ∀ t e, H (ix3 0 t e) = h t e) (hM : ∀ t l, M (ix3 0 t l) = Ideal.div (∑ e, h t e) (lit 0x43800000#32))
    (g : FVec Ideal S1x256 .f32) (so : FVec Ideal S1x64x256 .bf16) (t : Fin 64) (e : Fin 256) :
    (k0_pay104 (k0_pay102 H M) (k0_pay103 H M) g so : FVec Ideal S1x64x256 .bf16) (ix3 0 t e) = headNorm (h t) e * g (ix2 0 e) * so (ix3 0 t e) := by
  pointwise [k0_pay102, k0_pay103, k0_pay104]
  simp only [hH, hM, dite_eq_ite, ite_self]
  have hs := sum_halves fun i => (h t i - Ideal.div (∑ e, h t e) (lit 0x43800000#32)) * (h t i - Ideal.div (∑ e, h t e) (lit 0x43800000#32))
  rw [hs]; rfl

theorem c0 {b l : Fin 64 → EReal} {m : EReal} {w : FVec Ideal S128x64 .f32} {dv : FVec Ideal S1x128 .f32}
    (hw : ∀ s, w (ix2 0 s) = weight b l m s) (hd : dv (ix2 0 0) = decay b l m) (k : FVec Ideal S1x256x64 .bf16)
    (v : FVec Ideal S1x64x256 .bf16) (C : FVec Ideal S1x1x256x256 .f32) (d e : Fin 256) :
    (k0_pay113 dv (k0_pay110 w k) (iota Kind.tc S1x128 32 [1] iota_S1x128_d1_w32) k0_pay111 C v : FVec Ideal S1x1x256x256 .f32) (ix4 0 0 d e) = nextC b l m (cols k) (rows v) (mat C) d e := by
  have hd' : (∑ x : Fin 128, Scalar.select (IntOp.cmpi .eq (BitVec.ofNat 32 x.val) 0#32) (dv (ix2 0 x)) 0) = decay b l m := (lane 0 _).trans hd
  pointwise [k0_pay109, k0_pay110, k0_pay111, k0_pay112, k0_pay113, k0_pay114, k0_pay1]
  simp only [hw, mul_comm _ (weight b l m _), hd']; rfl

theorem n0 {b l : Fin 64 → EReal} {m : EReal} {w : FVec Ideal S128x64 .f32} {dv : FVec Ideal S1x128 .f32}
    (hw : ∀ s, w (ix2 0 s) = weight b l m s) (hd : dv (ix2 0 0) = decay b l m) (k : FVec Ideal S1x256x64 .bf16)
    {n : FVec Ideal S1x256x128 .f32} {n0 : Fin 256 → EReal} (hn : ∀ d l', n (ix3 0 d l') = n0 d) (d : Fin 256) :
    (k0_pay1 (k0_pay114 dv k0_pay109 (k0_pay110 w k) (iota Kind.tc S1x128 32 [1] iota_S1x128_d1_w32) k0_pay111 n) : FVec Ideal S1x1x256 .f32) (ix3 0 0 d) = nextN b l m (cols k) n0 d := by
  have hd' : (∑ x : Fin 128, Scalar.select (IntOp.cmpi .eq (BitVec.ofNat 32 x.val) 0#32) (dv (ix2 0 x)) 0) = decay b l m := (lane 0 _).trans hd
  pointwise [k0_pay109, k0_pay110, k0_pay111, k0_pay112, k0_pay113, k0_pay114, k0_pay1]
  simp only [hw, hn, mul_comm _ (weight b l m _), hd']; rfl

theorem col1 (bc : FVec Ideal S64x128 .f32) (t : Fin 64) (l : Fin 128) : (k0_pay23 bc : FVec Ideal S1x64x128 .f32) (ix3 0 t l) = bc (ix2 t 1) := by
  pointwise [k0_pay23]; exact lane 1 _

theorem mp1 (mp : FVec Ideal S1x128 .f32) : (k0_pay27 mp : FVec Ideal S1x1 .f32) (ix2 0 0) = mp (ix2 0 1) := by
  pointwise [k0_pay27]; exact lane 1 _

section
variable {b l : Fin 64 → EReal} {m : EReal} (hbf : ∀ s, IsFin (b s)) (hlf : ∀ s, IsFin (l s))
  {lt : FVec Ideal S128x64 .f32} {P : FVec Ideal S1x1 .f32} {B : FVec Ideal S1x64x128 .f32}
  (hB : ∀ t l', B (ix3 0 t l') = b t) (hl : ∀ s, lt (ix2 1 s) = l s - b s) (hP : P (ix2 0 0) = m)
include hbf hlf hB hl hP

theorem d1 (t s : Fin 64) : (k0_pay42 lt P k0_pay37 B : FVec Ideal S1x64x64 .f32) (ix3 0 t s) = Ideal.exp (logw b l t s - stab b l m t) := by
  pointwise [k0_pay37, k0_pay38, k0_pay39, k0_pay40, k0_pay41, k0_pay42, k0_pay43, k0_pay44]
  simp only [hB, hl, hP, le_sel, add_sub_fin (hbf _) (hbf _) (hlf _)]
  have hb : Ideal.ofBits .f32 0xFF800000#32 = ⊥ := lit_bot
  simp only [inter, stab, logw, greatest, lit, hb]; rfl

theorem w1 (t : Fin 64) (l' : Fin 128) : (k0_pay43 lt P k0_pay37 B : FVec Ideal S1x64x128 .f32) (ix3 0 t l') = inter b l m t := by
  pointwise [k0_pay37, k0_pay38, k0_pay39, k0_pay40, k0_pay41, k0_pay42, k0_pay43, k0_pay44]
  simp only [hB, hl, hP, le_sel, add_sub_fin (hbf _) (hbf _) (hlf _)]
  have hb : Ideal.ofBits .f32 0xFF800000#32 = ⊥ := lit_bot
  simp only [inter, stab, logw, greatest, lit, hb]; rfl

theorem e1 (t : Fin 64) (l' : Fin 128) : (k0_pay44 lt P k0_pay37 B : FVec Ideal S1x64x128 .f32) (ix3 0 t l') = Ideal.exp (-stab b l m t) := by
  pointwise [k0_pay37, k0_pay38, k0_pay39, k0_pay40, k0_pay41, k0_pay42, k0_pay43, k0_pay44]
  simp only [hB, hl, hP, le_sel, add_sub_fin (hbf _) (hbf _) (hlf _), zero_sub]
  have hb : Ideal.ofBits .f32 0xFF800000#32 = ⊥ := lit_bot
  simp only [inter, stab, logw, greatest, lit, hb]; rfl
end

section
variable {b l : Fin 64 → EReal} {m : EReal}
  (q : FVec Ideal S1x64x256 .bf16) (k : FVec Ideal S1x256x64 .bf16) (v : FVec Ideal S1x64x256 .bf16)
  {D : FVec Ideal S1x64x64 .f32} (hD : ∀ t s, D (ix3 0 t s) = Ideal.exp (logw b l t s - stab b l m t))

include hD in
theorem s1 (t s : Fin 64) : (k0_pay68 q k D : FVec Ideal S1x64x64 .bf16) (ix3 0 t s) = score b l m (rows q) (cols k) t s := by
  pointwise [k0_pay66, k0_pay67, k0_pay68]
  simp only [hD]; rfl

include hD in
theorem r1 (t : Fin 64) (l' : Fin 128) : (k0_pay67 q k D : FVec Ideal S1x64x128 .f32) (ix3 0 t l') = ∑ s, score b l m (rows q) (cols k) t s := by
  pointwise [k0_pay66, k0_pay67, k0_pay68]
  simp only [hD]; rfl

variable (C : FVec Ideal S1x1x256x256 .f32) {n : FVec Ideal S1x256x128 .f32} {n0 : Fin 256 → EReal}
  {S : FVec Ideal S1x64x64 .bf16} {W R E : FVec Ideal S1x64x128 .f32}
  (hn : ∀ d l', n (ix3 0 d l') = n0 d)
  (hS : ∀ t s, S (ix3 0 t s) = score b l m (rows q) (cols k) t s) (hW : ∀ t l', W (ix3 0 t l') = inter b l m t)
  (hR : ∀ t l', R (ix3 0 t l') = ∑ s, score b l m (rows q) (cols k) t s) (hE : ∀ t l', E (ix3 0 t l') = Ideal.exp (-stab b l m t))
  (hf : ∀ t, 0 < floor b l m (rows q) (cols k) n0 t)

include hn hS hW hR hE hf in
theorem h1 (t : Fin 64) (e : Fin 256) : (k0_pay88 (k0_pay84 q) (k0_pay85 q C) (k0_pay86 v S) n W R E : FVec Ideal S1x64x256 .f32) (ix3 0 t e)
    = output b l m (rows q) (cols k) (rows v) (mat C) n0 t e := by
  pointwise [k0_pay84, k0_pay85, k0_pay86, k0_pay87, k0_pay88, k0_pay89]
  simp only [hn, hS, hW, hR, hE, dite_eq_ite, ite_self]
  exact mul_recip _ (hf t)

include hn hS hW hR hE hf in
theorem m1 (t : Fin 64) (l' : Fin 128) : (k0_pay89 (k0_pay84 q) (k0_pay85 q C) (k0_pay86 v S) n W R E : FVec Ideal S1x64x128 .f32) (ix3 0 t l')
    = Ideal.div (∑ e, output b l m (rows q) (cols k) (rows v) (mat C) n0 t e) (lit 0x43800000#32) := by
  pointwise [k0_pay84, k0_pay85, k0_pay86, k0_pay87, k0_pay88, k0_pay89]
  simp only [hn, hS, hW, hR, hE, dite_eq_ite, ite_self]
  have hs := sum_halves fun e => numer b l m (rows q) (cols k) (rows v) (mat C) t e * Ideal.div 1 (floor b l m (rows q) (cols k) n0 t)
  exact congrArg (Ideal.div · _) (hs.trans (Finset.sum_congr rfl fun e _ => mul_recip _ (hf t)))
end

theorem o1 {h : Fin 64 → Fin 256 → EReal} {H : FVec Ideal S1x64x256 .f32} {M : FVec Ideal S1x64x128 .f32}
    (hH : ∀ t e, H (ix3 0 t e) = h t e) (hM : ∀ t l, M (ix3 0 t l) = Ideal.div (∑ e, h t e) (lit 0x43800000#32))
    (g : FVec Ideal S1x256 .f32) (so : FVec Ideal S1x64x256 .bf16) (t : Fin 64) (e : Fin 256) :
    (k0_pay106 (k0_pay105 H M g) so : FVec Ideal S1x64x256 .bf16) (ix3 0 t e) = headNorm (h t) e * g (ix2 0 e) * so (ix3 0 t e) := by
  pointwise [k0_pay105, k0_pay106]
  simp only [hH, hM, dite_eq_ite, ite_self]
  have hs := sum_halves fun i => (h t i - Ideal.div (∑ e, h t e) (lit 0x43800000#32)) * (h t i - Ideal.div (∑ e, h t e) (lit 0x43800000#32))
  rw [hs]; rfl

theorem c1 {b l : Fin 64 → EReal} {m : EReal} {w : FVec Ideal S128x64 .f32} {dv : FVec Ideal S1x128 .f32}
    (hw : ∀ s, w (ix2 1 s) = weight b l m s) (hd : dv (ix2 0 1) = decay b l m) (k : FVec Ideal S1x256x64 .bf16)
    (v : FVec Ideal S1x64x256 .bf16) (C : FVec Ideal S1x1x256x256 .f32) (d e : Fin 256) :
    (k0_pay117 dv (k0_pay115 w k) (iota Kind.tc S1x128 32 [1] iota_S1x128_d1_w32) 1#32 C v : FVec Ideal S1x1x256x256 .f32) (ix4 0 0 d e) = nextC b l m (cols k) (rows v) (mat C) d e := by
  have hd' : (∑ x : Fin 128, Scalar.select (IntOp.cmpi .eq (BitVec.ofNat 32 x.val) 1#32) (dv (ix2 0 x)) 0) = decay b l m := (lane 1 _).trans hd
  pointwise [k0_pay109, k0_pay115, k0_pay116, k0_pay117, k0_pay118, k0_pay2]
  simp only [hw, mul_comm _ (weight b l m _), hd']; rfl

theorem n1 {b l : Fin 64 → EReal} {m : EReal} {w : FVec Ideal S128x64 .f32} {dv : FVec Ideal S1x128 .f32}
    (hw : ∀ s, w (ix2 1 s) = weight b l m s) (hd : dv (ix2 0 1) = decay b l m) (k : FVec Ideal S1x256x64 .bf16)
    {n : FVec Ideal S1x256x128 .f32} {n0 : Fin 256 → EReal} (hn : ∀ d l', n (ix3 0 d l') = n0 d) (d : Fin 256) :
    (k0_pay2 (k0_pay118 dv k0_pay109 (k0_pay115 w k) (iota Kind.tc S1x128 32 [1] iota_S1x128_d1_w32) 1#32 n) : FVec Ideal S1x1x256 .f32) (ix3 0 0 d) = nextN b l m (cols k) n0 d := by
  have hd' : (∑ x : Fin 128, Scalar.select (IntOp.cmpi .eq (BitVec.ofNat 32 x.val) 1#32) (dv (ix2 0 x)) 0) = decay b l m := (lane 1 _).trans hd
  pointwise [k0_pay109, k0_pay115, k0_pay116, k0_pay117, k0_pay118, k0_pay2]
  simp only [hw, hn, mul_comm _ (weight b l m _), hd']; rfl

theorem col2 (bc : FVec Ideal S64x128 .f32) (t : Fin 64) (l : Fin 128) : (k0_pay24 bc : FVec Ideal S1x64x128 .f32) (ix3 0 t l) = bc (ix2 t 2) := by
  pointwise [k0_pay24]; exact lane 2 _

theorem mp2 (mp : FVec Ideal S1x128 .f32) : (k0_pay28 mp : FVec Ideal S1x1 .f32) (ix2 0 0) = mp (ix2 0 2) := by
  pointwise [k0_pay28]; exact lane 2 _

section
variable {b l : Fin 64 → EReal} {m : EReal} (hbf : ∀ s, IsFin (b s)) (hlf : ∀ s, IsFin (l s))
  {lt : FVec Ideal S128x64 .f32} {P : FVec Ideal S1x1 .f32} {B : FVec Ideal S1x64x128 .f32}
  (hB : ∀ t l', B (ix3 0 t l') = b t) (hl : ∀ s, lt (ix2 2 s) = l s - b s) (hP : P (ix2 0 0) = m)
include hbf hlf hB hl hP

theorem d2 (t s : Fin 64) : (k0_pay52 P k0_pay45 (k0_pay46 B) (k0_pay47 B) (k0_pay48 lt) : FVec Ideal S1x64x64 .f32) (ix3 0 t s) = Ideal.exp (logw b l t s - stab b l m t) := by
  pointwise [k0_pay45, k0_pay46, k0_pay47, k0_pay48, k0_pay49, k0_pay50, k0_pay51, k0_pay52, k0_pay53, k0_pay54]
  simp only [hB, hl, hP, le_sel, add_sub_fin (hbf _) (hbf _) (hlf _)]
  have hb : Ideal.ofBits .f32 0xFF800000#32 = ⊥ := lit_bot
  simp only [inter, stab, logw, greatest, lit, hb]; rfl

theorem w2 (t : Fin 64) (l' : Fin 128) : (k0_pay53 P k0_pay45 (k0_pay46 B) (k0_pay47 B) (k0_pay48 lt) : FVec Ideal S1x64x128 .f32) (ix3 0 t l') = inter b l m t := by
  pointwise [k0_pay45, k0_pay46, k0_pay47, k0_pay48, k0_pay49, k0_pay50, k0_pay51, k0_pay52, k0_pay53, k0_pay54]
  simp only [hB, hl, hP, le_sel, add_sub_fin (hbf _) (hbf _) (hlf _)]
  have hb : Ideal.ofBits .f32 0xFF800000#32 = ⊥ := lit_bot
  simp only [inter, stab, logw, greatest, lit, hb]; rfl

theorem e2 (t : Fin 64) (l' : Fin 128) : (k0_pay54 P k0_pay45 (k0_pay46 B) (k0_pay47 B) (k0_pay48 lt) : FVec Ideal S1x64x128 .f32) (ix3 0 t l') = Ideal.exp (-stab b l m t) := by
  pointwise [k0_pay45, k0_pay46, k0_pay47, k0_pay48, k0_pay49, k0_pay50, k0_pay51, k0_pay52, k0_pay53, k0_pay54]
  simp only [hB, hl, hP, le_sel, add_sub_fin (hbf _) (hbf _) (hlf _), zero_sub]
  have hb : Ideal.ofBits .f32 0xFF800000#32 = ⊥ := lit_bot
  simp only [inter, stab, logw, greatest, lit, hb]; rfl
end

section
variable {b l : Fin 64 → EReal} {m : EReal}
  (q : FVec Ideal S1x64x256 .bf16) (k : FVec Ideal S1x256x64 .bf16) (v : FVec Ideal S1x64x256 .bf16)
  {D : FVec Ideal S1x64x64 .f32} (hD : ∀ t s, D (ix3 0 t s) = Ideal.exp (logw b l t s - stab b l m t))

include hD in
theorem s2 (t s : Fin 64) : (k0_pay72 (k0_pay69 q) k D : FVec Ideal S1x64x64 .bf16) (ix3 0 t s) = score b l m (rows q) (cols k) t s := by
  pointwise [k0_pay69, k0_pay70, k0_pay71, k0_pay72]
  simp only [hD]; rfl

include hD in
theorem r2 (t : Fin 64) (l' : Fin 128) : (k0_pay71 (k0_pay69 q) k D : FVec Ideal S1x64x128 .f32) (ix3 0 t l') = ∑ s, score b l m (rows q) (cols k) t s := by
  pointwise [k0_pay69, k0_pay70, k0_pay71, k0_pay72]
  simp only [hD]; rfl

variable (C : FVec Ideal S1x1x256x256 .f32) {n : FVec Ideal S1x256x128 .f32} {n0 : Fin 256 → EReal}
  {S : FVec Ideal S1x64x64 .bf16} {W R E : FVec Ideal S1x64x128 .f32}
  (hn : ∀ d l', n (ix3 0 d l') = n0 d)
  (hS : ∀ t s, S (ix3 0 t s) = score b l m (rows q) (cols k) t s) (hW : ∀ t l', W (ix3 0 t l') = inter b l m t)
  (hR : ∀ t l', R (ix3 0 t l') = ∑ s, score b l m (rows q) (cols k) t s) (hE : ∀ t l', E (ix3 0 t l') = Ideal.exp (-stab b l m t))
  (hf : ∀ t, 0 < floor b l m (rows q) (cols k) n0 t)

include hn hS hW hR hE hf in
theorem h2 (t : Fin 64) (e : Fin 256) : (k0_pay92 (k0_pay91 (k0_pay90 q) v C S n W R E) : FVec Ideal S1x64x256 .f32) (ix3 0 t e)
    = output b l m (rows q) (cols k) (rows v) (mat C) n0 t e := by
  pointwise [k0_pay90, k0_pay91, k0_pay92, k0_pay93]
  simp only [hn, hS, hW, hR, hE, dite_eq_ite, ite_self]
  exact mul_recip _ (hf t)

include hn hS hW hR hE hf in
theorem m2 (t : Fin 64) (l' : Fin 128) : (k0_pay93 (k0_pay91 (k0_pay90 q) v C S n W R E) : FVec Ideal S1x64x128 .f32) (ix3 0 t l')
    = Ideal.div (∑ e, output b l m (rows q) (cols k) (rows v) (mat C) n0 t e) (lit 0x43800000#32) := by
  pointwise [k0_pay90, k0_pay91, k0_pay92, k0_pay93]
  simp only [hn, hS, hW, hR, hE, dite_eq_ite, ite_self]
  have hs := sum_halves fun e => numer b l m (rows q) (cols k) (rows v) (mat C) t e * Ideal.div 1 (floor b l m (rows q) (cols k) n0 t)
  exact congrArg (Ideal.div · _) (hs.trans (Finset.sum_congr rfl fun e _ => mul_recip _ (hf t)))
end

theorem o2 {h : Fin 64 → Fin 256 → EReal} {H : FVec Ideal S1x64x256 .f32} {M : FVec Ideal S1x64x128 .f32}
    (hH : ∀ t e, H (ix3 0 t e) = h t e) (hM : ∀ t l, M (ix3 0 t l) = Ideal.div (∑ e, h t e) (lit 0x43800000#32))
    (g : FVec Ideal S1x256 .f32) (so : FVec Ideal S1x64x256 .bf16) (t : Fin 64) (e : Fin 256) :
    (k0_pay107 H M g so : FVec Ideal S1x64x256 .bf16) (ix3 0 t e) = headNorm (h t) e * g (ix2 0 e) * so (ix3 0 t e) := by
  pointwise [k0_pay107]
  simp only [hH, hM, dite_eq_ite, ite_self]
  have hs := sum_halves fun i => (h t i - Ideal.div (∑ e, h t e) (lit 0x43800000#32)) * (h t i - Ideal.div (∑ e, h t e) (lit 0x43800000#32))
  rw [hs]; rfl

theorem c2 {b l : Fin 64 → EReal} {m : EReal} {w : FVec Ideal S128x64 .f32} {dv : FVec Ideal S1x128 .f32}
    (hw : ∀ s, w (ix2 2 s) = weight b l m s) (hd : dv (ix2 0 2) = decay b l m) (k : FVec Ideal S1x256x64 .bf16)
    (v : FVec Ideal S1x64x256 .bf16) (C : FVec Ideal S1x1x256x256 .f32) (d e : Fin 256) :
    (k0_pay121 dv (k0_pay119 w k) (iota Kind.tc S1x128 32 [1] iota_S1x128_d1_w32) C v : FVec Ideal S1x1x256x256 .f32) (ix4 0 0 d e) = nextC b l m (cols k) (rows v) (mat C) d e := by
  have hd' : (∑ x : Fin 128, Scalar.select (IntOp.cmpi .eq (BitVec.ofNat 32 x.val) 2#32) (dv (ix2 0 x)) 0) = decay b l m := (lane 2 _).trans hd
  pointwise [k0_pay109, k0_pay119, k0_pay120, k0_pay121, k0_pay122, k0_pay3]
  simp only [hw, mul_comm _ (weight b l m _), hd']; rfl

theorem n2 {b l : Fin 64 → EReal} {m : EReal} {w : FVec Ideal S128x64 .f32} {dv : FVec Ideal S1x128 .f32}
    (hw : ∀ s, w (ix2 2 s) = weight b l m s) (hd : dv (ix2 0 2) = decay b l m) (k : FVec Ideal S1x256x64 .bf16)
    {n : FVec Ideal S1x256x128 .f32} {n0 : Fin 256 → EReal} (hn : ∀ d l', n (ix3 0 d l') = n0 d) (d : Fin 256) :
    (k0_pay3 (k0_pay122 dv k0_pay109 (k0_pay119 w k) (iota Kind.tc S1x128 32 [1] iota_S1x128_d1_w32) n) : FVec Ideal S1x1x256 .f32) (ix3 0 0 d) = nextN b l m (cols k) n0 d := by
  have hd' : (∑ x : Fin 128, Scalar.select (IntOp.cmpi .eq (BitVec.ofNat 32 x.val) 2#32) (dv (ix2 0 x)) 0) = decay b l m := (lane 2 _).trans hd
  pointwise [k0_pay109, k0_pay119, k0_pay120, k0_pay121, k0_pay122, k0_pay3]
  simp only [hw, hn, mul_comm _ (weight b l m _), hd']; rfl

theorem col3 (bc : FVec Ideal S64x128 .f32) (t : Fin 64) (l : Fin 128) : (k0_pay25 bc (iota Kind.tc S64x128 32 [1] iota_S64x128_d1_w32) 3#32 : FVec Ideal S1x64x128 .f32) (ix3 0 t l) = bc (ix2 t 3) := by
  pointwise [k0_pay25]; exact lane 3 _

theorem mp3 (mp : FVec Ideal S1x128 .f32) : (k0_pay29 mp : FVec Ideal S1x1 .f32) (ix2 0 0) = mp (ix2 0 3) := by
  pointwise [k0_pay29]; exact lane 3 _

section
variable {b l : Fin 64 → EReal} {m : EReal} (hbf : ∀ s, IsFin (b s)) (hlf : ∀ s, IsFin (l s))
  {lt : FVec Ideal S128x64 .f32} {P : FVec Ideal S1x1 .f32} {B : FVec Ideal S1x64x128 .f32}
  (hB : ∀ t l', B (ix3 0 t l') = b t) (hl : ∀ s, lt (ix2 3 s) = l s - b s) (hP : P (ix2 0 0) = m)
include hbf hlf hB hl hP

theorem d3 (t s : Fin 64) : (k0_pay59 P (k0_pay55 B) (k0_pay56 lt B) : FVec Ideal S1x64x64 .f32) (ix3 0 t s) = Ideal.exp (logw b l t s - stab b l m t) := by
  pointwise [k0_pay55, k0_pay56, k0_pay57, k0_pay58, k0_pay59, k0_pay60, k0_pay61]
  simp only [hB, hl, hP, le_sel, add_sub_fin (hbf _) (hbf _) (hlf _)]
  have hb : Ideal.ofBits .f32 0xFF800000#32 = ⊥ := lit_bot
  simp only [inter, stab, logw, greatest, lit, hb]; rfl

theorem w3 (t : Fin 64) (l' : Fin 128) : (k0_pay60 P (k0_pay55 B) (k0_pay56 lt B) : FVec Ideal S1x64x128 .f32) (ix3 0 t l') = inter b l m t := by
  pointwise [k0_pay55, k0_pay56, k0_pay57, k0_pay58, k0_pay59, k0_pay60, k0_pay61]
  simp only [hB, hl, hP, le_sel, add_sub_fin (hbf _) (hbf _) (hlf _)]
  have hb : Ideal.ofBits .f32 0xFF800000#32 = ⊥ := lit_bot
  simp only [inter, stab, logw, greatest, lit, hb]; rfl

theorem e3 (t : Fin 64) (l' : Fin 128) : (k0_pay61 P (k0_pay55 B) (k0_pay56 lt B) : FVec Ideal S1x64x128 .f32) (ix3 0 t l') = Ideal.exp (-stab b l m t) := by
  pointwise [k0_pay55, k0_pay56, k0_pay57, k0_pay58, k0_pay59, k0_pay60, k0_pay61]
  simp only [hB, hl, hP, le_sel, add_sub_fin (hbf _) (hbf _) (hlf _), zero_sub]
  have hb : Ideal.ofBits .f32 0xFF800000#32 = ⊥ := lit_bot
  simp only [inter, stab, logw, greatest, lit, hb]; rfl
end

section
variable {b l : Fin 64 → EReal} {m : EReal}
  (q : FVec Ideal S1x64x256 .bf16) (k : FVec Ideal S1x256x64 .bf16) (v : FVec Ideal S1x64x256 .bf16)
  {D : FVec Ideal S1x64x64 .f32} (hD : ∀ t s, D (ix3 0 t s) = Ideal.exp (logw b l t s - stab b l m t))

include hD in
theorem s3 (t s : Fin 64) : (k0_pay75 (k0_pay73 q k D) : FVec Ideal S1x64x64 .bf16) (ix3 0 t s) = score b l m (rows q) (cols k) t s := by
  pointwise [k0_pay73, k0_pay74, k0_pay75]
  simp only [hD]; rfl

include hD in
theorem r3 (t : Fin 64) (l' : Fin 128) : (k0_pay74 q k D : FVec Ideal S1x64x128 .f32) (ix3 0 t l') = ∑ s, score b l m (rows q) (cols k) t s := by
  pointwise [k0_pay73, k0_pay74, k0_pay75]
  simp only [hD]; rfl

variable (C : FVec Ideal S1x1x256x256 .f32) {n : FVec Ideal S1x256x128 .f32} {n0 : Fin 256 → EReal}
  {S : FVec Ideal S1x64x64 .bf16} {W R E : FVec Ideal S1x64x128 .f32}
  (hn : ∀ d l', n (ix3 0 d l') = n0 d)
  (hS : ∀ t s, S (ix3 0 t s) = score b l m (rows q) (cols k) t s) (hW : ∀ t l', W (ix3 0 t l') = inter b l m t)
  (hR : ∀ t l', R (ix3 0 t l') = ∑ s, score b l m (rows q) (cols k) t s) (hE : ∀ t l', E (ix3 0 t l') = Ideal.exp (-stab b l m t))
  (hf : ∀ t, 0 < floor b l m (rows q) (cols k) n0 t)

include hn hS hW hR hE hf in
theorem h3 (t : Fin 64) (e : Fin 256) : (k0_pay100 (k0_pay95 q C) (k0_pay96 v S) (k0_pay97 W) (k0_pay98 q n W) R E : FVec Ideal S1x64x256 .f32) (ix3 0 t e)
    = output b l m (rows q) (cols k) (rows v) (mat C) n0 t e := by
  pointwise [k0_pay94, k0_pay95, k0_pay96, k0_pay97, k0_pay98, k0_pay99, k0_pay100, k0_pay101]
  simp only [hn, hS, hW, hR, hE, dite_eq_ite, ite_self]
  exact mul_recip _ (hf t)

include hn hS hW hR hE hf in
theorem m3 (t : Fin 64) (l' : Fin 128) : (k0_pay101 (k0_pay95 q C) (k0_pay96 v S) (k0_pay97 W) (k0_pay98 q n W) R E : FVec Ideal S1x64x128 .f32) (ix3 0 t l')
    = Ideal.div (∑ e, output b l m (rows q) (cols k) (rows v) (mat C) n0 t e) (lit 0x43800000#32) := by
  pointwise [k0_pay94, k0_pay95, k0_pay96, k0_pay97, k0_pay98, k0_pay99, k0_pay100, k0_pay101]
  simp only [hn, hS, hW, hR, hE, dite_eq_ite, ite_self]
  have hs := sum_halves fun e => numer b l m (rows q) (cols k) (rows v) (mat C) t e * Ideal.div 1 (floor b l m (rows q) (cols k) n0 t)
  exact congrArg (Ideal.div · _) (hs.trans (Finset.sum_congr rfl fun e _ => mul_recip _ (hf t)))
end

theorem o3 {h : Fin 64 → Fin 256 → EReal} {H : FVec Ideal S1x64x256 .f32} {M : FVec Ideal S1x64x128 .f32}
    (hH : ∀ t e, H (ix3 0 t e) = h t e) (hM : ∀ t l, M (ix3 0 t l) = Ideal.div (∑ e, h t e) (lit 0x43800000#32))
    (g : FVec Ideal S1x256 .f32) (so : FVec Ideal S1x64x256 .bf16) (t : Fin 64) (e : Fin 256) :
    (k0_pay108 H M g so : FVec Ideal S1x64x256 .bf16) (ix3 0 t e) = headNorm (h t) e * g (ix2 0 e) * so (ix3 0 t e) := by
  pointwise [k0_pay108]
  simp only [hH, hM, dite_eq_ite, ite_self]
  have hs := sum_halves fun i => (h t i - Ideal.div (∑ e, h t e) (lit 0x43800000#32)) * (h t i - Ideal.div (∑ e, h t e) (lit 0x43800000#32))
  rw [hs]; rfl

theorem c3 {b l : Fin 64 → EReal} {m : EReal} {w : FVec Ideal S128x64 .f32} {dv : FVec Ideal S1x128 .f32}
    (hw : ∀ s, w (ix2 3 s) = weight b l m s) (hd : dv (ix2 0 3) = decay b l m) (k : FVec Ideal S1x256x64 .bf16)
    (v : FVec Ideal S1x64x256 .bf16) (C : FVec Ideal S1x1x256x256 .f32) (d e : Fin 256) :
    (k0_pay125 dv (k0_pay123 w k) C v : FVec Ideal S1x1x256x256 .f32) (ix4 0 0 d e) = nextC b l m (cols k) (rows v) (mat C) d e := by
  have hd' : (∑ x : Fin 128, Scalar.select (IntOp.cmpi .eq (BitVec.ofNat 32 x.val) 3#32) (dv (ix2 0 x)) 0) = decay b l m := (lane 3 _).trans hd
  pointwise [k0_pay109, k0_pay123, k0_pay124, k0_pay125, k0_pay126, k0_pay4]
  simp only [hw, mul_comm _ (weight b l m _), hd']; rfl

theorem n3 {b l : Fin 64 → EReal} {m : EReal} {w : FVec Ideal S128x64 .f32} {dv : FVec Ideal S1x128 .f32}
    (hw : ∀ s, w (ix2 3 s) = weight b l m s) (hd : dv (ix2 0 3) = decay b l m) (k : FVec Ideal S1x256x64 .bf16)
    {n : FVec Ideal S1x256x128 .f32} {n0 : Fin 256 → EReal} (hn : ∀ d l', n (ix3 0 d l') = n0 d) (d : Fin 256) :
    (k0_pay4 (k0_pay126 dv k0_pay109 (k0_pay123 w k) n) : FVec Ideal S1x1x256 .f32) (ix3 0 0 d) = nextN b l m (cols k) n0 d := by
  have hd' : (∑ x : Fin 128, Scalar.select (IntOp.cmpi .eq (BitVec.ofNat 32 x.val) 3#32) (dv (ix2 0 x)) 0) = decay b l m := (lane 3 _).trans hd
  pointwise [k0_pay109, k0_pay123, k0_pay124, k0_pay125, k0_pay126, k0_pay4]
  simp only [hw, hn, mul_comm _ (weight b l m _), hd']; rfl

end Cert.MlsIdeal.Hand
end
-- ==== Proof.Mls.lean ====
/-
  The recurrence call of the kernel: what each of its four result arrays holds after the run, as a function of the arguments.
-/
module
public import proofs.«01_k».proof.Proof.MlsParts
public import Idealize.ShloMosaic.Lib.Pipeline.ValueKit
public import Idealize.ShloMosaic.Lib.Pipeline.ReadBack
public import Idealize.ShloMosaic.Lib.Claim
@[expose] public section
set_option maxRecDepth 16384
noncomputable section
namespace Cert.MlsIdeal.Hand
open Cert.MlsIdeal Cert.MlsIdeal.Gen Idealize.ShloMosaic Idealize.ShloMosaic.TcCoe Idealize.SL.Sem Cert.Rows
open Idealize.ShloMosaic.Pipeline (Dat)

theorem carry_eq (x : Vec Ideal S1x1x128 .f32) : k0_pay10 x = x := by
  funext i
  refine (congrArg _ (eq_ix3 i)).trans (Eq.trans ?_ (congrArg x (eq_ix3 i)).symm)
  generalize i 0 = a, i 1 = b, i 2 = c
  pointwise [k0_pay10]

theorem carry_apply (x : Vec Ideal S1x1x128 .f32) (l : Fin 128) : k0_pay15 x (ix2 0 l) = x (ix3 0 0 l) := by
  pointwise [k0_pay15]

section Head
variable {Q : Fin 64 → Fin 1024 → EReal} {K : Fin 1024 → Fin 64 → EReal} {V SO : Fin 64 → Fin 1024 → EReal}
  {G : Fin 64 → Fin 128 → EReal} {CC : Fin 4 → Fin 256 → Fin 256 → EReal} {N : Fin 4 → Fin 256 → EReal} {MM : Fin 128 → EReal}
  {NG : Fin 1024 → EReal}
  {x4 : Vec Ideal S1x64x128 .f32} {x7 : Vec Ideal S1x1x128 .f32}
  (hG : ∀ s l, x4 (ix3 0 s l) = G s l) (hM : ∀ l, x7 (ix3 0 0 l) = MM l)
  (fG : ∀ s l, IsFin (G s l)) (fM : ∀ l, IsFin (MM l))
  {q v so : FVec Ideal S1x64x256 .bf16} {k : FVec Ideal S1x256x64 .bf16} {C : FVec Ideal S1x1x256x256 .f32} {n : FVec Ideal S1x256x128 .f32}
  {g : FVec Ideal S1x256 .f32}
include hG hM fG

include fM in
theorem p9_0 (hq : ∀ t d, q (ix3 0 t d) = Q t (feat 0 d)) (hk : ∀ d s, k (ix3 0 d s) = K (feat 0 d) s)
    (hv : ∀ s e, v (ix3 0 s e) = V s (feat 0 e)) (hC : ∀ d e, C (ix4 0 0 d e) = CC 0 d e) (hn : ∀ d l, n (ix3 0 d l) = N 0 d)
    (hg : ∀ e, g (ix2 0 e) = NG (feat 0 e)) (hso : ∀ t e, so (ix3 0 t e) = SO t (feat 0 e)) (t : Fin 64) (e : Fin 256) :
    (k0_pay104 (k0_pay102 (k0_pay82 (k0_pay77 q C) (k0_pay78 v (k0_pay65 (k0_pay62 q k (k0_pay34 (k0_pay14 x4) (k0_pay26 (k0_pay15 x7)) (iota Kind.tc S64x64 32 [1] iota_S64x64_d1_w32) (iota Kind.tc S64x64 32 [0] iota_S64x64_d0_w32) 0#32 (k0_pay22 (k0_pay12 x4)))))) (k0_pay79 (k0_pay35 (k0_pay14 x4) (k0_pay26 (k0_pay15 x7)) (iota Kind.tc S64x64 32 [1] iota_S64x64_d1_w32) (iota Kind.tc S64x64 32 [0] iota_S64x64_d0_w32) 0#32 (k0_pay22 (k0_pay12 x4)))) (k0_pay80 q n (k0_pay35 (k0_pay14 x4) (k0_pay26 (k0_pay15 x7)) (iota Kind.tc S64x64 32 [1] iota_S64x64_d1_w32) (iota Kind.tc S64x64 32 [0] iota_S64x64_d0_w32) 0#32 (k0_pay22 (k0_pay12 x4))) (k0_pay64 (k0_pay63 q k (k0_pay34 (k0_pay14 x4) (k0_pay26 (k0_pay15 x7)) (iota Kind.tc S64x64 32 [1] iota_S64x64_d1_w32) (iota Kind.tc S64x64 32 [0] iota_S64x64_d0_w32) 0#32 (k0_pay22 (k0_pay12 x4)))))) (k0_pay36 (k0_pay14 x4) (k0_pay26 (k0_pay15 x7)) (iota Kind.tc S64x64 32 [1] iota_S64x64_d1_w32) (iota Kind.tc S64x64 32 [0] iota_S64x64_d0_w32) 0#32 (k0_pay22 (k0_pay12 x4)))) (k0_pay83 (k0_pay77 q C) (k0_pay78 v (k0_pay65 (k0_pay62 q k (k0_pay34 (k0_pay14 x4) (k0_pay26 (k0_pay15 x7)) (iota Kind.tc S64x64 32 [1] iota_S64x64_d1_w32) (iota Kind.tc S64x64 32 [0] iota_S64x64_d0_w32) 0#32 (k0_pay22 (k0_pay12 x4)))))) (k0_pay79 (k0_pay35 (k0_pay14 x4) (k0_pay26 (k0_pay15 x7)) (iota Kind.tc S64x64 32 [1] iota_S64x64_d1_w32) (iota Kind.tc S64x64 32 [0] iota_S64x64_d0_w32) 0#32 (k0_pay22 (k0_pay12 x4)))) (k0_pay80 q n (k0_pay35 (k0_pay14 x4) (k0_pay26 (k0_pay15 x7)) (iota Kind.tc S64x64 32 [1] iota_S64x64_d1_w32) (iota Kind.tc S64x64 32 [0] iota_S64x64_d0_w32) 0#32 (k0_pay22 (k0_pay12 x4))) (k0_pay64 (k0_pay63 q k (k0_pay34 (k0_pay14 x4) (k0_pay26 (k0_pay15 x7)) (iota Kind.tc S64x64 32 [1] iota_S64x64_d1_w32) (iota Kind.tc S64x64 32 [0] iota_S64x64_d0_w32) 0#32 (k0_pay22 (k0_pay12 x4)))))) (k0_pay36 (k0_pay14 x4) (k0_pay26 (k0_pay15 x7)) (iota Kind.tc S64x64 32 [1] iota_S64x64_d1_w32) (iota Kind.tc S64x64 32 [0] iota_S64x64_d0_w32) 0#32 (k0_pay22 (k0_pay12 x4))))) (k0_pay103 (k0_pay82 (k0_pay77 q C) (k0_pay78 v (k0_pay65 (k0_pay62 q k (k0_pay34 (k0_pay14 x4) (k0_pay26 (k0_pay15 x7)) (iota Kind.tc S64x64 32 [1] iota_S64x64_d1_w32) (iota Kind.tc S64x64 32 [0] iota_S64x64_d0_w32) 0#32 (k0_pay22 (k0_pay12 x4)))))) (k0_pay79 (k0_pay35 (k0_pay14 x4) (k0_pay26 (k0_pay15 x7)) (iota Kind.tc S64x64 32 [1] iota_S64x64_d1_w32) (iota Kind.tc S64x64 32 [0] iota_S64x64_d0_w32) 0#32 (k0_pay22 (k0_pay12 x4)))) (k0_pay80 q n (k0_pay35 (k0_pay14 x4) (k0_pay26 (k0_pay15 x7)) (iota Kind.tc S64x64 32 [1] iota_S64x64_d1_w32) (iota Kind.tc S64x64 32 [0] iota_S64x64_d0_w32) 0#32 (k0_pay22 (k0_pay12 x4))) (k0_pay64 (k0_pay63 q k (k0_pay34 (k0_pay14 x4) (k0_pay26 (k0_pay15 x7)) (iota Kind.tc S64x64 32 [1] iota_S64x64_d1_w32) (iota Kind.tc S64x64 32 [0] iota_S64x64_d0_w32) 0#32 (k0_pay22 (k0_pay12 x4)))))) (k0_pay36 (k0_pay14 x4) (k0_pay26 (k0_pay15 x7)) (iota Kind.tc S64x64 32 [1] iota_S64x64_d1_w32) (iota Kind.tc S64x64 32 [0] iota_S64x64_d0_w32) 0#32 (k0_pay22 (k0_pay12 x4)))) (k0_pay83 (k0_pay77 q C) (k0_pay78 v (k0_pay65 (k0_pay62 q k (k0_pay34 (k0_pay14 x4) (k0_pay26 (k0_pay15 x7)) (iota Kind.tc S64x64 32 [1] iota_S64x64_d1_w32) (iota Kind.tc S64x64 32 [0] iota_S64x64_d0_w32) 0#32 (k0_pay22 (k0_pay12 x4)))))) (k0_pay79 (k0_pay35 (k0_pay14 x4) (k0_pay26 (k0_pay15 x7)) (iota Kind.tc S64x64 32 [1] iota_S64x64_d1_w32) (iota Kind.tc S64x64 32 [0] iota_S64x64_d0_w32) 0#32 (k0_pay22 (k0_pay12 x4)))) (k0_pay80 q n (k0_pay35 (k0_pay14 x4) (k0_pay26 (k0_pay15 x7)) (iota Kind.tc S64x64 32 [1] iota_S64x64_d1_w32) (iota Kind.tc S64x64 32 [0] iota_S64x64_d0_w32) 0#32 (k0_pay22 (k0_pay12 x4))) (k0_pay64 (k0_pay63 q k (k0_pay34 (k0_pay14 x4) (k0_pay26 (k0_pay15 x7)) (iota Kind.tc S64x64 32 [1] iota_S64x64_d1_w32) (iota Kind.tc S64x64 32 [0] iota_S64x64_d0_w32) 0#32 (k0_pay22 (k0_pay12 x4)))))) (k0_pay36 (k0_pay14 x4) (k0_pay26 (k0_pay15 x7)) (iota Kind.tc S64x64 32 [1] iota_S64x64_d1_w32) (iota Kind.tc S64x64 32 [0] iota_S64x64_d0_w32) 0#32 (k0_pay22 (k0_pay12 x4))))) g so : FVec Ideal S1x64x256 .bf16) (ix3 0 t e) = chunkOut Q K V SO G CC N MM NG t (feat 0 e) := by
  obtain rfl : G = fun s l => x4 (ix3 0 s l) := funext fun s => funext fun l => (hG s l).symm
  obtain rfl : MM = fun l => x7 (ix3 0 0 l) := funext fun l => (hM l).symm
  have hB := fun t l' => (col0 (k0_pay12 x4) t l').trans (bc_apply fG t 0)
  have hl := fun s => lt_apply fG 0 s
  have hP := (mp0 (k0_pay15 x7)).trans (carry_apply x7 0)
  have hbf : ∀ s, IsFin (cum (lf x4 0) s) := cum_fin fun s => fG s _
  have hlf : ∀ s, IsFin (li x4 0 s) := fun s => fG s 0
  have hD := d0 hbf hlf hB hl hP
  have hW := w0 hbf hlf hB hl hP
  have hE := e0 hbf hlf hB hl hP
  have hf := floor_pos hbf hlf (fM 0) (rows q) (cols k) (N 0)
  have rq : rows q = fun t d => Q t (feat 0 d) := funext fun t => funext fun d => hq t d
  have rk : cols k = fun s d => K (feat 0 d) s := funext fun t => funext fun d => hk d t
  have rv : rows v = fun s e => V s (feat 0 e) := funext fun t => funext fun d => hv t d
  have rC : mat C = CC 0 := funext fun t => funext fun d => hC t d
  refine (o0 (h0 q k v C hn (s0 q k hD) hW (r0 q k hD) hE hf) (m0 q k v C hn (s0 q k hD) hW (r0 q k hD) hE hf) _ _ t e).trans ?_
  rw [rq, rk, rv, rC, hg, hso]
  unfold chunkOut
  rw [headOf_feat, chanOf_feat]
  rfl

theorem p10_0 (hk : ∀ d s, k (ix3 0 d s) = K (feat 0 d) s)
    (hv : ∀ s e, v (ix3 0 s e) = V s (feat 0 e)) (hC : ∀ d e, C (ix4 0 0 d e) = CC 0 d e) (d e : Fin 256) :
    (k0_pay113 (k0_pay19 x4 x7) (k0_pay110 (k0_pay21 (k0_pay20 x4 x7)) k) (iota Kind.tc S1x128 32 [1] iota_S1x128_d1_w32) k0_pay111 C v : FVec Ideal S1x1x256x256 .f32) (ix4 0 0 d e) = chunkC K V G CC MM 0 d e := by
  obtain rfl : G = fun s l => x4 (ix3 0 s l) := funext fun s => funext fun l => (hG s l).symm
  obtain rfl : MM = fun l => x7 (ix3 0 0 l) := funext fun l => (hM l).symm
  have rk : cols k = fun s d => K (feat 0 d) s := funext fun t => funext fun d => hk d t
  have rv : rows v = fun s e => V s (feat 0 e) := funext fun t => funext fun d => hv t d
  have rC : mat C = CC 0 := funext fun t => funext fun d => hC t d
  refine (c0 (weight_apply x7 fG 0) (decay_apply x7 fG 0) k v C d e).trans ?_
  rw [rk, rv, rC]
  rfl

theorem p11_0 (hk : ∀ d s, k (ix3 0 d s) = K (feat 0 d) s) (hn : ∀ d l, n (ix3 0 d l) = N 0 d) (d : Fin 256) :
    (k0_pay1 (k0_pay114 (k0_pay19 x4 x7) k0_pay109 (k0_pay110 (k0_pay21 (k0_pay20 x4 x7)) k) (iota Kind.tc S1x128 32 [1] iota_S1x128_d1_w32) k0_pay111 n) : FVec Ideal S1x1x256 .f32) (ix3 0 0 d) = chunkN K G N MM 0 d := by
  obtain rfl : G = fun s l => x4 (ix3 0 s l) := funext fun s => funext fun l => (hG s l).symm
  obtain rfl : MM = fun l => x7 (ix3 0 0 l) := funext fun l => (hM l).symm
  have rk : cols k = fun s d => K (feat 0 d) s := funext fun t => funext fun d => hk d t
  refine (n0 (weight_apply x7 fG 0) (decay_apply x7 fG 0) k hn d).trans ?_
  rw [rk]
  rfl

include fM in
theorem p9_1 (hq : ∀ t d, q (ix3 0 t d) = Q t (feat 1 d)) (hk : ∀ d s, k (ix3 0 d s) = K (feat 1 d) s)
    (hv : ∀ s e, v (ix3 0 s e) = V s (feat 1 e)) (hC : ∀ d e, C (ix4 0 0 d e) = CC 1 d e) (hn : ∀ d l, n (ix3 0 d l) = N 1 d)
    (hg : ∀ e, g (ix2 0 e) = NG (feat 1 e)) (hso : ∀ t e, so (ix3 0 t e) = SO t (feat 1 e)) (t : Fin 64) (e : Fin 256) :
    (k0_pay106 (k0_pay105 (k0_pay88 (k0_pay84 q) (k0_pay85 q C) (k0_pay86 v (k0_pay68 q k (k0_pay42 (k0_pay14 x4) (k0_pay27 (k0_pay15 x7)) k0_pay37 (k0_pay23 (k0_pay12 x4))))) n (k0_pay43 (k0_pay14 x4) (k0_pay27 (k0_pay15 x7)) k0_pay37 (k0_pay23 (k0_pay12 x4))) (k0_pay67 q k (k0_pay42 (k0_pay14 x4) (k0_pay27 (k0_pay15 x7)) k0_pay37 (k0_pay23 (k0_pay12 x4)))) (k0_pay44 (k0_pay14 x4) (k0_pay27 (k0_pay15 x7)) k0_pay37 (k0_pay23 (k0_pay12 x4)))) (k0_pay89 (k0_pay84 q) (k0_pay85 q C) (k0_pay86 v (k0_pay68 q k (k0_pay42 (k0_pay14 x4) (k0_pay27 (k0_pay15 x7)) k0_pay37 (k0_pay23 (k0_pay12 x4))))) n (k0_pay43 (k0_pay14 x4) (k0_pay27 (k0_pay15 x7)) k0_pay37 (k0_pay23 (k0_pay12 x4))) (k0_pay67 q k (k0_pay42 (k0_pay14 x4) (k0_pay27 (k0_pay15 x7)) k0_pay37 (k0_pay23 (k0_pay12 x4)))) (k0_pay44 (k0_pay14 x4) (k0_pay27 (k0_pay15 x7)) k0_pay37 (k0_pay23 (k0_pay12 x4)))) g) so : FVec Ideal S1x64x256 .bf16) (ix3 0 t e) = chunkOut Q K V SO G CC N MM NG t (feat 1 e) := by
  obtain rfl : G = fun s l => x4 (ix3 0 s l) := funext fun s => funext fun l => (hG s l).symm
  obtain rfl : MM = fun l => x7 (ix3 0 0 l) := funext fun l => (hM l).symm
  have hB := fun t l' => (col1 (k0_pay12 x4) t l').trans (bc_apply fG t 1)
  have hl := fun s => lt_apply fG 1 s
  have hP := (mp1 (k0_pay15 x7)).trans (carry_apply x7 1)
  have hbf : ∀ s, IsFin (cum (lf x4 1) s) := cum_fin fun s => fG s _
  have hlf : ∀ s, IsFin (li x4 1 s) := fun s => fG s 1
  have hD := d1 hbf hlf hB hl hP
  have hW := w1 hbf hlf hB hl hP
  have hE := e1 hbf hlf hB hl hP
  have hf := floor_pos hbf hlf (fM 1) (rows q) (cols k) (N 1)
  have rq : rows q = fun t d => Q t (feat 1 d) := funext fun t => funext fun d => hq t d
  have rk : cols k = fun s d => K (feat 1 d) s := funext fun t => funext fun d => hk d t
  have rv : rows v = fun s e => V s (feat 1 e) := funext fun t => funext fun d => hv t d
  have rC : mat C = CC 1 := funext fun t => funext fun d => hC t d
  refine (o1 (h1 q k v C hn (s1 q k hD) hW (r1 q k hD) hE hf) (m1 q k v C hn (s1 q k hD) hW (r1 q k hD) hE hf) _ _ t e).trans ?_
  rw [rq, rk, rv, rC, hg, hso]
  unfold chunkOut
  rw [headOf_feat, chanOf_feat]
  rfl

theorem p10_1 (hk : ∀ d s, k (ix3 0 d s) = K (feat 1 d) s)
    (hv : ∀ s e, v (ix3 0 s e) = V s (feat 1 e)) (hC : ∀ d e, C (ix4 0 0 d e) = CC 1 d e) (d e : Fin 256) :
    (k0_pay117 (k0_pay19 x4 x7) (k0_pay115 (k0_pay21 (k0_pay20 x4 x7)) k) (iota Kind.tc S1x128 32 [1] iota_S1x128_d1_w32) 1#32 C v : FVec Ideal S1x1x256x256 .f32) (ix4 0 0 d e) = chunkC K V G CC MM 1 d e := by
  obtain rfl : G = fun s l => x4 (ix3 0 s l) := funext fun s => funext fun l => (hG s l).symm
  obtain rfl : MM = fun l => x7 (ix3 0 0 l) := funext fun l => (hM l).symm
  have rk : cols k = fun s d => K (feat 1 d) s := funext fun t => funext fun d => hk d t
  have rv : rows v = fun s e => V s (feat 1 e) := funext fun t => funext fun d => hv t d
  have rC : mat C = CC 1 := funext fun t => funext fun d => hC t d
  refine (c1 (weight_apply x7 fG 1) (decay_apply x7 fG 1) k v C d e).trans ?_
  rw [rk, rv, rC]
  rfl

theorem p11_1 (hk : ∀ d s, k (ix3 0 d s) = K (feat 1 d) s) (hn : ∀ d l, n (ix3 0 d l) = N 1 d) (d : Fin 256) :
    (k0_pay2 (k0_pay118 (k0_pay19 x4 x7) k0_pay109 (k0_pay115 (k0_pay21 (k0_pay20 x4 x7)) k) (iota Kind.tc S1x128 32 [1] iota_S1x128_d1_w32) 1#32 n) : FVec Ideal S1x1x256 .f32) (ix3 0 0 d) = chunkN K G N MM 1 d := by
  obtain rfl : G = fun s l => x4 (ix3 0 s l) := funext fun s => funext fun l => (hG s l).symm
  obtain rfl : MM = fun l => x7 (ix3 0 0 l) := funext fun l => (hM l).symm
  have rk : cols k = fun s d => K (feat 1 d) s := funext fun t => funext fun d => hk d t
  refine (n1 (weight_apply x7 fG 1) (decay_apply x7 fG 1) k hn d).trans ?_
  rw [rk]
  rfl

include fM in
theorem p9_2 (hq : ∀ t d, q (ix3 0 t d) = Q t (feat 2 d)) (hk : ∀ d s, k (ix3 0 d s) = K (feat 2 d) s)
    (hv : ∀ s e, v (ix3 0 s e) = V s (feat 2 e)) (hC : ∀ d e, C (ix4 0 0 d e) = CC 2 d e) (hn : ∀ d l, n (ix3 0 d l) = N 2 d)
    (hg : ∀ e, g (ix2 0 e) = NG (feat 2 e)) (hso : ∀ t e, so (ix3 0 t e) = SO t (feat 2 e)) (t : Fin 64) (e : Fin 256) :
    (k0_pay107 (k0_pay92 (k0_pay91 (k0_pay90 q) v C (k0_pay72 (k0_pay69 q) k (k0_pay52 (k0_pay28 (k0_pay15 x7)) k0_pay45 (k0_pay46 (k0_pay24 (k0_pay12 x4))) (k0_pay47 (k0_pay24 (k0_pay12 x4))) (k0_pay48 (k0_pay14 x4)))) n (k0_pay53 (k0_pay28 (k0_pay15 x7)) k0_pay45 (k0_pay46 (k0_pay24 (k0_pay12 x4))) (k0_pay47 (k0_pay24 (k0_pay12 x4))) (k0_pay48 (k0_pay14 x4))) (k0_pay71 (k0_pay69 q) k (k0_pay52 (k0_pay28 (k0_pay15 x7)) k0_pay45 (k0_pay46 (k0_pay24 (k0_pay12 x4))) (k0_pay47 (k0_pay24 (k0_pay12 x4))) (k0_pay48 (k0_pay14 x4)))) (k0_pay54 (k0_pay28 (k0_pay15 x7)) k0_pay45 (k0_pay46 (k0_pay24 (k0_pay12 x4))) (k0_pay47 (k0_pay24 (k0_pay12 x4))) (k0_pay48 (k0_pay14 x4))))) (k0_pay93 (k0_pay91 (k0_pay90 q) v C (k0_pay72 (k0_pay69 q) k (k0_pay52 (k0_pay28 (k0_pay15 x7)) k0_pay45 (k0_pay46 (k0_pay24 (k0_pay12 x4))) (k0_pay47 (k0_pay24 (k0_pay12 x4))) (k0_pay48 (k0_pay14 x4)))) n (k0_pay53 (k0_pay28 (k0_pay15 x7)) k0_pay45 (k0_pay46 (k0_pay24 (k0_pay12 x4))) (k0_pay47 (k0_pay24 (k0_pay12 x4))) (k0_pay48 (k0_pay14 x4))) (k0_pay71 (k0_pay69 q) k (k0_pay52 (k0_pay28 (k0_pay15 x7)) k0_pay45 (k0_pay46 (k0_pay24 (k0_pay12 x4))) (k0_pay47 (k0_pay24 (k0_pay12 x4))) (k0_pay48 (k0_pay14 x4)))) (k0_pay54 (k0_pay28 (k0_pay15 x7)) k0_pay45 (k0_pay46 (k0_pay24 (k0_pay12 x4))) (k0_pay47 (k0_pay24 (k0_pay12 x4))) (k0_pay48 (k0_pay14 x4))))) g so : FVec Ideal S1x64x256 .bf16) (ix3 0 t e) = chunkOut Q K V SO G CC N MM NG t (feat 2 e) := by
  obtain rfl : G = fun s l => x4 (ix3 0 s l) := funext fun s => funext fun l => (hG s l).symm
  obtain rfl : MM = fun l => x7 (ix3 0 0 l) := funext fun l => (hM l).symm
  have hB := fun t l' => (col2 (k0_pay12 x4) t l').trans (bc_apply fG t 2)
  have hl := fun s => lt_apply fG 2 s
  have hP := (mp2 (k0_pay15 x7)).trans (carry_apply x7 2)
  have hbf : ∀ s, IsFin (cum (lf x4 2) s) := cum_fin fun s => fG s _
  have hlf : ∀ s, IsFin (li x4 2 s) := fun s => fG s 2
  have hD := d2 hbf hlf hB hl hP
  have hW := w2 hbf hlf hB hl hP
  have hE := e2 hbf hlf hB hl hP
  have hf := floor_pos hbf hlf (fM 2) (rows q) (cols k) (N 2)
  have rq : rows q = fun t d => Q t (feat 2 d) := funext fun t => funext fun d => hq t d
  have rk : cols k = fun s d => K (feat 2 d) s := funext fun t => funext fun d => hk d t
  have rv : rows v = fun s e => V s (feat 2 e) := funext fun t => funext fun d => hv t d
  have rC : mat C = CC 2 := funext fun t => funext fun d => hC t d
  refine (o2 (h2 q k v C hn (s2 q k hD) hW (r2 q k hD) hE hf) (m2 q k v C hn (s2 q k hD) hW (r2 q k hD) hE hf) _ _ t e).trans ?_
  rw [rq, rk, rv, rC, hg, hso]
  unfold chunkOut
  rw [headOf_feat, chanOf_feat]
  rfl

theorem p10_2 (hk : ∀ d s, k (ix3 0 d s) = K (feat 2 d) s)
    (hv : ∀ s e, v (ix3 0 s e) = V s (feat 2 e)) (hC : ∀ d e, C (ix4 0 0 d e) = CC 2 d e) (d e : Fin 256) :
    (k0_pay121 (k0_pay19 x4 x7) (k0_pay119 (k0_pay21 (k0_pay20 x4 x7)) k) (iota Kind.tc S1x128 32 [1] iota_S1x128_d1_w32) C v : FVec Ideal S1x1x256x256 .f32) (ix4 0 0 d e) = chunkC K V G CC MM 2 d e := by
  obtain rfl : G = fun s l => x4 (ix3 0 s l) := funext fun s => funext fun l => (hG s l).symm
  obtain rfl : MM = fun l => x7 (ix3 0 0 l) := funext fun l => (hM l).symm
  have rk : cols k = fun s d => K (feat 2 d) s := funext fun t => funext fun d => hk d t
  have rv : rows v = fun s e => V s (feat 2 e) := funext fun t => funext fun d => hv t d
  have rC : mat C = CC 2 := funext fun t => funext fun d => hC t d
  refine (c2 (weight_apply x7 fG 2) (decay_apply x7 fG 2) k v C d e).trans ?_
  rw [rk, rv, rC]
  rfl

theorem p11_2 (hk : ∀ d s, k (ix3 0 d s) = K (feat 2 d) s) (hn : ∀ d l, n (ix3 0 d l) = N 2 d) (d : Fin 256) :
    (k0_pay3 (k0_pay122 (k0_pay19 x4 x7) k0_pay109 (k0_pay119 (k0_pay21 (k0_pay20 x4 x7)) k) (iota Kind.tc S1x128 32 [1] iota_S1x128_d1_w32) n) : FVec Ideal S1x1x256 .f32) (ix3 0 0 d) = chunkN K G N MM 2 d := by
  obtain rfl : G = fun s l => x4 (ix3 0 s l) := funext fun s => funext fun l => (hG s l).symm
  obtain rfl : MM = fun l => x7 (ix3 0 0 l) := funext fun l => (hM l).symm
  have rk : cols k = fun s d => K (feat 2 d) s := funext fun t => funext fun d => hk d t
  refine (n2 (weight_apply x7 fG 2) (decay_apply x7 fG 2) k hn d).trans ?_
  rw [rk]
  rfl

include fM in
theorem p9_3 (hq : ∀ t d, q (ix3 0 t d) = Q t (feat 3 d)) (hk : ∀ d s, k (ix3 0 d s) = K (feat 3 d) s)
    (hv : ∀ s e, v (ix3 0 s e) = V s (feat 3 e)) (hC : ∀ d e, C (ix4 0 0 d e) = CC 3 d e) (hn : ∀ d l, n (ix3 0 d l) = N 3 d)
    (hg : ∀ e, g (ix2 0 e) = NG (feat 3 e)) (hso : ∀ t e, so (ix3 0 t e) = SO t (feat 3 e)) (t : Fin 64) (e : Fin 256) :
    (k0_pay108 (k0_pay100 (k0_pay95 q C) (k0_pay96 v (k0_pay75 (k0_pay73 q k (k0_pay59 (k0_pay29 (k0_pay15 x7)) (k0_pay55 (k0_pay25 (k0_pay12 x4) (iota Kind.tc S64x128 32 [1] iota_S64x128_d1_w32) 3#32)) (k0_pay56 (k0_pay14 x4) (k0_pay25 (k0_pay12 x4) (iota Kind.tc S64x128 32 [1] iota_S64x128_d1_w32) 3#32)))))) (k0_pay97 (k0_pay60 (k0_pay29 (k0_pay15 x7)) (k0_pay55 (k0_pay25 (k0_pay12 x4) (iota Kind.tc S64x128 32 [1] iota_S64x128_d1_w32) 3#32)) (k0_pay56 (k0_pay14 x4) (k0_pay25 (k0_pay12 x4) (iota Kind.tc S64x128 32 [1] iota_S64x128_d1_w32) 3#32)))) (k0_pay98 q n (k0_pay60 (k0_pay29 (k0_pay15 x7)) (k0_pay55 (k0_pay25 (k0_pay12 x4) (iota Kind.tc S64x128 32 [1] iota_S64x128_d1_w32) 3#32)) (k0_pay56 (k0_pay14 x4) (k0_pay25 (k0_pay12 x4) (iota Kind.tc S64x128 32 [1] iota_S64x128_d1_w32) 3#32)))) (k0_pay74 q k (k0_pay59 (k0_pay29 (k0_pay15 x7)) (k0_pay55 (k0_pay25 (k0_pay12 x4) (iota Kind.tc S64x128 32 [1] iota_S64x128_d1_w32) 3#32)) (k0_pay56 (k0_pay14 x4) (k0_pay25 (k0_pay12 x4) (iota Kind.tc S64x128 32 [1] iota_S64x128_d1_w32) 3#32)))) (k0_pay61 (k0_pay29 (k0_pay15 x7)) (k0_pay55 (k0_pay25 (k0_pay12 x4) (iota Kind.tc S64x128 32 [1] iota_S64x128_d1_w32) 3#32)) (k0_pay56 (k0_pay14 x4) (k0_pay25 (k0_pay12 x4) (iota Kind.tc S64x128 32 [1] iota_S64x128_d1_w32) 3#32)))) (k0_pay101 (k0_pay95 q C) (k0_pay96 v (k0_pay75 (k0_pay73 q k (k0_pay59 (k0_pay29 (k0_pay15 x7)) (k0_pay55 (k0_pay25 (k0_pay12 x4) (iota Kind.tc S64x128 32 [1] iota_S64x128_d1_w32) 3#32)) (k0_pay56 (k0_pay14 x4) (k0_pay25 (k0_pay12 x4) (iota Kind.tc S64x128 32 [1] iota_S64x128_d1_w32) 3#32)))))) (k0_pay97 (k0_pay60 (k0_pay29 (k0_pay15 x7)) (k0_pay55 (k0_pay25 (k0_pay12 x4) (iota Kind.tc S64x128 32 [1] iota_S64x128_d1_w32) 3#32)) (k0_pay56 (k0_pay14 x4) (k0_pay25 (k0_pay12 x4) (iota Kind.tc S64x128 32 [1] iota_S64x128_d1_w32) 3#32)))) (k0_pay98 q n (k0_pay60 (k0_pay29 (k0_pay15 x7)) (k0_pay55 (k0_pay25 (k0_pay12 x4) (iota Kind.tc S64x128 32 [1] iota_S64x128_d1_w32) 3#32)) (k0_pay56 (k0_pay14 x4) (k0_pay25 (k0_pay12 x4) (iota Kind.tc S64x128 32 [1] iota_S64x128_d1_w32) 3#32)))) (k0_pay74 q k (k0_pay59 (k0_pay29 (k0_pay15 x7)) (k0_pay55 (k0_pay25 (k0_pay12 x4) (iota Kind.tc S64x128 32 [1] iota_S64x128_d1_w32) 3#32)) (k0_pay56 (k0_pay14 x4) (k0_pay25 (k0_pay12 x4) (iota Kind.tc S64x128 32 [1] iota_S64x128_d1_w32) 3#32)))) (k0_pay61 (k0_pay29 (k0_pay15 x7)) (k0_pay55 (k0_pay25 (k0_pay12 x4) (iota Kind.tc S64x128 32 [1] iota_S64x128_d1_w32) 3#32)) (k0_pay56 (k0_pay14 x4) (k0_pay25 (k0_pay12 x4) (iota Kind.tc S64x128 32 [1] iota_S64x128_d1_w32) 3#32)))) g so : FVec Ideal S1x64x256 .bf16) (ix3 0 t e) = chunkOut Q K V SO G CC N MM NG t (feat 3 e) := by
  obtain rfl : G = fun s l => x4 (ix3 0 s l) := funext fun s => funext fun l => (hG s l).symm
  obtain rfl : MM = fun l => x7 (ix3 0 0 l) := funext fun l => (hM l).symm
  have hB := fun t l' => (col3 (k0_pay12 x4) t l').trans (bc_apply fG t 3)
  have hl := fun s => lt_apply fG 3 s
  have hP := (mp3 (k0_pay15 x7)).trans (carry_apply x7 3)
  have hbf : ∀ s, IsFin (cum (lf x4 3) s) := cum_fin fun s => fG s _
  have hlf : ∀ s, IsFin (li x4 3 s) := fun s => fG s 3
  have hD := d3 hbf hlf hB hl hP
  have hW := w3 hbf hlf hB hl hP
  have hE := e3 hbf hlf hB hl hP
  have hf := floor_pos hbf hlf (fM 3) (rows q) (cols k) (N 3)
  have rq : rows q = fun t d => Q t (feat 3 d) := funext fun t => funext fun d => hq t d
  have rk : cols k = fun s d => K (feat 3 d) s := funext fun t => funext fun d => hk d t
  have rv : rows v = fun s e => V s (feat 3 e) := funext fun t => funext fun d => hv t d
  have rC : mat C = CC 3 := funext fun t => funext fun d => hC t d
  refine (o3 (h3 q k v C hn (s3 q k hD) hW (r3 q k hD) hE hf) (m3 q k v C hn (s3 q k hD) hW (r3 q k hD) hE hf) _ _ t e).trans ?_
  rw [rq, rk, rv, rC, hg, hso]
  unfold chunkOut
  rw [headOf_feat, chanOf_feat]
  rfl

theorem p10_3 (hk : ∀ d s, k (ix3 0 d s) = K (feat 3 d) s)
    (hv : ∀ s e, v (ix3 0 s e) = V s (feat 3 e)) (hC : ∀ d e, C (ix4 0 0 d e) = CC 3 d e) (d e : Fin 256) :
    (k0_pay125 (k0_pay19 x4 x7) (k0_pay123 (k0_pay21 (k0_pay20 x4 x7)) k) C v : FVec Ideal S1x1x256x256 .f32) (ix4 0 0 d e) = chunkC K V G CC MM 3 d e := by
  obtain rfl : G = fun s l => x4 (ix3 0 s l) := funext fun s => funext fun l => (hG s l).symm
  obtain rfl : MM = fun l => x7 (ix3 0 0 l) := funext fun l => (hM l).symm
  have rk : cols k = fun s d => K (feat 3 d) s := funext fun t => funext fun d => hk d t
  have rv : rows v = fun s e => V s (feat 3 e) := funext fun t => funext fun d => hv t d
  have rC : mat C = CC 3 := funext fun t => funext fun d => hC t d
  refine (c3 (weight_apply x7 fG 3) (decay_apply x7 fG 3) k v C d e).trans ?_
  rw [rk, rv, rC]
  rfl

theorem p11_3 (hk : ∀ d s, k (ix3 0 d s) = K (feat 3 d) s) (hn : ∀ d l, n (ix3 0 d l) = N 3 d) (d : Fin 256) :
    (k0_pay4 (k0_pay126 (k0_pay19 x4 x7) k0_pay109 (k0_pay123 (k0_pay21 (k0_pay20 x4 x7)) k) n) : FVec Ideal S1x1x256 .f32) (ix3 0 0 d) = chunkN K G N MM 3 d := by
  obtain rfl : G = fun s l => x4 (ix3 0 s l) := funext fun s => funext fun l => (hG s l).symm
  obtain rfl : MM = fun l => x7 (ix3 0 0 l) := funext fun l => (hM l).symm
  have rk : cols k = fun s d => K (feat 3 d) s := funext fun t => funext fun d => hk d t
  refine (n3 (weight_apply x7 fG 3) (decay_apply x7 fG 3) k hn d).trans ?_
  rw [rk]
  rfl

theorem p12 (l : Fin 128) : (k0_pay127 (k0_pay18 x4 x7) : FVec Ideal S1x1x128 .f32) (ix3 0 0 l) = chunkM G MM l := by
  obtain rfl : G = fun s l => x4 (ix3 0 s l) := funext fun s => funext fun l => (hG s l).symm
  obtain rfl : MM = fun l => x7 (ix3 0 0 l) := funext fun l => (hM l).symm
  refine Eq.trans ?_ (next_apply x7 fG l)
  generalize k0_pay18 x4 x7 = z
  pointwise [k0_pay127]
end Head

/-- The carried maxima of the four heads in 128 lanes. -/
def lanes (a7 : Vec Ideal S16x4 .f32) (p : Fin 16) (l : Fin 128) : EReal := if h : l.val < 4 then a7 (ix2 p ⟨l.val, h⟩) else 0

/-- Result 0. -/
def value9 (a0 : Vec Ideal S16x64x1024 .bf16) (a1 : Vec Ideal S16x1024x64 .bf16) (a2 : Vec Ideal S16x64x1024 .bf16) (a3 : Vec Ideal S16x64x1024 .bf16) (a4 : Vec Ideal S16x64x128 .f32) (a5 : Vec Ideal S16x4x256x256 .f32) (a6 : Vec Ideal S16x4x256 .f32) (a7 : Vec Ideal S16x4 .f32) (a8 : Vec Ideal S1024 .f32) (i : S16x64x1024.Idx) : EReal :=
  chunkOut (fun u f => a0 (ix3 (i 0) u f)) (fun f s => a1 (ix3 (i 0) f s)) (fun u f => a2 (ix3 (i 0) u f)) (fun u f => a3 (ix3 (i 0) u f)) (fun s l => a4 (ix3 (i 0) s l)) (fun j d e => a5 (ix4 (i 0) j d e)) (fun j d => a6 (ix3 (i 0) j d)) (lanes a7 (i 0)) (fun f => a8 (ix1 f)) (i 1) (i 2)

/-- Result 1. -/
def value10 (a0 : Vec Ideal S16x64x1024 .bf16) (a1 : Vec Ideal S16x1024x64 .bf16) (a2 : Vec Ideal S16x64x1024 .bf16) (a3 : Vec Ideal S16x64x1024 .bf16) (a4 : Vec Ideal S16x64x128 .f32) (a5 : Vec Ideal S16x4x256x256 .f32) (a6 : Vec Ideal S16x4x256 .f32) (a7 : Vec Ideal S16x4 .f32) (a8 : Vec Ideal S1024 .f32) (i : S16x4x256x256.Idx) : EReal :=
  chunkC (fun f s => a1 (ix3 (i 0) f s)) (fun u f => a2 (ix3 (i 0) u f)) (fun s l => a4 (ix3 (i 0) s l)) (fun j d e => a5 (ix4 (i 0) j d e)) (lanes a7 (i 0)) (i 1) (i 2) (i 3)

/-- Result 2. -/
def value11 (a0 : Vec Ideal S16x64x1024 .bf16) (a1 : Vec Ideal S16x1024x64 .bf16) (a2 : Vec Ideal S16x64x1024 .bf16) (a3 : Vec Ideal S16x64x1024 .bf16) (a4 : Vec Ideal S16x64x128 .f32) (a5 : Vec Ideal S16x4x256x256 .f32) (a6 : Vec Ideal S16x4x256 .f32) (a7 : Vec Ideal S16x4 .f32) (a8 : Vec Ideal S1024 .f32) (i : S16x4x256.Idx) : EReal :=
  chunkN (fun f s => a1 (ix3 (i 0) f s)) (fun s l => a4 (ix3 (i 0) s l)) (fun j d => a6 (ix3 (i 0) j d)) (lanes a7 (i 0)) (i 1) (i 2)

/-- Result 3. -/
def value12 (a0 : Vec Ideal S16x64x1024 .bf16) (a1 : Vec Ideal S16x1024x64 .bf16) (a2 : Vec Ideal S16x64x1024 .bf16) (a3 : Vec Ideal S16x64x1024 .bf16) (a4 : Vec Ideal S16x64x128 .f32) (a5 : Vec Ideal S16x4x256x256 .f32) (a6 : Vec Ideal S16x4x256 .f32) (a7 : Vec Ideal S16x4 .f32) (a8 : Vec Ideal S1024 .f32) (i : S16x1x128.Idx) : EReal :=
  chunkM (fun s l => a4 (ix3 (i 0) s l)) (lanes a7 (i 0)) (i 2)

theorem lanes_fin {a7 : Vec Ideal S16x4 .f32} (h : ∀ i, IsFin (a7 i)) (p : Fin 16) (l : Fin 128) : IsFin (lanes a7 p l) := by
  unfold lanes; split
  · exact h _
  · exact ⟨0, rfl⟩

variable (m : (ℓ : Loc nD τ sig) → Buf (Elt Ideal) ℓ)

/-- The block that each window reads or writes at a grid point. -/
theorem idx : ∀ t : Fin cfg0.N, win0_0.index t = ![t.val, 0, 0] ∧ win0_1.index t = ![t.val, 0, 0] ∧ win0_2.index t = ![t.val, 0, 0]
    ∧ win0_3.index t = ![t.val, 0, 0] ∧ win0_4.index t = ![t.val, 0, 0] ∧ win0_5.index t = ![t.val, 0, 0, 0]
    ∧ win0_6.index t = ![t.val, 0, 0, 0] ∧ win0_7.index t = ![t.val, 0, 0] ∧ win0_8.index t = ![0, 0]
    ∧ win0_9.index t = ![t.val, 0, 0] ∧ win0_10.index t = ![t.val, 0, 0, 0] ∧ win0_11.index t = ![t.val, 0, 0]
    ∧ win0_12.index t = ![t.val, 0, 0] :=
  (by decide +kernel : ∀ t : Fin grid0.N, win0_0.index t = ![t.val, 0, 0] ∧ win0_1.index t = ![t.val, 0, 0] ∧ win0_2.index t = ![t.val, 0, 0]
    ∧ win0_3.index t = ![t.val, 0, 0] ∧ win0_4.index t = ![t.val, 0, 0] ∧ win0_5.index t = ![t.val, 0, 0, 0]
    ∧ win0_6.index t = ![t.val, 0, 0, 0] ∧ win0_7.index t = ![t.val, 0, 0] ∧ win0_8.index t = ![0, 0]
    ∧ win0_9.index t = ![t.val, 0, 0] ∧ win0_10.index t = ![t.val, 0, 0, 0] ∧ win0_11.index t = ![t.val, 0, 0]
    ∧ win0_12.index t = ![t.val, 0, 0])

/-- The sequence of a grid point. -/
abbrev bat (t : Fin cfg0.N) : Fin 16 := ⟨t.val, t.isLt⟩

theorem rep_apply (X : Vec Ideal S16x4x256 .f32) (p : Fin 16) (j : Fin 4) (d : Fin 256) (l : Fin 128) :
    broadcastInDim S16x4x256x128 ![0, 1, 2, 3] bcast_S16x4x256x1_S16x4x256x128_0_1_2_3
      (broadcastInDim S16x4x256x1 ![0, 1, 2] bcast_S16x4x256_S16x4x256x1_0_1_2 X) (ix4 p j d l) = X (ix3 p j d) := by
  pointwise

theorem read0 (c : Dev nD) (t : Fin cfg0.N) (s : Fin 64) (f : Fin 1024) :
    (iblk m c 0 t : Vec Ideal S1x64x1024 .bf16) (ix3 0 s f) = m ((c : Thread nD τ).loc main_arg0) (ix3 (bat t) s f) := by
  obtain ⟨e0, e1, e2, e3, e4, e5, e6, e7, e8, e9, e10, e11, e12⟩ := idx t
  blk_ext! [iblk, V, e0]

theorem read2 (c : Dev nD) (t : Fin cfg0.N) (s : Fin 64) (f : Fin 1024) :
    (iblk m c 2 t : Vec Ideal S1x64x1024 .bf16) (ix3 0 s f) = m ((c : Thread nD τ).loc main_arg2) (ix3 (bat t) s f) := by
  obtain ⟨e0, e1, e2, e3, e4, e5, e6, e7, e8, e9, e10, e11, e12⟩ := idx t
  blk_ext! [iblk, V, e2]

theorem read3 (c : Dev nD) (t : Fin cfg0.N) (s : Fin 64) (f : Fin 1024) :
    (iblk m c 3 t : Vec Ideal S1x64x1024 .bf16) (ix3 0 s f) = m ((c : Thread nD τ).loc main_arg3) (ix3 (bat t) s f) := by
  obtain ⟨e0, e1, e2, e3, e4, e5, e6, e7, e8, e9, e10, e11, e12⟩ := idx t
  blk_ext! [iblk, V, e3]

theorem read1 (c : Dev nD) (t : Fin cfg0.N) (f : Fin 1024) (s : Fin 64) :
    (iblk m c 1 t : Vec Ideal S1x1024x64 .bf16) (ix3 0 f s) = m ((c : Thread nD τ).loc main_arg1) (ix3 (bat t) f s) := by
  obtain ⟨e0, e1, e2, e3, e4, e5, e6, e7, e8, e9, e10, e11, e12⟩ := idx t
  blk_ext! [iblk, V, e1]

theorem read4 (c : Dev nD) (t : Fin cfg0.N) (s : Fin 64) (l : Fin 128) :
    (iblk m c 4 t : Vec Ideal S1x64x128 .f32) (ix3 0 s l) = m ((c : Thread nD τ).loc main_arg4) (ix3 (bat t) s l) := by
  obtain ⟨e0, e1, e2, e3, e4, e5, e6, e7, e8, e9, e10, e11, e12⟩ := idx t
  blk_ext! [iblk, V, e4]

theorem read5 (c : Dev nD) (t : Fin cfg0.N) (j : Fin 4) (d e : Fin 256) :
    (iblk m c 5 t : Vec Ideal S1x4x256x256 .f32) (ix4 0 j d e) = m ((c : Thread nD τ).loc main_arg5) (ix4 (bat t) j d e) := by
  obtain ⟨e0, e1, e2, e3, e4, e5, e6, e7, e8, e9, e10, e11, e12⟩ := idx t
  blk_ext! [iblk, V, e5]

theorem read6 (c : Dev nD) (t : Fin cfg0.N) (j : Fin 4) (d : Fin 256) (l : Fin 128) :
    (iblk m c 6 t : Vec Ideal S1x4x256x128 .f32) (ix4 0 j d l) = m ((c : Thread nD τ).loc main_arg6) (ix3 (bat t) j d) := by
  obtain ⟨e0, e1, e2, e3, e4, e5, e6, e7, e8, e9, e10, e11, e12⟩ := idx t
  refine Eq.trans (b := V m c main_v3 (ix4 (bat t) j d l)) ?_ ?_
  · blk_ext [iblk, e6]
  · entry_read
    exact rep_apply _ _ _ _ _

theorem entry1 (c : Dev nD) : V m c main_v1 = shapeCast S16x1x128 (pad S16x128 ![0, 0] ![0, 124] ![0, 0]
      (m ((c : Thread nD τ).loc main_arg7) : FVec Ideal S16x4 .f32) (sitofp .f32 (constantI S_ 32 0#32) : FVec Ideal S_ .f32)
      pads_S16x4_S16x128_000_01240 h_S_) shapeCasts_S16x128_S16x1x128 := by
  unfold V
  simp only [hostOps0, hostOps0_1, hostOps0_2, List.flatten_cons, List.flatten_nil, List.append_nil, List.cons_append, List.nil_append]
  simp only [StableHlo.after_cons, StableHlo.after_nil]
  after_results_simp
  rfl

theorem entry4 (c : Dev nD) : V m c main_v4 = shapeCast S1x1024 (m ((c : Thread nD τ).loc main_arg8)) shapeCasts_S1024_S1x1024 := by
  unfold V
  simp only [hostOps0, hostOps0_1, hostOps0_2, List.flatten_cons, List.flatten_nil, List.append_nil, List.cons_append, List.nil_append]
  simp only [StableHlo.after_cons, StableHlo.after_nil]
  after_results_simp
  rfl

theorem padded_apply (X : FVec Ideal S16x4 .f32) (p : Fin 16) (l : Fin 128) :
    shapeCast S16x1x128 (pad S16x128 ![0, 0] ![0, 124] ![0, 0] X (sitofp .f32 (constantI S_ 32 0#32) : FVec Ideal S_ .f32)
      pads_S16x4_S16x128_000_01240 h_S_) shapeCasts_S16x128_S16x1x128 (ix3 p 0 l) = lanes X p l := by
  have h0 : FloatOps.sitofp (F := Ideal) FTy.f32 0#32 = (0 : EReal) := by
    show ((((0#32 : BitVec 32).toInt : ℝ)) : EReal) = 0
    simp
  pointwise
  rw [h0]
  rfl

theorem row_apply (X : FVec Ideal S1024 .f32) (f : Fin 1024) :
    shapeCast S1x1024 X shapeCasts_S1024_S1x1024 (ix2 0 f) = X (ix1 f) := by
  pointwise

theorem read7 (c : Dev nD) (t : Fin cfg0.N) (l : Fin 128) :
    (iblk m c 7 t : Vec Ideal S1x1x128 .f32) (ix3 0 0 l) = lanes (m ((c : Thread nD τ).loc main_arg7)) (bat t) l := by
  obtain ⟨e0, e1, e2, e3, e4, e5, e6, e7, e8, e9, e10, e11, e12⟩ := idx t
  refine Eq.trans (b := V m c main_v1 (ix3 (bat t) 0 l)) ?_ ?_
  · blk_ext [iblk, e7]
  · exact (congrFun (entry1 m c) _).trans (padded_apply _ _ _)

theorem read8 (c : Dev nD) (t : Fin cfg0.N) (f : Fin 1024) :
    (iblk m c 8 t : Vec Ideal S1x1024 .f32) (ix2 0 f) = m ((c : Thread nD τ).loc main_arg8) (ix1 f) := by
  obtain ⟨e0, e1, e2, e3, e4, e5, e6, e7, e8, e9, e10, e11, e12⟩ := idx t
  refine Eq.trans (b := V m c main_v4 (ix2 0 f)) ?_ ?_
  · blk_ext [iblk, e8]
  · exact (congrFun (entry4 m c) _).trans (row_apply _ _)

theorem place9 (t : Fin cfg0.N) (y : S1x64x1024.Idx) : (win0_9.blk t).view.emb y = ix3 (bat t) (y 1) (y 2) := by
  obtain ⟨e0, e1, e2, e3, e4, e5, e6, e7, e8, e9, e10, e11, e12⟩ := idx t
  blk_ext [e9]

theorem place10 (t : Fin cfg0.N) (y : S1x4x256x256.Idx) : (win0_10.blk t).view.emb y = ix4 (bat t) (y 1) (y 2) (y 3) := by
  obtain ⟨e0, e1, e2, e3, e4, e5, e6, e7, e8, e9, e10, e11, e12⟩ := idx t
  blk_ext [e10]

theorem place11 (t : Fin cfg0.N) (y : S1x4x256.Idx) : (win0_11.blk t).view.emb y = ix3 (bat t) (y 1) (y 2) := by
  obtain ⟨e0, e1, e2, e3, e4, e5, e6, e7, e8, e9, e10, e11, e12⟩ := idx t
  blk_ext [e11]

theorem place12 (t : Fin cfg0.N) (y : S1x1x128.Idx) : (win0_12.blk t).view.emb y = ix3 (bat t) 0 (y 2) := by
  obtain ⟨e0, e1, e2, e3, e4, e5, e6, e7, e8, e9, e10, e11, e12⟩ := idx t
  blk_ext [e12]

theorem at9 {F : Fin 64 → Fin 1024 → EReal} (j : Fin 4) (o : ℕ) (ho : o = 256 * j.val) {X : FVec Ideal S1x64x256 .bf16}
    (hX : ∀ t e, X (ix3 0 t e) = F t (feat j e))
    (inb : ∀ a, (![0, 0, o] : Fin S1x64x1024.rank → ℕ) a + S1x64x256.size a ≤ S1x64x1024.size a) (x : S1x64x256.Idx) :
    X x = (fun y : S1x64x1024.Idx => F (y 1) (y 2)) ((Rect.unit (s := S1x64x1024) ![0, 0, o] S1x64x256.size inb).emb x) := by
  have hx : x = ix3 (0 : Fin 1) (x 1) (x 2) := by
    funext a
    match a with
    | ⟨0, _⟩ => exact Subsingleton.elim (α := Fin 1) _ _
    | ⟨1, _⟩ => rfl
    | ⟨2, _⟩ => rfl
  refine (congrArg X hx).trans ((hX (x 1) (x 2)).trans ?_)
  refine congrArg₂ F (Fin.ext ?_) (Fin.ext ?_)
  · have e : ((Rect.unit (s := S1x64x1024) ![0, 0, o] S1x64x256.size inb).idx x 1).val = 0 + (x 1).val := Rect.idx_unit_val _ _ _ _ 1
    exact (e.trans (Nat.zero_add _)).symm
  · have e : ((Rect.unit (s := S1x64x1024) ![0, 0, o] S1x64x256.size inb).idx x 2).val = o + (x 2).val := Rect.idx_unit_val _ _ _ _ 2
    exact (congrArg (· + (x 2).val) ho.symm).trans e.symm

theorem at10 {F : Fin 4 → Fin 256 → Fin 256 → EReal} (j : Fin 4) (o : ℕ) (ho : o = j.val) {X : FVec Ideal S1x1x256x256 .f32}
    (hX : ∀ d e, X (ix4 0 0 d e) = F j d e)
    (inb : ∀ a, (![0, o, 0, 0] : Fin S1x4x256x256.rank → ℕ) a + S1x1x256x256.size a ≤ S1x4x256x256.size a) (x : S1x1x256x256.Idx) :
    X x = (fun y : S1x4x256x256.Idx => F (y 1) (y 2) (y 3)) ((Rect.unit (s := S1x4x256x256) ![0, o, 0, 0] S1x1x256x256.size inb).emb x) := by
  have hx : x = ix4 (0 : Fin 1) (0 : Fin 1) (x 2) (x 3) := by
    funext a
    match a with
    | ⟨0, _⟩ => exact Subsingleton.elim (α := Fin 1) _ _
    | ⟨1, _⟩ => exact Subsingleton.elim (α := Fin 1) _ _
    | ⟨2, _⟩ => rfl
    | ⟨3, _⟩ => rfl
  have h1 : j = ((Rect.unit (s := S1x4x256x256) ![0, o, 0, 0] S1x1x256x256.size inb).emb x) 1 := Fin.ext <| by
    have e : ((Rect.unit (s := S1x4x256x256) ![0, o, 0, 0] S1x1x256x256.size inb).idx x 1).val = o + (x 1).val := Rect.idx_unit_val _ _ _ _ 1
    refine Eq.trans ?_ e.symm
    have : (x 1).val = 0 := congrArg Fin.val (Subsingleton.elim (α := Fin 1) (x 1) 0)
    exact ho.symm.trans (congrArg (o + ·) this).symm
  have h2 : x 2 = ((Rect.unit (s := S1x4x256x256) ![0, o, 0, 0] S1x1x256x256.size inb).emb x) 2 := Fin.ext <| by
    have e : ((Rect.unit (s := S1x4x256x256) ![0, o, 0, 0] S1x1x256x256.size inb).idx x 2).val = 0 + (x 2).val := Rect.idx_unit_val _ _ _ _ 2
    exact (e.trans (Nat.zero_add _)).symm
  have h3 : x 3 = ((Rect.unit (s := S1x4x256x256) ![0, o, 0, 0] S1x1x256x256.size inb).emb x) 3 := Fin.ext <| by
    have e : ((Rect.unit (s := S1x4x256x256) ![0, o, 0, 0] S1x1x256x256.size inb).idx x 3).val = 0 + (x 3).val := Rect.idx_unit_val _ _ _ _ 3
    exact (e.trans (Nat.zero_add _)).symm
  refine (congrArg X hx).trans ((hX (x 2) (x 3)).trans ?_)
  exact (congrArg (fun j => F j (x 2) (x 3)) h1).trans (congrArg₂ (F _) h2 h3)

theorem at11 {F : Fin 4 → Fin 256 → EReal} (j : Fin 4) (o : ℕ) (ho : o = j.val) {X : FVec Ideal S1x1x256 .f32}
    (hX : ∀ d, X (ix3 0 0 d) = F j d)
    (inb : ∀ a, (![0, o, 0] : Fin S1x4x256.rank → ℕ) a + S1x1x256.size a ≤ S1x4x256.size a) (x : S1x1x256.Idx) :
    X x = (fun y : S1x4x256.Idx => F (y 1) (y 2)) ((Rect.unit (s := S1x4x256) ![0, o, 0] S1x1x256.size inb).emb x) := by
  have hx : x = ix3 (0 : Fin 1) (0 : Fin 1) (x 2) := by
    funext a
    match a with
    | ⟨0, _⟩ => exact Subsingleton.elim (α := Fin 1) _ _
    | ⟨1, _⟩ => exact Subsingleton.elim (α := Fin 1) _ _
    | ⟨2, _⟩ => rfl
  have h1 : j = ((Rect.unit (s := S1x4x256) ![0, o, 0] S1x1x256.size inb).emb x) 1 := Fin.ext <| by
    have e : ((Rect.unit (s := S1x4x256) ![0, o, 0] S1x1x256.size inb).idx x 1).val = o + (x 1).val := Rect.idx_unit_val _ _ _ _ 1
    refine Eq.trans ?_ e.symm
    have : (x 1).val = 0 := congrArg Fin.val (Subsingleton.elim (α := Fin 1) (x 1) 0)
    exact ho.symm.trans (congrArg (o + ·) this).symm
  have h2 : x 2 = ((Rect.unit (s := S1x4x256) ![0, o, 0] S1x1x256.size inb).emb x) 2 := Fin.ext <| by
    have e : ((Rect.unit (s := S1x4x256) ![0, o, 0] S1x1x256.size inb).idx x 2).val = 0 + (x 2).val := Rect.idx_unit_val _ _ _ _ 2
    exact (e.trans (Nat.zero_add _)).symm
  exact (congrArg X hx).trans ((hX (x 2)).trans (congrArg₂ F h1 h2))

/-- Reading one sequence's block of a head. -/
theorem ld_head (X : Vec Ideal S1x64x1024 .bf16) (j : Fin 4) (o : ℕ) (ho : o = 256 * j.val)
    (inb : ∀ a, (![0, 0, o] : Fin S1x64x1024.rank → ℕ) a + S1x64x256.size a ≤ S1x64x1024.size a) (t : Fin 64) (d : Fin 256) :
    (View.ld X (Rect.unit (s := S1x64x1024) ![0, 0, o] S1x64x256.size inb) : FVec Ideal S1x64x256 .bf16) (ix3 0 t d) = X (ix3 0 t (feat j d)) :=
  View.ld_unit_apply_of _ _ _ _ _ _ fun a => by
    match a with
    | ⟨0, _⟩ => rfl
    | ⟨1, _⟩ => exact (Nat.zero_add _).symm
    | ⟨2, _⟩ => exact congrArg (· + d.val) ho.symm

theorem ld_headT (X : Vec Ideal S1x1024x64 .bf16) (j : Fin 4) (o : ℕ) (ho : o = 256 * j.val)
    (inb : ∀ a, (![0, o, 0] : Fin S1x1024x64.rank → ℕ) a + S1x256x64.size a ≤ S1x1024x64.size a) (d : Fin 256) (s : Fin 64) :
    (View.ld X (Rect.unit (s := S1x1024x64) ![0, o, 0] S1x256x64.size inb) : FVec Ideal S1x256x64 .bf16) (ix3 0 d s) = X (ix3 0 (feat j d) s) :=
  View.ld_unit_apply_of _ _ _ _ _ _ fun a => by
    match a with
    | ⟨0, _⟩ => rfl
    | ⟨1, _⟩ => exact congrArg (· + d.val) ho.symm
    | ⟨2, _⟩ => exact (Nat.zero_add _).symm

theorem ld_mat (X : Vec Ideal S1x4x256x256 .f32) (j : Fin 4) (o : ℕ) (ho : o = j.val)
    (inb : ∀ a, (![0, o, 0, 0] : Fin S1x4x256x256.rank → ℕ) a + S1x1x256x256.size a ≤ S1x4x256x256.size a) (d e : Fin 256) :
    (View.ld X (Rect.unit (s := S1x4x256x256) ![0, o, 0, 0] S1x1x256x256.size inb) : FVec Ideal S1x1x256x256 .f32) (ix4 0 0 d e) = X (ix4 0 j d e) :=
  View.ld_unit_apply_of _ _ _ _ _ _ fun a => by
    match a with
    | ⟨0, _⟩ => rfl
    | ⟨1, _⟩ => exact ho.symm
    | ⟨2, _⟩ => exact (Nat.zero_add _).symm
    | ⟨3, _⟩ => exact (Nat.zero_add _).symm

theorem flat_apply (X : FVec Ideal S1x1x256x128 .f32) (h : S1x1x256x128.ShapeCasts S256x128) (h' : S256x128.ShapeCasts S1x256x128)
    (d : Fin 256) (l : Fin 128) : shapeCast S1x256x128 (shapeCast S256x128 X h) h' (ix3 0 d l) = X (ix4 0 0 d l) := by
  pointwise

theorem ld_vec (X : Vec Ideal S1x4x256x128 .f32) (j : Fin 4) (o : ℕ) (ho : o = j.val)
    (inb : ∀ a, (![0, o, 0, 0] : Fin S1x4x256x128.rank → ℕ) a + S1x1x256x128.size a ≤ S1x4x256x128.size a)
    (h : S1x1x256x128.ShapeCasts S256x128) (h' : S256x128.ShapeCasts S1x256x128) (d : Fin 256) (l : Fin 128) :
    shapeCast S1x256x128 (shapeCast S256x128
      (View.ld X (Rect.unit (s := S1x4x256x128) ![0, o, 0, 0] S1x1x256x128.size inb) : FVec Ideal S1x1x256x128 .f32) h) h' (ix3 0 d l) = X (ix4 0 j d l) :=
  (flat_apply _ _ _ _ _).trans <| View.ld_unit_apply_of _ _ _ _ _ _ fun a => by
    match a with
    | ⟨0, _⟩ => rfl
    | ⟨1, _⟩ => exact ho.symm
    | ⟨2, _⟩ => exact (Nat.zero_add _).symm
    | ⟨3, _⟩ => exact (Nat.zero_add _).symm

theorem ld_row (X : Vec Ideal S1x1024 .f32) (j : Fin 4) (o : ℕ) (ho : o = 256 * j.val)
    (inb : ∀ a, (![0, o] : Fin S1x1024.rank → ℕ) a + S1x256.size a ≤ S1x1024.size a) (d : Fin 256) :
    (View.ld X (Rect.unit (s := S1x1024) ![0, o] S1x256.size inb) : FVec Ideal S1x256 .f32) (ix2 0 d) = X (ix2 0 (feat j d)) :=
  View.ld_unit_apply_of _ _ _ _ _ _ fun a => by
    match a with
    | ⟨0, _⟩ => rfl
    | ⟨1, _⟩ => exact congrArg (· + d.val) ho.symm

theorem out9 (c : Dev nD) (t : Fin cfg0.N) (fG : ∀ s l, IsFin (m ((c : Thread nD τ).loc main_arg4) (ix3 (bat t) s l))) (fM : ∀ l, IsFin (lanes (m ((c : Thread nD τ).loc main_arg7)) (bat t) l)) (y : S1x64x1024.Idx) :
    (outsAt0 m c t).1 y = chunkOut (fun u f => (m ((c : Thread nD τ).loc main_arg0)) (ix3 (bat t) u f)) (fun f s => (m ((c : Thread nD τ).loc main_arg1)) (ix3 (bat t) f s)) (fun u f => (m ((c : Thread nD τ).loc main_arg2)) (ix3 (bat t) u f)) (fun u f => (m ((c : Thread nD τ).loc main_arg3)) (ix3 (bat t) u f)) (fun s l => (m ((c : Thread nD τ).loc main_arg4)) (ix3 (bat t) s l)) (fun j d e => (m ((c : Thread nD τ).loc main_arg5)) (ix4 (bat t) j d e)) (fun j d => (m ((c : Thread nD τ).loc main_arg6)) (ix3 (bat t) j d)) (lanes (m ((c : Thread nD τ).loc main_arg7)) (bat t)) (fun f => (m ((c : Thread nD τ).loc main_arg8)) (ix1 f)) (y 1) (y 2) := by
  unfold outsAt0
  dsimp only
  frame_open
  simp (disch := decide) only [↓ View.readCov_skip, ↓ View.readCov_cons_toLoadRect, ↓ View.readCov_fill]
  frame_out
  refine View.canon_apply_of_pieces (Val := Elt Ideal) (e := .bf16) (fun y : S1x64x1024.Idx => chunkOut (fun u f => (m ((c : Thread nD τ).loc main_arg0)) (ix3 (bat t) u f)) (fun f s => (m ((c : Thread nD τ).loc main_arg1)) (ix3 (bat t) f s)) (fun u f => (m ((c : Thread nD τ).loc main_arg2)) (ix3 (bat t) u f)) (fun u f => (m ((c : Thread nD τ).loc main_arg3)) (ix3 (bat t) u f)) (fun s l => (m ((c : Thread nD τ).loc main_arg4)) (ix3 (bat t) s l)) (fun j d e => (m ((c : Thread nD τ).loc main_arg5)) (ix4 (bat t) j d e)) (fun j d => (m ((c : Thread nD τ).loc main_arg6)) (ix3 (bat t) j d)) (lanes (m ((c : Thread nD τ).loc main_arg7)) (bat t)) (fun f => (m ((c : Thread nD τ).loc main_arg8)) (ix1 f)) (y 1) (y 2)) _ ?_ y ?_
  swap; · exact View.cover_of_tiled _ ![1, 64, 256] (by rfl) y
  intro p hp x
  simp only [List.mem_cons, List.not_mem_nil, or_false] at hp
  rcases hp with rfl | rfl | rfl | rfl
  · exact at9 3 768 (by decide) (p9_3 (read4 m c t) (fun l => (congrFun (carry_eq _) _).trans (read7 m c t l)) fG fM (fun s f => (ld_head _ 3 768 (by decide) _ s f).trans (read0 m c t s _)) (fun f s => (ld_headT _ 3 768 (by decide) _ f s).trans (read1 m c t _ s)) (fun s f => (ld_head _ 3 768 (by decide) _ s f).trans (read2 m c t s _)) (fun d e => (ld_mat _ 3 3 (by decide) _ d e).trans (read5 m c t _ d e)) (fun d l => (ld_vec _ 3 3 (by decide) _ _ _ d l).trans (read6 m c t _ d l)) (fun f => (ld_row _ 3 768 (by decide) _ f).trans (read8 m c t _)) (fun s f => (ld_head _ 3 768 (by decide) _ s f).trans (read3 m c t s _))) inb_S1x64x1024_S1x64x256_0_0_768 x
  · exact at9 2 512 (by decide) (p9_2 (read4 m c t) (fun l => (congrFun (carry_eq _) _).trans (read7 m c t l)) fG fM (fun s f => (ld_head _ 2 512 (by decide) _ s f).trans (read0 m c t s _)) (fun f s => (ld_headT _ 2 512 (by decide) _ f s).trans (read1 m c t _ s)) (fun s f => (ld_head _ 2 512 (by decide) _ s f).trans (read2 m c t s _)) (fun d e => (ld_mat _ 2 2 (by decide) _ d e).trans (read5 m c t _ d e)) (fun d l => (ld_vec _ 2 2 (by decide) _ _ _ d l).trans (read6 m c t _ d l)) (fun f => (ld_row _ 2 512 (by decide) _ f).trans (read8 m c t _)) (fun s f => (ld_head _ 2 512 (by decide) _ s f).trans (read3 m c t s _))) inb_S1x64x1024_S1x64x256_0_0_512 x
  · exact at9 1 256 (by decide) (p9_1 (read4 m c t) (fun l => (congrFun (carry_eq _) _).trans (read7 m c t l)) fG fM (fun s f => (ld_head _ 1 256 (by decide) _ s f).trans (read0 m c t s _)) (fun f s => (ld_headT _ 1 256 (by decide) _ f s).trans (read1 m c t _ s)) (fun s f => (ld_head _ 1 256 (by decide) _ s f).trans (read2 m c t s _)) (fun d e => (ld_mat _ 1 1 (by decide) _ d e).trans (read5 m c t _ d e)) (fun d l => (ld_vec _ 1 1 (by decide) _ _ _ d l).trans (read6 m c t _ d l)) (fun f => (ld_row _ 1 256 (by decide) _ f).trans (read8 m c t _)) (fun s f => (ld_head _ 1 256 (by decide) _ s f).trans (read3 m c t s _))) inb_S1x64x1024_S1x64x256_0_0_256 x
  · exact at9 0 0 (by decide) (p9_0 (read4 m c t) (fun l => (congrFun (carry_eq _) _).trans (read7 m c t l)) fG fM (fun s f => (ld_head _ 0 0 (by decide) _ s f).trans (read0 m c t s _)) (fun f s => (ld_headT _ 0 0 (by decide) _ f s).trans (read1 m c t _ s)) (fun s f => (ld_head _ 0 0 (by decide) _ s f).trans (read2 m c t s _)) (fun d e => (ld_mat _ 0 0 (by decide) _ d e).trans (read5 m c t _ d e)) (fun d l => (ld_vec _ 0 0 (by decide) _ _ _ d l).trans (read6 m c t _ d l)) (fun f => (ld_row _ 0 0 (by decide) _ f).trans (read8 m c t _)) (fun s f => (ld_head _ 0 0 (by decide) _ s f).trans (read3 m c t s _))) inb_S1x64x1024_S1x64x256_0_0_0 x

theorem out10 (c : Dev nD) (t : Fin cfg0.N) (fG : ∀ s l, IsFin (m ((c : Thread nD τ).loc main_arg4) (ix3 (bat t) s l))) (y : S1x4x256x256.Idx) :
    (outsAt0 m c t).2.1 y = chunkC (fun f s => (m ((c : Thread nD τ).loc main_arg1)) (ix3 (bat t) f s)) (fun u f => (m ((c : Thread nD τ).loc main_arg2)) (ix3 (bat t) u f)) (fun s l => (m ((c : Thread nD τ).loc main_arg4)) (ix3 (bat t) s l)) (fun j d e => (m ((c : Thread nD τ).loc main_arg5)) (ix4 (bat t) j d e)) (lanes (m ((c : Thread nD τ).loc main_arg7)) (bat t)) (y 1) (y 2) (y 3) := by
  unfold outsAt0
  dsimp only
  frame_open
  simp (disch := decide) only [↓ View.readCov_skip, ↓ View.readCov_cons_toLoadRect, ↓ View.readCov_fill]
  frame_out
  refine View.canon_append_of_piecesOf (Val := Elt Ideal) (e := .f32) (fun y : S1x4x256x256.Idx => chunkC (fun f s => (m ((c : Thread nD τ).loc main_arg1)) (ix3 (bat t) f s)) (fun u f => (m ((c : Thread nD τ).loc main_arg2)) (ix3 (bat t) u f)) (fun s l => (m ((c : Thread nD τ).loc main_arg4)) (ix3 (bat t) s l)) (fun j d e => (m ((c : Thread nD τ).loc main_arg5)) (ix4 (bat t) j d e)) (lanes (m ((c : Thread nD τ).loc main_arg7)) (bat t)) (y 1) (y 2) (y 3)) [_] [_, _, _, _] ⟨?_, ?_, ?_, ?_, trivial⟩ y ?_
  · intro x; exact at10 3 3 (by decide) (p10_3 (read4 m c t) (fun l => (congrFun (carry_eq _) _).trans (read7 m c t l)) fG (fun f s => (ld_headT _ 3 768 (by decide) _ f s).trans (read1 m c t _ s)) (fun s f => (ld_head _ 3 768 (by decide) _ s f).trans (read2 m c t s _)) (fun d e => (ld_mat _ 3 3 (by decide) _ d e).trans (read5 m c t _ d e))) inb_S1x4x256x256_S1x1x256x256_0_3_0_0 x
  · intro x; exact at10 2 2 (by decide) (p10_2 (read4 m c t) (fun l => (congrFun (carry_eq _) _).trans (read7 m c t l)) fG (fun f s => (ld_headT _ 2 512 (by decide) _ f s).trans (read1 m c t _ s)) (fun s f => (ld_head _ 2 512 (by decide) _ s f).trans (read2 m c t s _)) (fun d e => (ld_mat _ 2 2 (by decide) _ d e).trans (read5 m c t _ d e))) inb_S1x4x256x256_S1x1x256x256_0_2_0_0 x
  · intro x; exact at10 1 1 (by decide) (p10_1 (read4 m c t) (fun l => (congrFun (carry_eq _) _).trans (read7 m c t l)) fG (fun f s => (ld_headT _ 1 256 (by decide) _ f s).trans (read1 m c t _ s)) (fun s f => (ld_head _ 1 256 (by decide) _ s f).trans (read2 m c t s _)) (fun d e => (ld_mat _ 1 1 (by decide) _ d e).trans (read5 m c t _ d e))) inb_S1x4x256x256_S1x1x256x256_0_1_0_0 x
  · intro x; exact at10 0 0 (by decide) (p10_0 (read4 m c t) (fun l => (congrFun (carry_eq _) _).trans (read7 m c t l)) fG (fun f s => (ld_headT _ 0 0 (by decide) _ f s).trans (read1 m c t _ s)) (fun s f => (ld_head _ 0 0 (by decide) _ s f).trans (read2 m c t s _)) (fun d e => (ld_mat _ 0 0 (by decide) _ d e).trans (read5 m c t _ d e))) inb_S1x4x256x256_S1x1x256x256_0_0_0_0 x
  · exact View.cover_of_tiledL _ ![1, 1, 256, 256] (by rfl) y

theorem out11 (c : Dev nD) (t : Fin cfg0.N) (fG : ∀ s l, IsFin (m ((c : Thread nD τ).loc main_arg4) (ix3 (bat t) s l))) (y : S1x4x256.Idx) :
    (outsAt0 m c t).2.2.1 y = chunkN (fun f s => (m ((c : Thread nD τ).loc main_arg1)) (ix3 (bat t) f s)) (fun s l => (m ((c : Thread nD τ).loc main_arg4)) (ix3 (bat t) s l)) (fun j d => (m ((c : Thread nD τ).loc main_arg6)) (ix3 (bat t) j d)) (lanes (m ((c : Thread nD τ).loc main_arg7)) (bat t)) (y 1) (y 2) := by
  unfold outsAt0
  dsimp only
  frame_open
  simp (disch := decide) only [↓ View.readCov_skip, ↓ View.readCov_cons_toLoadRect, ↓ View.readCov_fill]
  frame_out
  refine View.canon_apply_of_pieces (Val := Elt Ideal) (e := .f32) (fun y : S1x4x256.Idx => chunkN (fun f s => (m ((c : Thread nD τ).loc main_arg1)) (ix3 (bat t) f s)) (fun s l => (m ((c : Thread nD τ).loc main_arg4)) (ix3 (bat t) s l)) (fun j d => (m ((c : Thread nD τ).loc main_arg6)) (ix3 (bat t) j d)) (lanes (m ((c : Thread nD τ).loc main_arg7)) (bat t)) (y 1) (y 2)) _ ?_ y ?_
  swap; · exact View.cover_of_tiled _ ![1, 1, 256] (by rfl) y
  intro p hp x
  simp only [List.mem_cons, List.not_mem_nil, or_false] at hp
  rcases hp with rfl | rfl | rfl | rfl
  · exact at11 3 3 (by decide) (p11_3 (read4 m c t) (fun l => (congrFun (carry_eq _) _).trans (read7 m c t l)) fG (fun f s => (ld_headT _ 3 768 (by decide) _ f s).trans (read1 m c t _ s)) (fun d l => (ld_vec _ 3 3 (by decide) _ _ _ d l).trans (read6 m c t _ d l))) inb_S1x4x256_S1x1x256_0_3_0 x
  · exact at11 2 2 (by decide) (p11_2 (read4 m c t) (fun l => (congrFun (carry_eq _) _).trans (read7 m c t l)) fG (fun f s => (ld_headT _ 2 512 (by decide) _ f s).trans (read1 m c t _ s)) (fun d l => (ld_vec _ 2 2 (by decide) _ _ _ d l).trans (read6 m c t _ d l))) inb_S1x4x256_S1x1x256_0_2_0 x
  · exact at11 1 1 (by decide) (p11_1 (read4 m c t) (fun l => (congrFun (carry_eq _) _).trans (read7 m c t l)) fG (fun f s => (ld_headT _ 1 256 (by decide) _ f s).trans (read1 m c t _ s)) (fun d l => (ld_vec _ 1 1 (by decide) _ _ _ d l).trans (read6 m c t _ d l))) inb_S1x4x256_S1x1x256_0_1_0 x
  · exact at11 0 0 (by decide) (p11_0 (read4 m c t) (fun l => (congrFun (carry_eq _) _).trans (read7 m c t l)) fG (fun f s => (ld_headT _ 0 0 (by decide) _ f s).trans (read1 m c t _ s)) (fun d l => (ld_vec _ 0 0 (by decide) _ _ _ d l).trans (read6 m c t _ d l))) inb_S1x4x256_S1x1x256_0_0_0 x

theorem out12 (c : Dev nD) (t : Fin cfg0.N) (fG : ∀ s l, IsFin (m ((c : Thread nD τ).loc main_arg4) (ix3 (bat t) s l))) (y : S1x1x128.Idx) :
    (outsAt0 m c t).2.2.2 y = chunkM (fun s l => (m ((c : Thread nD τ).loc main_arg4)) (ix3 (bat t) s l)) (lanes (m ((c : Thread nD τ).loc main_arg7)) (bat t)) (y 2) := by
  unfold outsAt0
  dsimp only
  frame_open
  simp (disch := decide) only [↓ View.readCov_skip, ↓ View.readCov_cons_toLoadRect, ↓ View.readCov_fill]
  frame_out
  have hy : y = ix3 (0 : Fin 1) (0 : Fin 1) (y 2) := by
    funext a
    match a with
    | ⟨0, _⟩ => exact Subsingleton.elim (α := Fin 1) _ _
    | ⟨1, _⟩ => exact Subsingleton.elim (α := Fin 1) _ _
    | ⟨2, _⟩ => rfl
  exact (congrArg _ hy).trans (p12 (read4 m c t) (fun l => (congrFun (carry_eq _) _).trans (read7 m c t l)) fG (y 2))

attribute [local irreducible] chunkOut chunkC chunkN chunkM

set_option maxHeartbeats 4000000 in
theorem final9 (c : Dev nD) (fG : ∀ i, IsFin (m ((c : Thread nD τ).loc main_arg4) i)) (fM : ∀ i, IsFin (m ((c : Thread nD τ).loc main_arg7) i)) :
    (dats m 0 c).arrAt 9 cfg0.N = value9 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (dats m 0 c).arrAt_eq_of_covers 9 _ (by decide +kernel) fun t hf y => ?_
  blk_simp
  rw [after0_9, out9 m c t (fun s l => fG _) (lanes_fin fM (bat t))]
  refine Eq.trans ?_ (congrArg (value9 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) (place9 t y).symm)
  rfl

set_option maxHeartbeats 4000000 in
theorem final10 (c : Dev nD) (fG : ∀ i, IsFin (m ((c : Thread nD τ).loc main_arg4) i)) (fM : ∀ i, IsFin (m ((c : Thread nD τ).loc main_arg7) i)) :
    (dats m 0 c).arrAt 10 cfg0.N = value10 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (dats m 0 c).arrAt_eq_of_covers 10 _ (by decide +kernel) fun t hf y => ?_
  blk_simp
  rw [after0_10, out10 m c t (fun s l => fG _)]
  refine Eq.trans ?_ (congrArg (value10 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) (place10 t y).symm)
  rfl

set_option maxHeartbeats 4000000 in
theorem final11 (c : Dev nD) (fG : ∀ i, IsFin (m ((c : Thread nD τ).loc main_arg4) i)) (fM : ∀ i, IsFin (m ((c : Thread nD τ).loc main_arg7) i)) :
    (dats m 0 c).arrAt 11 cfg0.N = value11 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (dats m 0 c).arrAt_eq_of_covers 11 _ (by decide +kernel) fun t hf y => ?_
  blk_simp
  rw [after0_11, out11 m c t (fun s l => fG _)]
  refine Eq.trans ?_ (congrArg (value11 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) (place11 t y).symm)
  rfl

set_option maxHeartbeats 4000000 in
theorem final12 (c : Dev nD) (fG : ∀ i, IsFin (m ((c : Thread nD τ).loc main_arg4) i)) (fM : ∀ i, IsFin (m ((c : Thread nD τ).loc main_arg7) i)) :
    (dats m 0 c).arrAt 12 cfg0.N = value12 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (dats m 0 c).arrAt_eq_of_covers 12 _ (by decide +kernel) fun t hf y => ?_
  blk_simp
  rw [after0_12, out12 m c t (fun s l => fG _)]
  refine Eq.trans ?_ (congrArg (value12 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) (place12 t y).symm)
  rfl

end Cert.MlsIdeal.Hand
end
-- ==== Proof.Window.lean ====
/-
  A host's running sum over the last of three axes, as a sum of the entries up to one of them.
-/
module
public import proofs.«01_k».proof.Proof.Recur
@[expose] public section
noncomputable section
namespace Cert.Rows
open Idealize.ShloMosaic

theorem foldl_add_list {α : Type} (g : α → EReal) (L : List α) (v : EReal) : L.foldl (fun r n => r + g n) v = v + (L.map g).sum := by
  induction L generalizing v with
  | nil => simp
  | cons a L ih => rw [List.foldl_cons, ih, List.map_cons, List.sum_cons, add_assoc]

/-- A window of 64 places that ends at place `t`, the places before the first left out. -/
theorem sum_window_cum (f : Fin 64 → EReal) (t : Fin 64) :
    (∑ w : Fin 64, if h : 63 ≤ t.val + w.val ∧ t.val + w.val - 63 < 64 then f ⟨t.val + w.val - 63, h.2⟩ else 0) = cum f t := by
  unfold cum
  rw [← Finset.sum_filter]
  have e : ∀ w : Fin 64, (if h : 63 ≤ t.val + w.val ∧ t.val + w.val - 63 < 64 then f ⟨t.val + w.val - 63, h.2⟩ else 0)
      = if 63 ≤ t.val + w.val then f ⟨t.val + w.val - 63, by omega⟩ else 0 := fun w => by
    by_cases h : 63 ≤ t.val + w.val
    · rw [dif_pos ⟨h, by omega⟩, if_pos h]
    · rw [dif_neg fun k => h k.1, if_neg h]
  rw [Finset.sum_congr rfl fun w _ => e w, ← Finset.sum_filter]
  refine Finset.sum_nbij' (fun w => ⟨t.val + w.val - 63, by omega⟩) (fun s => ⟨(s.val + 63 - t.val) % 64, Nat.mod_lt _ (by decide)⟩) ?_ ?_ ?_ ?_ ?_
  · intro w hw; simp only [Finset.mem_filter, Finset.mem_univ, true_and] at hw ⊢; omega
  · intro s hs; simp only [Finset.mem_filter, Finset.mem_univ, true_and] at hs ⊢; omega
  · intro w hw; simp only [Finset.mem_filter, Finset.mem_univ, true_and] at hw; exact Fin.ext (by simp only; omega)
  · intro s hs; simp only [Finset.mem_filter, Finset.mem_univ, true_and] at hs; exact Fin.ext (by simp only; omega)
  · intro w hw; rfl

theorem running_sum {A B : ℕ} (x : (⟨3, ![A, B, 64]⟩ : Shape).Idx → EReal) (init : (⟨0, ![]⟩ : Shape).Idx → EReal)
    (h : (⟨3, ![A, B, 64]⟩ : Shape).ReduceWindows ![1, 1, 64] ![1, 1, 1] ![0, 0, 63] ![0, 0, 0] ⟨3, ![A, B, 64]⟩)
    (hu : 0 < (⟨0, ![]⟩ : Shape).numel) (h0 : init (Shape.Idx.first hu) = 0) (a : Fin A) (b : Fin B) (t : Fin 64) :
    Host.reduceWindowAdd (F := Ideal) (φ := .f32) ![1, 1, 64] ![1, 1, 1] ![0, 0, 63] ![0, 0, 0] x init h hu (ix3 a b t)
      = cum (fun s => x (ix3 a b s)) t := by
  show Host.reduceWindow (· + ·) _ _ _ _ x (fun _ : (⟨0, ![]⟩ : Shape).Idx => init (Shape.Idx.first hu)) h hu (ix3 a b t) = _
  rw [h0]
  unfold Host.reduceWindow
  dsimp only
  rw [foldl_add_list, zero_add, ← Fin.sum_univ_def]
  refine Eq.trans (Finset.sum_congr rfl fun n _ => ?_) ((Equiv.sum_comp (Shape.rowMajor ⟨3, ![1, 1, 64]⟩).symm (fun i : (⟨3, ![1, 1, 64]⟩ : Shape).Idx =>
    if hin : ∀ c : Fin 3, (![0, 0, 63] : Fin 3 → ℕ) c ≤ (ix3 a b t c).val * (![1, 1, 1] : Fin 3 → ℕ) c + (i c).val
        ∧ (ix3 a b t c).val * (![1, 1, 1] : Fin 3 → ℕ) c + (i c).val - (![0, 0, 63] : Fin 3 → ℕ) c < (![A, B, 64] : Fin 3 → ℕ) c
      then x (fun c => ⟨_, (hin c).2⟩) else 0)).trans ?_)
  · exact dite_congr rfl (fun _ => rfl) (fun _ => rfl)
  rw [sum_idx3, Fin.sum_univ_one, Fin.sum_univ_one, ← sum_window_cum]
  refine Finset.sum_congr rfl fun w _ => ?_
  by_cases k : 63 ≤ t.val + w.val
  · have k' : t.val + w.val - 63 < 64 := by omega
    refine (dif_pos fun c => ?_).trans (Eq.trans ?_ (dif_pos ⟨k, k'⟩).symm)
    · match c with
      | ⟨0, _⟩ => show 0 ≤ a.val * 1 + 0 ∧ a.val * 1 + 0 - 0 < A; omega
      | ⟨1, _⟩ => show 0 ≤ b.val * 1 + 0 ∧ b.val * 1 + 0 - 0 < B; omega
      | ⟨2, _⟩ => show 63 ≤ t.val * 1 + w.val ∧ t.val * 1 + w.val - 63 < 64; omega
    · refine congrArg x (funext fun c => Fin.ext ?_)
      match c with
      | ⟨0, _⟩ => show a.val * 1 + 0 - 0 = a.val; omega
      | ⟨1, _⟩ => show b.val * 1 + 0 - 0 = b.val; omega
      | ⟨2, _⟩ => show t.val * 1 + w.val - 63 = t.val + w.val - 63; omega
  · refine Eq.trans ?_ (Eq.symm (by exact dif_neg fun e => k e.1))
    refine dif_neg fun e => ?_
    have e2 := (e 2).1
    change 63 ≤ t.val * 1 + w.val at e2
    omega

end Cert.Rows
end
-- ==== Proof.MlsRef.lean ====
/-
  The chunk of the recurrence as the reference writes it, read entry by entry, is the chunk the kernel's result is.
-/
module
public import proofs.«01_k».proof.Proof.Gen.MlsRefIdeal.Read
public import proofs.«01_k».proof.Proof.Mls
public import proofs.«01_k».proof.Proof.Window
@[expose] public section
set_option maxRecDepth 16384
noncomputable section
namespace Cert.MlsRefIdeal.Hand
open Cert.MlsRefIdeal Cert.MlsRefIdeal.Gen Cert.MlsRefIdeal.Read Idealize.ShloMosaic Idealize.ShloMosaic.TcCoe Idealize.SL.Sem Cert.Rows
open Cert.MlsIdeal.Hand (lanes value9 value10 value11 value12)

variable (x0 : (⟨S16x64x1024, .bf16⟩ : BufTy).Contents (Elt Ideal)) (x1 : (⟨S16x1024x64, .bf16⟩ : BufTy).Contents (Elt Ideal)) (x2 x3 : (⟨S16x64x1024, .bf16⟩ : BufTy).Contents (Elt Ideal)) (x4 : (⟨S16x64x128, .f32⟩ : BufTy).Contents (Elt Ideal)) (x5 : (⟨S16x4x256x256, .f32⟩ : BufTy).Contents (Elt Ideal)) (x6 : (⟨S16x4x256, .f32⟩ : BufTy).Contents (Elt Ideal)) (x7 : (⟨S16x4, .f32⟩ : BufTy).Contents (Elt Ideal)) (x8 : (⟨S1024, .f32⟩ : BufTy).Contents (Elt Ideal))

/-- What the chunk of stream `b` reads: its gates, and the queries, keys and values of a head. -/
def gates (b : Fin 16) : Fin 64 → Fin 128 → EReal := fun s l => x4 (ix3 b s l)
def query (b : Fin 16) (j : Fin 4) : Fin 64 → Fin 256 → EReal := fun s d => x0 (ix3 b s (feat j d))
def values (b : Fin 16) (j : Fin 4) : Fin 64 → Fin 256 → EReal := fun s d => x2 (ix3 b s (feat j d))
def key (b : Fin 16) (j : Fin 4) : Fin 64 → Fin 256 → EReal := fun s d => x1 (ix3 b (feat j d) s)
def sums (b : Fin 16) (j : Fin 4) : Fin 64 → EReal := forget (gates x4 b) (gate j)
def inputs (b : Fin 16) (j : Fin 4) : Fin 64 → EReal := input (gates x4 b) (gate j)
def run (b : Fin 16) (j : Fin 4) : EReal := lanes x7 b (gate j)

theorem feat_eq (j : Fin 4) (d : Fin 256) (h : j.val * 256 + d.val < 1024) : (⟨j.val * 256 + d.val, h⟩ : Fin 1024) = feat j d :=
  Fin.ext (by show j.val * 256 + d.val = 256 * j.val + d.val; omega)

theorem query_apply (b : Fin 16) (j : Fin 4) (t : Fin 64) (d : Fin 256) : val_main_v6 (F := Ideal) x0 (ix4 b j t d) = query x0 b j t d := by
  pointwise [val_main_v6, val_main_v5, val_main_v4]
  rw [feat_eq]
  rfl

theorem key_apply (b : Fin 16) (j : Fin 4) (t : Fin 64) (d : Fin 256) : val_main_v10 (F := Ideal) x1 (ix4 b j t d) = key x1 b j t d := by
  pointwise [val_main_v10, val_main_v9, val_main_v8, val_main_v7]
  rw [feat_eq]
  rfl

theorem value_apply (b : Fin 16) (j : Fin 4) (t : Fin 64) (d : Fin 256) : val_main_v13 (F := Ideal) x2 (ix4 b j t d) = values x2 b j t d := by
  pointwise [val_main_v13, val_main_v12, val_main_v11]
  rw [feat_eq]
  rfl

theorem input_apply (b : Fin 16) (j : Fin 4) (t : Fin 64) : val_main_v1 (F := Ideal) x4 (ix3 b j t) = inputs x4 b j t := by
  pointwise [val_main_v1, val_main_v0]
  rfl

theorem lf_apply (b : Fin 16) (j : Fin 4) (t : Fin 64) : val_main_v3 (F := Ideal) x4 (ix3 b j t)
    = gates x4 b t ⟨((gate j).val + 4) % 128, Nat.mod_lt _ (by decide)⟩ := by
  pointwise [val_main_v3, val_main_v2]
  exact congrArg (fun l => x4 (ix3 b t l)) (Fin.ext (by show 4 + j.val = (j.val + 4) % 128; omega))

theorem run_apply (b : Fin 16) (j : Fin 4) : x7 (ix2 b j) = run x7 b j := by
  have h : (gate j).val < 4 := j.isLt
  unfold run lanes
  rw [dif_pos h]
  rfl

theorem zero_eq : Ideal.ofBits .f32 0#32 = (0 : EReal) := Ideal.ofBits_zero .f32

/-- The comparison of two frames' numbers. -/
theorem causal : ∀ t s : Fin 64, Scalar.select (IntOp.cmpi .sge (IntOp.addi (BitVec.ofNat 32 t.val) 0#32) (BitVec.ofNat 32 s.val)) 1#1 0#1
    = if s.val ≤ t.val then 1#1 else 0#1 := by decide +kernel

theorem select_ite (p : Prop) [Decidable p] (x y : EReal) : Scalar.select (if p then 1#1 else 0#1) x y = if p then x else y := by
  split <;> rfl

theorem cum_apply (b : Fin 16) (j : Fin 4) (t : Fin 64) : val_main_v14 (F := Ideal) x4 (ix3 b j t) = sums x4 b j t := by
  unfold sums forget
  simp only [← lf_apply]
  exact running_sum _ _ _ _ zero_eq b j t

theorem logw_apply (b : Fin 16) (j : Fin 4) (t s : Fin 64) : val_main_v25 (F := Ideal) x4 (ix4 b j t s)
    = logw (sums x4 b j) (inputs x4 b j) t s := by
  unfold logw
  simp only [← cum_apply, ← input_apply]
  unfold val_main_v25 val_main_v24 val_main_v21 val_main_v19 val_main_v17 val_main_v20 val_main_v18 val_main_v23 val_main_v22
  generalize val_main_v14 (F := Ideal) x4 = Y
  generalize val_main_v1 (F := Ideal) x4 = Z
  pointwise [val_main_call2_v1, val_main_v16, val_main_call1_v4, val_main_call1_v2, val_main_call1_v0, val_main_call1_v1, val_main_call1_c, val_main_call1_v3, val_main_v15, val_main_c, val_main_call1_v5, val_main_call1_c_0, val_main_call2_v2, val_main_call2_v0, val_main_cst]
  simp only [causal, select_ite]
  exact if_congr Iff.rfl rfl lit_bot

theorem stab_apply (b : Fin 16) (j : Fin 4) (t : Fin 64) : val_main_v30 (F := Ideal) x4 x7 (ix3 b j t)
    = stab (sums x4 b j) (inputs x4 b j) (run x7 b j) t := by
  unfold stab
  simp only [← cum_apply, ← run_apply]
  have e : logw (sums x4 b j) (inputs x4 b j) t = fun s => val_main_v25 (F := Ideal) x4 (ix4 b j t s) := funext fun s => (logw_apply x4 b j t s).symm
  rw [e]
  unfold val_main_v30 val_main_v28 val_main_v29 greatest
  generalize val_main_v14 (F := Ideal) x4 = Y
  generalize val_main_v25 (F := Ideal) x4 = Z
  pointwise [val_main_v27, val_main_v26, val_main_cst_0, lit]

theorem inter_apply (b : Fin 16) (j : Fin 4) (t : Fin 64) : val_main_v32 (F := Ideal) x4 x7 (ix3 b j t)
    = inter (sums x4 b j) (inputs x4 b j) (run x7 b j) t := by
  unfold inter
  simp only [← stab_apply]
  simp only [← cum_apply, ← run_apply]
  unfold val_main_v32 val_main_v31 val_main_v28
  generalize val_main_v30 (F := Ideal) x4 x7 = X
  generalize val_main_v14 (F := Ideal) x4 = Y
  pointwise [val_main_v27, val_main_v26]

theorem score_apply (b : Fin 16) (j : Fin 4) (t s : Fin 64) : val_main_v38 (F := Ideal) x0 x1 x4 x7 (ix4 b j t s)
    = score (sums x4 b j) (inputs x4 b j) (run x7 b j) (query x0 b j) (key x1 b j) t s := by
  unfold score
  simp only [← stab_apply, ← logw_apply, ← query_apply, ← key_apply]
  unfold val_main_v38 val_main_v33 val_main_v37 val_main_v36 val_main_v35 val_main_v34
  generalize val_main_v30 (F := Ideal) x4 x7 = X
  generalize val_main_v25 (F := Ideal) x4 = Y
  generalize val_main_v6 (F := Ideal) x0 = Z
  generalize val_main_v10 (F := Ideal) x1 = W
  pointwise

theorem numer_apply (b : Fin 16) (j : Fin 4) (t : Fin 64) (e : Fin 256) : val_main_v44 (F := Ideal) x0 x1 x2 x4 x5 x7 (ix4 b j t e)
    = numer (sums x4 b j) (inputs x4 b j) (run x7 b j) (query x0 b j) (key x1 b j) (values x2 b j) (fun d e => x5 (ix4 b j d e)) t e := by
  unfold numer
  simp only [← inter_apply, ← score_apply, ← query_apply, ← value_apply]
  unfold val_main_v44 val_main_v42 val_main_v41 val_main_v39 val_main_v40 val_main_v43
  generalize val_main_v32 (F := Ideal) x4 x7 = X
  generalize val_main_v38 (F := Ideal) x0 x1 x4 x7 = Y
  generalize val_main_v6 (F := Ideal) x0 = Z
  generalize val_main_v13 (F := Ideal) x2 = W
  pointwise

theorem denom_apply (b : Fin 16) (j : Fin 4) (t : Fin 64) : val_main_v48 (F := Ideal) x0 x1 x4 x6 x7 (ix3 b j t)
    = denom (sums x4 b j) (inputs x4 b j) (run x7 b j) (query x0 b j) (key x1 b j) (fun d => x6 (ix3 b j d)) t := by
  unfold denom
  simp only [← inter_apply, ← score_apply, ← query_apply]
  unfold val_main_v48 val_main_v46 val_main_v45 val_main_v47
  generalize val_main_v32 (F := Ideal) x4 x7 = X
  generalize val_main_v38 (F := Ideal) x0 x1 x4 x7 = Y
  generalize val_main_v6 (F := Ideal) x0 = Z
  pointwise [val_main_cst_1]

theorem floor_apply (b : Fin 16) (j : Fin 4) (t : Fin 64) : val_main_v52 (F := Ideal) x0 x1 x4 x6 x7 (ix3 b j t)
    = Cert.Rows.floor (sums x4 b j) (inputs x4 b j) (run x7 b j) (query x0 b j) (key x1 b j) (fun d => x6 (ix3 b j d)) t := by
  unfold Cert.Rows.floor
  simp only [← denom_apply, ← stab_apply]
  unfold val_main_v52 val_main_v49 val_main_v51 val_main_v50
  generalize val_main_v30 (F := Ideal) x4 x7 = X
  generalize val_main_v48 (F := Ideal) x0 x1 x4 x6 x7 = Y
  pointwise
  rfl

theorem output_apply (b : Fin 16) (j : Fin 4) (t : Fin 64) (e : Fin 256) : val_main_v55 (F := Ideal) x0 x1 x2 x4 x5 x6 x7 (ix4 b j t e)
    = output (sums x4 b j) (inputs x4 b j) (run x7 b j) (query x0 b j) (key x1 b j) (values x2 b j) (fun d e => x5 (ix4 b j d e)) (fun d => x6 (ix3 b j d)) t e := by
  unfold output
  simp only [← numer_apply, ← floor_apply]
  unfold val_main_v55 val_main_v54 val_main_v53
  generalize val_main_v44 (F := Ideal) x0 x1 x2 x4 x5 x7 = X
  generalize val_main_v52 (F := Ideal) x0 x1 x4 x6 x7 = Y
  pointwise

theorem next_apply (b : Fin 16) (j : Fin 4) : val_main_v64 (F := Ideal) x4 x7 (ix2 b j)
    = nextMax (sums x4 b j) (inputs x4 b j) (run x7 b j) := by
  unfold nextMax
  simp only [← cum_apply, ← input_apply, ← run_apply]
  unfold val_main_v64 val_main_v63 val_main_v62 val_main_v61 val_main_v60 val_main_v59 val_main_v58 val_main_v57 val_main_v56 greatest
  generalize val_main_v14 (F := Ideal) x4 = Y
  generalize val_main_v1 (F := Ideal) x4 = Z
  pointwise [val_main_cst_2, lit]

theorem decay_apply (b : Fin 16) (j : Fin 4) : val_main_v67 (F := Ideal) x4 x7 (ix2 b j)
    = decay (sums x4 b j) (inputs x4 b j) (run x7 b j) := by
  unfold decay
  simp only [← next_apply]
  simp only [← cum_apply, ← run_apply]
  unfold val_main_v67 val_main_v66 val_main_v65 val_main_v57 val_main_v56
  generalize val_main_v14 (F := Ideal) x4 = Y
  generalize val_main_v64 (F := Ideal) x4 x7 = Z
  pointwise

theorem weight_apply (b : Fin 16) (j : Fin 4) (s : Fin 64) : val_main_v71 (F := Ideal) x4 x7 (ix3 b j s)
    = weight (sums x4 b j) (inputs x4 b j) (run x7 b j) s := by
  unfold weight
  simp only [← cum_apply, ← next_apply, ← input_apply]
  unfold val_main_v71 val_main_v70 val_main_v69 val_main_v68 val_main_v61 val_main_v60 val_main_v59 val_main_v58 val_main_v57 val_main_v56
  generalize val_main_v14 (F := Ideal) x4 = Y
  generalize val_main_v1 (F := Ideal) x4 = W
  generalize val_main_v64 (F := Ideal) x4 x7 = Z
  pointwise

theorem result10 (b : Fin 16) (j : Fin 4) (d e : Fin 256) : val_main_v79 (F := Ideal) x1 x2 x4 x5 x7 (ix4 b j d e)
    = value10 x0 x1 x2 x3 x4 x5 x6 x7 x8 (ix4 b j d e) := by
  show _ = nextC (sums x4 b j) (inputs x4 b j) (run x7 b j) (key x1 b j) (values x2 b j) (fun d e => x5 (ix4 b j d e)) d e
  unfold nextC
  simp only [← decay_apply, ← weight_apply, ← key_apply, ← value_apply]
  unfold val_main_v79 val_main_v74 val_main_v73 val_main_v72 val_main_v78 val_main_v77 val_main_v76 val_main_v75
  generalize val_main_v67 (F := Ideal) x4 x7 = X
  generalize val_main_v71 (F := Ideal) x4 x7 = Y
  generalize val_main_v10 (F := Ideal) x1 = Z
  generalize val_main_v13 (F := Ideal) x2 = W
  pointwise

theorem result11 (b : Fin 16) (j : Fin 4) (d : Fin 256) : val_main_v84 (F := Ideal) x1 x4 x6 x7 (ix3 b j d)
    = value11 x0 x1 x2 x3 x4 x5 x6 x7 x8 (ix3 b j d) := by
  show _ = nextN (sums x4 b j) (inputs x4 b j) (run x7 b j) (key x1 b j) (fun d => x6 (ix3 b j d)) d
  unfold nextN
  simp only [← decay_apply, ← weight_apply, ← key_apply]
  unfold val_main_v84 val_main_v82 val_main_v81 val_main_v80 val_main_v83
  generalize val_main_v67 (F := Ideal) x4 x7 = X
  generalize val_main_v71 (F := Ideal) x4 x7 = Y
  generalize val_main_v10 (F := Ideal) x1 = Z
  pointwise

theorem lane_lf_apply (b : Fin 16) (l : Fin 128) (t : Fin 64) : val_main_v109 (F := Ideal) x4 (ix3 b l t)
    = gates x4 b t ⟨(l.val + 4) % 128, Nat.mod_lt _ (by decide)⟩ := by
  pointwise [val_main_v109, val_main_v108, val_main_v107, val_main_v106]
  split
  · exact congrArg (fun l => x4 (ix3 b t l)) (Fin.ext (by show 4 + l.val = (l.val + 4) % 128; omega))
  · exact congrArg (fun l => x4 (ix3 b t l)) (Fin.ext (by show l.val - 124 = (l.val + 4) % 128; omega))

theorem lane_cum_apply (b : Fin 16) (l : Fin 128) (t : Fin 64) : val_main_v111 (F := Ideal) x4 (ix3 b l t) = forget (gates x4 b) l t := by
  unfold forget
  simp only [← lane_lf_apply]
  exact running_sum _ _ _ _ zero_eq b l t

theorem lanes_apply (b : Fin 16) (l : Fin 128) : val_main_v105 (F := Ideal) x7 (ix2 b l) = lanes x7 b l := by
  have h0 : FloatOps.sitofp (F := Ideal) FTy.f32 0#32 = (0 : EReal) := by
    show ((((0#32 : BitVec 32).toInt : ℝ)) : EReal) = 0
    simp
  pointwise [val_main_v105, val_main_call3_v0, val_main_c_8]
  rw [h0]
  rfl

theorem result12 (b : Fin 16) (z : Fin 1) (l : Fin 128) : val_main_v127 (F := Ideal) x4 x7 (ix3 b z l)
    = value12 x0 x1 x2 x3 x4 x5 x6 x7 x8 (ix3 b z l) := by
  show _ = nextMax (forget (gates x4 b) l) (input (gates x4 b) l) (lanes x7 b l)
  unfold nextMax input
  simp only [← lane_cum_apply, ← lanes_apply]
  unfold val_main_v127 val_main_v120 val_main_v119 val_main_v114 val_main_v118 val_main_v117 val_main_v116 val_main_v115 val_main_v113 val_main_v112 val_main_v110 greatest
  generalize val_main_v111 (F := Ideal) x4 = Y
  generalize val_main_v105 (F := Ideal) x7 = Z
  pointwise [val_main_cst_9, lit]
  rfl

theorem norm_apply (b : Fin 16) (t : Fin 64) (j : Fin 4) (e : Fin 256) : val_main_v103 (F := Ideal) x0 x1 x2 x4 x5 x6 x7 (ix4 b t j e)
    = headNorm (fun e => val_main_v55 (F := Ideal) x0 x1 x2 x4 x5 x6 x7 (ix4 b j t e)) e := by
  unfold headNorm val_main_v103 val_main_v102 val_main_v101 val_main_v100 val_main_v98 val_main_v97 val_main_v96 val_main_v94 val_main_v93 val_main_v92 val_main_v91 val_main_v90 val_main_v89 val_main_v87 val_main_v86 val_main_v85
  generalize val_main_v55 (F := Ideal) x0 x1 x2 x4 x5 x6 x7 = X
  pointwise [val_main_v99, val_main_v95, val_main_v88, val_main_cst_3, val_main_cst_4, val_main_cst_5, val_main_cst_6, val_main_cst_7, lit]

theorem result9 (b : Fin 16) (t : Fin 64) (f : Fin 1024) : val_main_v126 (F := Ideal) x0 x1 x2 x3 x4 x5 x6 x7 x8 (ix3 b t f)
    = value9 x0 x1 x2 x3 x4 x5 x6 x7 x8 (ix3 b t f) := by
  show _ = headNorm (output (sums x4 b (headOf f)) (inputs x4 b (headOf f)) (run x7 b (headOf f)) (query x0 b (headOf f)) (key x1 b (headOf f))
    (values x2 b (headOf f)) (fun d e => x5 (ix4 b (headOf f) d e)) (fun d => x6 (ix3 b (headOf f) d)) t) (chanOf f) * x8 (ix1 f) * x3 (ix3 b t f)
  have e := funext fun e => output_apply x0 x1 x2 x4 x5 x6 x7 b (headOf f) t e
  rw [← e, ← norm_apply]
  unfold val_main_v126 val_main_v125 val_main_v124 val_main_v123 val_main_v104
  generalize val_main_v103 (F := Ideal) x0 x1 x2 x4 x5 x6 x7 = X
  pointwise [val_main_v122, val_main_v121]
  rfl
end Cert.MlsRefIdeal.Hand
end
-- ==== Proof.MlsClaim.lean ====
/-
  The claims about the chunk of the recurrence: the programs run and leave their arguments alone, and over finite gates and
  carried maxima the kernel's results are the reference's.
-/
module
public import proofs.«01_k».proof.Defs
public import proofs.«01_k».proof.Proof.Gen.Mls
public import proofs.«01_k».proof.Proof.Gen.Mls.Frame
public import proofs.«01_k».proof.Proof.Gen.MlsIdeal
public import proofs.«01_k».proof.Proof.Gen.MlsIdeal.Frame
public import proofs.«01_k».proof.Proof.Gen.MlsRefIdeal.Run
public import proofs.«01_k».proof.Proof.Gen.Pre_finite_gates
public import proofs.«01_k».proof.Proof.Mls
public import proofs.«01_k».proof.Proof.MlsRef
public import Idealize.ShloMosaic.Lib.Quiescent
public import Idealize.ShloMosaic.Lib.ReduceAll
@[expose] public section
noncomputable section
namespace Cert.MlsClaim
open Idealize.ShloMosaic Idealize.ShloMosaic.TcCoe Idealize.SL.Sem Cert.Rows

theorem quiet_ref : quiescent_MlsRefIdeal (hMlsRefIdeal := MlsRefIdeal.Gen.facts) := fun m g _ =>
  (θ_run MlsRefIdeal.defs _ _).mono
    (fun r h => ⟨fun c => (h c).2.2.2.2, Idealize.ShloMosaic.sem_eq_zero_of_no_sems (by decide) r.2⟩)
    (MlsRefIdeal.Value.run (F := Ideal) m g)

theorem quiet_ref_pre : quiescent_MlsRefIdeal_pre_finite_gates (hMlsRefIdeal := MlsRefIdeal.Gen.facts)
    (hPre_finite_gates := Pre_finite_gates.Gen.facts) := fun m g _ => quiet_ref m g trivial

/-- What the precondition says: every gate and every carried maximum is a real number. -/
theorem finite (a0 : FVec Ideal Pre_finite_gates.S16x64x1024 .bf16) (a1 : FVec Ideal Pre_finite_gates.S16x1024x64 .bf16)
    (a2 a3 : FVec Ideal Pre_finite_gates.S16x64x1024 .bf16) (a4 : FVec Ideal Pre_finite_gates.S16x64x128 .f32)
    (a5 : FVec Ideal Pre_finite_gates.S16x4x256x256 .f32) (a6 : FVec Ideal Pre_finite_gates.S16x4x256 .f32)
    (a7 : FVec Ideal Pre_finite_gates.S16x4 .f32) (a8 : FVec Ideal Pre_finite_gates.S1024 .f32)
    (h : Pre_finite_gates.fn (F := Ideal) a0 a1 a2 a3 a4 a5 a6 a7 a8 = fun _ => 1#1) : (∀ i, IsFin (a4 i)) ∧ (∀ i, IsFin (a7 i)) := by
  have e := congrFun h (fun a => a.elim0)
  obtain ⟨e4, e7⟩ := IntOp.andi_eq_one.1 e
  haveI : Subsingleton Pre_finite_gates.S_.Idx := ⟨fun a b => funext fun k => k.elim0⟩
  exact ⟨fun i => IsFin.of_cmp (Host.reduce_andi_all _ _ _ _ _ e4 i), fun i => IsFin.of_cmp (Host.reduce_andi_all _ _ _ _ _ e7 i)⟩

theorem equal : algebraic_MlsIdeal_MlsRefIdeal_pre_finite_gates (hMlsIdeal := MlsIdeal.Gen.facts)
    (hMlsRefIdeal := MlsRefIdeal.Gen.facts) (hPre_finite_gates := Pre_finite_gates.Gen.facts) := by
  intro m g m' g' hpre hagree
  have fin := fun c => finite _ _ _ _ _ _ _ _ _ (hpre c)
  refine ⟨fun c => MlsIdeal.Hand.value9 (m ((c.tc : Thread MlsIdeal.nD MlsIdeal.τ).loc MlsIdeal.main_arg0)) (m ((c.tc : Thread MlsIdeal.nD MlsIdeal.τ).loc MlsIdeal.main_arg1)) (m ((c.tc : Thread MlsIdeal.nD MlsIdeal.τ).loc MlsIdeal.main_arg2)) (m ((c.tc : Thread MlsIdeal.nD MlsIdeal.τ).loc MlsIdeal.main_arg3)) (m ((c.tc : Thread MlsIdeal.nD MlsIdeal.τ).loc MlsIdeal.main_arg4)) (m ((c.tc : Thread MlsIdeal.nD MlsIdeal.τ).loc MlsIdeal.main_arg5)) (m ((c.tc : Thread MlsIdeal.nD MlsIdeal.τ).loc MlsIdeal.main_arg6)) (m ((c.tc : Thread MlsIdeal.nD MlsIdeal.τ).loc MlsIdeal.main_arg7)) (m ((c.tc : Thread MlsIdeal.nD MlsIdeal.τ).loc MlsIdeal.main_arg8)),
    fun c => MlsIdeal.Hand.value10 (m ((c.tc : Thread MlsIdeal.nD MlsIdeal.τ).loc MlsIdeal.main_arg0)) (m ((c.tc : Thread MlsIdeal.nD MlsIdeal.τ).loc MlsIdeal.main_arg1)) (m ((c.tc : Thread MlsIdeal.nD MlsIdeal.τ).loc MlsIdeal.main_arg2)) (m ((c.tc : Thread MlsIdeal.nD MlsIdeal.τ).loc MlsIdeal.main_arg3)) (m ((c.tc : Thread MlsIdeal.nD MlsIdeal.τ).loc MlsIdeal.main_arg4)) (m ((c.tc : Thread MlsIdeal.nD MlsIdeal.τ).loc MlsIdeal.main_arg5)) (m ((c.tc : Thread MlsIdeal.nD MlsIdeal.τ).loc MlsIdeal.main_arg6)) (m ((c.tc : Thread MlsIdeal.nD MlsIdeal.τ).loc MlsIdeal.main_arg7)) (m ((c.tc : Thread MlsIdeal.nD MlsIdeal.τ).loc MlsIdeal.main_arg8)),
    fun c => MlsIdeal.Hand.value11 (m ((c.tc : Thread MlsIdeal.nD MlsIdeal.τ).loc MlsIdeal.main_arg0)) (m ((c.tc : Thread MlsIdeal.nD MlsIdeal.τ).loc MlsIdeal.main_arg1)) (m ((c.tc : Thread MlsIdeal.nD MlsIdeal.τ).loc MlsIdeal.main_arg2)) (m ((c.tc : Thread MlsIdeal.nD MlsIdeal.τ).loc MlsIdeal.main_arg3)) (m ((c.tc : Thread MlsIdeal.nD MlsIdeal.τ).loc MlsIdeal.main_arg4)) (m ((c.tc : Thread MlsIdeal.nD MlsIdeal.τ).loc MlsIdeal.main_arg5)) (m ((c.tc : Thread MlsIdeal.nD MlsIdeal.τ).loc MlsIdeal.main_arg6)) (m ((c.tc : Thread MlsIdeal.nD MlsIdeal.τ).loc MlsIdeal.main_arg7)) (m ((c.tc : Thread MlsIdeal.nD MlsIdeal.τ).loc MlsIdeal.main_arg8)),
    fun c => MlsIdeal.Hand.value12 (m ((c.tc : Thread MlsIdeal.nD MlsIdeal.τ).loc MlsIdeal.main_arg0)) (m ((c.tc : Thread MlsIdeal.nD MlsIdeal.τ).loc MlsIdeal.main_arg1)) (m ((c.tc : Thread MlsIdeal.nD MlsIdeal.τ).loc MlsIdeal.main_arg2)) (m ((c.tc : Thread MlsIdeal.nD MlsIdeal.τ).loc MlsIdeal.main_arg3)) (m ((c.tc : Thread MlsIdeal.nD MlsIdeal.τ).loc MlsIdeal.main_arg4)) (m ((c.tc : Thread MlsIdeal.nD MlsIdeal.τ).loc MlsIdeal.main_arg5)) (m ((c.tc : Thread MlsIdeal.nD MlsIdeal.τ).loc MlsIdeal.main_arg6)) (m ((c.tc : Thread MlsIdeal.nD MlsIdeal.τ).loc MlsIdeal.main_arg7)) (m ((c.tc : Thread MlsIdeal.nD MlsIdeal.τ).loc MlsIdeal.main_arg8)), ?_, ?_⟩
  · exact (θ_run MlsIdeal.defs _ _).mono (fun r h c => ⟨(h c).1.trans (MlsIdeal.Hand.final9 m c (fin c).1 (fin c).2), (h c).2.1.trans (MlsIdeal.Hand.final10 m c (fin c).1 (fin c).2), (h c).2.2.1.trans (MlsIdeal.Hand.final11 m c (fin c).1 (fin c).2), (h c).2.2.2.1.trans (MlsIdeal.Hand.final12 m c (fin c).1 (fin c).2), (h c).2.2.2.2⟩)
      (MlsIdeal.Value.run_blocks m g)
  · refine (θ_run MlsRefIdeal.defs _ _).mono (fun r h c => ?_) (MlsRefIdeal.Value.run (F := Ideal) m' g')
    obtain ⟨e0, e1, e2, e3, e4, e5, e6, e7, e8⟩ := hagree c
    refine ⟨(h c).1.trans ?_, (h c).2.1.trans ?_, (h c).2.2.1.trans ?_, (h c).2.2.2.1.trans ?_, (h c).2.2.2.2⟩
    · refine (MlsRefIdeal.Read.val_main_v126_eq (fun b => m' (c, b))).trans ?_
      rw [e0, e1, e2, e3, e4, e5, e6, e7, e8]
      funext i
      refine (congrArg _ (eq_ix3 i)).trans (Eq.trans ?_ (congrArg _ (eq_ix3 i)).symm)
      exact MlsRefIdeal.Hand.result9 _ _ _ _ _ _ _ _ _ (i 0) (i 1) (i 2)
    · refine (MlsRefIdeal.Read.val_main_v79_eq (fun b => m' (c, b))).trans ?_
      rw [e1, e2, e4, e5, e7]
      funext i
      refine (congrArg _ (eq_ix4 i)).trans (Eq.trans ?_ (congrArg _ (eq_ix4 i)).symm)
      exact MlsRefIdeal.Hand.result10 _ _ _ _ _ _ _ _ _ (i 0) (i 1) (i 2) (i 3)
    · refine (MlsRefIdeal.Read.val_main_v84_eq (fun b => m' (c, b))).trans ?_
      rw [e1, e4, e6, e7]
      funext i
      refine (congrArg _ (eq_ix3 i)).trans (Eq.trans ?_ (congrArg _ (eq_ix3 i)).symm)
      exact MlsRefIdeal.Hand.result11 _ _ _ _ _ _ _ _ _ (i 0) (i 1) (i 2)
    · refine (MlsRefIdeal.Read.val_main_v127_eq (fun b => m' (c, b))).trans ?_
      rw [e4, e7]
      funext i
      refine (congrArg _ (eq_ix3 i)).trans (Eq.trans ?_ (congrArg _ (eq_ix3 i)).symm)
      exact MlsRefIdeal.Hand.result12 _ _ _ _ _ _ _ _ _ (i 0) (i 1) (i 2)

end Cert.MlsClaim
end
-- ==== Proof.InattSRows.lean ====
/-
  The attention projections of the running streams: one tile of a block, and the blocks that a grid point reads.
-/
module
public import proofs.«01_k».proof.Proof.Gen.InattSIdeal.Value
public import proofs.«01_k».proof.Proof.Rows
public import Idealize.ShloMosaic.Lib.Pipeline.ValueKit
public import Idealize.ShloMosaic.Lib.Claim
@[expose] public section
set_option maxRecDepth 16384
noncomputable section
namespace Cert.InattSIdeal.Hand
open Cert.InattSIdeal Cert.InattSIdeal.Gen Idealize.ShloMosaic Idealize.ShloMosaic.TcCoe Idealize.SL.Sem Cert.Rows
open Idealize.ShloMosaic.Pipeline (Dat)

/-- The rows of the eight sequences of a block, one under the other. -/
def under (x : Vec Ideal S8x64x1024 .f32) (i : S512x1024.Idx) : EReal :=
  x (ix3 ⟨(i 0).val / 64, by have := (i 0).isLt; simp at this; omega⟩ ⟨(i 0).val % 64, Nat.mod_lt _ (by decide)⟩ (i 1))

theorem row_at (x : Vec Ideal S8x64x1024 .f32) (s : ℕ) (hs : s < 8) (P : Vec Ideal S64x1024 .bf16) (o : ℕ) (ho : o = 64 * s)
    (inb : ∀ a, (![s, 0, 0] : Fin S8x64x1024.rank → ℕ) a + S1x64x1024.size a ≤ S8x64x1024.size a)
    (inb' : ∀ a, (![o, 0] : Fin S512x1024.rank → ℕ) a + S64x1024.size a ≤ S512x1024.size a)
    (hP : ∀ (r : Fin 64) (k : Fin 1024), P (ix2 r k) = View.ld x (Rect.unit (s := S8x64x1024) ![s, 0, 0] S1x64x1024.size inb) (ix3 0 r k)) (y : S64x1024.Idx) :
    P y = under x ((Rect.unit (s := S512x1024) ![o, 0] S64x1024.size inb').emb y) := by
  subst ho
  obtain ⟨r, k, rfl⟩ : ∃ (r : Fin 64) (k : Fin 1024), y = ix2 r k := ⟨y 0, y 1, eq_ix2 y⟩
  rw [hP]
  unfold under
  refine congrArg x (funext fun a => Fin.ext ?_)
  match a with
  | ⟨0, _⟩ =>
    refine (Rect.idx_unit_val _ _ _ _ _).trans ?_
    have e : ((Rect.unit (s := S512x1024) ![64 * s, 0] S64x1024.size inb').emb (ix2 r k) 0).val = 64 * s + r.val := Rect.idx_unit_val _ _ _ _ 0
    show s + 0 = ((Rect.unit (s := S512x1024) ![64 * s, 0] S64x1024.size inb').emb (ix2 r k) 0).val / 64
    rw [e]; omega
  | ⟨1, _⟩ =>
    refine (Rect.idx_unit_val _ _ _ _ _).trans ?_
    have e : ((Rect.unit (s := S512x1024) ![64 * s, 0] S64x1024.size inb').emb (ix2 r k) 0).val = 64 * s + r.val := Rect.idx_unit_val _ _ _ _ 0
    show 0 + r.val = ((Rect.unit (s := S512x1024) ![64 * s, 0] S64x1024.size inb').emb (ix2 r k) 0).val % 64
    rw [e]; omega
  | ⟨2, _⟩ =>
    refine (Rect.idx_unit_val _ _ _ _ _).trans ?_
    have e : ((Rect.unit (s := S512x1024) ![64 * s, 0] S64x1024.size inb').emb (ix2 r k) 1).val = 0 + k.val := Rect.idx_unit_val _ _ _ _ 1
    exact e.symm

theorem stacked (x : Vec Ideal S8x64x1024 .f32) : (View.whole cc0_scratch0).readCov (Val := Elt Ideal)
                [⟨Rect.unit (s := S512x1024) ![448, 0] ![64, 1024] inb_S512x1024_S64x1024_448_0,
                    k0_pay12
                      (View.ld x (Rect.unit (s := S8x64x1024) ![7, 0, 0] ![1, 64, 1024] inb_S8x64x1024_S1x64x1024_7_0_0))⟩,
                  ⟨Rect.unit (s := S512x1024) ![384, 0] ![64, 1024] inb_S512x1024_S64x1024_384_0,
                    k0_pay11
                      (View.ld x (Rect.unit (s := S8x64x1024) ![6, 0, 0] ![1, 64, 1024] inb_S8x64x1024_S1x64x1024_6_0_0))⟩,
                  ⟨Rect.unit (s := S512x1024) ![320, 0] ![64, 1024] inb_S512x1024_S64x1024_320_0,
                    k0_pay10
                      (View.ld x (Rect.unit (s := S8x64x1024) ![5, 0, 0] ![1, 64, 1024] inb_S8x64x1024_S1x64x1024_5_0_0))⟩,
                  ⟨Rect.unit (s := S512x1024) ![256, 0] ![64, 1024] inb_S512x1024_S64x1024_256_0,
                    k0_pay9
                      (k0_pay8
                        (View.ld x
                          (Rect.unit (s := S8x64x1024) ![4, 0, 0] ![1, 64, 1024] inb_S8x64x1024_S1x64x1024_4_0_0)))⟩,
                  ⟨Rect.unit (s := S512x1024) ![192, 0] ![64, 1024] inb_S512x1024_S64x1024_192_0,
                    k0_pay7
                      (View.ld x (Rect.unit (s := S8x64x1024) ![3, 0, 0] ![1, 64, 1024] inb_S8x64x1024_S1x64x1024_3_0_0))⟩,
                  ⟨Rect.unit (s := S512x1024) ![128, 0] ![64, 1024] inb_S512x1024_S64x1024_128_0,
                    k0_pay6
                      (View.ld x (Rect.unit (s := S8x64x1024) ![2, 0, 0] ![1, 64, 1024] inb_S8x64x1024_S1x64x1024_2_0_0))⟩,
                  ⟨Rect.unit (s := S512x1024) ![64, 0] ![64, 1024] inb_S512x1024_S64x1024_64_0,
                    k0_pay5
                      (View.ld x (Rect.unit (s := S8x64x1024) ![1, 0, 0] ![1, 64, 1024] inb_S8x64x1024_S1x64x1024_1_0_0))⟩,
                  ⟨Rect.unit (s := S512x1024) ![0, 0] ![64, 1024] inb_S512x1024_S64x1024_0_0,
                    k0_pay4
                      (View.ld x (Rect.unit (s := S8x64x1024) ![0, 0, 0] ![1, 64, 1024] inb_S8x64x1024_S1x64x1024_0_0_0))⟩]
                (Rect.unit (s := S512x1024) ![0, 0] ![512, 1024] inb_S512x1024_S512x1024_0_0).toLoadRect = under x := by
  rw [View.readCov_eq_canon']
  funext j
  refine (View.canon_apply_of_pieces (Val := Elt Ideal) (e := .bf16) (under x) _ ?_ _ ?_).trans ?_
  · intro p hp y
    simp only [List.mem_cons, List.not_mem_nil, or_false] at hp
    rcases hp with rfl | rfl | rfl | rfl | rfl | rfl | rfl | rfl
    · exact row_at x 7 (by decide) _ 448 rfl inb_S8x64x1024_S1x64x1024_7_0_0 inb_S512x1024_S64x1024_448_0 (fun r k => by unfold k0_pay12; pointwise) y
    · exact row_at x 6 (by decide) _ 384 rfl inb_S8x64x1024_S1x64x1024_6_0_0 inb_S512x1024_S64x1024_384_0 (fun r k => by unfold k0_pay11; pointwise) y
    · exact row_at x 5 (by decide) _ 320 rfl inb_S8x64x1024_S1x64x1024_5_0_0 inb_S512x1024_S64x1024_320_0 (fun r k => by unfold k0_pay10; pointwise) y
    · exact row_at x 4 (by decide) _ 256 rfl inb_S8x64x1024_S1x64x1024_4_0_0 inb_S512x1024_S64x1024_256_0 (fun r k => by unfold k0_pay9 k0_pay8; pointwise) y
    · exact row_at x 3 (by decide) _ 192 rfl inb_S8x64x1024_S1x64x1024_3_0_0 inb_S512x1024_S64x1024_192_0 (fun r k => by unfold k0_pay7; pointwise) y
    · exact row_at x 2 (by decide) _ 128 rfl inb_S8x64x1024_S1x64x1024_2_0_0 inb_S512x1024_S64x1024_128_0 (fun r k => by unfold k0_pay6; pointwise) y
    · exact row_at x 1 (by decide) _ 64 rfl inb_S8x64x1024_S1x64x1024_1_0_0 inb_S512x1024_S64x1024_64_0 (fun r k => by unfold k0_pay5; pointwise) y
    · exact row_at x 0 (by decide) _ 0 rfl inb_S8x64x1024_S1x64x1024_0_0_0 inb_S512x1024_S64x1024_0_0 (fun r k => by unfold k0_pay4; pointwise) y
  · exact View.cover_of_tiled _ ![64, 1024] (by rfl) _
  · refine congrArg _ (funext fun a => Fin.ext ?_)
    refine (Rect.idx_unit_val _ _ _ _ a).trans ?_
    match a with
    | ⟨0, _⟩ => exact Nat.zero_add _
    | ⟨1, _⟩ => exact Nat.zero_add _

/-- One entry of a block of projected frames. -/
def dotBlk (x : Vec Ideal S8x64x1024 .f32) (W : Vec Ideal S1024x1024 .bf16) (i : S8x64x1024.Idx) : EReal :=
  dot (fun k => x (ix3 (i 0) (i 1) k)) (fun k l => W (ix2 k l)) (i 2)

/-- The same block with features first. -/
def trBlk (x : Vec Ideal S8x64x1024 .f32) (W : Vec Ideal S1024x1024 .bf16) (i : S8x1024x64.Idx) : EReal :=
  dotBlk x W (ix3 (i 0) (i 2) (i 1))

/-- One entry of a block of gates. -/
def gateBlk (x : Vec Ideal S8x64x1024 .f32) (W : Vec Ideal S1024x1024 .bf16) (i : S8x64x1024.Idx) : EReal := sigm (dotBlk x W i)

theorem product (x : Vec Ideal S8x64x1024 .f32) (W : Vec Ideal S1024x1024 .bf16) (s p o : ℕ) (hs : s < 8) (hp : p = 64 * s) (ho : o + 256 ≤ 1024)
    (inb : ∀ a, (![0, o] : Fin S1024x1024.rank → ℕ) a + S1024x256.size a ≤ S1024x1024.size a) (r : Fin 64) (j : Fin 256) :
    ∑ k : Fin 1024, under x (ix2 ⟨p + r.val, by omega⟩ k) * View.ld W (Rect.unit (s := S1024x1024) ![0, o] S1024x256.size inb) (ix2 k j)
      = dotBlk x W (ix3 ⟨s, hs⟩ r ⟨o + j.val, by omega⟩) := by
  subst hp
  unfold dotBlk dot
  refine Finset.sum_congr rfl fun k _ => congrArg₂ (· * ·) ?_ (View.ld_unit_apply_of _ _ _ _ _ _ ?_)
  · unfold under
    refine congrArg x (funext fun a => Fin.ext ?_)
    match a with
    | ⟨0, _⟩ => show (64 * s + r.val) / 64 = s; omega
    | ⟨1, _⟩ => show (64 * s + r.val) % 64 = r.val; omega
    | ⟨2, _⟩ => rfl
  · intro a
    match a with
    | ⟨0, _⟩ => exact (Nat.zero_add _).symm
    | ⟨1, _⟩ => rfl

theorem tile_at (x : Vec Ideal S8x64x1024 .f32) (W : Vec Ideal S1024x1024 .bf16) (s p o : ℕ) (hs : s < 8) (hp : p = 64 * s) (ho : o + 256 ≤ 1024)
    (f : EReal → EReal) (Q : Vec Ideal S512x1024 .bf16 → Vec Ideal S1024x256 .bf16 → S1x64x256.Idx → EReal)
    (hQ : ∀ U V (r : Fin 64) (j : Fin 256), Q U V (ix3 0 r j) = f (∑ k : Fin 1024, U (ix2 ⟨p + r.val, by omega⟩ k) * V (ix2 k j)))
    (inb : ∀ a, (![0, o] : Fin S1024x1024.rank → ℕ) a + S1024x256.size a ≤ S1024x1024.size a)
    (inb' : ∀ a, (![s, 0, o] : Fin S8x64x1024.rank → ℕ) a + S1x64x256.size a ≤ S8x64x1024.size a) (y : S1x64x256.Idx) :
    Q (under x) (View.ld W (Rect.unit (s := S1024x1024) ![0, o] S1024x256.size inb)) y
      = f (dotBlk x W ((Rect.unit (s := S8x64x1024) ![s, 0, o] S1x64x256.size inb').emb y)) := by
  obtain ⟨r, j, rfl⟩ : ∃ (r : Fin 64) (j : Fin 256), y = ix3 (0 : Fin 1) r j := ⟨y 1, y 2, by
    funext a
    match a with
    | ⟨0, _⟩ => exact Subsingleton.elim (α := Fin 1) _ _
    | ⟨1, _⟩ => rfl
    | ⟨2, _⟩ => rfl⟩
  rw [hQ, product x W s p o hs hp ho inb r j]
  refine congrArg (fun i => f (dotBlk x W i)) (funext fun a => Fin.ext ?_)
  refine Eq.trans ?_ (Rect.idx_unit_val _ _ _ _ a).symm
  match a with
  | ⟨0, _⟩ => rfl
  | ⟨1, _⟩ => exact (Nat.zero_add _).symm
  | ⟨2, _⟩ => rfl

theorem tile_tr_at (x : Vec Ideal S8x64x1024 .f32) (W : Vec Ideal S1024x1024 .bf16) (s p o : ℕ) (hs : s < 8) (hp : p = 64 * s) (ho : o + 256 ≤ 1024)
    (Q : Vec Ideal S512x1024 .bf16 → Vec Ideal S1024x256 .bf16 → S1x256x64.Idx → EReal)
    (hQ : ∀ U V (r : Fin 64) (j : Fin 256), Q U V (ix3 0 j r) = ∑ k : Fin 1024, U (ix2 ⟨p + r.val, by omega⟩ k) * V (ix2 k j))
    (inb : ∀ a, (![0, o] : Fin S1024x1024.rank → ℕ) a + S1024x256.size a ≤ S1024x1024.size a)
    (inb' : ∀ a, (![s, o, 0] : Fin S8x1024x64.rank → ℕ) a + S1x256x64.size a ≤ S8x1024x64.size a) (y : S1x256x64.Idx) :
    Q (under x) (View.ld W (Rect.unit (s := S1024x1024) ![0, o] S1024x256.size inb)) y
      = trBlk x W ((Rect.unit (s := S8x1024x64) ![s, o, 0] S1x256x64.size inb').emb y) := by
  obtain ⟨j, r, rfl⟩ : ∃ (j : Fin 256) (r : Fin 64), y = ix3 (0 : Fin 1) j r := ⟨y 1, y 2, by
    funext a
    match a with
    | ⟨0, _⟩ => exact Subsingleton.elim (α := Fin 1) _ _
    | ⟨1, _⟩ => rfl
    | ⟨2, _⟩ => rfl⟩
  rw [hQ, product x W s p o hs hp ho inb r j]
  have e : (Rect.unit (s := S8x1024x64) ![s, o, 0] S1x256x64.size inb').emb (ix3 (0 : Fin 1) j r) = ix3 ⟨s, hs⟩ ⟨o + j.val, by omega⟩ r := by
    refine funext fun a => Fin.ext ((Rect.idx_unit_val _ _ _ _ a).trans ?_)
    match a with
    | ⟨0, _⟩ => rfl
    | ⟨1, _⟩ => rfl
    | ⟨2, _⟩ => exact Nat.zero_add _
  rw [e]
  rfl

variable (m : (ℓ : Loc nD τ sig) → Buf (Elt Ideal) ℓ)

/-- The block that each window reads or writes at a grid point. -/
theorem idx : ∀ t : Fin cfg0.N, win0_0.index t = ![t.val, 0, 0]
    ∧ win0_1.index t = ![0, 4]
    ∧ win0_2.index t = ![0, 5]
    ∧ win0_3.index t = ![0, 6]
    ∧ win0_4.index t = ![0, 7]
    ∧ win0_5.index t = ![0, 8]
    ∧ win0_6.index t = ![t.val, 0, 0]
    ∧ win0_7.index t = ![t.val, 0, 0]
    ∧ win0_8.index t = ![t.val, 0, 0]
    ∧ win0_9.index t = ![t.val, 0, 0]
    ∧ win0_10.index t = ![t.val, 0, 0]
    ∧ win0_11.index t = ![t.val, 0, 0]
    ∧ win0_12.index t = ![t.val, 0, 0] :=
  (by decide +kernel : ∀ t : Fin grid0.N, win0_0.index t = ![t.val, 0, 0]
    ∧ win0_1.index t = ![0, 4]
    ∧ win0_2.index t = ![0, 5]
    ∧ win0_3.index t = ![0, 6]
    ∧ win0_4.index t = ![0, 7]
    ∧ win0_5.index t = ![0, 8]
    ∧ win0_6.index t = ![t.val, 0, 0]
    ∧ win0_7.index t = ![t.val, 0, 0]
    ∧ win0_8.index t = ![t.val, 0, 0]
    ∧ win0_9.index t = ![t.val, 0, 0]
    ∧ win0_10.index t = ![t.val, 0, 0]
    ∧ win0_11.index t = ![t.val, 0, 0]
    ∧ win0_12.index t = ![t.val, 0, 0])

theorem read0 (c : Dev nD) (t : Fin cfg0.N) (s : Fin 8) (r : Fin 64) (k : Fin 1024) :
    (iblk m c 0 t : Vec Ideal S8x64x1024 .f32) (ix3 s r k)
      = m ((c : Thread nD τ).loc main_arg0) (ix3 ⟨t.val * 8 + s.val, by have : t.val < 2 := t.isLt; omega⟩ r k) := by
  obtain ⟨e0, e1, e2, e3, e4, e5, e6, e7, e8, e9, e10, e11, e12⟩ := idx t
  blk_ext! [iblk, V, e0]

theorem read1 (c : Dev nD) (t : Fin cfg0.N) (k l : Fin 1024) :
    (iblk m c 1 t : Vec Ideal S1024x1024 .bf16) (ix2 k l) = m ((c : Thread nD τ).loc main_arg1) (ix2 k ⟨4096 + l.val, by omega⟩) := by
  obtain ⟨e0, e1, e2, e3, e4, e5, e6, e7, e8, e9, e10, e11, e12⟩ := idx t
  blk_ext! [iblk, V, e1]

theorem read2 (c : Dev nD) (t : Fin cfg0.N) (k l : Fin 1024) :
    (iblk m c 2 t : Vec Ideal S1024x1024 .bf16) (ix2 k l) = m ((c : Thread nD τ).loc main_arg1) (ix2 k ⟨5120 + l.val, by omega⟩) := by
  obtain ⟨e0, e1, e2, e3, e4, e5, e6, e7, e8, e9, e10, e11, e12⟩ := idx t
  blk_ext! [iblk, V, e2]

theorem read3 (c : Dev nD) (t : Fin cfg0.N) (k l : Fin 1024) :
    (iblk m c 3 t : Vec Ideal S1024x1024 .bf16) (ix2 k l) = m ((c : Thread nD τ).loc main_arg1) (ix2 k ⟨6144 + l.val, by omega⟩) := by
  obtain ⟨e0, e1, e2, e3, e4, e5, e6, e7, e8, e9, e10, e11, e12⟩ := idx t
  blk_ext! [iblk, V, e3]

theorem read4 (c : Dev nD) (t : Fin cfg0.N) (k l : Fin 1024) :
    (iblk m c 4 t : Vec Ideal S1024x1024 .bf16) (ix2 k l) = m ((c : Thread nD τ).loc main_arg1) (ix2 k ⟨7168 + l.val, by omega⟩) := by
  obtain ⟨e0, e1, e2, e3, e4, e5, e6, e7, e8, e9, e10, e11, e12⟩ := idx t
  blk_ext! [iblk, V, e4]

theorem read5 (c : Dev nD) (t : Fin cfg0.N) (k l : Fin 1024) :
    (iblk m c 5 t : Vec Ideal S1024x1024 .bf16) (ix2 k l) = m ((c : Thread nD τ).loc main_arg1) (ix2 k ⟨8192 + l.val, by omega⟩) := by
  obtain ⟨e0, e1, e2, e3, e4, e5, e6, e7, e8, e9, e10, e11, e12⟩ := idx t
  blk_ext! [iblk, V, e5]

/-- The results, entry by entry, as functions of the arguments of the call: projected frames (`o` the first column of the
    weights). -/
def dots (o : ℕ) (ho : o + 1024 ≤ 9216) (a0 : Vec Ideal S16x64x1024 .f32) (a1 : Vec Ideal S1024x9216 .bf16)
    (b : Fin 16) (t : Fin 64) (j : Fin 1024) : EReal :=
  dot (fun k => a0 (ix3 b t k)) (fun k l => a1 (ix2 k ⟨o + l.val, by omega⟩)) j

end Cert.InattSIdeal.Hand
end
-- ==== Proof.InattSA.lean ====
/-
  What the first three result arrays of the attention projections of the running streams hold: queries, keys, values.
-/
module
public import proofs.«01_k».proof.Proof.Gen.InattSIdeal.Value
public import proofs.«01_k».proof.Proof.InattSRows
public import Idealize.ShloMosaic.Lib.Pipeline.ValueKit
public import Idealize.ShloMosaic.Lib.Claim
@[expose] public section
set_option maxRecDepth 16384
noncomputable section
namespace Cert.InattSIdeal.Hand
open Cert.InattSIdeal Cert.InattSIdeal.Gen Idealize.ShloMosaic Idealize.ShloMosaic.TcCoe Idealize.SL.Sem Cert.Rows
open Idealize.ShloMosaic.Pipeline (Dat)

variable (m : (ℓ : Loc nD τ sig) → Buf (Elt Ideal) ℓ)

/-- Result 0. -/
def value6 (a0 : Vec Ideal S16x64x1024 .f32) (a1 : Vec Ideal S1024x9216 .bf16) (i : S16x64x1024.Idx) : EReal :=
  dots 4096 (by decide) a0 a1 (i 0) (i 1) (i 2)

theorem out6 (c : Dev nD) (t : Fin cfg0.N) (y : S8x64x1024.Idx) :
    (outsAt0 m c t).1 y = dotBlk (iblk m c 0 t) (iblk m c 1 t) y := by
  unfold outsAt0
  dsimp only
  frame_out
  rw [stacked]
  refine View.canon_apply_of_pieces (Val := Elt Ideal) (e := .bf16) (dotBlk (iblk m c 0 t) (iblk m c 1 t)) _ ?_ y ?_
  swap; · exact View.cover_of_tiled _ ![1, 64, 256] (by rfl) y
  intro p hp x
  simp only [List.mem_cons, List.not_mem_nil, or_false] at hp
  rcases hp with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
  · exact tile_at _ _ 7 448 768 (by decide) rfl (by decide) id (fun U V => k0_pay199 (k0_pay198 U V (constant S512x256 FTy.f32 0#32))) (fun U V r j => by unfold_payloads; pointwise; rfl) _ inb_S8x64x1024_S1x64x256_7_0_768 x
  · exact tile_at _ _ 6 384 768 (by decide) rfl (by decide) id (fun U V => k0_pay197 U V (constant S512x256 FTy.f32 0#32)) (fun U V r j => by unfold_payloads; pointwise; rfl) _ inb_S8x64x1024_S1x64x256_6_0_768 x
  · exact tile_at _ _ 5 320 768 (by decide) rfl (by decide) id (fun U V => k0_pay196 U V (constant S512x256 FTy.f32 0#32)) (fun U V r j => by unfold_payloads; pointwise; rfl) _ inb_S8x64x1024_S1x64x256_5_0_768 x
  · exact tile_at _ _ 4 256 768 (by decide) rfl (by decide) id (fun U V => k0_pay195 U V (constant S512x256 FTy.f32 0#32)) (fun U V r j => by unfold_payloads; pointwise; rfl) _ inb_S8x64x1024_S1x64x256_4_0_768 x
  · exact tile_at _ _ 3 192 768 (by decide) rfl (by decide) id (fun U V => k0_pay194 U V (constant S512x256 FTy.f32 0#32)) (fun U V r j => by unfold_payloads; pointwise; rfl) _ inb_S8x64x1024_S1x64x256_3_0_768 x
  · exact tile_at _ _ 2 128 768 (by decide) rfl (by decide) id (fun U V => k0_pay193 U V (constant S512x256 FTy.f32 0#32)) (fun U V r j => by unfold_payloads; pointwise; rfl) _ inb_S8x64x1024_S1x64x256_2_0_768 x
  · exact tile_at _ _ 1 64 768 (by decide) rfl (by decide) id (fun U V => k0_pay192 U V (constant S512x256 FTy.f32 0#32)) (fun U V r j => by unfold_payloads; pointwise; rfl) _ inb_S8x64x1024_S1x64x256_1_0_768 x
  · exact tile_at _ _ 0 0 768 (by decide) rfl (by decide) id (fun U V => k0_pay191 U V (constant S512x256 FTy.f32 0#32)) (fun U V r j => by unfold_payloads; pointwise; rfl) _ inb_S8x64x1024_S1x64x256_0_0_768 x
  · exact tile_at _ _ 7 448 512 (by decide) rfl (by decide) id (fun U V => k0_pay148 (k0_pay139 U V)) (fun U V r j => by unfold_payloads; pointwise; rfl) _ inb_S8x64x1024_S1x64x256_7_0_512 x
  · exact tile_at _ _ 6 384 512 (by decide) rfl (by decide) id (fun U V => k0_pay147 (k0_pay139 U V)) (fun U V r j => by unfold_payloads; pointwise; rfl) _ inb_S8x64x1024_S1x64x256_6_0_512 x
  · exact tile_at _ _ 5 320 512 (by decide) rfl (by decide) id (fun U V => k0_pay146 (k0_pay139 U V)) (fun U V r j => by unfold_payloads; pointwise; rfl) _ inb_S8x64x1024_S1x64x256_5_0_512 x
  · exact tile_at _ _ 4 256 512 (by decide) rfl (by decide) id (fun U V => k0_pay145 (k0_pay139 U V)) (fun U V r j => by unfold_payloads; pointwise; rfl) _ inb_S8x64x1024_S1x64x256_4_0_512 x
  · exact tile_at _ _ 3 192 512 (by decide) rfl (by decide) id (fun U V => k0_pay144 (k0_pay139 U V)) (fun U V r j => by unfold_payloads; pointwise; rfl) _ inb_S8x64x1024_S1x64x256_3_0_512 x
  · exact tile_at _ _ 2 128 512 (by decide) rfl (by decide) id (fun U V => k0_pay143 (k0_pay139 U V)) (fun U V r j => by unfold_payloads; pointwise; rfl) _ inb_S8x64x1024_S1x64x256_2_0_512 x
  · exact tile_at _ _ 1 64 512 (by decide) rfl (by decide) id (fun U V => k0_pay142 (k0_pay141 U V)) (fun U V r j => by unfold_payloads; pointwise; rfl) _ inb_S8x64x1024_S1x64x256_1_0_512 x
  · exact tile_at _ _ 0 0 512 (by decide) rfl (by decide) id (fun U V => k0_pay140 U V) (fun U V r j => by unfold_payloads; pointwise; rfl) _ inb_S8x64x1024_S1x64x256_0_0_512 x
  · exact tile_at _ _ 7 448 256 (by decide) rfl (by decide) id (fun U V => k0_pay90 (k0_pay82 U V)) (fun U V r j => by unfold_payloads; pointwise; rfl) _ inb_S8x64x1024_S1x64x256_7_0_256 x
  · exact tile_at _ _ 6 384 256 (by decide) rfl (by decide) id (fun U V => k0_pay89 (k0_pay82 U V)) (fun U V r j => by unfold_payloads; pointwise; rfl) _ inb_S8x64x1024_S1x64x256_6_0_256 x
  · exact tile_at _ _ 5 320 256 (by decide) rfl (by decide) id (fun U V => k0_pay88 (k0_pay82 U V)) (fun U V r j => by unfold_payloads; pointwise; rfl) _ inb_S8x64x1024_S1x64x256_5_0_256 x
  · exact tile_at _ _ 4 256 256 (by decide) rfl (by decide) id (fun U V => k0_pay87 (k0_pay82 U V)) (fun U V r j => by unfold_payloads; pointwise; rfl) _ inb_S8x64x1024_S1x64x256_4_0_256 x
  · exact tile_at _ _ 3 192 256 (by decide) rfl (by decide) id (fun U V => k0_pay86 U V) (fun U V r j => by unfold_payloads; pointwise; rfl) _ inb_S8x64x1024_S1x64x256_3_0_256 x
  · exact tile_at _ _ 2 128 256 (by decide) rfl (by decide) id (fun U V => k0_pay85 U V) (fun U V r j => by unfold_payloads; pointwise; rfl) _ inb_S8x64x1024_S1x64x256_2_0_256 x
  · exact tile_at _ _ 1 64 256 (by decide) rfl (by decide) id (fun U V => k0_pay84 U V) (fun U V r j => by unfold_payloads; pointwise; rfl) _ inb_S8x64x1024_S1x64x256_1_0_256 x
  · exact tile_at _ _ 0 0 256 (by decide) rfl (by decide) id (fun U V => k0_pay83 U V) (fun U V r j => by unfold_payloads; pointwise; rfl) _ inb_S8x64x1024_S1x64x256_0_0_256 x
  · exact tile_at _ _ 7 448 0 (by decide) rfl (by decide) id (fun U V => k0_pay32 (k0_pay23 U V)) (fun U V r j => by unfold_payloads; pointwise; rfl) _ inb_S8x64x1024_S1x64x256_7_0_0 x
  · exact tile_at _ _ 6 384 0 (by decide) rfl (by decide) id (fun U V => k0_pay31 (k0_pay30 U V)) (fun U V r j => by unfold_payloads; pointwise; rfl) _ inb_S8x64x1024_S1x64x256_6_0_0 x
  · exact tile_at _ _ 5 320 0 (by decide) rfl (by decide) id (fun U V => k0_pay29 U V) (fun U V r j => by unfold_payloads; pointwise; rfl) _ inb_S8x64x1024_S1x64x256_5_0_0 x
  · exact tile_at _ _ 4 256 0 (by decide) rfl (by decide) id (fun U V => k0_pay28 U V) (fun U V r j => by unfold_payloads; pointwise; rfl) _ inb_S8x64x1024_S1x64x256_4_0_0 x
  · exact tile_at _ _ 3 192 0 (by decide) rfl (by decide) id (fun U V => k0_pay27 U V) (fun U V r j => by unfold_payloads; pointwise; rfl) _ inb_S8x64x1024_S1x64x256_3_0_0 x
  · exact tile_at _ _ 2 128 0 (by decide) rfl (by decide) id (fun U V => k0_pay26 U V) (fun U V r j => by unfold_payloads; pointwise; rfl) _ inb_S8x64x1024_S1x64x256_2_0_0 x
  · exact tile_at _ _ 1 64 0 (by decide) rfl (by decide) id (fun U V => k0_pay25 U V) (fun U V r j => by unfold_payloads; pointwise; rfl) _ inb_S8x64x1024_S1x64x256_1_0_0 x
  · exact tile_at _ _ 0 0 0 (by decide) rfl (by decide) id (fun U V => k0_pay24 U V) (fun U V r j => by unfold_payloads; pointwise; rfl) _ inb_S8x64x1024_S1x64x256_0_0_0 x

theorem place6 (t : Fin cfg0.N) (y : S8x64x1024.Idx) : (win0_6.blk t).view.emb y
    = ix3 (⟨t.val * 8 + (y 0).val, by have : t.val < 2 := t.isLt; have := (y 0).isLt; simp at this; omega⟩ : Fin 16) (y 1) (y 2) := by
  obtain ⟨e0, e1, e2, e3, e4, e5, e6, e7, e8, e9, e10, e11, e12⟩ := idx t
  blk_ext [e6]

theorem final6 (c : Dev nD) : (dats m 0 c).arrAt 6 cfg0.N
    = value6 (m ((c : Thread nD τ).loc main_arg0)) (m ((c : Thread nD τ).loc main_arg1)) := by
  refine (dats m 0 c).arrAt_eq_of_covers 6 _ (by decide +kernel) fun t hf y => ?_
  blk_simp
  rw [after0_6, out6]
  refine Eq.trans ?_ (congrArg _ (place6 t y).symm)
  unfold dotBlk value6 dots
  simp only [read1]
  exact congrArg (fun f => dot f _ _) (funext fun k => read0 m c t (y 0) (y 1) k)

/-- Result 1. -/
def value7 (a0 : Vec Ideal S16x64x1024 .f32) (a1 : Vec Ideal S1024x9216 .bf16) (i : S16x1024x64.Idx) : EReal :=
  dots 5120 (by decide) a0 a1 (i 0) (i 2) (i 1)

theorem out7 (c : Dev nD) (t : Fin cfg0.N) (y : S8x1024x64.Idx) :
    (outsAt0 m c t).2.1 y = trBlk (iblk m c 0 t) (iblk m c 2 t) y := by
  unfold outsAt0
  dsimp only
  frame_out
  rw [stacked]
  refine View.canon_apply_of_pieces (Val := Elt Ideal) (e := .bf16) (trBlk (iblk m c 0 t) (iblk m c 2 t)) _ ?_ y ?_
  swap; · exact View.cover_of_tiled _ ![1, 256, 64] (by rfl) y
  intro p hp x
  simp only [List.mem_cons, List.not_mem_nil, or_false] at hp
  rcases hp with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
  · exact tile_tr_at _ _ 7 448 768 (by decide) rfl (by decide) (fun U V => k0_pay279 (k0_pay270 (k0_pay260 U V))) (fun U V r j => by unfold_payloads; pointwise) _ inb_S8x1024x64_S1x256x64_7_768_0 x
  · exact tile_tr_at _ _ 6 384 768 (by decide) rfl (by decide) (fun U V => k0_pay278 (k0_pay270 (k0_pay260 U V))) (fun U V r j => by unfold_payloads; pointwise) _ inb_S8x1024x64_S1x256x64_6_768_0 x
  · exact tile_tr_at _ _ 5 320 768 (by decide) rfl (by decide) (fun U V => k0_pay277 (k0_pay270 (k0_pay260 U V))) (fun U V r j => by unfold_payloads; pointwise) _ inb_S8x1024x64_S1x256x64_5_768_0 x
  · exact tile_tr_at _ _ 4 256 768 (by decide) rfl (by decide) (fun U V => k0_pay276 (k0_pay270 (k0_pay260 U V))) (fun U V r j => by unfold_payloads; pointwise) _ inb_S8x1024x64_S1x256x64_4_768_0 x
  · exact tile_tr_at _ _ 3 192 768 (by decide) rfl (by decide) (fun U V => k0_pay275 (k0_pay270 (k0_pay260 U V))) (fun U V r j => by unfold_payloads; pointwise) _ inb_S8x1024x64_S1x256x64_3_768_0 x
  · exact tile_tr_at _ _ 2 128 768 (by decide) rfl (by decide) (fun U V => k0_pay274 (k0_pay270 (k0_pay260 U V))) (fun U V r j => by unfold_payloads; pointwise) _ inb_S8x1024x64_S1x256x64_2_768_0 x
  · exact tile_tr_at _ _ 1 64 768 (by decide) rfl (by decide) (fun U V => k0_pay273 (k0_pay272 (k0_pay260 U V))) (fun U V r j => by unfold_payloads; pointwise) _ inb_S8x1024x64_S1x256x64_1_768_0 x
  · exact tile_tr_at _ _ 0 0 768 (by decide) rfl (by decide) (fun U V => k0_pay271 (k0_pay260 U V)) (fun U V r j => by unfold_payloads; pointwise) _ inb_S8x1024x64_S1x256x64_0_768_0 x
  · exact tile_tr_at _ _ 7 448 512 (by decide) rfl (by decide) (fun U V => k0_pay219 (k0_pay210 (k0_pay200 U V))) (fun U V r j => by unfold_payloads; pointwise) _ inb_S8x1024x64_S1x256x64_7_512_0 x
  · exact tile_tr_at _ _ 6 384 512 (by decide) rfl (by decide) (fun U V => k0_pay218 (k0_pay210 (k0_pay200 U V))) (fun U V r j => by unfold_payloads; pointwise) _ inb_S8x1024x64_S1x256x64_6_512_0 x
  · exact tile_tr_at _ _ 5 320 512 (by decide) rfl (by decide) (fun U V => k0_pay217 (k0_pay210 (k0_pay200 U V))) (fun U V r j => by unfold_payloads; pointwise) _ inb_S8x1024x64_S1x256x64_5_512_0 x
  · exact tile_tr_at _ _ 4 256 512 (by decide) rfl (by decide) (fun U V => k0_pay216 (k0_pay215 (k0_pay200 U V))) (fun U V r j => by unfold_payloads; pointwise) _ inb_S8x1024x64_S1x256x64_4_512_0 x
  · exact tile_tr_at _ _ 3 192 512 (by decide) rfl (by decide) (fun U V => k0_pay214 (k0_pay200 U V)) (fun U V r j => by unfold_payloads; pointwise) _ inb_S8x1024x64_S1x256x64_3_512_0 x
  · exact tile_tr_at _ _ 2 128 512 (by decide) rfl (by decide) (fun U V => k0_pay213 (k0_pay200 U V)) (fun U V r j => by unfold_payloads; pointwise) _ inb_S8x1024x64_S1x256x64_2_512_0 x
  · exact tile_tr_at _ _ 1 64 512 (by decide) rfl (by decide) (fun U V => k0_pay212 (k0_pay200 U V)) (fun U V r j => by unfold_payloads; pointwise) _ inb_S8x1024x64_S1x256x64_1_512_0 x
  · exact tile_tr_at _ _ 0 0 512 (by decide) rfl (by decide) (fun U V => k0_pay211 (k0_pay200 U V)) (fun U V r j => by unfold_payloads; pointwise) _ inb_S8x1024x64_S1x256x64_0_512_0 x
  · exact tile_tr_at _ _ 7 448 256 (by decide) rfl (by decide) (fun U V => k0_pay138 (k0_pay130 (k0_pay121 U V))) (fun U V r j => by unfold_payloads; pointwise) _ inb_S8x1024x64_S1x256x64_7_256_0 x
  · exact tile_tr_at _ _ 6 384 256 (by decide) rfl (by decide) (fun U V => k0_pay137 (k0_pay130 (k0_pay121 U V))) (fun U V r j => by unfold_payloads; pointwise) _ inb_S8x1024x64_S1x256x64_6_256_0 x
  · exact tile_tr_at _ _ 5 320 256 (by decide) rfl (by decide) (fun U V => k0_pay136 (k0_pay130 (k0_pay121 U V))) (fun U V r j => by unfold_payloads; pointwise) _ inb_S8x1024x64_S1x256x64_5_256_0 x
  · exact tile_tr_at _ _ 4 256 256 (by decide) rfl (by decide) (fun U V => k0_pay135 (k0_pay130 (k0_pay121 U V))) (fun U V r j => by unfold_payloads; pointwise) _ inb_S8x1024x64_S1x256x64_4_256_0 x
  · exact tile_tr_at _ _ 3 192 256 (by decide) rfl (by decide) (fun U V => k0_pay134 (k0_pay121 U V)) (fun U V r j => by unfold_payloads; pointwise) _ inb_S8x1024x64_S1x256x64_3_256_0 x
  · exact tile_tr_at _ _ 2 128 256 (by decide) rfl (by decide) (fun U V => k0_pay133 (k0_pay121 U V)) (fun U V r j => by unfold_payloads; pointwise) _ inb_S8x1024x64_S1x256x64_2_256_0 x
  · exact tile_tr_at _ _ 1 64 256 (by decide) rfl (by decide) (fun U V => k0_pay132 (k0_pay121 U V)) (fun U V r j => by unfold_payloads; pointwise) _ inb_S8x1024x64_S1x256x64_1_256_0 x
  · exact tile_tr_at _ _ 0 0 256 (by decide) rfl (by decide) (fun U V => k0_pay131 (k0_pay121 U V)) (fun U V r j => by unfold_payloads; pointwise) _ inb_S8x1024x64_S1x256x64_0_256_0 x
  · exact tile_tr_at _ _ 7 448 0 (by decide) rfl (by decide) (fun U V => k0_pay52 (k0_pay43 (k0_pay33 U V))) (fun U V r j => by unfold_payloads; pointwise) _ inb_S8x1024x64_S1x256x64_7_0_0 x
  · exact tile_tr_at _ _ 6 384 0 (by decide) rfl (by decide) (fun U V => k0_pay51 (k0_pay43 (k0_pay33 U V))) (fun U V r j => by unfold_payloads; pointwise) _ inb_S8x1024x64_S1x256x64_6_0_0 x
  · exact tile_tr_at _ _ 5 320 0 (by decide) rfl (by decide) (fun U V => k0_pay50 (k0_pay43 (k0_pay33 U V))) (fun U V r j => by unfold_payloads; pointwise) _ inb_S8x1024x64_S1x256x64_5_0_0 x
  · exact tile_tr_at _ _ 4 256 0 (by decide) rfl (by decide) (fun U V => k0_pay49 (k0_pay43 (k0_pay33 U V))) (fun U V r j => by unfold_payloads; pointwise) _ inb_S8x1024x64_S1x256x64_4_0_0 x
  · exact tile_tr_at _ _ 3 192 0 (by decide) rfl (by decide) (fun U V => k0_pay48 (k0_pay47 (k0_pay33 U V))) (fun U V r j => by unfold_payloads; pointwise) _ inb_S8x1024x64_S1x256x64_3_0_0 x
  · exact tile_tr_at _ _ 2 128 0 (by decide) rfl (by decide) (fun U V => k0_pay46 (k0_pay33 U V)) (fun U V r j => by unfold_payloads; pointwise) _ inb_S8x1024x64_S1x256x64_2_0_0 x
  · exact tile_tr_at _ _ 1 64 0 (by decide) rfl (by decide) (fun U V => k0_pay45 (k0_pay33 U V)) (fun U V r j => by unfold_payloads; pointwise) _ inb_S8x1024x64_S1x256x64_1_0_0 x
  · exact tile_tr_at _ _ 0 0 0 (by decide) rfl (by decide) (fun U V => k0_pay44 (k0_pay33 U V)) (fun U V r j => by unfold_payloads; pointwise) _ inb_S8x1024x64_S1x256x64_0_0_0 x

theorem place7 (t : Fin cfg0.N) (y : S8x1024x64.Idx) : (win0_7.blk t).view.emb y
    = ix3 (⟨t.val * 8 + (y 0).val, by have : t.val < 2 := t.isLt; have := (y 0).isLt; simp at this; omega⟩ : Fin 16) (y 1) (y 2) := by
  obtain ⟨e0, e1, e2, e3, e4, e5, e6, e7, e8, e9, e10, e11, e12⟩ := idx t
  blk_ext [e7]

theorem final7 (c : Dev nD) : (dats m 0 c).arrAt 7 cfg0.N
    = value7 (m ((c : Thread nD τ).loc main_arg0)) (m ((c : Thread nD τ).loc main_arg1)) := by
  refine (dats m 0 c).arrAt_eq_of_covers 7 _ (by decide +kernel) fun t hf y => ?_
  blk_simp
  rw [after0_7, out7]
  refine Eq.trans ?_ (congrArg _ (place7 t y).symm)
  unfold trBlk dotBlk value7 dots
  simp only [read2]
  exact congrArg (fun f => dot f _ _) (funext fun k => read0 m c t (y 0) (y 2) k)

/-- Result 2. -/
def value8 (a0 : Vec Ideal S16x64x1024 .f32) (a1 : Vec Ideal S1024x9216 .bf16) (i : S16x64x1024.Idx) : EReal :=
  dots 6144 (by decide) a0 a1 (i 0) (i 1) (i 2)

theorem out8 (c : Dev nD) (t : Fin cfg0.N) (y : S8x64x1024.Idx) :
    (outsAt0 m c t).2.2.1 y = dotBlk (iblk m c 0 t) (iblk m c 3 t) y := by
  unfold outsAt0
  dsimp only
  frame_out
  rw [stacked]
  refine View.canon_apply_of_pieces (Val := Elt Ideal) (e := .bf16) (dotBlk (iblk m c 0 t) (iblk m c 3 t)) _ ?_ y ?_
  swap; · exact View.cover_of_tiled _ ![1, 64, 256] (by rfl) y
  intro p hp x
  simp only [List.mem_cons, List.not_mem_nil, or_false] at hp
  rcases hp with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
  · exact tile_at _ _ 7 448 768 (by decide) rfl (by decide) id (fun U V => k0_pay238 (k0_pay230 (k0_pay220 U V))) (fun U V r j => by unfold_payloads; pointwise; rfl) _ inb_S8x64x1024_S1x64x256_7_0_768 x
  · exact tile_at _ _ 6 384 768 (by decide) rfl (by decide) id (fun U V => k0_pay237 (k0_pay230 (k0_pay220 U V))) (fun U V r j => by unfold_payloads; pointwise; rfl) _ inb_S8x64x1024_S1x64x256_6_0_768 x
  · exact tile_at _ _ 5 320 768 (by decide) rfl (by decide) id (fun U V => k0_pay236 (k0_pay230 (k0_pay220 U V))) (fun U V r j => by unfold_payloads; pointwise; rfl) _ inb_S8x64x1024_S1x64x256_5_0_768 x
  · exact tile_at _ _ 4 256 768 (by decide) rfl (by decide) id (fun U V => k0_pay235 (k0_pay230 (k0_pay220 U V))) (fun U V r j => by unfold_payloads; pointwise; rfl) _ inb_S8x64x1024_S1x64x256_4_0_768 x
  · exact tile_at _ _ 3 192 768 (by decide) rfl (by decide) id (fun U V => k0_pay234 (k0_pay230 (k0_pay220 U V))) (fun U V r j => by unfold_payloads; pointwise; rfl) _ inb_S8x64x1024_S1x64x256_3_0_768 x
  · exact tile_at _ _ 2 128 768 (by decide) rfl (by decide) id (fun U V => k0_pay233 (k0_pay230 (k0_pay220 U V))) (fun U V r j => by unfold_payloads; pointwise; rfl) _ inb_S8x64x1024_S1x64x256_2_0_768 x
  · exact tile_at _ _ 1 64 768 (by decide) rfl (by decide) id (fun U V => k0_pay232 (k0_pay220 U V)) (fun U V r j => by unfold_payloads; pointwise; rfl) _ inb_S8x64x1024_S1x64x256_1_0_768 x
  · exact tile_at _ _ 0 0 768 (by decide) rfl (by decide) id (fun U V => k0_pay231 (k0_pay220 U V)) (fun U V r j => by unfold_payloads; pointwise; rfl) _ inb_S8x64x1024_S1x64x256_0_0_768 x
  · exact tile_at _ _ 7 448 512 (by decide) rfl (by decide) id (fun U V => k0_pay179 (k0_pay170 (k0_pay161 U V))) (fun U V r j => by unfold_payloads; pointwise; rfl) _ inb_S8x64x1024_S1x64x256_7_0_512 x
  · exact tile_at _ _ 6 384 512 (by decide) rfl (by decide) id (fun U V => k0_pay178 (k0_pay170 (k0_pay161 U V))) (fun U V r j => by unfold_payloads; pointwise; rfl) _ inb_S8x64x1024_S1x64x256_6_0_512 x
  · exact tile_at _ _ 5 320 512 (by decide) rfl (by decide) id (fun U V => k0_pay177 (k0_pay170 (k0_pay161 U V))) (fun U V r j => by unfold_payloads; pointwise; rfl) _ inb_S8x64x1024_S1x64x256_5_0_512 x
  · exact tile_at _ _ 4 256 512 (by decide) rfl (by decide) id (fun U V => k0_pay176 (k0_pay175 (k0_pay161 U V))) (fun U V r j => by unfold_payloads; pointwise; rfl) _ inb_S8x64x1024_S1x64x256_4_0_512 x
  · exact tile_at _ _ 3 192 512 (by decide) rfl (by decide) id (fun U V => k0_pay174 (k0_pay161 U V)) (fun U V r j => by unfold_payloads; pointwise; rfl) _ inb_S8x64x1024_S1x64x256_3_0_512 x
  · exact tile_at _ _ 2 128 512 (by decide) rfl (by decide) id (fun U V => k0_pay173 (k0_pay161 U V)) (fun U V r j => by unfold_payloads; pointwise; rfl) _ inb_S8x64x1024_S1x64x256_2_0_512 x
  · exact tile_at _ _ 1 64 512 (by decide) rfl (by decide) id (fun U V => k0_pay172 (k0_pay161 U V)) (fun U V r j => by unfold_payloads; pointwise; rfl) _ inb_S8x64x1024_S1x64x256_1_0_512 x
  · exact tile_at _ _ 0 0 512 (by decide) rfl (by decide) id (fun U V => k0_pay171 (k0_pay161 U V)) (fun U V r j => by unfold_payloads; pointwise; rfl) _ inb_S8x64x1024_S1x64x256_0_0_512 x
  · exact tile_at _ _ 7 448 256 (by decide) rfl (by decide) id (fun U V => k0_pay120 (k0_pay111 (k0_pay101 U V))) (fun U V r j => by unfold_payloads; pointwise; rfl) _ inb_S8x64x1024_S1x64x256_7_0_256 x
  · exact tile_at _ _ 6 384 256 (by decide) rfl (by decide) id (fun U V => k0_pay119 (k0_pay118 (k0_pay101 U V))) (fun U V r j => by unfold_payloads; pointwise; rfl) _ inb_S8x64x1024_S1x64x256_6_0_256 x
  · exact tile_at _ _ 5 320 256 (by decide) rfl (by decide) id (fun U V => k0_pay117 (k0_pay101 U V)) (fun U V r j => by unfold_payloads; pointwise; rfl) _ inb_S8x64x1024_S1x64x256_5_0_256 x
  · exact tile_at _ _ 4 256 256 (by decide) rfl (by decide) id (fun U V => k0_pay116 (k0_pay101 U V)) (fun U V r j => by unfold_payloads; pointwise; rfl) _ inb_S8x64x1024_S1x64x256_4_0_256 x
  · exact tile_at _ _ 3 192 256 (by decide) rfl (by decide) id (fun U V => k0_pay115 (k0_pay101 U V)) (fun U V r j => by unfold_payloads; pointwise; rfl) _ inb_S8x64x1024_S1x64x256_3_0_256 x
  · exact tile_at _ _ 2 128 256 (by decide) rfl (by decide) id (fun U V => k0_pay114 (k0_pay101 U V)) (fun U V r j => by unfold_payloads; pointwise; rfl) _ inb_S8x64x1024_S1x64x256_2_0_256 x
  · exact tile_at _ _ 1 64 256 (by decide) rfl (by decide) id (fun U V => k0_pay113 (k0_pay101 U V)) (fun U V r j => by unfold_payloads; pointwise; rfl) _ inb_S8x64x1024_S1x64x256_1_0_256 x
  · exact tile_at _ _ 0 0 256 (by decide) rfl (by decide) id (fun U V => k0_pay112 (k0_pay101 U V)) (fun U V r j => by unfold_payloads; pointwise; rfl) _ inb_S8x64x1024_S1x64x256_0_0_256 x
  · exact tile_at _ _ 7 448 0 (by decide) rfl (by decide) id (fun U V => k0_pay71 (k0_pay63 (k0_pay53 U V))) (fun U V r j => by unfold_payloads; pointwise; rfl) _ inb_S8x64x1024_S1x64x256_7_0_0 x
  · exact tile_at _ _ 6 384 0 (by decide) rfl (by decide) id (fun U V => k0_pay70 (k0_pay63 (k0_pay53 U V))) (fun U V r j => by unfold_payloads; pointwise; rfl) _ inb_S8x64x1024_S1x64x256_6_0_0 x
  · exact tile_at _ _ 5 320 0 (by decide) rfl (by decide) id (fun U V => k0_pay69 (k0_pay63 (k0_pay53 U V))) (fun U V r j => by unfold_payloads; pointwise; rfl) _ inb_S8x64x1024_S1x64x256_5_0_0 x
  · exact tile_at _ _ 4 256 0 (by decide) rfl (by decide) id (fun U V => k0_pay68 (k0_pay63 (k0_pay53 U V))) (fun U V r j => by unfold_payloads; pointwise; rfl) _ inb_S8x64x1024_S1x64x256_4_0_0 x
  · exact tile_at _ _ 3 192 0 (by decide) rfl (by decide) id (fun U V => k0_pay67 (k0_pay63 (k0_pay53 U V))) (fun U V r j => by unfold_payloads; pointwise; rfl) _ inb_S8x64x1024_S1x64x256_3_0_0 x
  · exact tile_at _ _ 2 128 0 (by decide) rfl (by decide) id (fun U V => k0_pay66 (k0_pay63 (k0_pay53 U V))) (fun U V r j => by unfold_payloads; pointwise; rfl) _ inb_S8x64x1024_S1x64x256_2_0_0 x
  · exact tile_at _ _ 1 64 0 (by decide) rfl (by decide) id (fun U V => k0_pay65 (k0_pay63 (k0_pay53 U V))) (fun U V r j => by unfold_payloads; pointwise; rfl) _ inb_S8x64x1024_S1x64x256_1_0_0 x
  · exact tile_at _ _ 0 0 0 (by decide) rfl (by decide) id (fun U V => k0_pay64 (k0_pay53 U V)) (fun U V r j => by unfold_payloads; pointwise; rfl) _ inb_S8x64x1024_S1x64x256_0_0_0 x

theorem place8 (t : Fin cfg0.N) (y : S8x64x1024.Idx) : (win0_8.blk t).view.emb y
    = ix3 (⟨t.val * 8 + (y 0).val, by have : t.val < 2 := t.isLt; have := (y 0).isLt; simp at this; omega⟩ : Fin 16) (y 1) (y 2) := by
  obtain ⟨e0, e1, e2, e3, e4, e5, e6, e7, e8, e9, e10, e11, e12⟩ := idx t
  blk_ext [e8]

theorem final8 (c : Dev nD) : (dats m 0 c).arrAt 8 cfg0.N
    = value8 (m ((c : Thread nD τ).loc main_arg0)) (m ((c : Thread nD τ).loc main_arg1)) := by
  refine (dats m 0 c).arrAt_eq_of_covers 8 _ (by decide +kernel) fun t hf y => ?_
  blk_simp
  rw [after0_8, out8]
  refine Eq.trans ?_ (congrArg _ (place8 t y).symm)
  unfold dotBlk value8 dots
  simp only [read3]
  exact congrArg (fun f => dot f _ _) (funext fun k => read0 m c t (y 0) (y 1) k)

end Cert.InattSIdeal.Hand
end
-- ==== Proof.InattSB.lean ====
/-
  What the newest keys and values of the attention projections of the running streams hold.
-/
module
public import proofs.«01_k».proof.Proof.Gen.InattSIdeal.Value
public import proofs.«01_k».proof.Proof.InattSRows
public import Idealize.ShloMosaic.Lib.Pipeline.ValueKit
public import Idealize.ShloMosaic.Lib.Claim
@[expose] public section
set_option maxRecDepth 16384
noncomputable section
namespace Cert.InattSIdeal.Hand
open Cert.InattSIdeal Cert.InattSIdeal.Gen Idealize.ShloMosaic Idealize.ShloMosaic.TcCoe Idealize.SL.Sem Cert.Rows
open Idealize.ShloMosaic.Pipeline (Dat)

variable (m : (ℓ : Loc nD τ sig) → Buf (Elt Ideal) ℓ)

/-- Result 3. -/
def value9 (a0 : Vec Ideal S16x64x1024 .f32) (a1 : Vec Ideal S1024x9216 .bf16) (i : S16x64x1024.Idx) : EReal :=
  dots 5120 (by decide) a0 a1 (i 0) (i 1) (i 2)

theorem out9 (c : Dev nD) (t : Fin cfg0.N) (y : S8x64x1024.Idx) :
    (outsAt0 m c t).2.2.2.1 y = dotBlk (iblk m c 0 t) (iblk m c 2 t) y := by
  unfold outsAt0
  dsimp only
  frame_out
  rw [stacked]
  refine View.canon_apply_of_pieces (Val := Elt Ideal) (e := .f32) (dotBlk (iblk m c 0 t) (iblk m c 2 t)) _ ?_ y ?_
  swap; · exact View.cover_of_tiled _ ![1, 64, 256] (by rfl) y
  intro p hp x
  simp only [List.mem_cons, List.not_mem_nil, or_false] at hp
  rcases hp with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
  · exact tile_at _ _ 7 448 768 (by decide) rfl (by decide) id (fun U V => k0_pay269 (k0_pay260 U V)) (fun U V r j => by unfold_payloads; pointwise; rfl) _ inb_S8x64x1024_S1x64x256_7_0_768 x
  · exact tile_at _ _ 6 384 768 (by decide) rfl (by decide) id (fun U V => k0_pay268 (k0_pay260 U V)) (fun U V r j => by unfold_payloads; pointwise; rfl) _ inb_S8x64x1024_S1x64x256_6_0_768 x
  · exact tile_at _ _ 5 320 768 (by decide) rfl (by decide) id (fun U V => k0_pay267 (k0_pay260 U V)) (fun U V r j => by unfold_payloads; pointwise; rfl) _ inb_S8x64x1024_S1x64x256_5_0_768 x
  · exact tile_at _ _ 4 256 768 (by decide) rfl (by decide) id (fun U V => k0_pay266 (k0_pay260 U V)) (fun U V r j => by unfold_payloads; pointwise; rfl) _ inb_S8x64x1024_S1x64x256_4_0_768 x
  · exact tile_at _ _ 3 192 768 (by decide) rfl (by decide) id (fun U V => k0_pay265 (k0_pay260 U V)) (fun U V r j => by unfold_payloads; pointwise; rfl) _ inb_S8x64x1024_S1x64x256_3_0_768 x
  · exact tile_at _ _ 2 128 768 (by decide) rfl (by decide) id (fun U V => k0_pay264 (k0_pay263 U V)) (fun U V r j => by unfold_payloads; pointwise; rfl) _ inb_S8x64x1024_S1x64x256_2_0_768 x
  · exact tile_at _ _ 1 64 768 (by decide) rfl (by decide) id (fun U V => k0_pay262 U V) (fun U V r j => by unfold_payloads; pointwise; rfl) _ inb_S8x64x1024_S1x64x256_1_0_768 x
  · exact tile_at _ _ 0 0 768 (by decide) rfl (by decide) id (fun U V => k0_pay261 U V) (fun U V r j => by unfold_payloads; pointwise; rfl) _ inb_S8x64x1024_S1x64x256_0_0_768 x
  · exact tile_at _ _ 7 448 512 (by decide) rfl (by decide) id (fun U V => k0_pay209 (k0_pay200 U V)) (fun U V r j => by unfold_payloads; pointwise; rfl) _ inb_S8x64x1024_S1x64x256_7_0_512 x
  · exact tile_at _ _ 6 384 512 (by decide) rfl (by decide) id (fun U V => k0_pay208 (k0_pay200 U V)) (fun U V r j => by unfold_payloads; pointwise; rfl) _ inb_S8x64x1024_S1x64x256_6_0_512 x
  · exact tile_at _ _ 5 320 512 (by decide) rfl (by decide) id (fun U V => k0_pay207 (k0_pay206 U V)) (fun U V r j => by unfold_payloads; pointwise; rfl) _ inb_S8x64x1024_S1x64x256_5_0_512 x
  · exact tile_at _ _ 4 256 512 (by decide) rfl (by decide) id (fun U V => k0_pay205 U V) (fun U V r j => by unfold_payloads; pointwise; rfl) _ inb_S8x64x1024_S1x64x256_4_0_512 x
  · exact tile_at _ _ 3 192 512 (by decide) rfl (by decide) id (fun U V => k0_pay204 U V) (fun U V r j => by unfold_payloads; pointwise; rfl) _ inb_S8x64x1024_S1x64x256_3_0_512 x
  · exact tile_at _ _ 2 128 512 (by decide) rfl (by decide) id (fun U V => k0_pay203 U V) (fun U V r j => by unfold_payloads; pointwise; rfl) _ inb_S8x64x1024_S1x64x256_2_0_512 x
  · exact tile_at _ _ 1 64 512 (by decide) rfl (by decide) id (fun U V => k0_pay202 U V) (fun U V r j => by unfold_payloads; pointwise; rfl) _ inb_S8x64x1024_S1x64x256_1_0_512 x
  · exact tile_at _ _ 0 0 512 (by decide) rfl (by decide) id (fun U V => k0_pay201 U V) (fun U V r j => by unfold_payloads; pointwise; rfl) _ inb_S8x64x1024_S1x64x256_0_0_512 x
  · exact tile_at _ _ 7 448 256 (by decide) rfl (by decide) id (fun U V => k0_pay129 (k0_pay121 U V)) (fun U V r j => by unfold_payloads; pointwise; rfl) _ inb_S8x64x1024_S1x64x256_7_0_256 x
  · exact tile_at _ _ 6 384 256 (by decide) rfl (by decide) id (fun U V => k0_pay128 (k0_pay121 U V)) (fun U V r j => by unfold_payloads; pointwise; rfl) _ inb_S8x64x1024_S1x64x256_6_0_256 x
  · exact tile_at _ _ 5 320 256 (by decide) rfl (by decide) id (fun U V => k0_pay127 (k0_pay121 U V)) (fun U V r j => by unfold_payloads; pointwise; rfl) _ inb_S8x64x1024_S1x64x256_5_0_256 x
  · exact tile_at _ _ 4 256 256 (by decide) rfl (by decide) id (fun U V => k0_pay126 U V) (fun U V r j => by unfold_payloads; pointwise; rfl) _ inb_S8x64x1024_S1x64x256_4_0_256 x
  · exact tile_at _ _ 3 192 256 (by decide) rfl (by decide) id (fun U V => k0_pay125 U V) (fun U V r j => by unfold_payloads; pointwise; rfl) _ inb_S8x64x1024_S1x64x256_3_0_256 x
  · exact tile_at _ _ 2 128 256 (by decide) rfl (by decide) id (fun U V => k0_pay124 U V) (fun U V r j => by unfold_payloads; pointwise; rfl) _ inb_S8x64x1024_S1x64x256_2_0_256 x
  · exact tile_at _ _ 1 64 256 (by decide) rfl (by decide) id (fun U V => k0_pay123 U V) (fun U V r j => by unfold_payloads; pointwise; rfl) _ inb_S8x64x1024_S1x64x256_1_0_256 x
  · exact tile_at _ _ 0 0 256 (by decide) rfl (by decide) id (fun U V => k0_pay122 U V) (fun U V r j => by unfold_payloads; pointwise; rfl) _ inb_S8x64x1024_S1x64x256_0_0_256 x
  · exact tile_at _ _ 7 448 0 (by decide) rfl (by decide) id (fun U V => k0_pay42 (k0_pay33 U V)) (fun U V r j => by unfold_payloads; pointwise; rfl) _ inb_S8x64x1024_S1x64x256_7_0_0 x
  · exact tile_at _ _ 6 384 0 (by decide) rfl (by decide) id (fun U V => k0_pay41 (k0_pay33 U V)) (fun U V r j => by unfold_payloads; pointwise; rfl) _ inb_S8x64x1024_S1x64x256_6_0_0 x
  · exact tile_at _ _ 5 320 0 (by decide) rfl (by decide) id (fun U V => k0_pay40 (k0_pay33 U V)) (fun U V r j => by unfold_payloads; pointwise; rfl) _ inb_S8x64x1024_S1x64x256_5_0_0 x
  · exact tile_at _ _ 4 256 0 (by decide) rfl (by decide) id (fun U V => k0_pay39 (k0_pay38 U V)) (fun U V r j => by unfold_payloads; pointwise; rfl) _ inb_S8x64x1024_S1x64x256_4_0_0 x
  · exact tile_at _ _ 3 192 0 (by decide) rfl (by decide) id (fun U V => k0_pay37 U V) (fun U V r j => by unfold_payloads; pointwise; rfl) _ inb_S8x64x1024_S1x64x256_3_0_0 x
  · exact tile_at _ _ 2 128 0 (by decide) rfl (by decide) id (fun U V => k0_pay36 U V) (fun U V r j => by unfold_payloads; pointwise; rfl) _ inb_S8x64x1024_S1x64x256_2_0_0 x
  · exact tile_at _ _ 1 64 0 (by decide) rfl (by decide) id (fun U V => k0_pay35 U V) (fun U V r j => by unfold_payloads; pointwise; rfl) _ inb_S8x64x1024_S1x64x256_1_0_0 x
  · exact tile_at _ _ 0 0 0 (by decide) rfl (by decide) id (fun U V => k0_pay34 U V) (fun U V r j => by unfold_payloads; pointwise; rfl) _ inb_S8x64x1024_S1x64x256_0_0_0 x

theorem place9 (t : Fin cfg0.N) (y : S8x64x1024.Idx) : (win0_9.blk t).view.emb y
    = ix3 (⟨t.val * 8 + (y 0).val, by have : t.val < 2 := t.isLt; have := (y 0).isLt; simp at this; omega⟩ : Fin 16) (y 1) (y 2) := by
  obtain ⟨e0, e1, e2, e3, e4, e5, e6, e7, e8, e9, e10, e11, e12⟩ := idx t
  blk_ext [e9]

theorem final9 (c : Dev nD) : (dats m 0 c).arrAt 9 cfg0.N
    = value9 (m ((c : Thread nD τ).loc main_arg0)) (m ((c : Thread nD τ).loc main_arg1)) := by
  refine (dats m 0 c).arrAt_eq_of_covers 9 _ (by decide +kernel) fun t hf y => ?_
  blk_simp
  rw [after0_9, out9]
  refine Eq.trans ?_ (congrArg _ (place9 t y).symm)
  unfold dotBlk value9 dots
  simp only [read2]
  exact congrArg (fun f => dot f _ _) (funext fun k => read0 m c t (y 0) (y 1) k)

/-- Result 4. -/
def value10 (a0 : Vec Ideal S16x64x1024 .f32) (a1 : Vec Ideal S1024x9216 .bf16) (i : S16x64x1024.Idx) : EReal :=
  dots 6144 (by decide) a0 a1 (i 0) (i 1) (i 2)

theorem out10 (c : Dev nD) (t : Fin cfg0.N) (y : S8x64x1024.Idx) :
    (outsAt0 m c t).2.2.2.2.1 y = dotBlk (iblk m c 0 t) (iblk m c 3 t) y := by
  unfold outsAt0
  dsimp only
  frame_out
  rw [stacked]
  refine View.canon_apply_of_pieces (Val := Elt Ideal) (e := .f32) (dotBlk (iblk m c 0 t) (iblk m c 3 t)) _ ?_ y ?_
  swap; · exact View.cover_of_tiled _ ![1, 64, 256] (by rfl) y
  intro p hp x
  simp only [List.mem_cons, List.not_mem_nil, or_false] at hp
  rcases hp with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
  · exact tile_at _ _ 7 448 768 (by decide) rfl (by decide) id (fun U V => k0_pay229 (k0_pay220 U V)) (fun U V r j => by unfold_payloads; pointwise; rfl) _ inb_S8x64x1024_S1x64x256_7_0_768 x
  · exact tile_at _ _ 6 384 768 (by decide) rfl (by decide) id (fun U V => k0_pay228 (k0_pay220 U V)) (fun U V r j => by unfold_payloads; pointwise; rfl) _ inb_S8x64x1024_S1x64x256_6_0_768 x
  · exact tile_at _ _ 5 320 768 (by decide) rfl (by decide) id (fun U V => k0_pay227 (k0_pay220 U V)) (fun U V r j => by unfold_payloads; pointwise; rfl) _ inb_S8x64x1024_S1x64x256_5_0_768 x
  · exact tile_at _ _ 4 256 768 (by decide) rfl (by decide) id (fun U V => k0_pay226 (k0_pay220 U V)) (fun U V r j => by unfold_payloads; pointwise; rfl) _ inb_S8x64x1024_S1x64x256_4_0_768 x
  · exact tile_at _ _ 3 192 768 (by decide) rfl (by decide) id (fun U V => k0_pay225 (k0_pay220 U V)) (fun U V r j => by unfold_payloads; pointwise; rfl) _ inb_S8x64x1024_S1x64x256_3_0_768 x
  · exact tile_at _ _ 2 128 768 (by decide) rfl (by decide) id (fun U V => k0_pay224 (k0_pay223 U V)) (fun U V r j => by unfold_payloads; pointwise; rfl) _ inb_S8x64x1024_S1x64x256_2_0_768 x
  · exact tile_at _ _ 1 64 768 (by decide) rfl (by decide) id (fun U V => k0_pay222 U V) (fun U V r j => by unfold_payloads; pointwise; rfl) _ inb_S8x64x1024_S1x64x256_1_0_768 x
  · exact tile_at _ _ 0 0 768 (by decide) rfl (by decide) id (fun U V => k0_pay221 U V) (fun U V r j => by unfold_payloads; pointwise; rfl) _ inb_S8x64x1024_S1x64x256_0_0_768 x
  · exact tile_at _ _ 7 448 512 (by decide) rfl (by decide) id (fun U V => k0_pay169 (k0_pay161 U V)) (fun U V r j => by unfold_payloads; pointwise; rfl) _ inb_S8x64x1024_S1x64x256_7_0_512 x
  · exact tile_at _ _ 6 384 512 (by decide) rfl (by decide) id (fun U V => k0_pay168 (k0_pay161 U V)) (fun U V r j => by unfold_payloads; pointwise; rfl) _ inb_S8x64x1024_S1x64x256_6_0_512 x
  · exact tile_at _ _ 5 320 512 (by decide) rfl (by decide) id (fun U V => k0_pay167 (k0_pay161 U V)) (fun U V r j => by unfold_payloads; pointwise; rfl) _ inb_S8x64x1024_S1x64x256_5_0_512 x
  · exact tile_at _ _ 4 256 512 (by decide) rfl (by decide) id (fun U V => k0_pay166 U V) (fun U V r j => by unfold_payloads; pointwise; rfl) _ inb_S8x64x1024_S1x64x256_4_0_512 x
  · exact tile_at _ _ 3 192 512 (by decide) rfl (by decide) id (fun U V => k0_pay165 U V) (fun U V r j => by unfold_payloads; pointwise; rfl) _ inb_S8x64x1024_S1x64x256_3_0_512 x
  · exact tile_at _ _ 2 128 512 (by decide) rfl (by decide) id (fun U V => k0_pay164 U V) (fun U V r j => by unfold_payloads; pointwise; rfl) _ inb_S8x64x1024_S1x64x256_2_0_512 x
  · exact tile_at _ _ 1 64 512 (by decide) rfl (by decide) id (fun U V => k0_pay163 U V) (fun U V r j => by unfold_payloads; pointwise; rfl) _ inb_S8x64x1024_S1x64x256_1_0_512 x
  · exact tile_at _ _ 0 0 512 (by decide) rfl (by decide) id (fun U V => k0_pay162 U V) (fun U V r j => by unfold_payloads; pointwise; rfl) _ inb_S8x64x1024_S1x64x256_0_0_512 x
  · exact tile_at _ _ 7 448 256 (by decide) rfl (by decide) id (fun U V => k0_pay110 (k0_pay109 U V)) (fun U V r j => by unfold_payloads; pointwise; rfl) _ inb_S8x64x1024_S1x64x256_7_0_256 x
  · exact tile_at _ _ 6 384 256 (by decide) rfl (by decide) id (fun U V => k0_pay108 U V) (fun U V r j => by unfold_payloads; pointwise; rfl) _ inb_S8x64x1024_S1x64x256_6_0_256 x
  · exact tile_at _ _ 5 320 256 (by decide) rfl (by decide) id (fun U V => k0_pay107 U V) (fun U V r j => by unfold_payloads; pointwise; rfl) _ inb_S8x64x1024_S1x64x256_5_0_256 x
  · exact tile_at _ _ 4 256 256 (by decide) rfl (by decide) id (fun U V => k0_pay106 U V) (fun U V r j => by unfold_payloads; pointwise; rfl) _ inb_S8x64x1024_S1x64x256_4_0_256 x
  · exact tile_at _ _ 3 192 256 (by decide) rfl (by decide) id (fun U V => k0_pay105 U V) (fun U V r j => by unfold_payloads; pointwise; rfl) _ inb_S8x64x1024_S1x64x256_3_0_256 x
  · exact tile_at _ _ 2 128 256 (by decide) rfl (by decide) id (fun U V => k0_pay104 U V) (fun U V r j => by unfold_payloads; pointwise; rfl) _ inb_S8x64x1024_S1x64x256_2_0_256 x
  · exact tile_at _ _ 1 64 256 (by decide) rfl (by decide) id (fun U V => k0_pay103 U V) (fun U V r j => by unfold_payloads; pointwise; rfl) _ inb_S8x64x1024_S1x64x256_1_0_256 x
  · exact tile_at _ _ 0 0 256 (by decide) rfl (by decide) id (fun U V => k0_pay102 U V) (fun U V r j => by unfold_payloads; pointwise; rfl) _ inb_S8x64x1024_S1x64x256_0_0_256 x
  · exact tile_at _ _ 7 448 0 (by decide) rfl (by decide) id (fun U V => k0_pay62 (k0_pay53 U V)) (fun U V r j => by unfold_payloads; pointwise; rfl) _ inb_S8x64x1024_S1x64x256_7_0_0 x
  · exact tile_at _ _ 6 384 0 (by decide) rfl (by decide) id (fun U V => k0_pay61 (k0_pay53 U V)) (fun U V r j => by unfold_payloads; pointwise; rfl) _ inb_S8x64x1024_S1x64x256_6_0_0 x
  · exact tile_at _ _ 5 320 0 (by decide) rfl (by decide) id (fun U V => k0_pay60 (k0_pay53 U V)) (fun U V r j => by unfold_payloads; pointwise; rfl) _ inb_S8x64x1024_S1x64x256_5_0_0 x
  · exact tile_at _ _ 4 256 0 (by decide) rfl (by decide) id (fun U V => k0_pay59 (k0_pay53 U V)) (fun U V r j => by unfold_payloads; pointwise; rfl) _ inb_S8x64x1024_S1x64x256_4_0_0 x
  · exact tile_at _ _ 3 192 0 (by decide) rfl (by decide) id (fun U V => k0_pay58 (k0_pay53 U V)) (fun U V r j => by unfold_payloads; pointwise; rfl) _ inb_S8x64x1024_S1x64x256_3_0_0 x
  · exact tile_at _ _ 2 128 0 (by decide) rfl (by decide) id (fun U V => k0_pay57 (k0_pay53 U V)) (fun U V r j => by unfold_payloads; pointwise; rfl) _ inb_S8x64x1024_S1x64x256_2_0_0 x
  · exact tile_at _ _ 1 64 0 (by decide) rfl (by decide) id (fun U V => k0_pay56 (k0_pay55 U V)) (fun U V r j => by unfold_payloads; pointwise; rfl) _ inb_S8x64x1024_S1x64x256_1_0_0 x
  · exact tile_at _ _ 0 0 0 (by decide) rfl (by decide) id (fun U V => k0_pay54 U V) (fun U V r j => by unfold_payloads; pointwise; rfl) _ inb_S8x64x1024_S1x64x256_0_0_0 x

theorem place10 (t : Fin cfg0.N) (y : S8x64x1024.Idx) : (win0_10.blk t).view.emb y
    = ix3 (⟨t.val * 8 + (y 0).val, by have : t.val < 2 := t.isLt; have := (y 0).isLt; simp at this; omega⟩ : Fin 16) (y 1) (y 2) := by
  obtain ⟨e0, e1, e2, e3, e4, e5, e6, e7, e8, e9, e10, e11, e12⟩ := idx t
  blk_ext [e10]

theorem final10 (c : Dev nD) : (dats m 0 c).arrAt 10 cfg0.N
    = value10 (m ((c : Thread nD τ).loc main_arg0)) (m ((c : Thread nD τ).loc main_arg1)) := by
  refine (dats m 0 c).arrAt_eq_of_covers 10 _ (by decide +kernel) fun t hf y => ?_
  blk_simp
  rw [after0_10, out10]
  refine Eq.trans ?_ (congrArg _ (place10 t y).symm)
  unfold dotBlk value10 dots
  simp only [read3]
  exact congrArg (fun f => dot f _ _) (funext fun k => read0 m c t (y 0) (y 1) k)

end Cert.InattSIdeal.Hand
end
-- ==== Proof.InattS.lean ====
/-
  What the gates of the attention projections of the running streams hold.
-/
module
public import proofs.«01_k».proof.Proof.Gen.InattSIdeal.Value
public import proofs.«01_k».proof.Proof.InattSA
public import proofs.«01_k».proof.Proof.InattSB
public import Idealize.ShloMosaic.Lib.Pipeline.ValueKit
public import Idealize.ShloMosaic.Lib.Claim
@[expose] public section
set_option maxRecDepth 16384
noncomputable section
namespace Cert.InattSIdeal.Hand
open Cert.InattSIdeal Cert.InattSIdeal.Gen Idealize.ShloMosaic Idealize.ShloMosaic.TcCoe Idealize.SL.Sem Cert.Rows
open Idealize.ShloMosaic.Pipeline (Dat)

variable (m : (ℓ : Loc nD τ sig) → Buf (Elt Ideal) ℓ)

/-- Result 5. -/
def value11 (a0 : Vec Ideal S16x64x1024 .f32) (a1 : Vec Ideal S1024x9216 .bf16) (i : S16x64x1024.Idx) : EReal :=
  sigm (dots 7168 (by decide) a0 a1 (i 0) (i 1) (i 2))

theorem out11 (c : Dev nD) (t : Fin cfg0.N) (y : S8x64x1024.Idx) :
    (outsAt0 m c t).2.2.2.2.2.1 y = gateBlk (iblk m c 0 t) (iblk m c 4 t) y := by
  unfold outsAt0
  dsimp only
  frame_out
  rw [stacked]
  refine View.canon_apply_of_pieces (Val := Elt Ideal) (e := .bf16) (gateBlk (iblk m c 0 t) (iblk m c 4 t)) _ ?_ y ?_
  swap; · exact View.cover_of_tiled _ ![1, 64, 256] (by rfl) y
  intro p hp x
  simp only [List.mem_cons, List.not_mem_nil, or_false] at hp
  rcases hp with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
  · exact tile_at _ _ 7 448 768 (by decide) rfl (by decide) sigm (fun U V => k0_pay259 (k0_pay250 U V)) (fun U V r j => by unfold_payloads; pointwise [sigm]; simp only [zero_sub]) _ inb_S8x64x1024_S1x64x256_7_0_768 x
  · exact tile_at _ _ 6 384 768 (by decide) rfl (by decide) sigm (fun U V => k0_pay258 (k0_pay250 U V)) (fun U V r j => by unfold_payloads; pointwise [sigm]; simp only [zero_sub]) _ inb_S8x64x1024_S1x64x256_6_0_768 x
  · exact tile_at _ _ 5 320 768 (by decide) rfl (by decide) sigm (fun U V => k0_pay257 (k0_pay250 U V)) (fun U V r j => by unfold_payloads; pointwise [sigm]; simp only [zero_sub]) _ inb_S8x64x1024_S1x64x256_5_0_768 x
  · exact tile_at _ _ 4 256 768 (by decide) rfl (by decide) sigm (fun U V => k0_pay256 (k0_pay250 U V)) (fun U V r j => by unfold_payloads; pointwise [sigm]; simp only [zero_sub]) _ inb_S8x64x1024_S1x64x256_4_0_768 x
  · exact tile_at _ _ 3 192 768 (by decide) rfl (by decide) sigm (fun U V => k0_pay255 (k0_pay254 U V)) (fun U V r j => by unfold_payloads; pointwise [sigm]; simp only [zero_sub]) _ inb_S8x64x1024_S1x64x256_3_0_768 x
  · exact tile_at _ _ 2 128 768 (by decide) rfl (by decide) sigm (fun U V => k0_pay253 U V) (fun U V r j => by unfold_payloads; pointwise [sigm]; simp only [zero_sub]) _ inb_S8x64x1024_S1x64x256_2_0_768 x
  · exact tile_at _ _ 1 64 768 (by decide) rfl (by decide) sigm (fun U V => k0_pay252 U V) (fun U V r j => by unfold_payloads; pointwise [sigm]; simp only [zero_sub]) _ inb_S8x64x1024_S1x64x256_1_0_768 x
  · exact tile_at _ _ 0 0 768 (by decide) rfl (by decide) sigm (fun U V => k0_pay251 U V) (fun U V r j => by unfold_payloads; pointwise [sigm]; simp only [zero_sub]) _ inb_S8x64x1024_S1x64x256_0_0_768 x
  · exact tile_at _ _ 7 448 512 (by decide) rfl (by decide) sigm (fun U V => k0_pay189 (k0_pay180 U V)) (fun U V r j => by unfold_payloads; pointwise [sigm]; simp only [zero_sub]) _ inb_S8x64x1024_S1x64x256_7_0_512 x
  · exact tile_at _ _ 6 384 512 (by decide) rfl (by decide) sigm (fun U V => k0_pay188 (k0_pay180 U V)) (fun U V r j => by unfold_payloads; pointwise [sigm]; simp only [zero_sub]) _ inb_S8x64x1024_S1x64x256_6_0_512 x
  · exact tile_at _ _ 5 320 512 (by decide) rfl (by decide) sigm (fun U V => k0_pay187 (k0_pay180 U V)) (fun U V r j => by unfold_payloads; pointwise [sigm]; simp only [zero_sub]) _ inb_S8x64x1024_S1x64x256_5_0_512 x
  · exact tile_at _ _ 4 256 512 (by decide) rfl (by decide) sigm (fun U V => k0_pay186 (k0_pay180 U V)) (fun U V r j => by unfold_payloads; pointwise [sigm]; simp only [zero_sub]) _ inb_S8x64x1024_S1x64x256_4_0_512 x
  · exact tile_at _ _ 3 192 512 (by decide) rfl (by decide) sigm (fun U V => k0_pay185 (k0_pay180 U V)) (fun U V r j => by unfold_payloads; pointwise [sigm]; simp only [zero_sub]) _ inb_S8x64x1024_S1x64x256_3_0_512 x
  · exact tile_at _ _ 2 128 512 (by decide) rfl (by decide) sigm (fun U V => k0_pay184 (k0_pay180 U V)) (fun U V r j => by unfold_payloads; pointwise [sigm]; simp only [zero_sub]) _ inb_S8x64x1024_S1x64x256_2_0_512 x
  · exact tile_at _ _ 1 64 512 (by decide) rfl (by decide) sigm (fun U V => k0_pay183 (k0_pay182 U V)) (fun U V r j => by unfold_payloads; pointwise [sigm]; simp only [zero_sub]) _ inb_S8x64x1024_S1x64x256_1_0_512 x
  · exact tile_at _ _ 0 0 512 (by decide) rfl (by decide) sigm (fun U V => k0_pay181 U V) (fun U V r j => by unfold_payloads; pointwise [sigm]; simp only [zero_sub]) _ inb_S8x64x1024_S1x64x256_0_0_512 x
  · exact tile_at _ _ 7 448 256 (by decide) rfl (by decide) sigm (fun U V => k0_pay100 (k0_pay91 U V)) (fun U V r j => by unfold_payloads; pointwise [sigm]; simp only [zero_sub]) _ inb_S8x64x1024_S1x64x256_7_0_256 x
  · exact tile_at _ _ 6 384 256 (by decide) rfl (by decide) sigm (fun U V => k0_pay99 (k0_pay91 U V)) (fun U V r j => by unfold_payloads; pointwise [sigm]; simp only [zero_sub]) _ inb_S8x64x1024_S1x64x256_6_0_256 x
  · exact tile_at _ _ 5 320 256 (by decide) rfl (by decide) sigm (fun U V => k0_pay98 (k0_pay91 U V)) (fun U V r j => by unfold_payloads; pointwise [sigm]; simp only [zero_sub]) _ inb_S8x64x1024_S1x64x256_5_0_256 x
  · exact tile_at _ _ 4 256 256 (by decide) rfl (by decide) sigm (fun U V => k0_pay97 (k0_pay91 U V)) (fun U V r j => by unfold_payloads; pointwise [sigm]; simp only [zero_sub]) _ inb_S8x64x1024_S1x64x256_4_0_256 x
  · exact tile_at _ _ 3 192 256 (by decide) rfl (by decide) sigm (fun U V => k0_pay96 (k0_pay91 U V)) (fun U V r j => by unfold_payloads; pointwise [sigm]; simp only [zero_sub]) _ inb_S8x64x1024_S1x64x256_3_0_256 x
  · exact tile_at _ _ 2 128 256 (by decide) rfl (by decide) sigm (fun U V => k0_pay95 (k0_pay91 U V)) (fun U V r j => by unfold_payloads; pointwise [sigm]; simp only [zero_sub]) _ inb_S8x64x1024_S1x64x256_2_0_256 x
  · exact tile_at _ _ 1 64 256 (by decide) rfl (by decide) sigm (fun U V => k0_pay94 (k0_pay93 U V)) (fun U V r j => by unfold_payloads; pointwise [sigm]; simp only [zero_sub]) _ inb_S8x64x1024_S1x64x256_1_0_256 x
  · exact tile_at _ _ 0 0 256 (by decide) rfl (by decide) sigm (fun U V => k0_pay92 U V) (fun U V r j => by unfold_payloads; pointwise [sigm]; simp only [zero_sub]) _ inb_S8x64x1024_S1x64x256_0_0_256 x
  · exact tile_at _ _ 7 448 0 (by decide) rfl (by decide) sigm (fun U V => k0_pay22 (k0_pay13 U V)) (fun U V r j => by unfold_payloads; pointwise [sigm]; simp only [zero_sub]) _ inb_S8x64x1024_S1x64x256_7_0_0 x
  · exact tile_at _ _ 6 384 0 (by decide) rfl (by decide) sigm (fun U V => k0_pay21 (k0_pay13 U V)) (fun U V r j => by unfold_payloads; pointwise [sigm]; simp only [zero_sub]) _ inb_S8x64x1024_S1x64x256_6_0_0 x
  · exact tile_at _ _ 5 320 0 (by decide) rfl (by decide) sigm (fun U V => k0_pay20 (k0_pay13 U V)) (fun U V r j => by unfold_payloads; pointwise [sigm]; simp only [zero_sub]) _ inb_S8x64x1024_S1x64x256_5_0_0 x
  · exact tile_at _ _ 4 256 0 (by decide) rfl (by decide) sigm (fun U V => k0_pay19 (k0_pay13 U V)) (fun U V r j => by unfold_payloads; pointwise [sigm]; simp only [zero_sub]) _ inb_S8x64x1024_S1x64x256_4_0_0 x
  · exact tile_at _ _ 3 192 0 (by decide) rfl (by decide) sigm (fun U V => k0_pay18 (k0_pay13 U V)) (fun U V r j => by unfold_payloads; pointwise [sigm]; simp only [zero_sub]) _ inb_S8x64x1024_S1x64x256_3_0_0 x
  · exact tile_at _ _ 2 128 0 (by decide) rfl (by decide) sigm (fun U V => k0_pay17 (k0_pay13 U V)) (fun U V r j => by unfold_payloads; pointwise [sigm]; simp only [zero_sub]) _ inb_S8x64x1024_S1x64x256_2_0_0 x
  · exact tile_at _ _ 1 64 0 (by decide) rfl (by decide) sigm (fun U V => k0_pay16 (k0_pay13 U V)) (fun U V r j => by unfold_payloads; pointwise [sigm]; simp only [zero_sub]) _ inb_S8x64x1024_S1x64x256_1_0_0 x
  · exact tile_at _ _ 0 0 0 (by decide) rfl (by decide) sigm (fun U V => k0_pay15 (k0_pay14 U V)) (fun U V r j => by unfold_payloads; pointwise [sigm]; simp only [zero_sub]) _ inb_S8x64x1024_S1x64x256_0_0_0 x

theorem place11 (t : Fin cfg0.N) (y : S8x64x1024.Idx) : (win0_11.blk t).view.emb y
    = ix3 (⟨t.val * 8 + (y 0).val, by have : t.val < 2 := t.isLt; have := (y 0).isLt; simp at this; omega⟩ : Fin 16) (y 1) (y 2) := by
  obtain ⟨e0, e1, e2, e3, e4, e5, e6, e7, e8, e9, e10, e11, e12⟩ := idx t
  blk_ext [e11]

theorem final11 (c : Dev nD) : (dats m 0 c).arrAt 11 cfg0.N
    = value11 (m ((c : Thread nD τ).loc main_arg0)) (m ((c : Thread nD τ).loc main_arg1)) := by
  refine (dats m 0 c).arrAt_eq_of_covers 11 _ (by decide +kernel) fun t hf y => ?_
  blk_simp
  rw [after0_11, out11]
  refine Eq.trans ?_ (congrArg _ (place11 t y).symm)
  unfold gateBlk dotBlk value11 dots
  simp only [read4]
  exact congrArg (fun f => sigm (dot f _ _)) (funext fun k => read0 m c t (y 0) (y 1) k)

/-- Result 6. -/
def value12 (a0 : Vec Ideal S16x64x1024 .f32) (a1 : Vec Ideal S1024x9216 .bf16) (i : S16x64x1024.Idx) : EReal :=
  sigm (dots 8192 (by decide) a0 a1 (i 0) (i 1) (i 2))

theorem out12 (c : Dev nD) (t : Fin cfg0.N) (y : S8x64x1024.Idx) :
    (outsAt0 m c t).2.2.2.2.2.2 y = gateBlk (iblk m c 0 t) (iblk m c 5 t) y := by
  unfold outsAt0
  dsimp only
  frame_out
  rw [stacked]
  refine View.canon_apply_of_pieces (Val := Elt Ideal) (e := .bf16) (gateBlk (iblk m c 0 t) (iblk m c 5 t)) _ ?_ y ?_
  swap; · exact View.cover_of_tiled _ ![1, 64, 256] (by rfl) y
  intro p hp x
  simp only [List.mem_cons, List.not_mem_nil, or_false] at hp
  rcases hp with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
  · exact tile_at _ _ 7 448 768 (by decide) rfl (by decide) sigm (fun U V => k0_pay3 (k0_pay280 U V)) (fun U V r j => by unfold_payloads; pointwise [sigm]; simp only [zero_sub]) _ inb_S8x64x1024_S1x64x256_7_0_768 x
  · exact tile_at _ _ 6 384 768 (by decide) rfl (by decide) sigm (fun U V => k0_pay2 (k0_pay280 U V)) (fun U V r j => by unfold_payloads; pointwise [sigm]; simp only [zero_sub]) _ inb_S8x64x1024_S1x64x256_6_0_768 x
  · exact tile_at _ _ 5 320 768 (by decide) rfl (by decide) sigm (fun U V => k0_pay1 (k0_pay286 U V)) (fun U V r j => by unfold_payloads; pointwise [sigm]; simp only [zero_sub]) _ inb_S8x64x1024_S1x64x256_5_0_768 x
  · exact tile_at _ _ 4 256 768 (by decide) rfl (by decide) sigm (fun U V => k0_pay285 U V) (fun U V r j => by unfold_payloads; pointwise [sigm]; simp only [zero_sub]) _ inb_S8x64x1024_S1x64x256_4_0_768 x
  · exact tile_at _ _ 3 192 768 (by decide) rfl (by decide) sigm (fun U V => k0_pay284 U V) (fun U V r j => by unfold_payloads; pointwise [sigm]; simp only [zero_sub]) _ inb_S8x64x1024_S1x64x256_3_0_768 x
  · exact tile_at _ _ 2 128 768 (by decide) rfl (by decide) sigm (fun U V => k0_pay283 U V) (fun U V r j => by unfold_payloads; pointwise [sigm]; simp only [zero_sub]) _ inb_S8x64x1024_S1x64x256_2_0_768 x
  · exact tile_at _ _ 1 64 768 (by decide) rfl (by decide) sigm (fun U V => k0_pay282 U V) (fun U V r j => by unfold_payloads; pointwise [sigm]; simp only [zero_sub]) _ inb_S8x64x1024_S1x64x256_1_0_768 x
  · exact tile_at _ _ 0 0 768 (by decide) rfl (by decide) sigm (fun U V => k0_pay281 U V) (fun U V r j => by unfold_payloads; pointwise [sigm]; simp only [zero_sub]) _ inb_S8x64x1024_S1x64x256_0_0_768 x
  · exact tile_at _ _ 7 448 512 (by decide) rfl (by decide) sigm (fun U V => k0_pay249 (k0_pay240 (k0_pay239 U V))) (fun U V r j => by unfold_payloads; pointwise [sigm]; simp only [zero_sub]) _ inb_S8x64x1024_S1x64x256_7_0_512 x
  · exact tile_at _ _ 6 384 512 (by decide) rfl (by decide) sigm (fun U V => k0_pay248 (k0_pay247 (k0_pay239 U V))) (fun U V r j => by unfold_payloads; pointwise [sigm]; simp only [zero_sub]) _ inb_S8x64x1024_S1x64x256_6_0_512 x
  · exact tile_at _ _ 5 320 512 (by decide) rfl (by decide) sigm (fun U V => k0_pay246 (k0_pay239 U V)) (fun U V r j => by unfold_payloads; pointwise [sigm]; simp only [zero_sub]) _ inb_S8x64x1024_S1x64x256_5_0_512 x
  · exact tile_at _ _ 4 256 512 (by decide) rfl (by decide) sigm (fun U V => k0_pay245 (k0_pay239 U V)) (fun U V r j => by unfold_payloads; pointwise [sigm]; simp only [zero_sub]) _ inb_S8x64x1024_S1x64x256_4_0_512 x
  · exact tile_at _ _ 3 192 512 (by decide) rfl (by decide) sigm (fun U V => k0_pay244 (k0_pay239 U V)) (fun U V r j => by unfold_payloads; pointwise [sigm]; simp only [zero_sub]) _ inb_S8x64x1024_S1x64x256_3_0_512 x
  · exact tile_at _ _ 2 128 512 (by decide) rfl (by decide) sigm (fun U V => k0_pay243 (k0_pay239 U V)) (fun U V r j => by unfold_payloads; pointwise [sigm]; simp only [zero_sub]) _ inb_S8x64x1024_S1x64x256_2_0_512 x
  · exact tile_at _ _ 1 64 512 (by decide) rfl (by decide) sigm (fun U V => k0_pay242 (k0_pay239 U V)) (fun U V r j => by unfold_payloads; pointwise [sigm]; simp only [zero_sub]) _ inb_S8x64x1024_S1x64x256_1_0_512 x
  · exact tile_at _ _ 0 0 512 (by decide) rfl (by decide) sigm (fun U V => k0_pay241 (k0_pay239 U V)) (fun U V r j => by unfold_payloads; pointwise [sigm]; simp only [zero_sub]) _ inb_S8x64x1024_S1x64x256_0_0_512 x
  · exact tile_at _ _ 7 448 256 (by decide) rfl (by decide) sigm (fun U V => k0_pay160 (k0_pay151 (k0_pay149 U V) k0_pay150)) (fun U V r j => by unfold_payloads; pointwise [sigm]; simp only [zero_sub]) _ inb_S8x64x1024_S1x64x256_7_0_256 x
  · exact tile_at _ _ 6 384 256 (by decide) rfl (by decide) sigm (fun U V => k0_pay159 (k0_pay158 (k0_pay149 U V) k0_pay150)) (fun U V r j => by unfold_payloads; pointwise [sigm]; simp only [zero_sub]) _ inb_S8x64x1024_S1x64x256_6_0_256 x
  · exact tile_at _ _ 5 320 256 (by decide) rfl (by decide) sigm (fun U V => k0_pay157 (k0_pay149 U V) k0_pay150) (fun U V r j => by unfold_payloads; pointwise [sigm]; simp only [zero_sub]) _ inb_S8x64x1024_S1x64x256_5_0_256 x
  · exact tile_at _ _ 4 256 256 (by decide) rfl (by decide) sigm (fun U V => k0_pay156 (k0_pay149 U V) k0_pay150) (fun U V r j => by unfold_payloads; pointwise [sigm]; simp only [zero_sub]) _ inb_S8x64x1024_S1x64x256_4_0_256 x
  · exact tile_at _ _ 3 192 256 (by decide) rfl (by decide) sigm (fun U V => k0_pay155 (k0_pay149 U V) k0_pay150) (fun U V r j => by unfold_payloads; pointwise [sigm]; simp only [zero_sub]) _ inb_S8x64x1024_S1x64x256_3_0_256 x
  · exact tile_at _ _ 2 128 256 (by decide) rfl (by decide) sigm (fun U V => k0_pay154 (k0_pay149 U V) k0_pay150) (fun U V r j => by unfold_payloads; pointwise [sigm]; simp only [zero_sub]) _ inb_S8x64x1024_S1x64x256_2_0_256 x
  · exact tile_at _ _ 1 64 256 (by decide) rfl (by decide) sigm (fun U V => k0_pay153 (k0_pay149 U V) k0_pay150) (fun U V r j => by unfold_payloads; pointwise [sigm]; simp only [zero_sub]) _ inb_S8x64x1024_S1x64x256_1_0_256 x
  · exact tile_at _ _ 0 0 256 (by decide) rfl (by decide) sigm (fun U V => k0_pay152 (k0_pay149 U V) k0_pay150) (fun U V r j => by unfold_payloads; pointwise [sigm]; simp only [zero_sub]) _ inb_S8x64x1024_S1x64x256_0_0_256 x
  · exact tile_at _ _ 7 448 0 (by decide) rfl (by decide) sigm (fun U V => k0_pay81 (k0_pay72 U V)) (fun U V r j => by unfold_payloads; pointwise [sigm]; simp only [zero_sub]) _ inb_S8x64x1024_S1x64x256_7_0_0 x
  · exact tile_at _ _ 6 384 0 (by decide) rfl (by decide) sigm (fun U V => k0_pay80 (k0_pay72 U V)) (fun U V r j => by unfold_payloads; pointwise [sigm]; simp only [zero_sub]) _ inb_S8x64x1024_S1x64x256_6_0_0 x
  · exact tile_at _ _ 5 320 0 (by decide) rfl (by decide) sigm (fun U V => k0_pay79 (k0_pay78 U V)) (fun U V r j => by unfold_payloads; pointwise [sigm]; simp only [zero_sub]) _ inb_S8x64x1024_S1x64x256_5_0_0 x
  · exact tile_at _ _ 4 256 0 (by decide) rfl (by decide) sigm (fun U V => k0_pay77 U V) (fun U V r j => by unfold_payloads; pointwise [sigm]; simp only [zero_sub]) _ inb_S8x64x1024_S1x64x256_4_0_0 x
  · exact tile_at _ _ 3 192 0 (by decide) rfl (by decide) sigm (fun U V => k0_pay76 U V) (fun U V r j => by unfold_payloads; pointwise [sigm]; simp only [zero_sub]) _ inb_S8x64x1024_S1x64x256_3_0_0 x
  · exact tile_at _ _ 2 128 0 (by decide) rfl (by decide) sigm (fun U V => k0_pay75 U V) (fun U V r j => by unfold_payloads; pointwise [sigm]; simp only [zero_sub]) _ inb_S8x64x1024_S1x64x256_2_0_0 x
  · exact tile_at _ _ 1 64 0 (by decide) rfl (by decide) sigm (fun U V => k0_pay74 U V) (fun U V r j => by unfold_payloads; pointwise [sigm]; simp only [zero_sub]) _ inb_S8x64x1024_S1x64x256_1_0_0 x
  · exact tile_at _ _ 0 0 0 (by decide) rfl (by decide) sigm (fun U V => k0_pay73 U V) (fun U V r j => by unfold_payloads; pointwise [sigm]; simp only [zero_sub]) _ inb_S8x64x1024_S1x64x256_0_0_0 x

theorem place12 (t : Fin cfg0.N) (y : S8x64x1024.Idx) : (win0_12.blk t).view.emb y
    = ix3 (⟨t.val * 8 + (y 0).val, by have : t.val < 2 := t.isLt; have := (y 0).isLt; simp at this; omega⟩ : Fin 16) (y 1) (y 2) := by
  obtain ⟨e0, e1, e2, e3, e4, e5, e6, e7, e8, e9, e10, e11, e12⟩ := idx t
  blk_ext [e12]

theorem final12 (c : Dev nD) : (dats m 0 c).arrAt 12 cfg0.N
    = value12 (m ((c : Thread nD τ).loc main_arg0)) (m ((c : Thread nD τ).loc main_arg1)) := by
  refine (dats m 0 c).arrAt_eq_of_covers 12 _ (by decide +kernel) fun t hf y => ?_
  blk_simp
  rw [after0_12, out12]
  refine Eq.trans ?_ (congrArg _ (place12 t y).symm)
  unfold gateBlk dotBlk value12 dots
  simp only [read5]
  exact congrArg (fun f => sigm (dot f _ _)) (funext fun k => read0 m c t (y 0) (y 1) k)

end Cert.InattSIdeal.Hand
end
-- ==== Proof.InattSRef.lean ====
/-
  The attention projections of the running streams as the reference writes them, read entry by entry.
-/
module
public import proofs.«01_k».proof.Proof.Gen.InattSRefIdeal.Read
public import proofs.«01_k».proof.Proof.InattS
@[expose] public section
set_option maxRecDepth 16384
noncomputable section
namespace Cert.InattSRefIdeal.Hand
open Cert.InattSRefIdeal Cert.InattSRefIdeal.Gen Cert.InattSRefIdeal.Read Idealize.ShloMosaic Idealize.ShloMosaic.TcCoe Idealize.SL.Sem Cert.Rows

variable (a0 : Vec Ideal S16x64x1024 .f32) (a1 : Vec Ideal S1024x9216 .bf16)

theorem proj_apply (b : Fin 16) (t : Fin 64) (j : Fin 9216) : val_main_v1 (F := Ideal) a0 a1 (ix3 b t j)
    = ∑ k : Fin 1024, a0 (ix3 b t k) * a1 (ix2 k j) := by
  pointwise [val_main_v0, val_main_v1]

theorem result6 (b : Fin 16) (t : Fin 64) (j : Fin 1024) : val_main_v8 (F := Ideal) a0 a1 (ix3 b t j)
    = InattSIdeal.Hand.value6 a0 a1 (ix3 b t j) := by
  pointwise [val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_cst, val_main_cst_0, val_main_cst_1, val_main_cst_2, proj_apply, InattSIdeal.Hand.value6, InattSIdeal.Hand.dots, dot]

theorem result7 (b : Fin 16) (t : Fin 64) (j : Fin 1024) : val_main_v10 (F := Ideal) a0 a1 (ix3 b j t)
    = InattSIdeal.Hand.value7 a0 a1 (ix3 b j t) := by
  pointwise [val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_cst, val_main_cst_0, val_main_cst_1, val_main_cst_2, proj_apply, InattSIdeal.Hand.value7, InattSIdeal.Hand.dots, dot]
  simp only [← Nat.add_assoc, Nat.reduceAdd]

theorem result8 (b : Fin 16) (t : Fin 64) (j : Fin 1024) : val_main_v11 (F := Ideal) a0 a1 (ix3 b t j)
    = InattSIdeal.Hand.value8 a0 a1 (ix3 b t j) := by
  pointwise [val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_cst, val_main_cst_0, val_main_cst_1, val_main_cst_2, proj_apply, InattSIdeal.Hand.value8, InattSIdeal.Hand.dots, dot]
  simp only [← Nat.add_assoc, Nat.reduceAdd]

theorem result9 (b : Fin 16) (t : Fin 64) (j : Fin 1024) : val_main_v4 (F := Ideal) a0 a1 (ix3 b t j)
    = InattSIdeal.Hand.value9 a0 a1 (ix3 b t j) := by
  pointwise [val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_cst, val_main_cst_0, val_main_cst_1, val_main_cst_2, proj_apply, InattSIdeal.Hand.value9, InattSIdeal.Hand.dots, dot]
  simp only [← Nat.add_assoc, Nat.reduceAdd]

theorem result10 (b : Fin 16) (t : Fin 64) (j : Fin 1024) : val_main_v5 (F := Ideal) a0 a1 (ix3 b t j)
    = InattSIdeal.Hand.value10 a0 a1 (ix3 b t j) := by
  pointwise [val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_cst, val_main_cst_0, val_main_cst_1, val_main_cst_2, proj_apply, InattSIdeal.Hand.value10, InattSIdeal.Hand.dots, dot]
  simp only [← Nat.add_assoc, Nat.reduceAdd]

theorem result11 (b : Fin 16) (t : Fin 64) (j : Fin 1024) : val_main_v18 (F := Ideal) a0 a1 (ix3 b t j)
    = InattSIdeal.Hand.value11 a0 a1 (ix3 b t j) := by
  pointwise [val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_cst, val_main_cst_0, val_main_cst_1, val_main_cst_2, proj_apply, InattSIdeal.Hand.value11, InattSIdeal.Hand.dots, dot, sigm]
  simp only [← Nat.add_assoc, Nat.reduceAdd]

theorem result12 (b : Fin 16) (t : Fin 64) (j : Fin 1024) : val_main_v25 (F := Ideal) a0 a1 (ix3 b t j)
    = InattSIdeal.Hand.value12 a0 a1 (ix3 b t j) := by
  pointwise [val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_cst, val_main_cst_0, val_main_cst_1, val_main_cst_2, proj_apply, InattSIdeal.Hand.value12, InattSIdeal.Hand.dots, dot, sigm]
  simp only [← Nat.add_assoc, Nat.reduceAdd]

end Cert.InattSRefIdeal.Hand
end
-- ==== Proof.InattSClaim.lean ====
/-
  The claims about the attention projections of the running streams: the programs run and leave their arguments alone, and the kernel's results
  are the reference's.
-/
module
public import proofs.«01_k».proof.Defs
public import proofs.«01_k».proof.Proof.Gen.InattS
public import proofs.«01_k».proof.Proof.Gen.InattS.Frame
public import proofs.«01_k».proof.Proof.Gen.InattSIdeal
public import proofs.«01_k».proof.Proof.Gen.InattSIdeal.Frame
public import proofs.«01_k».proof.Proof.Gen.InattSRefIdeal.Run
public import proofs.«01_k».proof.Proof.InattS
public import proofs.«01_k».proof.Proof.InattSRef
public import Idealize.ShloMosaic.Lib.Quiescent
@[expose] public section
noncomputable section
namespace Cert.InattSClaim
open Idealize.ShloMosaic Idealize.ShloMosaic.TcCoe Idealize.SL.Sem

theorem quiet_ref : quiescent_InattSRefIdeal (hInattSRefIdeal := InattSRefIdeal.Gen.facts) := fun m g _ =>
  (θ_run InattSRefIdeal.defs _ _).mono
    (fun r h => ⟨fun c => (h c).2.2.2.2.2.2.2, Idealize.ShloMosaic.sem_eq_zero_of_no_sems (by decide) r.2⟩)
    (InattSRefIdeal.Value.run (F := Ideal) m g)

theorem equal : algebraic_InattSIdeal_InattSRefIdeal (hInattSIdeal := InattSIdeal.Gen.facts) (hInattSRefIdeal := InattSRefIdeal.Gen.facts) := by
  intro m g m' g' _ hagree
  refine ⟨fun c => InattSIdeal.Hand.value6 (m ((c.tc : Thread InattSIdeal.nD InattSIdeal.τ).loc InattSIdeal.main_arg0)) (m ((c.tc : Thread InattSIdeal.nD InattSIdeal.τ).loc InattSIdeal.main_arg1)),
    fun c => InattSIdeal.Hand.value7 (m ((c.tc : Thread InattSIdeal.nD InattSIdeal.τ).loc InattSIdeal.main_arg0)) (m ((c.tc : Thread InattSIdeal.nD InattSIdeal.τ).loc InattSIdeal.main_arg1)),
    fun c => InattSIdeal.Hand.value8 (m ((c.tc : Thread InattSIdeal.nD InattSIdeal.τ).loc InattSIdeal.main_arg0)) (m ((c.tc : Thread InattSIdeal.nD InattSIdeal.τ).loc InattSIdeal.main_arg1)),
    fun c => InattSIdeal.Hand.value9 (m ((c.tc : Thread InattSIdeal.nD InattSIdeal.τ).loc InattSIdeal.main_arg0)) (m ((c.tc : Thread InattSIdeal.nD InattSIdeal.τ).loc InattSIdeal.main_arg1)),
    fun c => InattSIdeal.Hand.value10 (m ((c.tc : Thread InattSIdeal.nD InattSIdeal.τ).loc InattSIdeal.main_arg0)) (m ((c.tc : Thread InattSIdeal.nD InattSIdeal.τ).loc InattSIdeal.main_arg1)),
    fun c => InattSIdeal.Hand.value11 (m ((c.tc : Thread InattSIdeal.nD InattSIdeal.τ).loc InattSIdeal.main_arg0)) (m ((c.tc : Thread InattSIdeal.nD InattSIdeal.τ).loc InattSIdeal.main_arg1)),
    fun c => InattSIdeal.Hand.value12 (m ((c.tc : Thread InattSIdeal.nD InattSIdeal.τ).loc InattSIdeal.main_arg0)) (m ((c.tc : Thread InattSIdeal.nD InattSIdeal.τ).loc InattSIdeal.main_arg1)), ?_, ?_⟩
  · exact (θ_run InattSIdeal.defs _ _).mono (fun r h c => ⟨(h c).1.trans (InattSIdeal.Hand.final6 m c), (h c).2.1.trans (InattSIdeal.Hand.final7 m c), (h c).2.2.1.trans (InattSIdeal.Hand.final8 m c), (h c).2.2.2.1.trans (InattSIdeal.Hand.final9 m c), (h c).2.2.2.2.1.trans (InattSIdeal.Hand.final10 m c), (h c).2.2.2.2.2.1.trans (InattSIdeal.Hand.final11 m c), (h c).2.2.2.2.2.2.1.trans (InattSIdeal.Hand.final12 m c), (h c).2.2.2.2.2.2.2⟩)
      (InattSIdeal.Value.run_blocks m g)
  · refine (θ_run InattSRefIdeal.defs _ _).mono (fun r h c => ?_) (InattSRefIdeal.Value.run (F := Ideal) m' g')
    obtain ⟨e0, e1⟩ := hagree c
    refine ⟨(h c).1.trans ?_, (h c).2.1.trans ?_, (h c).2.2.1.trans ?_, (h c).2.2.2.1.trans ?_, (h c).2.2.2.2.1.trans ?_, (h c).2.2.2.2.2.1.trans ?_, (h c).2.2.2.2.2.2.1.trans ?_, (h c).2.2.2.2.2.2.2⟩
    · refine (InattSRefIdeal.Read.val_main_v8_eq _ _ ).trans ?_
      rw [e0, e1]
      funext i
      refine (congrArg _ (eq_ix3 i)).trans (Eq.trans ?_ (congrArg _ (eq_ix3 i)).symm)
      exact InattSRefIdeal.Hand.result6 _ _ (i 0) (i 1) (i 2)
    · refine (InattSRefIdeal.Read.val_main_v10_eq _ _ ).trans ?_
      rw [e0, e1]
      funext i
      refine (congrArg _ (eq_ix3 i)).trans (Eq.trans ?_ (congrArg _ (eq_ix3 i)).symm)
      exact InattSRefIdeal.Hand.result7 _ _ (i 0) (i 2) (i 1)
    · refine (InattSRefIdeal.Read.val_main_v11_eq _ _ ).trans ?_
      rw [e0, e1]
      funext i
      refine (congrArg _ (eq_ix3 i)).trans (Eq.trans ?_ (congrArg _ (eq_ix3 i)).symm)
      exact InattSRefIdeal.Hand.result8 _ _ (i 0) (i 1) (i 2)
    · refine (InattSRefIdeal.Read.val_main_v4_eq _ _ ).trans ?_
      rw [e0, e1]
      funext i
      refine (congrArg _ (eq_ix3 i)).trans (Eq.trans ?_ (congrArg _ (eq_ix3 i)).symm)
      exact InattSRefIdeal.Hand.result9 _ _ (i 0) (i 1) (i 2)
    · refine (InattSRefIdeal.Read.val_main_v5_eq _ _ ).trans ?_
      rw [e0, e1]
      funext i
      refine (congrArg _ (eq_ix3 i)).trans (Eq.trans ?_ (congrArg _ (eq_ix3 i)).symm)
      exact InattSRefIdeal.Hand.result10 _ _ (i 0) (i 1) (i 2)
    · refine (InattSRefIdeal.Read.val_main_v18_eq _ _ ).trans ?_
      rw [e0, e1]
      funext i
      refine (congrArg _ (eq_ix3 i)).trans (Eq.trans ?_ (congrArg _ (eq_ix3 i)).symm)
      exact InattSRefIdeal.Hand.result11 _ _ (i 0) (i 1) (i 2)
    · refine (InattSRefIdeal.Read.val_main_v25_eq _ _ ).trans ?_
      rw [e0, e1]
      funext i
      refine (congrArg _ (eq_ix3 i)).trans (Eq.trans ?_ (congrArg _ (eq_ix3 i)).symm)
      exact InattSRefIdeal.Hand.result12 _ _ (i 0) (i 1) (i 2)

end Cert.InattSClaim
end
-- ==== Proof.lean ====
module

public import proofs.«01_k».proof.Defs
public import proofs.«01_k».proof.Proof.FfnClaim
public import proofs.«01_k».proof.Proof.MixClaim
public import proofs.«01_k».proof.Proof.InattClaim
public import proofs.«01_k».proof.Proof.CachedClaim
public import proofs.«01_k».proof.Proof.Gen.Pre_finite_scores
public import proofs.«01_k».proof.Proof.FfnSClaim
public import proofs.«01_k».proof.Proof.MlsClaim
public import proofs.«01_k».proof.Proof.Gen.Pre_finite_gates
public import proofs.«01_k».proof.Proof.InattSClaim

@[expose] public section

noncomputable section

namespace Cert.Proof

theorem claim : Cert.Claim := ⟨Ffn.Gen.facts,
  FfnIdeal.Gen.facts,
  FfnRefIdeal.Gen.facts,
  Mix.Gen.facts,
  MixIdeal.Gen.facts,
  MixRefIdeal.Gen.facts,
  Inatt.Gen.facts,
  InattIdeal.Gen.facts,
  InattRefIdeal.Gen.facts,
  Cached.Gen.facts,
  CachedIdeal.Gen.facts,
  CachedRefIdeal.Gen.facts,
  FfnS.Gen.facts,
  FfnSIdeal.Gen.facts,
  FfnSRefIdeal.Gen.facts,
  Mls.Gen.facts,
  MlsIdeal.Gen.facts,
  MlsRefIdeal.Gen.facts,
  InattS.Gen.facts,
  InattSIdeal.Gen.facts,
  InattSRefIdeal.Gen.facts,
  Pre_finite_scores.Gen.facts,
  Pre_finite_gates.Gen.facts,
  fun m g _ => Ffn.Gen.frame m g,
  fun m g _ => FfnIdeal.Gen.frame m g,
  FfnClaim.quiet_ref,
  fun m g _ => Mix.Gen.frame m g,
  fun m g _ => MixIdeal.Gen.frame m g,
  MixClaim.quiet_ref,
  fun m g _ => Inatt.Gen.frame m g,
  fun m g _ => InattIdeal.Gen.frame m g,
  InattClaim.quiet_ref,
  fun m g _ => Cached.Gen.frame m g,
  fun m g _ => CachedIdeal.Gen.frame m g,
  fun m g _ => CachedIdeal.Gen.frame m g,
  CachedClaim.quiet_ref,
  CachedClaim.quiet_ref_pre,
  fun m g _ => FfnS.Gen.frame m g,
  fun m g _ => FfnSIdeal.Gen.frame m g,
  FfnSClaim.quiet_ref,
  fun m g _ => Mls.Gen.frame m g,
  fun m g _ => MlsIdeal.Gen.frame m g,
  fun m g _ => MlsIdeal.Gen.frame m g,
  MlsClaim.quiet_ref,
  MlsClaim.quiet_ref_pre,
  fun m g _ => InattS.Gen.frame m g,
  fun m g _ => InattSIdeal.Gen.frame m g,
  InattSClaim.quiet_ref,
  trivial,
  FfnClaim.equal,
  trivial,
  MixClaim.equal,
  trivial,
  InattClaim.equal,
  trivial,
  CachedClaim.equal,
  trivial,
  FfnSClaim.equal,
  trivial,
  MlsClaim.equal,
  trivial,
  InattSClaim.equal⟩

end Cert.Proof

end
